-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_bounded_below [hPre_bounded_below : Cert.Pre_bounded_below.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_bounded_below.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_bounded_below [hPre_bounded_below : Cert.Pre_bounded_below.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_bounded_below.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite [hPre_finite : Cert.Pre_finite.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite [hPre_finite : Cert.Pre_finite.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4))) = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Kernel39Ideal_finite_bias [hPre_finite_bias : Cert.Pre_finite_bias.Facts] (m : (ℓ : Loc Cert.Kernel39Ideal.nD Cert.Kernel39Ideal.τ Cert.Kernel39Ideal.sig) → Buf (Elt Ideal) ℓ) : Prop :=
  ∀ c : Dev Cert.Kernel39Ideal.nD,
    (Cert.Pre_finite_bias.fn (F := Ideal) (m ((c.tc : Thread Cert.Kernel39Ideal.nD Cert.Kernel39Ideal.τ).loc Cert.Kernel39Ideal.main_arg0))) = (fun _ => 1#1)

def Pre_Reference39Ideal (m : (ℓ : Loc Cert.Reference39Ideal.nD Cert.Reference39Ideal.τ Cert.Reference39Ideal.sig) → Buf (Elt Ideal) ℓ) : Prop :=
  True

def Pre_Reference39Ideal_finite_bias [hPre_finite_bias : Cert.Pre_finite_bias.Facts] (m : (ℓ : Loc Cert.Reference39Ideal.nD Cert.Reference39Ideal.τ Cert.Reference39Ideal.sig) → Buf (Elt Ideal) ℓ) : Prop :=
  ∀ c : Dev Cert.Reference39Ideal.nD,
    (Cert.Pre_finite_bias.fn (F := Ideal) (m ((c.tc : Thread Cert.Reference39Ideal.nD Cert.Reference39Ideal.τ).loc Cert.Reference39Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Kernel29Ideal_pre_bounded_below [hKernel29Ideal : Cert.Kernel29Ideal.Facts] [hPre_bounded_below : Cert.Pre_bounded_below.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_bounded_below m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Reference29Ideal_pre_bounded_below [hReference29Ideal : Cert.Reference29Ideal.Facts] [hPre_bounded_below : Cert.Pre_bounded_below.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_bounded_below m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Kernel30Ideal_pre_finite [hKernel30Ideal : Cert.Kernel30Ideal.Facts] [hPre_finite : Cert.Pre_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Reference30Ideal_pre_finite [hReference30Ideal : Cert.Reference30Ideal.Facts] [hPre_finite : Cert.Pre_finite.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Kernel39Ideal_pre_finite_bias [hKernel39Ideal : Cert.Kernel39Ideal.Facts] [hPre_finite_bias : Cert.Pre_finite_bias.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal_finite_bias m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Reference39Ideal_pre_finite_bias [hReference39Ideal : Cert.Reference39Ideal.Facts] [hPre_finite_bias : Cert.Pre_finite_bias.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal_finite_bias m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v56) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v58) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_arg1) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_v4) = v2 c
          ∧ r.2.mem ((c.tc : Thread Cert.Reference12Ideal.nD Cert.Reference12Ideal.τ).loc Cert.Reference12Ideal.main_v10) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_arg1) = v0 c
          ∧ r.2.mem ((c.tc : Thread Cert.Reference13Ideal.nD Cert.Reference13Ideal.τ).loc Cert.Reference13Ideal.main_v23) = v1 c
          ∧ r.2.mem ((c.tc : Thread Cert.Reference13Ideal.nD Cert.Reference13Ideal.τ).loc Cert.Reference13Ideal.main_v4) = v2 c
          ∧ r.2.mem ((c.tc : Thread Cert.Reference13Ideal.nD Cert.Reference13Ideal.τ).loc Cert.Reference13Ideal.main_v10) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_arg1) = v0 c
          ∧ r.2.mem ((c.tc : Thread Cert.Reference14Ideal.nD Cert.Reference14Ideal.τ).loc Cert.Reference14Ideal.main_v23) = v1 c
          ∧ r.2.mem ((c.tc : Thread Cert.Reference14Ideal.nD Cert.Reference14Ideal.τ).loc Cert.Reference14Ideal.main_v4) = v2 c
          ∧ r.2.mem ((c.tc : Thread Cert.Reference14Ideal.nD Cert.Reference14Ideal.τ).loc Cert.Reference14Ideal.main_v10) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg1) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg1) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v19) = v0 c
          ∧ r.2.mem ((c.tc : Thread Cert.Reference23Ideal.nD Cert.Reference23Ideal.τ).loc Cert.Reference23Ideal.main_v22) = v1 c
          ∧ r.2.mem ((c.tc : Thread Cert.Reference23Ideal.nD Cert.Reference23Ideal.τ).loc Cert.Reference23Ideal.main_v25) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v7) = v0 c
          ∧ r.2.mem ((c.tc : Thread Cert.Reference24Ideal.nD Cert.Reference24Ideal.τ).loc Cert.Reference24Ideal.main_v22) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v7) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_v19) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v19) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v14) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  IdealRules.named_const.Statement Cert.Kernel29Ideal.κ "gelu_a" .f32 0x3D122279#32 ((80338380498831 / 2251799813685248 : ℝ) : EReal)

def algebraic_Kernel29Ideal_Reference29Ideal_pre_bounded_below [hKernel29Ideal : Cert.Kernel29Ideal.Facts] [hReference29Ideal : Cert.Reference29Ideal.Facts] [hPre_bounded_below : Cert.Pre_bounded_below.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_bounded_below m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v52) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  IdealRules.named_const.Statement Cert.Kernel30Ideal.κ "gelu_a" .f32 0x3D122279#32 ((80338380498831 / 2251799813685248 : ℝ) : EReal)
  ∧ IdealRules.named_const.Statement Cert.Kernel30Ideal.κ "gelu_3a" .f32 0x3DDB33B6#32 ((241015141496493 / 2251799813685248 : ℝ) : EReal)

def algebraic_Kernel30Ideal_Reference30Ideal_pre_finite [hKernel30Ideal : Cert.Kernel30Ideal.Facts] [hReference30Ideal : Cert.Reference30Ideal.Facts] [hPre_finite : Cert.Pre_finite.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v111) = v0 c
          ∧ r.2.mem ((c.tc : Thread Cert.Reference30Ideal.nD Cert.Reference30Ideal.τ).loc Cert.Reference30Ideal.main_v76) = v1 c
          ∧ r.2.mem ((c.tc : Thread Cert.Reference30Ideal.nD Cert.Reference30Ideal.τ).loc Cert.Reference30Ideal.main_v112) = v2 c
          ∧ r.2.mem ((c.tc : Thread Cert.Reference30Ideal.nD Cert.Reference30Ideal.τ).loc Cert.Reference30Ideal.main_v113) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v52) = v0 c
          ∧ r.2.mem ((c.tc : Thread Cert.Reference31Ideal.nD Cert.Reference31Ideal.τ).loc Cert.Reference31Ideal.main_v51) = v1 c
          ∧ r.2.mem ((c.tc : Thread Cert.Reference31Ideal.nD Cert.Reference31Ideal.τ).loc Cert.Reference31Ideal.main_v53) = v2 c
          ∧ r.2.mem ((c.tc : Thread Cert.Reference31Ideal.nD Cert.Reference31Ideal.τ).loc Cert.Reference31Ideal.main_v54) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v14) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v0) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v0) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v0) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal_pre_finite_bias [hKernel39Ideal : Cert.Kernel39Ideal.Facts] [hReference39Ideal : Cert.Reference39Ideal.Facts] [hPre_finite_bias : Cert.Pre_finite_bias.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal_finite_bias m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v37) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_bounded_below : Cert.Pre_bounded_below.Facts) (hPre_finite : Cert.Pre_finite.Facts) (hPre_finite_bias : Cert.Pre_finite_bias.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_bounded_below (hKernel29Ideal := hKernel29Ideal) (hPre_bounded_below := hPre_bounded_below)
    ∧ quiescent_Reference29Ideal (hReference29Ideal := hReference29Ideal)
    ∧ quiescent_Reference29Ideal_pre_bounded_below (hReference29Ideal := hReference29Ideal) (hPre_bounded_below := hPre_bounded_below)
    ∧ quiescent_Kernel30 (hKernel30 := hKernel30)
    ∧ quiescent_Kernel30Ideal (hKernel30Ideal := hKernel30Ideal)
    ∧ quiescent_Kernel30Ideal_pre_finite (hKernel30Ideal := hKernel30Ideal) (hPre_finite := hPre_finite)
    ∧ quiescent_Reference30Ideal (hReference30Ideal := hReference30Ideal)
    ∧ quiescent_Reference30Ideal_pre_finite (hReference30Ideal := hReference30Ideal) (hPre_finite := hPre_finite)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Kernel39Ideal_pre_finite_bias (hKernel39Ideal := hKernel39Ideal) (hPre_finite_bias := hPre_finite_bias)
    ∧ quiescent_Reference39Ideal (hReference39Ideal := hReference39Ideal)
    ∧ quiescent_Reference39Ideal_pre_finite_bias (hReference39Ideal := hReference39Ideal) (hPre_finite_bias := hPre_finite_bias)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_bounded_below (hKernel29Ideal := hKernel29Ideal) (hReference29Ideal := hReference29Ideal) (hPre_bounded_below := hPre_bounded_below)
    ∧ preserves_Kernel30_Kernel30Ideal
    ∧ algebraic_Kernel30Ideal_Reference30Ideal_pre_finite (hKernel30Ideal := hKernel30Ideal) (hReference30Ideal := hReference30Ideal) (hPre_finite := hPre_finite)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal_pre_finite_bias (hKernel39Ideal := hKernel39Ideal) (hReference39Ideal := hReference39Ideal) (hPre_finite_bias := hPre_finite_bias)
-- ==== Pre_bounded_below.lean ====
abbrev S8192x4096 : Shape := ⟨2, ![8192, 4096]⟩
abbrev S1x2048 : Shape := ⟨2, ![1, 2048]⟩
abbrev S8x128x128 : Shape := ⟨3, ![8, 128, 128]⟩
abbrev S8x128x1 : Shape := ⟨3, ![8, 128, 1]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .bf16) (main_arg1 : FVec F S1x2048 .f32) (main_arg2 : FVec F S8x128x128 .f32) (main_arg3 : FVec F S8x128x1 .f32) : IVec S_ 1 :=
  let main_v0 : FVec F S8192x4096 .f32 := (extf .f32 · bitsLt_bf16_f32) main_arg0
  let main_cst : FVec F S_ .f32 := constant S_ .f32 0xFF800000#32
  let main_v1 : FVec F S8192x4096 .f32 := broadcastInDim S8192x4096 ![] bcast_S_S8192x4096 main_cst
  let main_v2 : IVec S8192x4096 1 := cmpf .ogt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Pre_finite.lean ====
abbrev S8192x4096 : Shape := ⟨2, ![8192, 4096]⟩
abbrev S8192x2048 : Shape := ⟨2, ![8192, 2048]⟩
abbrev S1x2048 : Shape := ⟨2, ![1, 2048]⟩
abbrev S8x128x128 : Shape := ⟨3, ![8, 128, 128]⟩
abbrev S8x128x1 : Shape := ⟨3, ![8, 128, 1]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128x1 : S_.BroadcastsInDim S8x128x1 (![] : Fin 0 → Fin S8x128x1.rank)
  reducesTo_S8x128x1_S_d0_1_2 : S8x128x1.ReducesTo [0, 1, 2] S_

variable [Facts]

def fn_part1 {F : FTy → Type} [FloatOps F] (main_arg4 : FVec F S8x128x1 .f32) (main_v15 : IVec S_ 1) (main_v16 : FVec F S8x128x128 .f32) (main_cst_4 : FVec F S_ .f32) : IVec S_ 1 :=
  let main_v17 : FVec F S8x128x128 .f32 := broadcastInDim S8x128x128 ![] bcast_S_S8x128x128 main_cst_4
  let main_v18 : IVec S8x128x128 1 := cmpf .olt main_v16 main_v17
  let main_c_5 : IVec S_ 1 := constantI S_ 1 1#1
  let main_v19 : IVec S_ 1 := (fun x v => Host.reduce IntOp.andi x v reducesTo_S8x128x128_S_d0_1_2 h_S_) main_v18 main_c_5
  let main_v20 : IVec S_ 1 := andi main_v15 main_v19
  let main_v21 : FVec F S8x128x1 .f32 := Host.absf main_arg4
  let main_cst_6 : FVec F S_ .f32 := constant S_ .f32 0x7F800000#32
  let main_v22 : FVec F S8x128x1 .f32 := broadcastInDim S8x128x1 ![] bcast_S_S8x128x1 main_cst_6
  let main_v23 : IVec S8x128x1 1 := cmpf .olt main_v21 main_v22
  let main_c_7 : IVec S_ 1 := constantI S_ 1 1#1
  let main_v24 : IVec S_ 1 := (fun x v => Host.reduce IntOp.andi x v reducesTo_S8x128x1_S_d0_1_2 h_S_) main_v23 main_c_7
  let main_v25 : IVec S_ 1 := andi main_v20 main_v24
  main_v25

def fn {F : FTy → Type} [FloatOps F] (main_arg0 : FVec F S8192x4096 .bf16) (main_arg1 : FVec F S8192x2048 .bf16) (main_arg2 : FVec F S1x2048 .f32) (main_arg3 : FVec F S8x128x128 .f32) (main_arg4 : FVec F S8x128x1 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S1x2048 .f32 := Host.absf main_arg2
  let main_cst_2 : FVec F S_ .f32 := constant S_ .f32 0x7F800000#32
  let main_v12 : FVec F S1x2048 .f32 := broadcastInDim S1x2048 ![] bcast_S_S1x2048 main_cst_2
  let main_v13 : IVec S1x2048 1 := cmpf .olt main_v11 main_v12
  let main_c_3 : IVec S_ 1 := constantI S_ 1 1#1
  let main_v14 : IVec S_ 1 := (fun x v => Host.reduce IntOp.andi x v reducesTo_S1x2048_S_d0_1 h_S_) main_v13 main_c_3
  let main_v15 : IVec S_ 1 := andi main_v10 main_v14
  let main_v16 : FVec F S8x128x128 .f32 := Host.absf main_arg3
  let main_cst_4 : FVec F S_ .f32 := constant S_ .f32 0x7F800000#32
  fn_part1 (F := F) main_arg4 main_v15 main_v16 main_cst_4
-- ==== Pre_finite_bias.lean ====
abbrev S16x192 : Shape := ⟨2, ![16, 192]⟩
abbrev S_ : Shape := ⟨0, ![]⟩

class Facts : Prop where
  bcast_S_S16x192 : S_.BroadcastsInDim S16x192 (![] : Fin 0 → Fin S16x192.rank)
  reducesTo_S16x192_S_d0_1 : S16x192.ReducesTo [0, 1] S_
  h_S_ : 0 < S_.numel

variable [Facts]

def fn {F : FTy → Type} [FloatOps F] (main_arg0 : FVec F S16x192 .f32) : IVec S_ 1 :=
  let main_v0 : FVec F S16x192 .f32 := Host.absf main_arg0
  let main_cst : FVec F S_ .f32 := constant S_ .f32 0x7F800000#32
  let main_v1 : FVec F S16x192 .f32 := broadcastInDim S16x192 ![] bcast_S_S16x192 main_cst
  let main_v2 : IVec S16x192 1 := cmpf .olt main_v0 main_v1
  let main_c : IVec S_ 1 := constantI S_ 1 1#1
  let main_v3 : IVec S_ 1 := (fun x v => Host.reduce IntOp.andi x v reducesTo_S16x192_S_d0_1 h_S_) main_v2 main_c
  main_v3
-- ==== Kernel.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x4096 : Shape := ⟨2, ![1024, 4096]⟩
abbrev S64x8x1024 : Shape := ⟨3, ![64, 8, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v42 : BitVec 1 := Scalar.cmpi .eq arg0 c15_i32
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8192x4096 : Shape := ⟨2, ![8192, 4096]⟩
abbrev S1x1024x4096 : Shape := ⟨3, ![1, 1024, 4096]⟩
abbrev S8192x1024 : Shape := ⟨2, ![8192, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S1024x4096, .bf16⟩
  | .hbm, ⟨7, _⟩ => ⟨S1024x4096, .f32⟩
  | .hbm, ⟨8, _⟩ => ⟨S8192x4096, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kernel2.lean ====
abbrev S3x10240x1024 : Shape := ⟨3, ![3, 10240, 1024]⟩
abbrev S1x1024x3072 : Shape := ⟨3, ![1, 1024, 3072]⟩
abbrev S8192x1024 : Shape := ⟨2, ![8192, 1024]⟩
abbrev S1x1024 : Shape := ⟨2, ![1, 1024]⟩
abbrev S3x512x1024 : Shape := ⟨3, ![3, 512, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1x512x1024 : Shape := ⟨3, ![1, 512, 1024]⟩
abbrev S1x1024x1024 : Shape := ⟨3, ![1, 1024, 1024]⟩
abbrev S1024x1024 : Shape := ⟨2, ![1024, 1024]⟩
abbrev S64x8x1024 : Shape := ⟨3, ![64, 8, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S3x10240x1024, .bf16⟩
  | .hbm, ⟨1, _⟩ => ⟨S1x1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S1x1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S8x1024, .f32⟩
  | _, _ => ⟨S3x10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v55 : BitVec 1 := Scalar.cmpi .eq arg0 c15_i32
  let v56 : BitVec 32 := Scalar.extui v55
  let c0_i32_34 : BitVec 32 := 0#32
  let v57 : BitVec 1 := Scalar.cmpi .ne v56 c0_i32_34
  v57

def cc0_transform_0 (i : grid0.Coords) : Fin 3 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S3x10240x1024 : Shape := ⟨3, ![3, 10240, 1024]⟩
abbrev S1x1024x3072 : Shape := ⟨3, ![1, 1024, 3072]⟩
abbrev S8192x1024 : Shape := ⟨2, ![8192, 1024]⟩
abbrev S1x1024 : Shape := ⟨2, ![1, 1024]⟩
abbrev S1x8192x1024 : Shape := ⟨3, ![1, 8192, 1024]⟩
abbrev S8192x3072 : Shape := ⟨2, ![8192, 3072]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩

abbrev nBuf : Space → Nat
  | .hbm => 66
  | .vmem => 0
  | .smem => 0
  | _ => 0

abbrev bufTy : (tb : Table) → Fin (tcTables nBuf tb) → BufTy
  | .hbm, ⟨0, _⟩ => ⟨S3x10240x1024, .bf16⟩
  | .hbm, ⟨1, _⟩ => ⟨S1x1024x3072, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x8192x1024, .bf16⟩
  | .hbm, ⟨6, _⟩ => ⟨S8192x1024, .bf16⟩
  | .hbm, ⟨7, _⟩ => ⟨S1x8192x1024, .bf16⟩
  | .hbm, ⟨8, _⟩ => ⟨S8192x1024, .bf16⟩
  | .hbm, ⟨9, _⟩ => ⟨S1x8192x1024, .bf16⟩
  | .hbm, ⟨10, _⟩ => ⟨S8192x1024, .bf16⟩
  | .hbm, ⟨11, _⟩ => ⟨S8192x3072, .bf16⟩
  | .hbm, ⟨12, _⟩ => ⟨S8192x3072, .f32⟩
  | .hbm, ⟨13, _⟩ => ⟨S1024, .f32⟩
  | .hbm, ⟨14, _⟩ => ⟨S1024x3072, .bf16⟩
  | .hbm, ⟨15, _⟩ => ⟨S1024x3072, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x3072, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | .hbm, ⟨65, _⟩ => ⟨S1x1024, .f32⟩
  | _, _ => ⟨S3x10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel3.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S1x1024 : Shape := ⟨2, ![1, 1024]⟩
abbrev S4x512x704 : Shape := ⟨3, ![4, 512, 704]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S64x8x1024 : Shape := ⟨3, ![64, 8, 1024]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S1x4x704x1024, .bf16⟩
  | .hbm, ⟨3, _⟩ => ⟨S1x4x704x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S1x4x704x1024, .bf16⟩
  | .local _ .vmem, ⟨5, _⟩ => ⟨S1x4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S8x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v85 : BitVec 1 := Scalar.cmpi .eq arg0 c15_i32
  let v86 : BitVec 32 := Scalar.extui v85
  let c0_i32_78 : BitVec 32 := 0#32
  let v87 : BitVec 1 := Scalar.cmpi .ne v86 c0_i32_78
  v87

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S1x1024 : Shape := ⟨2, ![1, 1024]⟩
abbrev S1024 : Shape := ⟨1, ![1024]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8192x4x704 : Shape := ⟨3, ![8192, 4, 704]⟩

abbrev nBuf : Space → Nat
  | .hbm => 75
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S4x8192x704, .bf16⟩
  | .hbm, ⟨2, _⟩ => ⟨S1x4x704x1024, .bf16⟩
  | .hbm, ⟨3, _⟩ => ⟨S1x4x704x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024, .f32⟩
  | .hbm, ⟨8, _⟩ => ⟨S4x704x1024, .bf16⟩
  | .hbm, ⟨9, _⟩ => ⟨S2816x1024, .bf16⟩
  | .hbm, ⟨10, _⟩ => ⟨S1024x2816, .bf16⟩
  | .hbm, ⟨11, _⟩ => ⟨S1024x2816, .f32⟩
  | .hbm, ⟨12, _⟩ => ⟨S4x704x1024, .bf16⟩
  | .hbm, ⟨13, _⟩ => ⟨S2816x1024, .bf16⟩
  | .hbm, ⟨14, _⟩ => ⟨S1024x2816, .bf16⟩
  | .hbm, ⟨15, _⟩ => ⟨S1024x2816, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x4x704, .bf16⟩
  | .hbm, ⟨39, _⟩ => ⟨S8192x2816, .bf16⟩
  | .hbm, ⟨40, _⟩ => ⟨S8192x2816, .f32⟩
  | .hbm, ⟨41, _⟩ => ⟨S8192x4x704, .bf16⟩
  | .hbm, ⟨42, _⟩ => ⟨S8192x2816, .bf16⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S1x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Kernel4.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S8192x4x704, .bf16⟩
  | .hbm, ⟨3, _⟩ => ⟨S8192x2816, .bf16⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S2816x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S4x704x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .f32⟩
  | .local _ .vmem, ⟨5, _⟩ => ⟨S1x704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S8192x4x704, .bf16⟩
  | .hbm, ⟨3, _⟩ => ⟨S8192x2816, .bf16⟩
  | .hbm, ⟨4, _⟩ => ⟨S8192x1024, .f32⟩
  | .hbm, ⟨5, _⟩ => ⟨S8192x2816, .f32⟩
  | .hbm, ⟨6, _⟩ => ⟨S_, .f32⟩
  | .hbm, ⟨7, _⟩ => ⟨S1024x2816, .f32⟩
  | .hbm, ⟨8, _⟩ => ⟨S8192x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S3x10240x1024 : Shape := ⟨3, ![3, 10240, 1024]⟩
abbrev S1024x3072 : Shape := ⟨2, ![1024, 3072]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3x10240x1024, .bf16⟩
  | .hbm, ⟨2, _⟩ => ⟨S1024x3072, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S3x10240x1024 : Shape := ⟨3, ![3, 10240, 1024]⟩
abbrev S1x8192x1024 : Shape := ⟨3, ![1, 8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x10240x1024, .bf16⟩
  | .hbm, ⟨2, _⟩ => ⟨S1x8192x1024, .bf16⟩
  | .hbm, ⟨3, _⟩ => ⟨S8192x1024, .bf16⟩
  | .hbm, ⟨4, _⟩ => ⟨S1x8192x1024, .bf16⟩
  | .hbm, ⟨5, _⟩ => ⟨S8192x1024, .bf16⟩
  | .hbm, ⟨6, _⟩ => ⟨S1x8192x1024, .bf16⟩
  | .hbm, ⟨7, _⟩ => ⟨S8192x1024, .bf16⟩
  | .hbm, ⟨8, _⟩ => ⟨S8192x3072, .bf16⟩
  | .hbm, ⟨9, _⟩ => ⟨S8192x1024, .f32⟩
  | .hbm, ⟨10, _⟩ => ⟨S8192x3072, .f32⟩
  | .hbm, ⟨11, _⟩ => ⟨S_, .f32⟩
  | .hbm, ⟨12, _⟩ => ⟨S1024x3072, .f32⟩
  | .hbm, ⟨13, _⟩ => ⟨S8192x3072, .f32⟩
  | .hbm, ⟨14, _⟩ => ⟨S3072x1024, .f32⟩
  | .hbm, ⟨15, _⟩ => ⟨S1024x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1x2048x1024 : Shape := ⟨3, ![1, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1x2048x1024 : Shape := ⟨3, ![1, 2048, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x2048x1024, .bf16⟩
  | .hbm, ⟨2, _⟩ => ⟨S2048x1024, .bf16⟩
  | .hbm, ⟨3, _⟩ => ⟨S2048x1024, .f32⟩
  | .hbm, ⟨4, _⟩ => ⟨S8192x1024, .f32⟩
  | .hbm, ⟨5, _⟩ => ⟨S_, .f32⟩
  | .hbm, ⟨6, _⟩ => ⟨S8192x2048, .f32⟩
  | .hbm, ⟨7, _⟩ => ⟨S8192x1024, .f32⟩
  | .hbm, ⟨8, _⟩ => ⟨S8192x2048, .f32⟩
  | .hbm, ⟨9, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S1x4x1024 : Shape := ⟨3, ![1, 4, 1024]⟩
abbrev S4x1024 : Shape := ⟨2, ![4, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S1x4x1024, .f32⟩
  | .hbm, ⟨5, _⟩ => ⟨S1x4x1024, .f32⟩
  | .hbm, ⟨6, _⟩ => ⟨S1x4x1024, .f32⟩
  | .hbm, ⟨7, _⟩ => ⟨S1x4x1024, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | .local _ .vmem, ⟨7, _⟩ => ⟨S1x4x1024, .f32⟩
  | _, _ => ⟨S1x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference12Ideal.lean ====
abbrev S1x4x1024 : Shape := ⟨3, ![1, 4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4x1024, .f32⟩
  | .hbm, ⟨1, _⟩ => ⟨S1x4x1024, .f32⟩
  | .hbm, ⟨2, _⟩ => ⟨S1x4x1024, .f32⟩
  | .hbm, ⟨3, _⟩ => ⟨S1x4x1024, .f32⟩
  | .hbm, ⟨4, _⟩ => ⟨S_, .f32⟩
  | .hbm, ⟨5, _⟩ => ⟨S1x4x1024, .f32⟩
  | .hbm, ⟨6, _⟩ => ⟨S1x4x1024, .f32⟩
  | .hbm, ⟨7, _⟩ => ⟨S_, .f32⟩
  | .hbm, ⟨8, _⟩ => ⟨S1x4x1024, .f32⟩
  | .hbm, ⟨9, _⟩ => ⟨S1x4x1024, .f32⟩
  | .hbm, ⟨10, _⟩ => ⟨S1x4x1024, .f32⟩
  | .hbm, ⟨11, _⟩ => ⟨S_, .f32⟩
  | .hbm, ⟨12, _⟩ => ⟨S1x4x1024, .f32⟩
  | .hbm, ⟨13, _⟩ => ⟨S1x4x1024, .f32⟩
  | .hbm, ⟨14, _⟩ => ⟨S1x4x1024, .f32⟩
  | .hbm, ⟨15, _⟩ => ⟨S_, .f32⟩
  | .hbm, ⟨16, _⟩ => ⟨S1x4x1024, .f32⟩
  | .hbm, ⟨17, _⟩ => ⟨S1x4x1024, .f32⟩
  | .hbm, ⟨18, _⟩ => ⟨S1x4x1024, .f32⟩
  | .hbm, ⟨19, _⟩ => ⟨S_, .f32⟩
  | .hbm, ⟨20, _⟩ => ⟨S1x4x1024, .f32⟩
  | .hbm, ⟨21, _⟩ => ⟨S1x4x1024, .f32⟩
  | .hbm, ⟨22, _⟩ => ⟨S_, .f32⟩
  | .hbm, ⟨23, _⟩ => ⟨S1x4x1024, .f32⟩
  | .hbm, ⟨24, _⟩ => ⟨S1x4x1024, .f32⟩
  | .hbm, ⟨25, _⟩ => ⟨S1x4x1024, .f32⟩
  | .hbm, ⟨26, _⟩ => ⟨S_, .f32⟩
  | .hbm, ⟨27, _⟩ => ⟨S1x4x1024, .f32⟩
  | .hbm, ⟨28, _⟩ => ⟨S1x4x1024, .f32⟩
  | .hbm, ⟨29, _⟩ => ⟨S1x4x1024, .f32⟩
  | .hbm, ⟨30, _⟩ => ⟨S_, .f32⟩
  | .hbm, ⟨31, _⟩ => ⟨S1x4x1024, .f32⟩
  | .hbm, ⟨32, _⟩ => ⟨S1x4x1024, .f32⟩
  | .hbm, ⟨33, _⟩ => ⟨S1x4x1024, .f32⟩
  | .hbm, ⟨34, _⟩ => ⟨S_, .f32⟩
  | .hbm, ⟨35, _⟩ => ⟨S1x4x1024, .f32⟩
  | .hbm, ⟨36, _⟩ => ⟨S1x4x1024, .f32⟩
  | _, _ => ⟨S1x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S1x1x1024 : Shape := ⟨3, ![1, 1, 1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference13Ideal.lean ====
abbrev S1x1x1024 : Shape := ⟨3, ![1, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S_, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S_, .f32⟩
  | .hbm, ⟨20, _⟩ => ⟨S1x1x1024, .f32⟩
  | .hbm, ⟨21, _⟩ => ⟨S1x1x1024, .f32⟩
  | .hbm, ⟨22, _⟩ => ⟨S_, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x1x1024, .f32⟩
  | .hbm, ⟨34, _⟩ => ⟨S_, .f32⟩
  | .hbm, ⟨35, _⟩ => ⟨S1x1x1024, .f32⟩
  | .hbm, ⟨36, _⟩ => ⟨S1x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2x1024x1024 : Shape := ⟨3, ![2, 1024, 1024]⟩
abbrev S1x256x1024 : Shape := ⟨3, ![1, 256, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S2x1024x1024 : Shape := ⟨3, ![2, 1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S2x1024x1024, .f32⟩
  | .hbm, ⟨4, _⟩ => ⟨S_, .f32⟩
  | .hbm, ⟨5, _⟩ => ⟨S2x1024x1024, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S_, .f32⟩
  | .hbm, ⟨23, _⟩ => ⟨S2x1024x1024, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x1024x768 : Shape := ⟨3, ![2, 1024, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S2x1024x768, .f32⟩
  | .hbm, ⟨5, _⟩ => ⟨S2x1024x768, .f32⟩
  | .hbm, ⟨6, _⟩ => ⟨S2x1024x768, .f32⟩
  | .hbm, ⟨7, _⟩ => ⟨S2x1024x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S2x1024x768 : Shape := ⟨3, ![2, 1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S_, .f32⟩
  | .hbm, ⟨5, _⟩ => ⟨S2x1024x768, .f32⟩
  | .hbm, ⟨6, _⟩ => ⟨S2x1024x768, .f32⟩
  | .hbm, ⟨7, _⟩ => ⟨S_, .f32⟩
  | .hbm, ⟨8, _⟩ => ⟨S2x1024x768, .f32⟩
  | .hbm, ⟨9, _⟩ => ⟨S2x1024x768, .f32⟩
  | .hbm, ⟨10, _⟩ => ⟨S2x1024x768, .f32⟩
  | .hbm, ⟨11, _⟩ => ⟨S_, .f32⟩
  | .hbm, ⟨12, _⟩ => ⟨S2x1024x768, .f32⟩
  | .hbm, ⟨13, _⟩ => ⟨S2x1024x768, .f32⟩
  | .hbm, ⟨14, _⟩ => ⟨S2x1024x768, .f32⟩
  | .hbm, ⟨15, _⟩ => ⟨S_, .f32⟩
  | .hbm, ⟨16, _⟩ => ⟨S2x1024x768, .f32⟩
  | .hbm, ⟨17, _⟩ => ⟨S2x1024x768, .f32⟩
  | .hbm, ⟨18, _⟩ => ⟨S2x1024x768, .f32⟩
  | .hbm, ⟨19, _⟩ => ⟨S_, .f32⟩
  | .hbm, ⟨20, _⟩ => ⟨S2x1024x768, .f32⟩
  | .hbm, ⟨21, _⟩ => ⟨S2x1024x768, .f32⟩
  | .hbm, ⟨22, _⟩ => ⟨S_, .f32⟩
  | .hbm, ⟨23, _⟩ => ⟨S2x1024x768, .f32⟩
  | .hbm, ⟨24, _⟩ => ⟨S2x1024x768, .f32⟩
  | .hbm, ⟨25, _⟩ => ⟨S2x1024x768, .f32⟩
  | .hbm, ⟨26, _⟩ => ⟨S_, .f32⟩
  | .hbm, ⟨27, _⟩ => ⟨S2x1024x768, .f32⟩
  | .hbm, ⟨28, _⟩ => ⟨S2x1024x768, .f32⟩
  | .hbm, ⟨29, _⟩ => ⟨S2x1024x768, .f32⟩
  | .hbm, ⟨30, _⟩ => ⟨S_, .f32⟩
  | .hbm, ⟨31, _⟩ => ⟨S2x1024x768, .f32⟩
  | .hbm, ⟨32, _⟩ => ⟨S2x1024x768, .f32⟩
  | .hbm, ⟨33, _⟩ => ⟨S2x1024x768, .f32⟩
  | .hbm, ⟨34, _⟩ => ⟨S_, .f32⟩
  | .hbm, ⟨35, _⟩ => ⟨S2x1024x768, .f32⟩
  | .hbm, ⟨36, _⟩ => ⟨S2x1024x768, .f32⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x512x1024 : Shape := ⟨3, ![2, 512, 1024]⟩
abbrev S1x128x1024 : Shape := ⟨3, ![1, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S2x512x1024 : Shape := ⟨3, ![2, 512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2x256x1024 : Shape := ⟨3, ![2, 256, 1024]⟩
abbrev S1x64x1024 : Shape := ⟨3, ![1, 64, 1024]⟩
abbrev S64x1024 : Shape := ⟨2, ![64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x704x1024 : Shape := ⟨3, ![4, 704, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference18Ideal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1x2x2048 : Shape := ⟨3, ![1, 2, 2048]⟩
abbrev S2x2048 : Shape := ⟨2, ![2, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S1x2x2048, .f32⟩
  | .hbm, ⟨5, _⟩ => ⟨S1x2x2048, .f32⟩
  | .hbm, ⟨6, _⟩ => ⟨S1x2x2048, .f32⟩
  | .hbm, ⟨7, _⟩ => ⟨S1x2x2048, .f32⟩
  | .local _ .vmem, ⟨0, _⟩ => ⟨S1x2x2048, .f32⟩
  | .local _ .vmem, ⟨1, _⟩ => ⟨S1x2x2048, .f32⟩
  | .local _ .vmem, ⟨2, _⟩ => ⟨S1x2x2048, .f32⟩
  | .local _ .vmem, ⟨3, _⟩ => ⟨S1x2x2048, .f32⟩
  | .local _ .vmem, ⟨4, _⟩ => ⟨S1x2x2048, .f32⟩
  | .local _ .vmem, ⟨5, _⟩ => ⟨S1x2x2048, .f32⟩
  | .local _ .vmem, ⟨6, _⟩ => ⟨S1x2x2048, .f32⟩
  | .local _ .vmem, ⟨7, _⟩ => ⟨S1x2x2048, .f32⟩
  | _, _ => ⟨S1x2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x2x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x2x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference19Ideal.lean ====
abbrev S1x2x2048 : Shape := ⟨3, ![1, 2, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2x2048, .f32⟩
  | .hbm, ⟨1, _⟩ => ⟨S1x2x2048, .f32⟩
  | .hbm, ⟨2, _⟩ => ⟨S1x2x2048, .f32⟩
  | .hbm, ⟨3, _⟩ => ⟨S1x2x2048, .f32⟩
  | .hbm, ⟨4, _⟩ => ⟨S_, .f32⟩
  | .hbm, ⟨5, _⟩ => ⟨S1x2x2048, .f32⟩
  | .hbm, ⟨6, _⟩ => ⟨S1x2x2048, .f32⟩
  | .hbm, ⟨7, _⟩ => ⟨S_, .f32⟩
  | .hbm, ⟨8, _⟩ => ⟨S1x2x2048, .f32⟩
  | .hbm, ⟨9, _⟩ => ⟨S1x2x2048, .f32⟩
  | .hbm, ⟨10, _⟩ => ⟨S1x2x2048, .f32⟩
  | .hbm, ⟨11, _⟩ => ⟨S_, .f32⟩
  | .hbm, ⟨12, _⟩ => ⟨S1x2x2048, .f32⟩
  | .hbm, ⟨13, _⟩ => ⟨S1x2x2048, .f32⟩
  | .hbm, ⟨14, _⟩ => ⟨S1x2x2048, .f32⟩
  | .hbm, ⟨15, _⟩ => ⟨S_, .f32⟩
  | .hbm, ⟨16, _⟩ => ⟨S1x2x2048, .f32⟩
  | .hbm, ⟨17, _⟩ => ⟨S1x2x2048, .f32⟩
  | .hbm, ⟨18, _⟩ => ⟨S1x2x2048, .f32⟩
  | .hbm, ⟨19, _⟩ => ⟨S_, .f32⟩
  | .hbm, ⟨20, _⟩ => ⟨S1x2x2048, .f32⟩
  | .hbm, ⟨21, _⟩ => ⟨S1x2x2048, .f32⟩
  | .hbm, ⟨22, _⟩ => ⟨S_, .f32⟩
  | .hbm, ⟨23, _⟩ => ⟨S1x2x2048, .f32⟩
  | .hbm, ⟨24, _⟩ => ⟨S1x2x2048, .f32⟩
  | .hbm, ⟨25, _⟩ => ⟨S1x2x2048, .f32⟩
  | .hbm, ⟨26, _⟩ => ⟨S_, .f32⟩
  | .hbm, ⟨27, _⟩ => ⟨S1x2x2048, .f32⟩
  | .hbm, ⟨28, _⟩ => ⟨S1x2x2048, .f32⟩
  | .hbm, ⟨29, _⟩ => ⟨S1x2x2048, .f32⟩
  | .hbm, ⟨30, _⟩ => ⟨S_, .f32⟩
  | .hbm, ⟨31, _⟩ => ⟨S1x2x2048, .f32⟩
  | .hbm, ⟨32, _⟩ => ⟨S1x2x2048, .f32⟩
  | .hbm, ⟨33, _⟩ => ⟨S1x2x2048, .f32⟩
  | .hbm, ⟨34, _⟩ => ⟨S_, .f32⟩
  | .hbm, ⟨35, _⟩ => ⟨S1x2x2048, .f32⟩
  | .hbm, ⟨36, _⟩ => ⟨S1x2x2048, .f32⟩
  | _, _ => ⟨S1x2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024x128 : Shape := ⟨3, ![2, 1024, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S2x1024x128, .f32⟩
  | .hbm, ⟨5, _⟩ => ⟨S2x1024x128, .f32⟩
  | .hbm, ⟨6, _⟩ => ⟨S2x1024x128, .f32⟩
  | .hbm, ⟨7, _⟩ => ⟨S2x1024x128, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S2x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference20Ideal.lean ====
abbrev S2x1024x128 : Shape := ⟨3, ![2, 1024, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x128, .f32⟩
  | .hbm, ⟨1, _⟩ => ⟨S2x1024x128, .f32⟩
  | .hbm, ⟨2, _⟩ => ⟨S2x1024x128, .f32⟩
  | .hbm, ⟨3, _⟩ => ⟨S2x1024x128, .f32⟩
  | .hbm, ⟨4, _⟩ => ⟨S_, .f32⟩
  | .hbm, ⟨5, _⟩ => ⟨S2x1024x128, .f32⟩
  | .hbm, ⟨6, _⟩ => ⟨S2x1024x128, .f32⟩
  | .hbm, ⟨7, _⟩ => ⟨S_, .f32⟩
  | .hbm, ⟨8, _⟩ => ⟨S2x1024x128, .f32⟩
  | .hbm, ⟨9, _⟩ => ⟨S2x1024x128, .f32⟩
  | .hbm, ⟨10, _⟩ => ⟨S2x1024x128, .f32⟩
  | .hbm, ⟨11, _⟩ => ⟨S_, .f32⟩
  | .hbm, ⟨12, _⟩ => ⟨S2x1024x128, .f32⟩
  | .hbm, ⟨13, _⟩ => ⟨S2x1024x128, .f32⟩
  | .hbm, ⟨14, _⟩ => ⟨S2x1024x128, .f32⟩
  | .hbm, ⟨15, _⟩ => ⟨S_, .f32⟩
  | .hbm, ⟨16, _⟩ => ⟨S2x1024x128, .f32⟩
  | .hbm, ⟨17, _⟩ => ⟨S2x1024x128, .f32⟩
  | .hbm, ⟨18, _⟩ => ⟨S2x1024x128, .f32⟩
  | .hbm, ⟨19, _⟩ => ⟨S_, .f32⟩
  | .hbm, ⟨20, _⟩ => ⟨S2x1024x128, .f32⟩
  | .hbm, ⟨21, _⟩ => ⟨S2x1024x128, .f32⟩
  | .hbm, ⟨22, _⟩ => ⟨S_, .f32⟩
  | .hbm, ⟨23, _⟩ => ⟨S2x1024x128, .f32⟩
  | .hbm, ⟨24, _⟩ => ⟨S2x1024x128, .f32⟩
  | .hbm, ⟨25, _⟩ => ⟨S2x1024x128, .f32⟩
  | .hbm, ⟨26, _⟩ => ⟨S_, .f32⟩
  | .hbm, ⟨27, _⟩ => ⟨S2x1024x128, .f32⟩
  | .hbm, ⟨28, _⟩ => ⟨S2x1024x128, .f32⟩
  | .hbm, ⟨29, _⟩ => ⟨S2x1024x128, .f32⟩
  | .hbm, ⟨30, _⟩ => ⟨S_, .f32⟩
  | .hbm, ⟨31, _⟩ => ⟨S2x1024x128, .f32⟩
  | .hbm, ⟨32, _⟩ => ⟨S2x1024x128, .f32⟩
  | .hbm, ⟨33, _⟩ => ⟨S2x1024x128, .f32⟩
  | .hbm, ⟨34, _⟩ => ⟨S_, .f32⟩
  | .hbm, ⟨35, _⟩ => ⟨S2x1024x128, .f32⟩
  | .hbm, ⟨36, _⟩ => ⟨S2x1024x128, .f32⟩
  | _, _ => ⟨S2x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x8x128 : Shape := ⟨3, ![2, 8, 128]⟩
abbrev S1x8x128 : Shape := ⟨3, ![1, 8, 128]⟩
abbrev S8x128 : Shape := ⟨2, ![8, 128]⟩

abbrev nBuf : Space → Nat
  | .hbm => 8
  | .vmem => 16
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S2x8x128, .f32⟩
  | .hbm, ⟨5, _⟩ => ⟨S2x8x128, .f32⟩
  | .hbm, ⟨6, _⟩ => ⟨S2x8x128, .f32⟩
  | .hbm, ⟨7, _⟩ => ⟨S2x8x128, .f32⟩
  | .local _ .vmem, ⟨0, _⟩ => ⟨S1x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | _, _ => ⟨S2x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference21Ideal.lean ====
abbrev S2x8x128 : Shape := ⟨3, ![2, 8, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8x128, .f32⟩
  | .hbm, ⟨1, _⟩ => ⟨S2x8x128, .f32⟩
  | .hbm, ⟨2, _⟩ => ⟨S2x8x128, .f32⟩
  | .hbm, ⟨3, _⟩ => ⟨S2x8x128, .f32⟩
  | .hbm, ⟨4, _⟩ => ⟨S_, .f32⟩
  | .hbm, ⟨5, _⟩ => ⟨S2x8x128, .f32⟩
  | .hbm, ⟨6, _⟩ => ⟨S2x8x128, .f32⟩
  | .hbm, ⟨7, _⟩ => ⟨S_, .f32⟩
  | .hbm, ⟨8, _⟩ => ⟨S2x8x128, .f32⟩
  | .hbm, ⟨9, _⟩ => ⟨S2x8x128, .f32⟩
  | .hbm, ⟨10, _⟩ => ⟨S2x8x128, .f32⟩
  | .hbm, ⟨11, _⟩ => ⟨S_, .f32⟩
  | .hbm, ⟨12, _⟩ => ⟨S2x8x128, .f32⟩
  | .hbm, ⟨13, _⟩ => ⟨S2x8x128, .f32⟩
  | .hbm, ⟨14, _⟩ => ⟨S2x8x128, .f32⟩
  | .hbm, ⟨15, _⟩ => ⟨S_, .f32⟩
  | .hbm, ⟨16, _⟩ => ⟨S2x8x128, .f32⟩
  | .hbm, ⟨17, _⟩ => ⟨S2x8x128, .f32⟩
  | .hbm, ⟨18, _⟩ => ⟨S2x8x128, .f32⟩
  | .hbm, ⟨19, _⟩ => ⟨S_, .f32⟩
  | .hbm, ⟨20, _⟩ => ⟨S2x8x128, .f32⟩
  | .hbm, ⟨21, _⟩ => ⟨S2x8x128, .f32⟩
  | .hbm, ⟨22, _⟩ => ⟨S_, .f32⟩
  | .hbm, ⟨23, _⟩ => ⟨S2x8x128, .f32⟩
  | .hbm, ⟨24, _⟩ => ⟨S2x8x128, .f32⟩
  | .hbm, ⟨25, _⟩ => ⟨S2x8x128, .f32⟩
  | .hbm, ⟨26, _⟩ => ⟨S_, .f32⟩
  | .hbm, ⟨27, _⟩ => ⟨S2x8x128, .f32⟩
  | .hbm, ⟨28, _⟩ => ⟨S2x8x128, .f32⟩
  | .hbm, ⟨29, _⟩ => ⟨S2x8x128, .f32⟩
  | .hbm, ⟨30, _⟩ => ⟨S_, .f32⟩
  | .hbm, ⟨31, _⟩ => ⟨S2x8x128, .f32⟩
  | .hbm, ⟨32, _⟩ => ⟨S2x8x128, .f32⟩
  | .hbm, ⟨33, _⟩ => ⟨S2x8x128, .f32⟩
  | .hbm, ⟨34, _⟩ => ⟨S_, .f32⟩
  | .hbm, ⟨35, _⟩ => ⟨S2x8x128, .f32⟩
  | .hbm, ⟨36, _⟩ => ⟨S2x8x128, .f32⟩
  | _, _ => ⟨S2x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x16x192 : Shape := ⟨3, ![2, 16, 192]⟩
abbrev S1x16x192 : Shape := ⟨3, ![1, 16, 192]⟩
abbrev S16x192 : Shape := ⟨2, ![16, 192]⟩

abbrev nBuf : Space → Nat
  | .hbm => 8
  | .vmem => 16
  | .smem => 0
  | _ => 0

abbrev bufTy : (tb : Table) → Fin (tcTables nBuf tb) → BufTy
  | .hbm, ⟨0, _⟩ => ⟨S2x16x192, .f32⟩
  | .hbm, ⟨1, _⟩ => ⟨S2x16x192, .f32⟩
  | .hbm, ⟨2, _⟩ => ⟨S2x16x192, .f32⟩
  | .hbm, ⟨3, _⟩ => ⟨S2x16x192, .f32⟩
  | .hbm, ⟨4, _⟩ => ⟨S2x16x192, .f32⟩
  | .hbm, ⟨5, _⟩ => ⟨S2x16x192, .f32⟩
  | .hbm, ⟨6, _⟩ => ⟨S2x16x192, .f32⟩
  | .hbm, ⟨7, _⟩ => ⟨S2x16x192, .f32⟩
  | .local _ .vmem, ⟨0, _⟩ => ⟨S1x16x192, .f32⟩
  | .local _ .vmem, ⟨1, _⟩ => ⟨S1x16x192, .f32⟩
  | .local _ .vmem, ⟨2, _⟩ => ⟨S1x16x192, .f32⟩
  | .local _ .vmem, ⟨3, _⟩ => ⟨S1x16x192, .f32⟩
  | .local _ .vmem, ⟨4, _⟩ => ⟨S1x16x192, .f32⟩
  | .local _ .vmem, ⟨5, _⟩ => ⟨S1x16x192, .f32⟩
  | .local _ .vmem, ⟨6, _⟩ => ⟨S1x16x192, .f32⟩
  | .local _ .vmem, ⟨7, _⟩ => ⟨S1x16x192, .f32⟩
  | .local _ .vmem, ⟨8, _⟩ => ⟨S1x16x192, .f32⟩
  | .local _ .vmem, ⟨9, _⟩ => ⟨S1x16x192, .f32⟩
  | .local _ .vmem, ⟨10, _⟩ => ⟨S1x16x192, .f32⟩
  | .local _ .vmem, ⟨11, _⟩ => ⟨S1x16x192, .f32⟩
  | .local _ .vmem, ⟨12, _⟩ => ⟨S1x16x192, .f32⟩
  | .local _ .vmem, ⟨13, _⟩ => ⟨S1x16x192, .f32⟩
  | .local _ .vmem, ⟨14, _⟩ => ⟨S1x16x192, .f32⟩
  | .local _ .vmem, ⟨15, _⟩ => ⟨S1x16x192, .f32⟩
  | _, _ => ⟨S2x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference22Ideal.lean ====
abbrev S2x16x192 : Shape := ⟨3, ![2, 16, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x16x192, .f32⟩
  | .hbm, ⟨1, _⟩ => ⟨S2x16x192, .f32⟩
  | .hbm, ⟨2, _⟩ => ⟨S2x16x192, .f32⟩
  | .hbm, ⟨3, _⟩ => ⟨S2x16x192, .f32⟩
  | .hbm, ⟨4, _⟩ => ⟨S_, .f32⟩
  | .hbm, ⟨5, _⟩ => ⟨S2x16x192, .f32⟩
  | .hbm, ⟨6, _⟩ => ⟨S2x16x192, .f32⟩
  | .hbm, ⟨7, _⟩ => ⟨S_, .f32⟩
  | .hbm, ⟨8, _⟩ => ⟨S2x16x192, .f32⟩
  | .hbm, ⟨9, _⟩ => ⟨S2x16x192, .f32⟩
  | .hbm, ⟨10, _⟩ => ⟨S2x16x192, .f32⟩
  | .hbm, ⟨11, _⟩ => ⟨S_, .f32⟩
  | .hbm, ⟨12, _⟩ => ⟨S2x16x192, .f32⟩
  | .hbm, ⟨13, _⟩ => ⟨S2x16x192, .f32⟩
  | .hbm, ⟨14, _⟩ => ⟨S2x16x192, .f32⟩
  | .hbm, ⟨15, _⟩ => ⟨S_, .f32⟩
  | .hbm, ⟨16, _⟩ => ⟨S2x16x192, .f32⟩
  | .hbm, ⟨17, _⟩ => ⟨S2x16x192, .f32⟩
  | .hbm, ⟨18, _⟩ => ⟨S2x16x192, .f32⟩
  | .hbm, ⟨19, _⟩ => ⟨S_, .f32⟩
  | .hbm, ⟨20, _⟩ => ⟨S2x16x192, .f32⟩
  | .hbm, ⟨21, _⟩ => ⟨S2x16x192, .f32⟩
  | .hbm, ⟨22, _⟩ => ⟨S_, .f32⟩
  | .hbm, ⟨23, _⟩ => ⟨S2x16x192, .f32⟩
  | .hbm, ⟨24, _⟩ => ⟨S2x16x192, .f32⟩
  | .hbm, ⟨25, _⟩ => ⟨S2x16x192, .f32⟩
  | .hbm, ⟨26, _⟩ => ⟨S_, .f32⟩
  | .hbm, ⟨27, _⟩ => ⟨S2x16x192, .f32⟩
  | .hbm, ⟨28, _⟩ => ⟨S2x16x192, .f32⟩
  | .hbm, ⟨29, _⟩ => ⟨S2x16x192, .f32⟩
  | .hbm, ⟨30, _⟩ => ⟨S_, .f32⟩
  | .hbm, ⟨31, _⟩ => ⟨S2x16x192, .f32⟩
  | .hbm, ⟨32, _⟩ => ⟨S2x16x192, .f32⟩
  | .hbm, ⟨33, _⟩ => ⟨S2x16x192, .f32⟩
  | .hbm, ⟨34, _⟩ => ⟨S_, .f32⟩
  | .hbm, ⟨35, _⟩ => ⟨S2x16x192, .f32⟩
  | .hbm, ⟨36, _⟩ => ⟨S2x16x192, .f32⟩
  | _, _ => ⟨S2x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x1024 : Shape := ⟨2, ![8192, 1024]⟩
abbrev S1x4x704x1024 : Shape := ⟨4, ![1, 4, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1x4x704x1024, .bf16⟩
  | .hbm, ⟨2, _⟩ => ⟨S1x4x704x1024, .bf16⟩
  | .hbm, ⟨3, _⟩ => ⟨S4x8192x704, .bf16⟩
  | .hbm, ⟨4, _⟩ => ⟨S4x8192x704, .bf16⟩
  | .hbm, ⟨5, _⟩ => ⟨S4x8192x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference23Ideal.lean ====
abbrev S8192x1024 : Shape := ⟨2, ![8192, 1024]⟩
abbrev S1x4x704x1024 : Shape := ⟨4, ![1, 4, 704, 1024]⟩
abbrev S4x704x1024 : Shape := ⟨3, ![4, 704, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x4x704x1024, .bf16⟩
  | .hbm, ⟨2, _⟩ => ⟨S1x4x704x1024, .bf16⟩
  | .hbm, ⟨3, _⟩ => ⟨S8192x1024, .f32⟩
  | .hbm, ⟨4, _⟩ => ⟨S4x704x1024, .bf16⟩
  | .hbm, ⟨5, _⟩ => ⟨S2816x1024, .bf16⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S8192x1024, .f32⟩
  | .hbm, ⟨10, _⟩ => ⟨S4x704x1024, .bf16⟩
  | .hbm, ⟨11, _⟩ => ⟨S2816x1024, .bf16⟩
  | .hbm, ⟨12, _⟩ => ⟨S2816x1024, .f32⟩
  | .hbm, ⟨13, _⟩ => ⟨S1024x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x4x704, .f32⟩
  | .hbm, ⟨37, _⟩ => ⟨S4x8192x704, .f32⟩
  | .hbm, ⟨38, _⟩ => ⟨S4x8192x704, .bf16⟩
  | .hbm, ⟨39, _⟩ => ⟨S8192x4x704, .f32⟩
  | .hbm, ⟨40, _⟩ => ⟨S4x8192x704, .f32⟩
  | .hbm, ⟨41, _⟩ => ⟨S4x8192x704, .bf16⟩
  | .hbm, ⟨42, _⟩ => ⟨S8192x4x704, .f32⟩
  | .hbm, ⟨43, _⟩ => ⟨S4x8192x704, .f32⟩
  | .hbm, ⟨44, _⟩ => ⟨S4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v12_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v12_1 : Ref sig .tc := ⟨.hbm, 26, rfl⟩
abbrev main_v12_0 : Ref sig .tc := ⟨.hbm, 27, rfl⟩
abbrev main_cst : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel24.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x8192x704, .bf16⟩
  | .hbm, ⟨1, _⟩ => ⟨S1x4x704x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference24Ideal.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S1x1024 : Shape := ⟨2, ![1, 1024]⟩
abbrev S8192x4x704 : Shape := ⟨3, ![8192, 4, 704]⟩
abbrev S8192x2816 : Shape := ⟨2, ![8192, 2816]⟩
abbrev S4x704x1024 : Shape := ⟨3, ![4, 704, 1024]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S1x4x704x1024, .bf16⟩
  | .hbm, ⟨2, _⟩ => ⟨S8192x1024, .f32⟩
  | .hbm, ⟨3, _⟩ => ⟨S1x1024, .f32⟩
  | .hbm, ⟨4, _⟩ => ⟨S8192x4x704, .bf16⟩
  | .hbm, ⟨5, _⟩ => ⟨S8192x2816, .bf16⟩
  | .hbm, ⟨6, _⟩ => ⟨S8192x2816, .f32⟩
  | .hbm, ⟨7, _⟩ => ⟨S4x704x1024, .bf16⟩
  | .hbm, ⟨8, _⟩ => ⟨S2816x1024, .bf16⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel25.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S1x4x704x1024, .bf16⟩
  | .hbm, ⟨2, _⟩ => ⟨S8192x1024, .f32⟩
  | .hbm, ⟨3, _⟩ => ⟨S8192x1024, .f32⟩
  | .local _ .vmem, ⟨0, _⟩ => ⟨S4x512x704, .bf16⟩
  | .local _ .vmem, ⟨1, _⟩ => ⟨S4x512x704, .bf16⟩
  | .local _ .vmem, ⟨2, _⟩ => ⟨S1x4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference25Ideal.lean ====
abbrev S4x8192x704 : Shape := ⟨3, ![4, 8192, 704]⟩
abbrev S1x4x704x1024 : Shape := ⟨4, ![1, 4, 704, 1024]⟩
abbrev S8192x1024 : Shape := ⟨2, ![8192, 1024]⟩
abbrev S8192x4x704 : Shape := ⟨3, ![8192, 4, 704]⟩
abbrev S8192x2816 : Shape := ⟨2, ![8192, 2816]⟩
abbrev S4x704x1024 : Shape := ⟨3, ![4, 704, 1024]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S1x4x704x1024, .bf16⟩
  | .hbm, ⟨2, _⟩ => ⟨S8192x1024, .f32⟩
  | .hbm, ⟨3, _⟩ => ⟨S8192x4x704, .bf16⟩
  | .hbm, ⟨4, _⟩ => ⟨S8192x2816, .bf16⟩
  | .hbm, ⟨5, _⟩ => ⟨S8192x2816, .f32⟩
  | .hbm, ⟨6, _⟩ => ⟨S4x704x1024, .bf16⟩
  | .hbm, ⟨7, _⟩ => ⟨S2816x1024, .bf16⟩
  | .hbm, ⟨8, _⟩ => ⟨S2816x1024, .f32⟩
  | .hbm, ⟨9, _⟩ => ⟨S8192x1024, .f32⟩
  | .hbm, ⟨10, _⟩ => ⟨S8192x1024, .f32⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel26.lean ====
abbrev S8192x2048 : Shape := ⟨2, ![8192, 2048]⟩
abbrev S1x2048x1024 : Shape := ⟨3, ![1, 2048, 1024]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S2048x1024 : Shape := ⟨2, ![2048, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S1x2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference26Ideal.lean ====
abbrev S8192x2048 : Shape := ⟨2, ![8192, 2048]⟩
abbrev S1x2048x1024 : Shape := ⟨3, ![1, 2048, 1024]⟩
abbrev S8192x1024 : Shape := ⟨2, ![8192, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x1024, .bf16⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S2048x1024, .bf16⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel27.lean ====
abbrev S8192x1024 : Shape := ⟨2, ![8192, 1024]⟩
abbrev S1x1024x1024 : Shape := ⟨3, ![1, 1024, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .bf16⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel28.lean ====
abbrev S8192x1024 : Shape := ⟨2, ![8192, 1024]⟩
abbrev S1x1024x3072 : Shape := ⟨3, ![1, 1024, 3072]⟩
abbrev S3x10240x1024 : Shape := ⟨3, ![3, 10240, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S3x10240x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .bf16⟩
  | .local _ .vmem, ⟨5, _⟩ => ⟨S1x512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 20], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference28Ideal.lean ====
abbrev S8192x1024 : Shape := ⟨2, ![8192, 1024]⟩
abbrev S1x1024x3072 : Shape := ⟨3, ![1, 1024, 3072]⟩
abbrev S1024x3072 : Shape := ⟨2, ![1024, 3072]⟩
abbrev S8192x3072 : Shape := ⟨2, ![8192, 3072]⟩
abbrev S_ : Shape := ⟨0, ![]⟩
abbrev S1x8192x1024 : Shape := ⟨3, ![1, 8192, 1024]⟩
abbrev S3x8192x1024 : Shape := ⟨3, ![3, 8192, 1024]⟩
abbrev S3x10240x1024 : Shape := ⟨3, ![3, 10240, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x3072, .bf16⟩
  | .hbm, ⟨2, _⟩ => ⟨S8192x1024, .f32⟩
  | .hbm, ⟨3, _⟩ => ⟨S1024x3072, .bf16⟩
  | .hbm, ⟨4, _⟩ => ⟨S1024x3072, .f32⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1x8192x1024, .f32⟩
  | .hbm, ⟨13, _⟩ => ⟨S1x8192x1024, .f32⟩
  | .hbm, ⟨14, _⟩ => ⟨S1x8192x1024, .f32⟩
  | .hbm, ⟨15, _⟩ => ⟨S3x8192x1024, .f32⟩
  | .hbm, ⟨16, _⟩ => ⟨S_, .i32⟩
  | .hbm, ⟨17, _⟩ => ⟨S_, .f32⟩
  | .hbm, ⟨18, _⟩ => ⟨S3x10240x1024, .f32⟩
  | .hbm, ⟨19, _⟩ => ⟨S3x10240x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel29.lean ====
abbrev S8192x4096 : Shape := ⟨2, ![8192, 4096]⟩
abbrev S1x2048 : Shape := ⟨2, ![1, 2048]⟩
abbrev S8x128x128 : Shape := ⟨3, ![8, 128, 128]⟩
abbrev S8x128x1 : Shape := ⟨3, ![8, 128, 1]⟩
abbrev S8192x2048 : Shape := ⟨2, ![8192, 2048]⟩
abbrev S512x4096 : Shape := ⟨2, ![512, 4096]⟩
abbrev S512x2048 : Shape := ⟨2, ![512, 2048]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S1x128x1 : Shape := ⟨3, ![1, 128, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x2048, .f32⟩
  | .hbm, ⟨2, _⟩ => ⟨S8x128x128, .f32⟩
  | .hbm, ⟨3, _⟩ => ⟨S8x128x1, .f32⟩
  | .hbm, ⟨4, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S1x2048, .f32⟩
  | .local _ .vmem, ⟨3, _⟩ => ⟨S8x128x128, .f32⟩
  | .local _ .vmem, ⟨4, _⟩ => ⟨S8x128x1, .f32⟩
  | .local _ .vmem, ⟨5, _⟩ => ⟨S512x2048, .bf16⟩
  | .local _ .vmem, ⟨6, _⟩ => ⟨S512x2048, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel29Ideal.lean ====
variable {F : FTy → Type} [FloatOps F] [Named F]
def κ : String → Option EReal := fun
  | "gelu_a" => some ((80338380498831 / 2251799813685248 : ℝ) : EReal)
  | _ => none
-- ==== Reference29Ideal.lean ====
abbrev S8192x4096 : Shape := ⟨2, ![8192, 4096]⟩
abbrev S1x2048 : Shape := ⟨2, ![1, 2048]⟩
abbrev S8x128x128 : Shape := ⟨3, ![8, 128, 128]⟩
abbrev S8x128x1 : Shape := ⟨3, ![8, 128, 1]⟩
abbrev S2048 : Shape := ⟨1, ![2048]⟩
abbrev S8x128 : Shape := ⟨2, ![8, 128]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S64x128x8x256 : Shape := ⟨4, ![64, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 98
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x2048, .f32⟩
  | .hbm, ⟨2, _⟩ => ⟨S8x128x128, .f32⟩
  | .hbm, ⟨3, _⟩ => ⟨S8x128x1, .f32⟩
  | .hbm, ⟨4, _⟩ => ⟨S8192x4096, .f32⟩
  | .hbm, ⟨5, _⟩ => ⟨S2048, .f32⟩
  | .hbm, ⟨6, _⟩ => ⟨S8x128, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S64x128x8x256, .f32⟩
  | .hbm, ⟨43, _⟩ => ⟨S128, .i32⟩
  | .hbm, ⟨44, _⟩ => ⟨S1x128, .i32⟩
  | .hbm, ⟨45, _⟩ => ⟨S_, .i32⟩
  | .hbm, ⟨46, _⟩ => ⟨S_, .i32⟩
  | .hbm, ⟨47, _⟩ => ⟨S1x128, .i32⟩
  | .hbm, ⟨48, _⟩ => ⟨S1x128, .i32⟩
  | .hbm, ⟨49, _⟩ => ⟨S1x128, .i32⟩
  | .hbm, ⟨50, _⟩ => ⟨S_, .i32⟩
  | .hbm, ⟨51, _⟩ => ⟨S1x128, .i32⟩
  | .hbm, ⟨52, _⟩ => ⟨S1x128, .i1⟩
  | .hbm, ⟨53, _⟩ => ⟨S1x128, .i32⟩
  | .hbm, ⟨54, _⟩ => ⟨S1x128, .i32⟩
  | .hbm, ⟨55, _⟩ => ⟨S_, .i32⟩
  | .hbm, ⟨56, _⟩ => ⟨S1x128, .i32⟩
  | .hbm, ⟨57, _⟩ => ⟨S1x128, .i1⟩
  | .hbm, ⟨58, _⟩ => ⟨S1x128, .i1⟩
  | .hbm, ⟨59, _⟩ => ⟨S_, .i32⟩
  | .hbm, ⟨60, _⟩ => ⟨S1x128, .i32⟩
  | .hbm, ⟨61, _⟩ => ⟨S1x128, .i32⟩
  | .hbm, ⟨62, _⟩ => ⟨S1x128, .i32⟩
  | .hbm, ⟨63, _⟩ => ⟨S128x1, .i32⟩
  | .hbm, ⟨64, _⟩ => ⟨S_, .i32⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S128x1, .i32⟩
  | .hbm, ⟨69, _⟩ => ⟨S_, .i32⟩
  | .hbm, ⟨70, _⟩ => ⟨S128x1, .i32⟩
  | .hbm, ⟨71, _⟩ => ⟨S128x1, .i1⟩
  | .hbm, ⟨72, _⟩ => ⟨S128x1, .i32⟩
  | .hbm, ⟨73, _⟩ => ⟨S128x1, .i32⟩
  | .hbm, ⟨74, _⟩ => ⟨S_, .i32⟩
  | .hbm, ⟨75, _⟩ => ⟨S128x1, .i32⟩
  | .hbm, ⟨76, _⟩ => ⟨S128x1, .i1⟩
  | .hbm, ⟨77, _⟩ => ⟨S128x1, .i1⟩
  | .hbm, ⟨78, _⟩ => ⟨S_, .i32⟩
  | .hbm, ⟨79, _⟩ => ⟨S128x1, .i32⟩
  | .hbm, ⟨80, _⟩ => ⟨S128x1, .i32⟩
  | .hbm, ⟨81, _⟩ => ⟨S128x1, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S128x128, .f32⟩
  | .hbm, ⟨86, _⟩ => ⟨S1x128x128, .f32⟩
  | .hbm, ⟨87, _⟩ => ⟨S8x128x128, .f32⟩
  | .hbm, ⟨88, _⟩ => ⟨S8x128x128, .f32⟩
  | .hbm, ⟨89, _⟩ => ⟨S8x64x256x128, .f32⟩
  | .hbm, ⟨90, _⟩ => ⟨S64x128x8x256, .f32⟩
  | .hbm, ⟨91, _⟩ => ⟨S128x8, .f32⟩
  | .hbm, ⟨92, _⟩ => ⟨S1x128x8x1, .f32⟩
  | .hbm, ⟨93, _⟩ => ⟨S64x128x8x256, .f32⟩
  | .hbm, ⟨94, _⟩ => ⟨S64x128x8x256, .f32⟩
  | .hbm, ⟨95, _⟩ => ⟨S8192x2048, .f32⟩
  | .hbm, ⟨96, _⟩ => ⟨S8192x2048, .f32⟩
  | .hbm, ⟨97, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩

abbrev nD : Nat := 1
abbrev τ : Topo := Topo.v7x

variable {F : FTy → Type} [FloatOps F]
-- ==== Kernel30.lean ====
abbrev S8192x4096 : Shape := ⟨2, ![8192, 4096]⟩
abbrev S8192x2048 : Shape := ⟨2, ![8192, 2048]⟩
abbrev S1x2048 : Shape := ⟨2, ![1, 2048]⟩
abbrev S8x128x128 : Shape := ⟨3, ![8, 128, 128]⟩
abbrev S8x128x1 : Shape := ⟨3, ![8, 128, 1]⟩
abbrev S512x4096 : Shape := ⟨2, ![512, 4096]⟩
abbrev S512x2048 : Shape := ⟨2, ![512, 2048]⟩
abbrev S8x2048 : Shape := ⟨2, ![8, 2048]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S1x128x1 : Shape := ⟨3, ![1, 128, 1]⟩
abbrev S16x8x2048 : Shape := ⟨3, ![16, 8, 2048]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S1x2048, .f32⟩
  | .hbm, ⟨3, _⟩ => ⟨S8x128x128, .f32⟩
  | .hbm, ⟨4, _⟩ => ⟨S8x128x1, .f32⟩
  | .hbm, ⟨5, _⟩ => ⟨S8192x4096, .bf16⟩
  | .hbm, ⟨6, _⟩ => ⟨S8x128x128, .f32⟩
  | .hbm, ⟨7, _⟩ => ⟨S8x128x1, .f32⟩
  | .hbm, ⟨8, _⟩ => ⟨S1x2048, .f32⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S8x128x128, .f32⟩
  | .local _ .vmem, ⟨6, _⟩ => ⟨S8x128x1, .f32⟩
  | .local _ .vmem, ⟨7, _⟩ => ⟨S512x4096, .bf16⟩
  | .local _ .vmem, ⟨8, _⟩ => ⟨S512x4096, .bf16⟩
  | .local _ .vmem, ⟨9, _⟩ => ⟨S8x128x128, .f32⟩
  | .local _ .vmem, ⟨10, _⟩ => ⟨S8x128x1, .f32⟩
  | .local _ .vmem, ⟨11, _⟩ => ⟨S1x2048, .f32⟩
  | .local _ .vmem, ⟨12, _⟩ => ⟨S8x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1663 : BitVec 1 := Scalar.cmpi .eq arg0 c15_i32
  let v1664 : BitVec 32 := Scalar.extui v1663
  let c0_i32_953 : BitVec 32 := 0#32
  let v1665 : BitVec 1 := Scalar.cmpi .ne v1664 c0_i32_953
  v1665

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel30Ideal.lean ====
variable {F : FTy → Type} [FloatOps F] [Named F]
def κ : String → Option EReal := fun
  | "gelu_3a" => some ((241015141496493 / 2251799813685248 : ℝ) : EReal)
  | "gelu_a" => some ((80338380498831 / 2251799813685248 : ℝ) : EReal)
  | _ => none
-- ==== Reference30Ideal.lean ====
abbrev S8192x4096 : Shape := ⟨2, ![8192, 4096]⟩
abbrev S8192x2048 : Shape := ⟨2, ![8192, 2048]⟩
abbrev S1x2048 : Shape := ⟨2, ![1, 2048]⟩
abbrev S8x128x128 : Shape := ⟨3, ![8, 128, 128]⟩
abbrev S8x128x1 : Shape := ⟨3, ![8, 128, 1]⟩
abbrev S2048 : Shape := ⟨1, ![2048]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x256 : Shape := ⟨4, ![64, 128, 8, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩

abbrev nBuf : Space → Nat
  | .hbm => 174
  | .vmem => 0
  | .smem => 0
  | _ => 0

abbrev hbmTy0_0 (i : Nat) : BufTy := match i % 128 with
  | 0 => ⟨S8192x4096, .bf16⟩
  | 1 => ⟨S8192x2048, .bf16⟩
  | 2 => ⟨S1x2048, .f32⟩
  | 3 => ⟨S8x128x128, .f32⟩
  | 4 => ⟨S8x128x1, .f32⟩
  | 5 => ⟨S8192x4096, .f32⟩
  | 6 => ⟨S2048, .f32⟩
  | 7 => ⟨S8x128, .f32⟩
  | 8 => ⟨S8192x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S_, .f32⟩
  | 15 => ⟨S8192x4096, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x4096, .f32⟩
  | 22 => ⟨S_, .f32⟩
  | 23 => ⟨S8192x4096, .f32⟩
  | 24 => ⟨S8192x4096, .f32⟩
  | 25 => ⟨S_, .f32⟩
  | 26 => ⟨S8192x4096, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S8192x4096, .f32⟩
  | 36 => ⟨S8192x2048, .f32⟩
  | 37 => ⟨S8192x2048, .f32⟩
  | 38 => ⟨S8192x2048, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1, .f32⟩
  | 50 => ⟨S_, .f32⟩
  | 51 => ⟨S8192x1, .f32⟩
  | 52 => ⟨S8192x1, .f32⟩
  | 53 => ⟨S8192x2048, .f32⟩
  | 54 => ⟨S8192x2048, .f32⟩
  | 55 => ⟨S1x2048, .f32⟩
  | 56 => ⟨S8192x2048, .f32⟩
  | 57 => ⟨S8192x2048, .f32⟩
  | 58 => ⟨S64x128x8x256, .f32⟩
  | 59 => ⟨S128, .i32⟩
  | 60 => ⟨S1x128, .i32⟩
  | 61 => ⟨S_, .i32⟩
  | 62 => ⟨S_, .i32⟩
  | 63 => ⟨S1x128, .i32⟩
  | 64 => ⟨S1x128, .i32⟩
  | 65 => ⟨S1x128, .i32⟩
  | 66 => ⟨S_, .i32⟩
  | 67 => ⟨S1x128, .i32⟩
  | 68 => ⟨S1x128, .i1⟩
  | 69 => ⟨S1x128, .i32⟩
  | 70 => ⟨S1x128, .i32⟩
  | 71 => ⟨S_, .i32⟩
  | 72 => ⟨S1x128, .i32⟩
  | 73 => ⟨S1x128, .i1⟩
  | 74 => ⟨S1x128, .i1⟩
  | 75 => ⟨S_, .i32⟩
  | 76 => ⟨S1x128, .i32⟩
  | 77 => ⟨S1x128, .i32⟩
  | 78 => ⟨S1x128, .i32⟩
  | 79 => ⟨S128x1, .i32⟩
  | 80 => ⟨S_, .i32⟩
  | 81 => ⟨S_, .i32⟩
  | 82 => ⟨S128x1, .i32⟩
  | 83 => ⟨S128x1, .i32⟩
  | 84 => ⟨S128x1, .i32⟩
  | 85 => ⟨S_, .i32⟩
  | 86 => ⟨S128x1, .i32⟩
  | 87 => ⟨S128x1, .i1⟩
  | 88 => ⟨S128x1, .i32⟩
  | 89 => ⟨S128x1, .i32⟩
  | 90 => ⟨S_, .i32⟩
  | 91 => ⟨S128x1, .i32⟩
  | 92 => ⟨S128x1, .i1⟩
  | 93 => ⟨S128x1, .i1⟩
  | 94 => ⟨S_, .i32⟩
  | 95 => ⟨S128x1, .i32⟩
  | 96 => ⟨S128x1, .i32⟩
  | 97 => ⟨S128x1, .i32⟩
  | 98 => ⟨S128x128, .i32⟩
  | 99 => ⟨S128x128, .i32⟩
  | 100 => ⟨S128x128, .i1⟩
  | 101 => ⟨S128x128, .f32⟩
  | 102 => ⟨S1x128x128, .f32⟩
  | 103 => ⟨S8x128x128, .f32⟩
  | 104 => ⟨S8x128x128, .f32⟩
  | 105 => ⟨S8x64x256x128, .f32⟩
  | 106 => ⟨S64x128x8x256, .f32⟩
  | 107 => ⟨S128x8, .f32⟩
  | 108 => ⟨S1x128x8x1, .f32⟩
  | 109 => ⟨S64x128x8x256, .f32⟩
  | 110 => ⟨S64x128x8x256, .f32⟩
  | 111 => ⟨S8192x2048, .f32⟩
  | 112 => ⟨S8192x2048, .f32⟩
  | 113 => ⟨S8192x2048, .f32⟩
  | 114 => ⟨S8192x2048, .f32⟩
  | 115 => ⟨S8192x2048, .f32⟩
  | 116 => ⟨S64x128x8x256, .f32⟩
  | 117 => ⟨S_, .f32⟩
  | 118 => ⟨S128x8, .f32⟩
  | 119 => ⟨S1x128x8x1, .f32⟩
  | 120 => ⟨S_, .f32⟩
  | 121 => ⟨S128x8, .f32⟩
  | 122 => ⟨S8x128, .f32⟩
  | 123 => ⟨S8x64x256x128, .f32⟩
  | 124 => ⟨S8x128x128, .f32⟩
  | 125 => ⟨S8x64x256x128, .f32⟩
  | 126 => ⟨S64x128x8x256, .f32⟩
  | 127 => ⟨S8x128x128, .f32⟩
  | _ => ⟨S8192x4096, .bf16⟩

abbrev hbmTy0_1 (i : Nat) : BufTy := match i % 128 with
  | 0 => ⟨S8x128x128, .f32⟩
  | 1 => ⟨S8192x2048, .f32⟩
  | 2 => ⟨S8192x2048, .f32⟩
  | 3 => ⟨S_, .f32⟩
  | 4 => ⟨S2048, .f32⟩
  | 5 => ⟨S1x2048, .f32⟩
  | 6 => ⟨S8192x2048, .f32⟩
  | 7 => ⟨S8192x2048, .f32⟩
  | 8 => ⟨S_, .f32⟩
  | 9 => ⟨S2048, .f32⟩
  | 10 => ⟨S8192x2048, .f32⟩
  | 11 => ⟨S_, .f32⟩
  | 12 => ⟨S8192, .f32⟩
  | 13 => ⟨S8192x1, .f32⟩
  | 14 => ⟨S8192x2048, .f32⟩
  | 15 => ⟨S8192x2048, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192, .f32⟩
  | 22 => ⟨S8192x2048, .f32⟩
  | 23 => ⟨S8192x2048, .f32⟩
  | 24 => ⟨S8192x2048, .f32⟩
  | 25 => ⟨S8192x2048, .f32⟩
  | 26 => ⟨S8192x2048, .f32⟩
  | 27 => ⟨S8192x4096, .f32⟩
  | 28 => ⟨S8192x4096, .f32⟩
  | 29 => ⟨S8192x4096, .f32⟩
  | 30 => ⟨S_, .f32⟩
  | 31 => ⟨S8192x4096, .f32⟩
  | 32 => ⟨S8192x4096, .f32⟩
  | 33 => ⟨S8192x4096, .f32⟩
  | 34 => ⟨S_, .f32⟩
  | 35 => ⟨S8192x4096, .f32⟩
  | 36 => ⟨S8192x4096, .f32⟩
  | 37 => ⟨S8192x4096, .f32⟩
  | 38 => ⟨S_, .f32⟩
  | 39 => ⟨S8192x4096, .f32⟩
  | 40 => ⟨S8192x4096, .f32⟩
  | 41 => ⟨S8192x4096, .f32⟩
  | 42 => ⟨S8192x4096, .f32⟩
  | 43 => ⟨S8192x4096, .bf16⟩
  | 44 => ⟨S8x128x1, .f32⟩
  | 45 => ⟨S1x2048, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v45 : Ref sig .tc := ⟨.hbm, 78, rfl⟩
abbrev main_v46 : Ref sig .tc := ⟨.hbm, 79, rfl⟩
abbrev main_c_10 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_c : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_0 : Ref sig .tc := ⟨.hbm, 94, rfl⟩
abbrev main_call1_v12 : Ref sig .tc := ⟨.hbm, 95, rfl⟩
abbrev main_call1_v13 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_11 : Ref sig .tc := ⟨.hbm, 117, rfl⟩
abbrev main_v67 : Ref sig .tc := ⟨.hbm, 118, rfl⟩
abbrev main_v68 : Ref sig .tc := ⟨.hbm, 119, rfl⟩
abbrev main_cst_12 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_13 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_14 : Ref sig .tc := ⟨.hbm, 136, rfl⟩
abbrev main_v83 : Ref sig .tc := ⟨.hbm, 137, rfl⟩
abbrev main_v84 : Ref sig .tc := ⟨.hbm, 138, rfl⟩
abbrev main_cst_15 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_16 : Ref sig .tc := ⟨.hbm, 145, rfl⟩
abbrev main_v90 : Ref sig .tc := ⟨.hbm, 146, rfl⟩
abbrev main_v91 : Ref sig .tc := ⟨.hbm, 147, rfl⟩
abbrev main_cst_17 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_cst_18 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_19 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_20 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩

abbrev nD : Nat := 1
abbrev τ : Topo := Topo.v7x

variable {F : FTy → Type} [FloatOps F]
-- ==== Kernel31.lean ====
abbrev S8192x1024 : Shape := ⟨2, ![8192, 1024]⟩
abbrev S1x1024 : Shape := ⟨2, ![1, 1024]⟩
abbrev S1x128 : Shape := ⟨2, ![1, 128]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩
abbrev S1024 : Shape := ⟨1, ![1024]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1x128, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S8x1024, .f32⟩
  | .local _ .vmem, ⟨12, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v45 : BitVec 1 := Scalar.cmpi .eq arg0 c31_i32
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference31Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1x128, .f32⟩
  | .hbm, ⟨73, _⟩ => ⟨S8192x1024, .bf16⟩
  | .hbm, ⟨74, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel32.lean ====
abbrev S8192x1024 : Shape := ⟨2, ![8192, 1024]⟩
abbrev S1x1024x4096 : Shape := ⟨3, ![1, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .bf16⟩
  | .hbm, ⟨2, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference32Ideal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x4096, .bf16⟩
  | .hbm, ⟨2, _⟩ => ⟨S8192x1024, .f32⟩
  | .hbm, ⟨3, _⟩ => ⟨S1024x4096, .bf16⟩
  | .hbm, ⟨4, _⟩ => ⟨S1024x4096, .f32⟩
  | .hbm, ⟨5, _⟩ => ⟨S8192x4096, .f32⟩
  | .hbm, ⟨6, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel33.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel34.lean ====
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference34Ideal.lean ====
abbrev S2x1024x1024 : Shape := ⟨3, ![2, 1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel35.lean ====
abbrev S2x1024x768 : Shape := ⟨3, ![2, 1024, 768]⟩
abbrev S1x1024x768 : Shape := ⟨3, ![1, 1024, 768]⟩
abbrev S1024x768 : Shape := ⟨2, ![1024, 768]⟩

abbrev nBuf : Space → Nat
  | .hbm => 2
  | .vmem => 4
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .bf16⟩
  | .local _ .vmem, ⟨0, _⟩ => ⟨S1x1024x768, .f32⟩
  | .local _ .vmem, ⟨1, _⟩ => ⟨S1x1024x768, .f32⟩
  | .local _ .vmem, ⟨2, _⟩ => ⟨S1x1024x768, .bf16⟩
  | .local _ .vmem, ⟨3, _⟩ => ⟨S1x1024x768, .bf16⟩
  | _, _ => ⟨S2x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference35Ideal.lean ====
abbrev S2x1024x768 : Shape := ⟨3, ![2, 1024, 768]⟩

abbrev nBuf : Space → Nat
  | .hbm => 2
  | .vmem => 0
  | .smem => 0
  | _ => 0

abbrev bufTy : (tb : Table) → Fin (tcTables nBuf tb) → BufTy
  | .hbm, ⟨0, _⟩ => ⟨S2x1024x768, .f32⟩
  | .hbm, ⟨1, _⟩ => ⟨S2x1024x768, .bf16⟩
  | _, _ => ⟨S2x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel36.lean ====
abbrev S2x512x1024 : Shape := ⟨3, ![2, 512, 1024]⟩
abbrev S1x512x1024 : Shape := ⟨3, ![1, 512, 1024]⟩
abbrev S512x1024 : Shape := ⟨2, ![512, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference36Ideal.lean ====
abbrev S2x512x1024 : Shape := ⟨3, ![2, 512, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .bf16⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel37.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .bf16⟩
  | .local _ .vmem, ⟨3, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference37Ideal.lean ====
abbrev S2x256x1024 : Shape := ⟨3, ![2, 256, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel38.lean ====
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .bf16⟩
  | .local _ .vmem, ⟨0, _⟩ => ⟨S1x704x1024, .f32⟩
  | .local _ .vmem, ⟨1, _⟩ => ⟨S1x704x1024, .f32⟩
  | .local _ .vmem, ⟨2, _⟩ => ⟨S1x704x1024, .bf16⟩
  | .local _ .vmem, ⟨3, _⟩ => ⟨S1x704x1024, .bf16⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x704x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference38Ideal.lean ====
abbrev S4x704x1024 : Shape := ⟨3, ![4, 704, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .bf16⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel39.lean ====
abbrev S16x192 : Shape := ⟨2, ![16, 192]⟩
abbrev S128x16x640 : Shape := ⟨3, ![128, 16, 640]⟩
abbrev S192x768 : Shape := ⟨2, ![192, 768]⟩
abbrev S16x768 : Shape := ⟨2, ![16, 768]⟩
abbrev S1x640 : Shape := ⟨2, ![1, 640]⟩
abbrev S16x640 : Shape := ⟨2, ![16, 640]⟩
abbrev S1x16x640 : Shape := ⟨3, ![1, 16, 640]⟩

abbrev nBuf : Space → Nat
  | .hbm => 2
  | .vmem => 2
  | .smem => 0
  | _ => 0

abbrev bufTy : (tb : Table) → Fin (tcTables nBuf tb) → BufTy
  | .hbm, ⟨0, _⟩ => ⟨S16x192, .f32⟩
  | .hbm, ⟨1, _⟩ => ⟨S128x16x640, .f32⟩
  | .local _ .vmem, ⟨0, _⟩ => ⟨S16x192, .f32⟩
  | .local _ .vmem, ⟨1, _⟩ => ⟨S128x16x640, .f32⟩
  | _, _ => ⟨S16x192, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32_5 : BitVec 32 := 128#32
  let v30 : BitVec 32 := Scalar.addi c0_i32 c128_i32_5
  let c1_i32 : BitVec 32 := 1#32
  ⟨c0_i32, v30, c1_i32⟩
def k0_off1 (k0_t1 : Fin k0_t1_loop.trips) : Fin 3 → Nat :=
  let c0_i32 : BitVec 32 := 0#32
  let c1_i32 : BitVec 32 := 1#32
  let arg2 : BitVec 32 := Scf.iv c0_i32 c1_i32 k0_t1
  let v60 : Index := Scalar.indexCast arg2
  let c0_16 : Index := 0#32
  let c0_17 : Index := 0#32
  ![v60.toNat, 0, 0]
abbrev stage0_0 : Fin 1 → Memref sig .tc .vmem S16x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference39Ideal.lean ====
abbrev S16x192 : Shape := ⟨2, ![16, 192]⟩
abbrev S128 : Shape := ⟨1, ![128]⟩
abbrev S128x1 : Shape := ⟨2, ![128, 1]⟩
abbrev S640 : Shape := ⟨1, ![640]⟩
abbrev S1x640 : Shape := ⟨2, ![1, 640]⟩
abbrev S_ : Shape := ⟨0, ![]⟩
abbrev S128x640 : Shape := ⟨2, ![128, 640]⟩
abbrev S128x640x1 : Shape := ⟨3, ![128, 640, 1]⟩
abbrev S16x128x640 : Shape := ⟨3, ![16, 128, 640]⟩
abbrev S128x1x640 : Shape := ⟨3, ![128, 1, 640]⟩
abbrev S128x16x640 : Shape := ⟨3, ![128, 16, 640]⟩

abbrev nBuf : Space → Nat
  | .hbm => 60
  | .vmem => 0
  | .smem => 0
  | _ => 0

abbrev bufTy : (tb : Table) → Fin (tcTables nBuf tb) → BufTy
  | .hbm, ⟨0, _⟩ => ⟨S16x192, .f32⟩
  | .hbm, ⟨1, _⟩ => ⟨S128, .i32⟩
  | .hbm, ⟨2, _⟩ => ⟨S128x1, .i32⟩
  | .hbm, ⟨3, _⟩ => ⟨S640, .i32⟩
  | .hbm, ⟨4, _⟩ => ⟨S1x640, .i32⟩
  | .hbm, ⟨5, _⟩ => ⟨S_, .i32⟩
  | .hbm, ⟨6, _⟩ => ⟨S1x640, .i32⟩
  | .hbm, ⟨7, _⟩ => ⟨S1x640, .i32⟩
  | .hbm, ⟨8, _⟩ => ⟨S128x640, .i32⟩
  | .hbm, ⟨9, _⟩ => ⟨S128x640, .i32⟩
  | .hbm, ⟨10, _⟩ => ⟨S128x640, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S128x640, .i32⟩
  | .hbm, ⟨15, _⟩ => ⟨S128x640, .i32⟩
  | .hbm, ⟨16, _⟩ => ⟨S_, .i32⟩
  | .hbm, ⟨17, _⟩ => ⟨S128x640, .i32⟩
  | .hbm, ⟨18, _⟩ => ⟨S128x640, .i32⟩
  | .hbm, ⟨19, _⟩ => ⟨S_, .i32⟩
  | .hbm, ⟨20, _⟩ => ⟨S128x640, .i32⟩
  | .hbm, ⟨21, _⟩ => ⟨S128x640, .i32⟩
  | .hbm, ⟨22, _⟩ => ⟨S_, .i32⟩
  | .hbm, ⟨23, _⟩ => ⟨S128x640, .i32⟩
  | .hbm, ⟨24, _⟩ => ⟨S128x640, .i1⟩
  | .hbm, ⟨25, _⟩ => ⟨S_, .i32⟩
  | .hbm, ⟨26, _⟩ => ⟨S128x640, .i32⟩
  | .hbm, ⟨27, _⟩ => ⟨S128x640, .i32⟩
  | .hbm, ⟨28, _⟩ => ⟨S128x640, .i32⟩
  | .hbm, ⟨29, _⟩ => ⟨S128x640x1, .i32⟩
  | .hbm, ⟨30, _⟩ => ⟨S16x128x640, .f32⟩
  | .hbm, ⟨31, _⟩ => ⟨S_, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S1x640, .i32⟩
  | .hbm, ⟨36, _⟩ => ⟨S1x640, .i32⟩
  | .hbm, ⟨37, _⟩ => ⟨S128x640, .i32⟩
  | .hbm, ⟨38, _⟩ => ⟨S128x640, .i32⟩
  | .hbm, ⟨39, _⟩ => ⟨S128x640, .i32⟩
  | .hbm, ⟨40, _⟩ => ⟨S_, .i32⟩
  | .hbm, ⟨41, _⟩ => ⟨S128x640, .i32⟩
  | .hbm, ⟨42, _⟩ => ⟨S128x640, .i32⟩
  | .hbm, ⟨43, _⟩ => ⟨S_, .i32⟩
  | .hbm, ⟨44, _⟩ => ⟨S128x640, .i32⟩
  | .hbm, ⟨45, _⟩ => ⟨S128x640, .i1⟩
  | .hbm, ⟨46, _⟩ => ⟨S_, .i32⟩
  | .hbm, ⟨47, _⟩ => ⟨S128x640, .i32⟩
  | .hbm, ⟨48, _⟩ => ⟨S128x640, .i1⟩
  | .hbm, ⟨49, _⟩ => ⟨S128x640, .i1⟩
  | .hbm, ⟨50, _⟩ => ⟨S128x1x640, .i1⟩
  | .hbm, ⟨51, _⟩ => ⟨S128x16x640, .f32⟩
  | .hbm, ⟨52, _⟩ => ⟨S_, .f32⟩
  | .hbm, ⟨53, _⟩ => ⟨S128x16x640, .f32⟩
  | .hbm, ⟨54, _⟩ => ⟨S128x16x640, .f32⟩
  | .hbm, ⟨55, _⟩ => ⟨S_, .f32⟩
  | .hbm, ⟨56, _⟩ => ⟨S_, .f32⟩
  | .hbm, ⟨57, _⟩ => ⟨S128x16x640, .i1⟩
  | .hbm, ⟨58, _⟩ => ⟨S128x16x640, .f32⟩
  | .hbm, ⟨59, _⟩ => ⟨S128x16x640, .f32⟩
  | _, _ => ⟨S16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_5 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_v28 : Ref sig .tc := ⟨.hbm, 44, rfl⟩
abbrev main_v29 : Ref sig .tc := ⟨.hbm, 45, rfl⟩
abbrev main_c_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.RmsGrad.lean ====
module

public import Idealize.ShloMosaic.Lib.Pointwise

@[expose] public section

/-! The gradient of an RMS norm, one row, in two forms that agree over the extended reals.

The reciprocal root of a mean square plus a positive constant is a finite number that is not negative, whatever the
row holds; so it may be multiplied through sums and differences, and no condition on the row is needed. -/

noncomputable section

open Idealize.ShloMosaic

namespace Cert.RmsGrad

theorem ofBits_thousand : Ideal.ofBits .f32 0x44800000#32 = ((1024 : ℝ) : EReal) := by
  simp [Ideal.ofBits, Ideal.ieee, -EReal.coe_mul]; norm_num

theorem ofBits_minus_half : Ideal.ofBits .f32 0xBF000000#32 = ((-(1 / 2) : ℝ) : EReal) := by
  simp [Ideal.ofBits, Ideal.ieee, -EReal.coe_mul, -EReal.coe_neg]; norm_num

/-- The constant added under the root is a positive number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem sq_nonneg (x : EReal) : 0 ≤ x * x := by
  rcases le_total 0 x with h | h
  · exact EReal.mul_nonneg h h
  · have := EReal.mul_nonneg (EReal.neg_nonneg.mpr h) (EReal.neg_nonneg.mpr h)
    rwa [neg_mul_neg] at this

/-- The mean of squares plus a positive number: its reciprocal root, and the root over it. -/
theorem root {n : ℕ} (X : Fin n → EReal) {k e : ℝ} (hk : 0 < k) (he : 0 < e) :
    ∃ ρ : ℝ, 0 ≤ ρ ∧ Ideal.rsqrt (Ideal.div (∑ x, X x * X x) (k : EReal) + (e : EReal)) = (ρ : EReal)
      ∧ Ideal.div (ρ : EReal) (Ideal.div (∑ x, X x * X x) (k : EReal) + (e : EReal)) = ((ρ * ρ * ρ : ℝ) : EReal) := by
  have hS : 0 ≤ ∑ x, X x * X x := Finset.sum_nonneg fun x _ => sq_nonneg _
  rw [Ideal.div_coe hk.ne']
  generalize (∑ x, X x * X x) = S at hS
  induction S with
  | bot => simp at hS
  | top =>
    refine ⟨0, le_rfl, ?_, ?_⟩
    · rw [EReal.top_mul_coe_of_pos (by positivity), EReal.top_add_coe]; simp
    · rw [EReal.top_mul_coe_of_pos (by positivity), EReal.top_add_coe]; simp [Ideal.div]
  | coe s =>
    have hs : 0 ≤ s := by exact_mod_cast hS
    have hp : 0 < s * (1 / k) + e := by positivity
    rw [← EReal.coe_mul, ← EReal.coe_add]
    refine ⟨(Real.sqrt (s * (1 / k) + e))⁻¹, by positivity, ?_, ?_⟩
    · rw [Ideal.rsqrt_coe, if_neg (not_lt.mpr hp.le), if_neg hp.ne']
    · rw [Ideal.div_coe hp.ne', ← EReal.coe_mul]
      congr 1
      have h := Real.mul_self_sqrt hp.le
      rw [mul_assoc, ← mul_inv, h]; simp only [one_div]

/-- A finite factor that is not negative comes out of a sum. -/
theorem mul_sum {ι : Type*} (s : Finset ι) (f : ι → EReal) {ρ : ℝ} (h : 0 ≤ ρ) :
    ∑ i ∈ s, (ρ : EReal) * f i = (ρ : EReal) * ∑ i ∈ s, f i := by
  classical
  induction s using Finset.induction_on with
  | empty => simp
  | insert a s ha ih =>
    rw [Finset.sum_insert ha, Finset.sum_insert ha, ih,
      EReal.left_distrib_of_nonneg_of_ne_top (by exact_mod_cast h) (EReal.coe_ne_top _)]

/-- Half of a negative multiple, twice, is the whole multiple. -/
theorem twice (z : EReal) {q : ℝ} (hq : 0 ≤ q) :
    z * ((-(1 / 2) * q : ℝ) : EReal) + z * ((-(1 / 2) * q : ℝ) : EReal) = -(z * (q : EReal)) := by
  have e1 : ((-(1 / 2) * q : ℝ) : EReal) = -((1 / 2 * q : ℝ) : EReal) := by
    rw [← EReal.coe_neg]; congr 1; ring
  have e2 : (q : EReal) = ((1 / 2 * q : ℝ) : EReal) + ((1 / 2 * q : ℝ) : EReal) := by
    rw [← EReal.coe_add]; congr 1; ring
  have h0 : (0 : EReal) ≤ ((1 / 2 * q : ℝ) : EReal) := by exact_mod_cast (by positivity)
  rw [e1, mul_neg, ← neg_mul, e2, ← neg_mul, EReal.left_distrib_of_nonneg h0 h0]

/-- The two forms of the gradient in the row itself. -/
theorem row {n : ℕ} (X D : Fin n → EReal) (d : EReal) (l : Fin n) {k e : ℝ} (hk : 0 < k) (he : 0 < e) {K E H : EReal}
    (hK : K = (k : EReal)) (hE : E = (e : EReal)) (hH : H = ((-(1 / 2) : ℝ) : EReal)) :
    d + Ideal.rsqrt (Ideal.div (∑ x, X x * X x) K + E)
        * (D l - X l * Ideal.rsqrt (Ideal.div (∑ x, X x * X x) K + E)
          * Ideal.div (∑ x, D x * (X x * Ideal.rsqrt (Ideal.div (∑ x, X x * X x) K + E))) K)
      = d + D l * Ideal.rsqrt (Ideal.div (∑ x, X x * X x) K + E)
        + X l * (∑ _x : Fin 1, Ideal.div ((∑ x, X x * D x) * (H
            * Ideal.div (Ideal.rsqrt (Ideal.div (∑ x, X x * X x) K + E)) (Ideal.div (∑ x, X x * X x) K + E))) K)
        + (∑ _x : Fin 1, Ideal.div ((∑ x, X x * D x) * (H
            * Ideal.div (Ideal.rsqrt (Ideal.div (∑ x, X x * X x) K + E)) (Ideal.div (∑ x, X x * X x) K + E))) K) * X l := by
  subst hK hE hH
  obtain ⟨ρ, hρ, h1, h2⟩ := root X hk he
  rw [h1, h2]
  simp only [Fin.sum_univ_one, Ideal.div_coe hk.ne']
  have hs : ∑ x, D x * (X x * (ρ : EReal)) = (ρ : EReal) * ∑ x, X x * D x := by
    rw [← mul_sum _ _ hρ]
    exact Finset.sum_congr rfl fun x _ => by ac_rfl
  rw [hs, sub_eq_add_neg, EReal.left_distrib_of_nonneg_of_ne_top (by exact_mod_cast hρ) (EReal.coe_ne_top _)]
  generalize (∑ x, X x * D x) = S
  have hq : 0 ≤ ρ * ρ * ρ * (1 / k) := by positivity
  have a1 : (S * (((-(1 / 2) : ℝ) : EReal) * ((ρ * ρ * ρ : ℝ) : EReal)) * ((1 / k : ℝ) : EReal)) * X l
      = (X l * S) * ((-(1 / 2) * (ρ * ρ * ρ * (1 / k)) : ℝ) : EReal) := by
    simp only [EReal.coe_mul]; ac_rfl
  have a2 : (ρ : EReal) * -(X l * (ρ : EReal) * ((ρ : EReal) * S * ((1 / k : ℝ) : EReal)))
      = -((X l * S) * ((ρ * ρ * ρ * (1 / k) : ℝ) : EReal)) := by
    rw [mul_neg]; simp only [EReal.coe_mul]; congr 1; ac_rfl
  rw [mul_comm (X l) (S * _ * _), a1, a2, add_assoc, add_assoc, twice _ hq, mul_comm (D l)]

/-- The reciprocal root of a row's mean square. -/
def rr (X : Fin 1024 → EReal) : EReal :=
  Ideal.rsqrt (Ideal.div (∑ x, X x * X x) (Ideal.ofBits .f32 0x44800000#32) + Ideal.ofBits .f32 0x358637BD#32)

/-- The gradient in one row, by the normalised row's own projection. -/
def dxK (D X : Fin 1024 → EReal) (d : EReal) (l : Fin 1024) : EReal :=
  d + rr X * (D l - X l * rr X * Ideal.div (∑ x, D x * (X x * rr X)) (Ideal.ofBits .f32 0x44800000#32))

/-- The gradient in one row, by the chain rule through the mean square. -/
def dxR (D X : Fin 1024 → EReal) (d : EReal) (l : Fin 1024) : EReal :=
  d + D l * rr X
    + X l * (∑ _x : Fin 1, Ideal.div ((∑ x, X x * D x) * (Ideal.ofBits .f32 0xBF000000#32
        * Ideal.div (rr X) (Ideal.div (∑ x, X x * X x) (Ideal.ofBits .f32 0x44800000#32) + Ideal.ofBits .f32 0x358637BD#32)))
          (Ideal.ofBits .f32 0x44800000#32))
    + (∑ _x : Fin 1, Ideal.div ((∑ x, X x * D x) * (Ideal.ofBits .f32 0xBF000000#32
        * Ideal.div (rr X) (Ideal.div (∑ x, X x * X x) (Ideal.ofBits .f32 0x44800000#32) + Ideal.ofBits .f32 0x358637BD#32)))
          (Ideal.ofBits .f32 0x44800000#32)) * X l

theorem dx_eq (D X : Fin 1024 → EReal) (d : EReal) (l : Fin 1024) : dxK D X d l = dxR D X d l := by
  obtain ⟨e, he, hE⟩ := ofBits_eps
  exact row X D d l (by norm_num) he ofBits_thousand hE ofBits_minus_half

theorem dxR_congr {D D' X X' : Fin 1024 → EReal} {d d' : EReal} (l : Fin 1024) (hD : ∀ i, D i = D' i) (hX : ∀ i, X i = X' i)
    (hd : d = d') : dxR D X d l = dxR D' X' d' l := by
  obtain rfl : D = D' := funext hD
  obtain rfl : X = X' := funext hX
  rw [hd]

/-- A sum over the rows, taken point by point and eight rows apart. -/
theorem regroup {T : ℕ} (f : Fin (T * 512) → EReal) :
    ∑ s : Fin 8, ∑ t : Fin T, ∑ x : Fin 64, f ⟨t.val * 512 + (x.val * 8 + s.val), by omega⟩ = ∑ r, f r := by
  rw [Fin.sum_univ_tiles T 512 rfl f, Finset.sum_comm]
  refine Finset.sum_congr rfl fun t _ => ?_
  rw [Finset.sum_comm, Fin.sum_univ_tiles 64 8 (by norm_num) (fun k : Fin 512 => f ⟨t.val * 512 + k.val, by omega⟩)]

end Cert.RmsGrad
-- ==== Proof.DgradIn.lean ====
module

public import proofs.«01_k».proof.Proof.RmsGrad
public import proofs.«01_k».proof.Proof.Gen.KernelIdeal.Frame
public import proofs.«01_k».proof.Proof.Gen.ReferenceIdeal.Run
public import Idealize.ShloMosaic.Lib.Pipeline.ValueKit
public import Idealize.ShloMosaic.Lib.Claim

@[expose] public section

set_option maxRecDepth 16384

/-! The first program: the gradient of the gMLP layer's input, through the input product and the RMS norm before it. -/

noncomputable section

open Idealize.ShloMosaic Idealize.ShloMosaic.TcCoe Idealize.SL.Sem
open Idealize.ShloMosaic.Pipeline (Dat)

namespace Cert.ReferenceIdeal.DgradIn
open Cert.ReferenceIdeal Cert.ReferenceIdeal.Gen

def ref0 (a0 : FVec Ideal S8192x4096 .bf16) (a1 : FVec Ideal S1x1024x4096 .bf16) (a2 : FVec Ideal S8192x1024 .f32) (a3 : FVec Ideal S1x1024 .f32) (a4 : FVec Ideal S8192x1024 .f32) : FVec Ideal S8192x1024 .f32 :=
  addf (addf (addf a4 (mulf (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a2 (broadcastInDim S8192x1024 ![0] bcast_S8192_S8192x1024_0 (Host.reduceAdd (Host.divf (mulf (shapeCast _ (Host.reduceAdd (mulf a2 (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a2 (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a2)

def ref1 (a0 : FVec Ideal S8192x4096 .bf16) (a1 : FVec Ideal S1x1024x4096 .bf16) (a2 : FVec Ideal S8192x1024 .f32) (a3 : FVec Ideal S1x1024 .f32) (a4 : FVec Ideal S8192x1024 .f32) : FVec Ideal S8192x1024 .bf16 :=
  truncf .bf16 (addf (addf (addf a4 (mulf (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a2 (broadcastInDim S8192x1024 ![0] bcast_S8192_S8192x1024_0 (Host.reduceAdd (Host.divf (mulf (shapeCast _ (Host.reduceAdd (mulf a2 (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a2 (mulf (Host.dotGeneral dot_S8192x4096_S1024x4096_S8192x1024_1_1_0_0_n_n none (extf .f32 a0 bitsLt_bf16_f32) (extf .f32 (shapeCast _ a1 shapeCasts_S1x1024x4096_S1024x4096) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a2)) bitsLt_bf16_f32

def ref2 (a0 : FVec Ideal S8192x4096 .bf16) (a1 : FVec Ideal S1x1024x4096 .bf16) (a2 : FVec Ideal S8192x1024 .f32) : FVec Ideal S1x1024 .f32 :=
  broadcastInDim S1x1024 ![1] bcast_S1024_S1x1024_1 (Host.reduceAdd (shapeCast _ (Host.reduceAdd (mulf (mulf a2 (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x4096_S1024x4096_S8192x1024_1_1_0_0_n_n none (extf .f32 a0 bitsLt_bf16_f32) (extf .f32 (shapeCast _ a1 shapeCasts_S1x1024x4096_S1024x4096) bitsLt_bf16_f32))) (constant S_ .f32 0x00000000#32) reducesTo_S8192x1024_S1024_d0 h_S_) shapeCasts_S1024_S1x1024) (constant S_ .f32 0x00000000#32) reducesTo_S1x1024_S1024_d0 h_S_)

end Cert.ReferenceIdeal.DgradIn

namespace Cert.KernelIdeal.DgradIn
open Cert.KernelIdeal Cert.KernelIdeal.Gen
open Cert.ReferenceIdeal.DgradIn (ref0 ref1 ref2)

/-- The backward product of one row. -/
def back {R : ℕ} (x0 : FVec Ideal ⟨2, ![R, 4096]⟩ .bf16) (x1 : FVec Ideal S1x1024x4096 .bf16) (r : Fin R) (i : Fin 1024) : EReal :=
  ∑ x, x0 (ix2 r x) * x1 (ix3 0 i x)

/-- What a point stores of the gradient of the rows, in the reference's form. -/
theorem pay1_at (x0 : Vec Ideal S512x4096 .bf16) (x1 : Vec Ideal S1x1024x4096 .bf16) (x2 x4 : Vec Ideal S512x1024 .f32)
    (x3 : Vec Ideal S1x1024 .f32) (r : Fin 512) (l : Fin 1024) (r' : Fin 8192)
    (a0 : FVec Ideal S8192x4096 .bf16) (a2 a4 : FVec Ideal S8192x1024 .f32)
    (h0 : ∀ k, x0 (ix2 r k) = a0 (ix2 r' k)) (h2 : ∀ k, x2 (ix2 r k) = a2 (ix2 r' k)) (h4 : ∀ k, x4 (ix2 r k) = a4 (ix2 r' k)) :
    k0_pay1 (F := Ideal) (k0_pay4 x2) (k0_pay10 x0 x1 x3) x4 (k0_pay11 x2 x0 x1 x3) (ix2 r l) = ref0 a0 x1 a2 x3 a4 (ix2 r' l) := by
  obtain ⟨e, he, hE⟩ := RmsGrad.ofBits_eps
  pointwise [k0_pay1, k0_pay4, k0_pay5, k0_pay6, k0_pay10, k0_pay11, ref0]
  simp only [h0, h2, h4]
  exact RmsGrad.row (fun k => a2 (ix2 r' k)) (fun i => (∑ x, a0 (ix2 r' x) * x1 (ix3 0 i x)) * x3 (ix2 0 i)) (a4 (ix2 r' l)) l
    (by norm_num) he RmsGrad.ofBits_thousand hE RmsGrad.ofBits_minus_half

variable (m : (ℓ : Loc nD τ sig) → Buf (Elt Ideal) ℓ)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem after5 (c : Dev nD) (t : Fin cfg0.N) : (dats m 0 c).after 5 t
    = k0_pay1 (F := Ideal) (k0_pay4 (iblk m c 2 t)) (k0_pay10 (iblk m c 0 t) (iblk m c 1 t) (iblk m c 3 t)) (iblk m c 4 t)
      (k0_pay11 (iblk m c 2 t) (iblk m c 0 t) (iblk m c 1 t) (iblk m c 3 t)) := by
  have hN : t.val < 16 := t.isLt
  rw [after0_5]
  by_cases h2 : t.val % 16 = 15
  · rw [outsAt0_C m c t (by omega) (by omega) h2]; funext y; frame_out
  · by_cases h0 : t.val % 16 = 0
    · rw [outsAt0_A m c t h0 (by omega) h2]; funext y; frame_out
    · rw [outsAt0_B m c t h0 (by omega) h2]; funext y; frame_out

theorem after6 (c : Dev nD) (t : Fin cfg0.N) : (dats m 0 c).after 6 t = (dats m 0 c).after 5 t := by
  have hN : t.val < 16 := t.isLt
  rw [after5, after0_6]
  by_cases h2 : t.val % 16 = 15
  · rw [outsAt0_C m c t (by omega) (by omega) h2]; funext y; frame_out; rfl
  · by_cases h0 : t.val % 16 = 0
    · rw [outsAt0_A m c t h0 (by omega) h2]; funext y; frame_out; rfl
    · rw [outsAt0_B m c t h0 (by omega) h2]; funext y; frame_out; rfl

theorem whole1 (c : Dev nD) (t : Fin cfg0.N) : iblk m c 1 t = m ((c : Thread nD τ).loc main_arg1) := by blk_ext! [iblk, V, idx t]
theorem whole3 (c : Dev nD) (t : Fin cfg0.N) : iblk m c 3 t = m ((c : Thread nD τ).loc main_arg3) := by blk_ext! [iblk, V, idx t]

theorem rows (c : Dev nD) (t : Fin cfg0.N) (y0 : Fin 512) (y1 : Fin 1024) (r : Fin 8192) (hr : r.val = t.val * 512 + y0.val) :
    (show FVec Ideal S512x1024 .f32 from (dats m 0 c).after 5 t) (ix2 y0 y1) = ref0 (m ((c : Thread nD τ).loc main_arg0))
    (m ((c : Thread nD τ).loc main_arg1)) (m ((c : Thread nD τ).loc main_arg2)) (m ((c : Thread nD τ).loc main_arg3))
    (m ((c : Thread nD τ).loc main_arg4)) (ix2 r y1) := by
  have hN : t.val < 16 := t.isLt
  rw [after5, whole1, whole3]
  refine pay1_at _ _ _ _ _ _ _ _ _ _ _ (fun k => ?_) (fun k => ?_) (fun k => ?_)
  all_goals blk_ext [iblk, V, idx t]

theorem final5 (c : Dev nD) : (dats m 0 c).arrAt 5 (cfgs 0).N = ref0 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  have hN : t.val < 16 := t.isLt
  blk_simp
  idx_vars y
  refine (rows m c t y0 y1 ⟨t.val * 512 + y0.val, by omega⟩ rfl).trans ?_
  congr 1
  blk_ext [idx t]

theorem final6 (c : Dev nD) : (dats m 0 c).arrAt 6 (cfgs 0).N = ref1 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t hf y => ?_
  have hN : t.val < 16 := t.isLt
  blk_simp
  idx_vars y
  rw [after6]
  refine (rows m c t y0 y1 ⟨t.val * 512 + y0.val, by omega⟩ rfl).trans ?_
  show _ = ref0 _ _ _ _ _ _
  congr 1
  blk_ext [idx t]

/-- One row's part of the gradient of the gain. -/
def part (a0 : FVec Ideal S8192x4096 .bf16) (a1 : FVec Ideal S1x1024x4096 .bf16) (a2 : FVec Ideal S8192x1024 .f32) (l : Fin 1024)
    (r : Fin 8192) : EReal :=
  a2 (ix2 r l) * Ideal.rsqrt (Ideal.div (∑ x, a2 (ix2 r x) * a2 (ix2 r x)) (Ideal.ofBits .f32 0x44800000#32)
    + Ideal.ofBits .f32 0x358637BD#32) * ∑ x, a0 (ix2 r x) * a1 (ix3 0 l x)

theorem ref2_at (a0 : FVec Ideal S8192x4096 .bf16) (a1 : FVec Ideal S1x1024x4096 .bf16) (a2 : FVec Ideal S8192x1024 .f32) (l : Fin 1024) :
    ref2 a0 a1 a2 (ix2 0 l) = ∑ r, part a0 a1 a2 l r := by
  pointwise [ref2]
  exact Fin.sum_univ_one _

/-- What a point adds into the eight rows it keeps. -/
theorem pay8_at (x0 : Vec Ideal S512x4096 .bf16) (x1 : Vec Ideal S1x1024x4096 .bf16) (x2 : Vec Ideal S512x1024 .f32) (r : Fin 8)
    (l : Fin 1024) (a0 : FVec Ideal S8192x4096 .bf16) (a2 : FVec Ideal S8192x1024 .f32) (t : Fin 16)
    (h0 : ∀ (i : Fin 512) k, x0 (ix2 i k) = a0 (ix2 ⟨t.val * 512 + i.val, by omega⟩ k))
    (h2 : ∀ (i : Fin 512) k, x2 (ix2 i k) = a2 (ix2 ⟨t.val * 512 + i.val, by omega⟩ k)) :
    k0_pay8 (F := Ideal) x2 x0 x1 (ix2 r l)
      = ∑ x : Fin 64, part a0 x1 a2 l ⟨t.val * 512 + (x.val * 8 + r.val), by omega⟩ := by
  pointwise [k0_pay8, k0_pay7, k0_pay4, k0_pay5, k0_pay6, part]
  simp only [h0, h2]
  exact Finset.sum_congr rfl fun x _ => mul_comm _ _

theorem pay9_at (x0 : Vec Ideal S512x4096 .bf16) (x1 : Vec Ideal S1x1024x4096 .bf16) (x2 : Vec Ideal S512x1024 .f32)
    (x3 : Vec Ideal S8x1024 .f32) (j : S8x1024.Idx) :
    k0_pay9 (F := Ideal) x2 x0 x1 x3 j = x3 j + k0_pay8 (F := Ideal) x2 x0 x1 j := by
  pointwise [k0_pay9, k0_pay8]

/-- The kept rows after the last point. -/
theorem kept (c : Dev nD) (j : S8x1024.Idx) : (show FVec Ideal S8x1024 .f32 from (outsAt0 m c t0_15.val t0_15.isLt).2.2.2) j
    = ∑ t : Fin cfg0.N, k0_pay8 (F := Ideal) (iblk m c 2 t) (iblk m c 0 t) (iblk m c 1 t) j := by
  refine (Pipeline.eq_sum_fin_of_reset_step_apply_last (fun n h => (outsAt0 m c n h).2.2.2) 16 (fun _ => 0)
    (fun t j => k0_pay8 (F := Ideal) (iblk m c 2 t) (iblk m c 0 t) (iblk m c 1 t) j)
    (fun t h j => by
      have hN : t.val < 16 := t.isLt
      rw [outsAt0_A m c t h (by omega) (by omega)]; frame_out; rw [zero_add])
    (fun t h j => by
      have hN : t.val < 16 := t.isLt
      by_cases h2 : t.val % 16 = 15
      · rw [outsAt0_C m c t h (by omega) h2]; frame_out; rw [pay9_at]; exact congrArg (· + _) (congrFun (Memref.IsWhole.read_unread _ _) _)
      · rw [outsAt0_B m c t h (by omega) h2]; frame_out; rw [pay9_at]; exact congrArg (· + _) (congrFun (Memref.IsWhole.read_unread _ _) _))
    (le_of_eq N_0) t0_15 rfl j).trans (zero_add _)

theorem after7 (c : Dev nD) : (dats m 0 c).after 7 t0_15 = k0_pay3 (F := Ideal) (outsAt0 m c t0_15.val t0_15.isLt).2.2.2 := by
  rw [after0_7, outsAt0_C m c t0_15 (by decide) (by decide) (by decide)]; funext y; frame_out

theorem pay3_at (x : Vec Ideal S8x1024 .f32) (i : Fin 1) (l : Fin 1024) :
    k0_pay3 (F := Ideal) x (ix2 i l) = ∑ s : Fin 8, x (ix2 s l) := by
  pointwise [k0_pay3]

theorem final7 (c : Dev nD) : (dats m 0 c).arrAt 7 (cfgs 0).N = ref2 (m ((c : Thread nD τ).loc main_arg0))
    (m ((c : Thread nD τ).loc main_arg1)) (m ((c : Thread nD τ).loc main_arg2)) := by
  refine (dats m 0 c).arrAt_eq_of_after_last 7 t0_15 (by decide +kernel) _ fun y => ?_
  blk_simp
  rw [after7]
  idx_vars y
  obtain rfl : y0 = 0 := Subsingleton.elim _ _
  refine (pay3_at _ _ _).trans (Eq.trans ?_ (ref2_at _ _ _ _).symm)
  refine Eq.trans (Finset.sum_congr rfl fun s _ => ?_)
    (RmsGrad.regroup (T := 16) (part (m ((c : Thread nD τ).loc main_arg0)) (m ((c : Thread nD τ).loc main_arg1))
      (m ((c : Thread nD τ).loc main_arg2)) y1))
  refine (kept m c _).trans (Finset.sum_congr rfl fun t _ => ?_)
  rw [whole1]
  refine pay8_at _ _ _ s y1 _ _ t (fun i k => ?_) (fun i k => ?_)
  all_goals blk_ext [iblk, V, idx t]

end Cert.KernelIdeal.DgradIn
-- ==== Proof.Values.DgradIn.lean ====
/- The values of the pair Kernel, Reference: every result of the one is the result of the other. -/
module

public import proofs.«01_k».proof.Defs
public import proofs.«01_k».proof.Proof.Gen.KernelIdeal.Value
public import proofs.«01_k».proof.Proof.Gen.ReferenceIdeal.Run
public import proofs.«01_k».proof.Proof.DgradIn
public import Idealize.ShloMosaic.Lib.Claim

@[expose] public section

noncomputable section

namespace Cert.Proof

open Idealize.ShloMosaic Idealize.SL.Sem

set_option maxHeartbeats 4000000 in
set_option maxRecDepth 16384 in
theorem values1 : Cert.algebraic_KernelIdeal_ReferenceIdeal (hKernelIdeal := Cert.KernelIdeal.Gen.facts) (hReferenceIdeal := Cert.ReferenceIdeal.Gen.facts) := by
  pair_intro
  · run_from Cert.KernelIdeal.Gen.run_main m g
  · run_from Cert.ReferenceIdeal.Value.run m' g'
    · show Cert.ReferenceIdeal.DgradIn.ref0 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
      simp only [hagree c]
      exact (Cert.KernelIdeal.DgradIn.final5 m c).symm
    · show Cert.ReferenceIdeal.DgradIn.ref1 (m' (c.tc.loc Cert.ReferenceIdeal.main_arg0)) (m' (c.tc.loc Cert.ReferenceIdeal.main_arg1)) (m' (c.tc.loc Cert.ReferenceIdeal.main_arg2)) (m' (c.tc.loc Cert.ReferenceIdeal.main_arg3)) (m' (c.tc.loc Cert.ReferenceIdeal.main_arg4)) = _
      simp only [hagree c]
      exact (Cert.KernelIdeal.DgradIn.final6 m c).symm
    · exact (Cert.KernelIdeal.DgradIn.final7 m c).symm

end Cert.Proof

end
-- ==== Proof.DgradQkv.lean ====
module

public import proofs.«01_k».proof.Proof.RmsGrad
public import proofs.«01_k».proof.Proof.Gen.Kernel2Ideal.Frame
public import proofs.«01_k».proof.Proof.Gen.Reference2Ideal.Run
public import Idealize.ShloMosaic.Lib.Pipeline.ValueKit
public import Idealize.ShloMosaic.Lib.Claim

@[expose] public section

set_option maxRecDepth 16384

/-! The second program: the gradient of an attention layer's input, through the three projections and the RMS norm before
them. -/

noncomputable section

open Idealize.ShloMosaic Idealize.ShloMosaic.TcCoe Idealize.SL.Sem
open Idealize.ShloMosaic.Pipeline (Dat)

namespace Cert.Reference2Ideal.DgradQkv
open Cert.Reference2Ideal Cert.Reference2Ideal.Gen

def ref0 (a0 : FVec Ideal S3x10240x1024 .bf16) (a1 : FVec Ideal S1x1024x3072 .bf16) (a2 : FVec Ideal S8192x1024 .f32) (a3 : FVec Ideal S1x1024 .f32) (a4 : FVec Ideal S8192x1024 .f32) : FVec Ideal S8192x1024 .f32 :=
  addf (addf (addf a4 (mulf (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a2 (broadcastInDim S8192x1024 ![0] bcast_S8192_S8192x1024_0 (Host.reduceAdd (Host.divf (mulf (shapeCast _ (Host.reduceAdd (mulf a2 (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a2 (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a2)

def ref1 (a0 : FVec Ideal S3x10240x1024 .bf16) (a1 : FVec Ideal S1x1024x3072 .bf16) (a2 : FVec Ideal S8192x1024 .f32) (a3 : FVec Ideal S1x1024 .f32) (a4 : FVec Ideal S8192x1024 .f32) : FVec Ideal S8192x1024 .bf16 :=
  truncf .bf16 (addf (addf (addf a4 (mulf (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a2 (broadcastInDim S8192x1024 ![0] bcast_S8192_S8192x1024_0 (Host.reduceAdd (Host.divf (mulf (shapeCast _ (Host.reduceAdd (mulf a2 (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a2 (mulf (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32)) (broadcastInDim S8192x1024 ![0, 1] bcast_S1x1024_S8192x1024_0_1 (broadcastInDim S1x1024 ![1] bcast_S1024_S1x1024_1 (shapeCast _ a3 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a2)) bitsLt_bf16_f32

def ref2 (a0 : FVec Ideal S3x10240x1024 .bf16) (a1 : FVec Ideal S1x1024x3072 .bf16) (a2 : FVec Ideal S8192x1024 .f32) : FVec Ideal S1x1024 .f32 :=
  broadcastInDim S1x1024 ![1] bcast_S1024_S1x1024_1 (Host.reduceAdd (shapeCast _ (Host.reduceAdd (mulf (mulf a2 (broadcastInDim S8192x1024 ![0, 1] bcast_S8192x1_S8192x1024_0_1 (Host.rsqrt (addf (Host.divf (broadcastInDim S8192x1 ![0] bcast_S8192_S8192x1_0 (Host.reduceAdd (mulf a2 a2) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (Host.dotGeneral dot_S8192x3072_S1024x3072_S8192x1024_1_1_0_0_n_n none (extf .f32 ((concatenate S8192x3072 1 [⟨S8192x1024, ((shapeCast _ (extractStridedSlice S1x8192x1024 ![0, 2048, 0] a0 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a0 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a0 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 (shapeCast _ a1 shapeCasts_S1x1024x3072_S1024x3072) bitsLt_bf16_f32))) (constant S_ .f32 0x00000000#32) reducesTo_S8192x1024_S1024_d0 h_S_) shapeCasts_S1024_S1x1024) (constant S_ .f32 0x00000000#32) reducesTo_S1x1024_S1024_d0 h_S_)

/-- The three cotangents of a row, one after the other. -/
def cat (a0 : FVec Ideal S3x10240x1024 .bf16) (r : Fin 8192) (x : Fin 3072) : EReal :=
  if h : x.val < 1024 then a0 (ix3 0 ⟨2048 + r.val, by omega⟩ ⟨x.val, h⟩)
  else if h : x.val - 1024 < 1024 then a0 (ix3 1 ⟨2048 + r.val, by omega⟩ ⟨x.val - 1024, h⟩)
  else a0 (ix3 2 ⟨2048 + r.val, by omega⟩ ⟨x.val - 1024 - 1024, by omega⟩)

/-- The backward product of a row. -/
def back (a0 : FVec Ideal S3x10240x1024 .bf16) (a1 : FVec Ideal S1x1024x3072 .bf16) (r : Fin 8192) (i : Fin 1024) : EReal :=
  ∑ x, cat a0 r x * a1 (ix3 0 i x)

/-- One row's part of the gradient of the gain. -/
def part (a0 : FVec Ideal S3x10240x1024 .bf16) (a1 : FVec Ideal S1x1024x3072 .bf16) (a2 : FVec Ideal S8192x1024 .f32)
    (l : Fin 1024) (r : Fin 8192) : EReal :=
  a2 (ix2 r l) * RmsGrad.rr (fun i => a2 (ix2 r i)) * back a0 a1 r l

theorem back_eq (a0 : FVec Ideal S3x10240x1024 .bf16) (a1 : FVec Ideal S1x1024x3072 .bf16) (r : Fin 8192) (i : Fin 1024) :
    back a0 a1 r i = (∑ k : Fin 1024, a0 (ix3 0 ⟨2048 + r.val, by omega⟩ k) * a1 (ix3 0 i ⟨k.val, by omega⟩))
      + (∑ k : Fin 1024, a0 (ix3 1 ⟨2048 + r.val, by omega⟩ k) * a1 (ix3 0 i ⟨1024 + k.val, by omega⟩))
      + (∑ k : Fin 1024, a0 (ix3 2 ⟨2048 + r.val, by omega⟩ k) * a1 (ix3 0 i ⟨2048 + k.val, by omega⟩)) := by
  unfold back
  rw [Fin.sum_univ_tiles 3 1024 rfl, Fin.sum_univ_three]
  refine congrArg₂ (· + ·) (congrArg₂ (· + ·) ?_ ?_) ?_ <;> refine Finset.sum_congr rfl fun k _ => congrArg₂ (· * ·) ?_ (congrArg a1 ?_)
  · unfold cat; rw [dif_pos (by show 0 * 1024 + k.val < 1024; omega)]; congr 2; exact Fin.ext (by show 0 * 1024 + k.val = k.val; omega)
  · congr 1; exact Fin.ext (by show 0 * 1024 + k.val = k.val; omega)
  · unfold cat
    rw [dif_neg (by show ¬ 1 * 1024 + k.val < 1024; omega), dif_pos (by show 1 * 1024 + k.val - 1024 < 1024; omega)]
    congr 2; exact Fin.ext (by show 1 * 1024 + k.val - 1024 = k.val; omega)
  · congr 1
  · unfold cat
    rw [dif_neg (by show ¬ 2 * 1024 + k.val < 1024; omega), dif_neg (by show ¬ 2 * 1024 + k.val - 1024 < 1024; omega)]
    congr 2; exact Fin.ext (by show 2 * 1024 + k.val - 1024 - 1024 = k.val; omega)
  · congr 1

theorem ref0_at (a0 : FVec Ideal S3x10240x1024 .bf16) (a1 : FVec Ideal S1x1024x3072 .bf16) (a2 : FVec Ideal S8192x1024 .f32)
    (a3 : FVec Ideal S1x1024 .f32) (a4 : FVec Ideal S8192x1024 .f32) (r : Fin 8192) (l : Fin 1024) :
    ref0 a0 a1 a2 a3 a4 (ix2 r l)
      = RmsGrad.dxR (fun i => back a0 a1 r i * a3 (ix2 0 i)) (fun i => a2 (ix2 r i)) (a4 (ix2 r l)) l := by
  pointwise [ref0]
  rfl

theorem ref2_at (a0 : FVec Ideal S3x10240x1024 .bf16) (a1 : FVec Ideal S1x1024x3072 .bf16) (a2 : FVec Ideal S8192x1024 .f32)
    (l : Fin 1024) : ref2 a0 a1 a2 (ix2 0 l) = ∑ r, part a0 a1 a2 l r := by
  pointwise [ref2]
  exact Fin.sum_univ_one _

end Cert.Reference2Ideal.DgradQkv

namespace Cert.Kernel2Ideal.DgradQkv
open Cert.Kernel2Ideal Cert.Kernel2Ideal.Gen
open Cert.Reference2Ideal.DgradQkv (ref0 ref1 ref2 back back_eq part ref0_at ref2_at)

/-- What a point stores of the gradient of the rows, over its backward product. -/
theorem pay3_at (x2 x4 : Vec Ideal S512x1024 .f32) (dh : FVec Ideal S512x1024 .f32) (x3 : Vec Ideal S1x1024 .f32)
    (r : Fin 512) (l : Fin 1024) :
    k0_pay3 (F := Ideal) (k0_pay6 x2) (k0_pay7 x2) dh x3 x4 (ix2 r l)
      = RmsGrad.dxR (fun i => dh (ix2 r i) * x3 (ix2 0 i)) (fun i => x2 (ix2 r i)) (x4 (ix2 r l)) l := by
  rw [← RmsGrad.dx_eq]
  pointwise [k0_pay3, k0_pay6, k0_pay7]
  rfl

/-- A point's backward product, row by row. -/
theorem pay8_at (u0 u2 u4 : Vec Ideal S1x512x1024 .bf16) (u1 u3 u5 : Vec Ideal S1x1024x1024 .bf16) (y : Fin 512) (i : Fin 1024)
    (r : Fin 8192) (a0 : FVec Ideal S3x10240x1024 .bf16) (a1 : FVec Ideal S1x1024x3072 .bf16)
    (h0 : ∀ k : Fin 1024, u0 (ix3 0 y k) = a0 (ix3 0 ⟨2048 + r.val, by omega⟩ k))
    (h1 : ∀ k : Fin 1024, u1 (ix3 0 i k) = a1 (ix3 0 i ⟨k.val, by omega⟩))
    (h2 : ∀ k : Fin 1024, u2 (ix3 0 y k) = a0 (ix3 1 ⟨2048 + r.val, by omega⟩ k))
    (h3 : ∀ k : Fin 1024, u3 (ix3 0 i k) = a1 (ix3 0 i ⟨1024 + k.val, by omega⟩))
    (h4 : ∀ k : Fin 1024, u4 (ix3 0 y k) = a0 (ix3 2 ⟨2048 + r.val, by omega⟩ k))
    (h5 : ∀ k : Fin 1024, u5 (ix3 0 i k) = a1 (ix3 0 i ⟨2048 + k.val, by omega⟩)) :
    k0_pay8 (F := Ideal) u0 u1 u2 u3 u4 u5 (ix2 y i) = back a0 a1 r i := by
  rw [back_eq]
  pointwise [k0_pay8]
  simp only [h0, h1, h2, h3, h4, h5]

/-- What a point adds into the eight rows it keeps. -/
theorem pay9_at (u0 u2 u4 : Vec Ideal S1x512x1024 .bf16) (u1 u3 u5 : Vec Ideal S1x1024x1024 .bf16) (x2 : Vec Ideal S512x1024 .f32)
    (s : Fin 8) (l : Fin 1024) (t : Fin 16)
    (a0 : FVec Ideal S3x10240x1024 .bf16) (a1 : FVec Ideal S1x1024x3072 .bf16) (a2 : FVec Ideal S8192x1024 .f32)
    (h : ∀ y : Fin 512, k0_pay8 (F := Ideal) u0 u1 u2 u3 u4 u5 (ix2 y l) = back a0 a1 ⟨t.val * 512 + y.val, by omega⟩ l)
    (hx : ∀ (y : Fin 512) i, x2 (ix2 y i) = a2 (ix2 ⟨t.val * 512 + y.val, by omega⟩ i)) :
    k0_pay9 (F := Ideal) x2 u0 u1 u2 u3 u4 u5 (ix2 s l)
      = ∑ x : Fin 64, part a0 a1 a2 l ⟨t.val * 512 + (x.val * 8 + s.val), by omega⟩ := by
  pointwise [k0_pay9, k0_pay7, k0_pay6]
  refine Finset.sum_congr rfl fun x _ => ?_
  rw [h]
  simp only [hx]
  exact mul_comm _ _

theorem pay1_at (q : FVec Ideal S8x1024 .f32) (j : S8x1024.Idx) : k0_pay1 (F := Ideal) q j = q j := by
  pointwise [k0_pay1]

theorem pay2_at (q : FVec Ideal S8x1024 .f32) (x : Vec Ideal S8x1024 .f32) (j : S8x1024.Idx) :
    k0_pay2 (F := Ideal) q x j = x j + q j := by
  pointwise [k0_pay2]

theorem pay5_at (x : Vec Ideal S8x1024 .f32) (i : Fin 1) (l : Fin 1024) :
    k0_pay5 (F := Ideal) x (ix2 i l) = ∑ s : Fin 8, x (ix2 s l) := by
  pointwise [k0_pay5]

variable (m : (ℓ : Loc nD τ sig) → Buf (Elt Ideal) ℓ)

theorem idx : ∀ t : Fin cfg0.N, win0_0.index t = ![0, t.val + 4, 0] ∧ win0_1.index t = ![0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

set_option maxHeartbeats 1600000 in
theorem rows (c : Dev nD) (t : Fin cfg0.N) (y0 : Fin 512) (y1 : Fin 1024) (r : Fin 8192) (hr : r.val = t.val * 512 + y0.val) :
    (dats m 0 c).after 5 t (ix2 y0 y1) = ref0 (m ((c : Thread nD τ).loc main_arg0))
    (m ((c : Thread nD τ).loc main_arg1)) (m ((c : Thread nD τ).loc main_arg2)) (m ((c : Thread nD τ).loc main_arg3))
    (m ((c : Thread nD τ).loc main_arg4)) (ix2 r y1) := by
  have hN : t.val < 16 := t.isLt
  rw [ref0_at, after0_5]
  by_cases h2 : t.val % 16 = 15
  on_goal 2 => by_cases h0 : t.val % 16 = 0
  · rw [outsAt0_C m c t (by omega) (by omega) h2]; frame_out
    refine (pay3_at _ _ _ _ _ _).trans (RmsGrad.dxR_congr _
      (fun i => congrArg₂ (· * ·) (pay8_at _ _ _ _ _ _ _ _ r _ _ ?_ ?_ ?_ ?_ ?_ ?_) ?_) (fun i => ?_) ?_)
    all_goals try intro k
    all_goals pointwise
    all_goals blk_ext [iblk, V, idx t]
  · rw [outsAt0_A m c t h0 (by omega) h2]; frame_out
    refine (pay3_at _ _ _ _ _ _).trans (RmsGrad.dxR_congr _
      (fun i => congrArg₂ (· * ·) (pay8_at _ _ _ _ _ _ _ _ r _ _ ?_ ?_ ?_ ?_ ?_ ?_) ?_) (fun i => ?_) ?_)
    all_goals try intro k
    all_goals pointwise
    all_goals blk_ext [iblk, V, idx t]
  · rw [outsAt0_B m c t h0 (by omega) h2]; frame_out
    refine (pay3_at _ _ _ _ _ _).trans (RmsGrad.dxR_congr _
      (fun i => congrArg₂ (· * ·) (pay8_at _ _ _ _ _ _ _ _ r _ _ ?_ ?_ ?_ ?_ ?_ ?_) ?_) (fun i => ?_) ?_)
    all_goals try intro k
    all_goals pointwise
    all_goals blk_ext [iblk, V, idx t]

theorem after6 (c : Dev nD) (t : Fin cfg0.N) : (dats m 0 c).after 6 t = (dats m 0 c).after 5 t := by
  have hN : t.val < 16 := t.isLt
  rw [after0_5, after0_6]
  by_cases h2 : t.val % 16 = 15
  · rw [outsAt0_C m c t (by omega) (by omega) h2]; funext y; frame_out; rfl
  · by_cases h0 : t.val % 16 = 0
    · rw [outsAt0_A m c t h0 (by omega) h2]; funext y; frame_out; rfl
    · rw [outsAt0_B m c t h0 (by omega) h2]; funext y; frame_out; rfl

theorem final5 (c : Dev nD) : (dats m 0 c).arrAt 5 (cfgs 0).N = ref0 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 5 _ (by decide +kernel) fun t hf y => ?_
  have hN : t.val < 16 := t.isLt
  blk_simp
  idx_vars y
  refine (rows m c t y0 y1 ⟨t.val * 512 + y0.val, by omega⟩ rfl).trans ?_
  congr 1
  blk_ext [idx t]

theorem final6 (c : Dev nD) : (dats m 0 c).arrAt 6 (cfgs 0).N = ref1 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t hf y => ?_
  have hN : t.val < 16 := t.isLt
  blk_simp
  idx_vars y
  rw [after6]
  refine (rows m c t y0 y1 ⟨t.val * 512 + y0.val, by omega⟩ rfl).trans ?_
  show _ = ref0 _ _ _ _ _ _
  congr 1
  blk_ext [idx t]

/-- A point's share of the gain's gradient, in each of the eight kept rows. -/
def share (c : Dev nD) (t : Fin 16) (j : S8x1024.Idx) : EReal :=
  ∑ x : Fin 64, part (m ((c : Thread nD τ).loc main_arg0)) (m ((c : Thread nD τ).loc main_arg1))
    (m ((c : Thread nD τ).loc main_arg2)) (j 1) ⟨t.val * 512 + (x.val * 8 + (show Fin 8 from j 0).val), by have := (show Fin 8 from j 0).isLt; omega⟩

set_option maxHeartbeats 1600000 in
/-- The kept rows after the last point. -/
theorem kept (c : Dev nD) (j : S8x1024.Idx) : (show FVec Ideal S8x1024 .f32 from (outsAt0 m c t0_15.val t0_15.isLt).2.2.2) j
    = ∑ t : Fin cfg0.N, share m c t j := by
  refine (Pipeline.eq_sum_fin_of_reset_step_apply_last (fun n h => (outsAt0 m c n h).2.2.2) 16 (fun _ => 0)
    (fun t j => share m c t j)
    (fun t h j => by
      have hN : t.val < 16 := t.isLt
      rw [outsAt0_A m c t h (by omega) (by omega)]; frame_out
      rw [zero_add, pay1_at]
      idx_vars j
      refine pay9_at _ _ _ _ _ _ _ _ _ t _ _ _ (fun y => pay8_at _ _ _ _ _ _ _ _ _ _ _ ?_ ?_ ?_ ?_ ?_ ?_) (fun y i => ?_)
      all_goals try intro k
      all_goals pointwise
      all_goals blk_ext [iblk, V, idx t])
    (fun t h j => by
      have hN : t.val < 16 := t.isLt
      by_cases h2 : t.val % 16 = 15
      · rw [outsAt0_C m c t h (by omega) h2]; frame_out
        rw [pay2_at]
        refine congrArg₂ (· + ·) (congrFun (Memref.IsWhole.read_unread _ _) _) ?_
        idx_vars j
        refine pay9_at _ _ _ _ _ _ _ _ _ t _ _ _ (fun y => pay8_at _ _ _ _ _ _ _ _ _ _ _ ?_ ?_ ?_ ?_ ?_ ?_) (fun y i => ?_)
        all_goals try intro k
        all_goals pointwise
        all_goals blk_ext [iblk, V, idx t]
      · rw [outsAt0_B m c t h (by omega) h2]; frame_out
        rw [pay2_at]
        refine congrArg₂ (· + ·) (congrFun (Memref.IsWhole.read_unread _ _) _) ?_
        idx_vars j
        refine pay9_at _ _ _ _ _ _ _ _ _ t _ _ _ (fun y => pay8_at _ _ _ _ _ _ _ _ _ _ _ ?_ ?_ ?_ ?_ ?_ ?_) (fun y i => ?_)
        all_goals try intro k
        all_goals pointwise
        all_goals blk_ext [iblk, V, idx t])
    (le_of_eq N_0) t0_15 rfl j).trans (zero_add _)

theorem after7 (c : Dev nD) : (dats m 0 c).after 7 t0_15 = k0_pay5 (F := Ideal) (outsAt0 m c t0_15.val t0_15.isLt).2.2.2 := by
  rw [after0_7, outsAt0_C m c t0_15 (by decide) (by decide) (by decide)]; funext y; frame_out

theorem final7 (c : Dev nD) : (dats m 0 c).arrAt 7 (cfgs 0).N = ref2 (m ((c : Thread nD τ).loc main_arg0))
    (m ((c : Thread nD τ).loc main_arg1)) (m ((c : Thread nD τ).loc main_arg2)) := by
  refine (dats m 0 c).arrAt_eq_of_after_last 7 t0_15 (by decide +kernel) _ fun y => ?_
  blk_simp
  rw [after7]
  idx_vars y
  obtain rfl : y0 = 0 := Subsingleton.elim _ _
  refine (pay5_at _ _ _).trans (Eq.trans ?_ (ref2_at _ _ _ _).symm)
  refine Eq.trans (Finset.sum_congr rfl fun s _ => kept m c (ix2 s y1))
    (RmsGrad.regroup (T := 16) (part (m ((c : Thread nD τ).loc main_arg0)) (m ((c : Thread nD τ).loc main_arg1))
      (m ((c : Thread nD τ).loc main_arg2)) y1))

end Cert.Kernel2Ideal.DgradQkv
-- ==== Proof.Values.DgradQkv.lean ====
/- The values of the pair Kernel2, Reference2: every result of the one is the result of the other. -/
module

public import proofs.«01_k».proof.Defs
public import proofs.«01_k».proof.Proof.Gen.Kernel2Ideal.Value
public import proofs.«01_k».proof.Proof.Gen.Reference2Ideal.Run
public import proofs.«01_k».proof.Proof.DgradQkv
public import Idealize.ShloMosaic.Lib.Claim

@[expose] public section

noncomputable section

namespace Cert.Proof

open Idealize.ShloMosaic Idealize.SL.Sem

set_option maxHeartbeats 4000000 in
set_option maxRecDepth 16384 in
theorem values2 : Cert.algebraic_Kernel2Ideal_Reference2Ideal (hKernel2Ideal := Cert.Kernel2Ideal.Gen.facts) (hReference2Ideal := Cert.Reference2Ideal.Gen.facts) := by
  pair_intro
  · run_from Cert.Kernel2Ideal.Gen.run_main m g
  · run_from Cert.Reference2Ideal.Value.run m' g'
    · show Cert.Reference2Ideal.DgradQkv.ref0 (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) = _
      simp only [hagree c]
      exact (Cert.Kernel2Ideal.DgradQkv.final5 m c).symm
    · show Cert.Reference2Ideal.DgradQkv.ref1 (m' (c.tc.loc Cert.Reference2Ideal.main_arg0)) (m' (c.tc.loc Cert.Reference2Ideal.main_arg1)) (m' (c.tc.loc Cert.Reference2Ideal.main_arg2)) (m' (c.tc.loc Cert.Reference2Ideal.main_arg3)) (m' (c.tc.loc Cert.Reference2Ideal.main_arg4)) = _
      simp only [hagree c]
      exact (Cert.Kernel2Ideal.DgradQkv.final6 m c).symm
    · exact (Cert.Kernel2Ideal.DgradQkv.final7 m c).symm

end Cert.Proof

end
-- ==== Proof.DgradFfn.lean ====
module

public import proofs.«01_k».proof.Proof.RmsGrad
public import proofs.«01_k».proof.Proof.Gen.Kernel3Ideal.Frame
public import proofs.«01_k».proof.Proof.Gen.Reference3Ideal.Run
public import Idealize.ShloMosaic.Lib.Pipeline.ValueKit
public import Idealize.ShloMosaic.Lib.Claim

@[expose] public section

set_option maxRecDepth 16384

/-! The third program: the gradient of a feed-forward layer's input, through the gate and up products and the RMS norm
before them. -/

noncomputable section

open Idealize.ShloMosaic Idealize.ShloMosaic.TcCoe Idealize.SL.Sem
open Idealize.ShloMosaic.Pipeline (Dat)

namespace Cert.Reference3Ideal.DgradFfn
open Cert.Reference3Ideal Cert.Reference3Ideal.Gen

def ref0 (a0 : FVec Ideal S4x8192x704 .bf16) (a1 : FVec Ideal S4x8192x704 .bf16) (a2 : FVec Ideal S1x4x704x1024 .bf16) (a3 : FVec Ideal S1x4x704x1024 .bf16) (a4 : FVec Ideal S8192x1024 .f32) (a5 : FVec Ideal S1x1024 .f32) (a6 : FVec Ideal S8192x1024 .f32) : FVec Ideal S8192x1024 .f32 :=
  addf (addf (addf a6 (mulf (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a4 (broadcastInDim S8192x1024 ![0] bcast_S8192_S8192x1024_0 (Host.reduceAdd (Host.divf (mulf (shapeCast _ (Host.reduceAdd (mulf a4 (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a4 (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a4)

def ref1 (a0 : FVec Ideal S4x8192x704 .bf16) (a1 : FVec Ideal S4x8192x704 .bf16) (a2 : FVec Ideal S1x4x704x1024 .bf16) (a3 : FVec Ideal S1x4x704x1024 .bf16) (a4 : FVec Ideal S8192x1024 .f32) (a5 : FVec Ideal S1x1024 .f32) (a6 : FVec Ideal S8192x1024 .f32) : FVec Ideal S8192x1024 .bf16 :=
  truncf .bf16 (addf (addf (addf a6 (mulf (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))))))) (mulf a4 (broadcastInDim S8192x1024 ![0] bcast_S8192_S8192x1024_0 (Host.reduceAdd (Host.divf (mulf (shapeCast _ (Host.reduceAdd (mulf a4 (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a4 (mulf (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32))) (broadcastInDim S8192x1024 ![0, 1] bcast_S1x1024_S8192x1024_0_1 (broadcastInDim S1x1024 ![1] bcast_S1024_S1x1024_1 (shapeCast _ a5 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a4)) bitsLt_bf16_f32

def ref2 (a0 : FVec Ideal S4x8192x704 .bf16) (a1 : FVec Ideal S4x8192x704 .bf16) (a2 : FVec Ideal S1x4x704x1024 .bf16) (a3 : FVec Ideal S1x4x704x1024 .bf16) (a4 : FVec Ideal S8192x1024 .f32) : FVec Ideal S1x1024 .f32 :=
  broadcastInDim S1x1024 ![1] bcast_S1024_S1x1024_1 (Host.reduceAdd (shapeCast _ (Host.reduceAdd (mulf (mulf a4 (broadcastInDim S8192x1024 ![0, 1] bcast_S8192x1_S8192x1024_0_1 (Host.rsqrt (addf (Host.divf (broadcastInDim S8192x1 ![0] bcast_S8192_S8192x1_0 (Host.reduceAdd (mulf a4 a4) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (addf (Host.dotGeneral dot_S8192x2816_S1024x2816_S8192x1024_1_1_0_0_n_n none (extf .f32 (shapeCast _ (transpose S8192x4x704 [1, 0, 2] a1 transposes_S4x8192x704_S8192x4x704_1_0_2) shapeCasts_S8192x4x704_S8192x2816) bitsLt_bf16_f32) (extf .f32 (transpose S1024x2816 [1, 0] (shapeCast _ (shapeCast _ a3 shapeCasts_S1x4x704x1024_S4x704x1024) shapeCasts_S4x704x1024_S2816x1024) transposes_S2816x1024_S1024x2816_1_0) bitsLt_bf16_f32)) (Host.dotGeneral dot_S8192x2816_S1024x2816_S8192x1024_1_1_0_0_n_n none (extf .f32 (shapeCast _ (transpose S8192x4x704 [1, 0, 2] a0 transposes_S4x8192x704_S8192x4x704_1_0_2) shapeCasts_S8192x4x704_S8192x2816) bitsLt_bf16_f32) (extf .f32 (transpose S1024x2816 [1, 0] (shapeCast _ (shapeCast _ a2 shapeCasts_S1x4x704x1024_S4x704x1024) shapeCasts_S4x704x1024_S2816x1024) transposes_S2816x1024_S1024x2816_1_0) bitsLt_bf16_f32)))) (constant S_ .f32 0x00000000#32) reducesTo_S8192x1024_S1024_d0 h_S_) shapeCasts_S1024_S1x1024) (constant S_ .f32 0x00000000#32) reducesTo_S1x1024_S1024_d0 h_S_)

/-- The backward product of a row: the up part, then the gate part. -/
def back (a0 a1 : FVec Ideal S4x8192x704 .bf16) (a2 a3 : FVec Ideal S1x4x704x1024 .bf16) (r : Fin 8192) (i : Fin 1024) : EReal :=
  (∑ x : Fin 2816, a1 (ix3 ⟨x.val / 704, by omega⟩ r ⟨x.val % 704, by omega⟩) * a3 (ix4 0 ⟨x.val / 704, by omega⟩ ⟨x.val % 704, by omega⟩ i))
    + ∑ x : Fin 2816, a0 (ix3 ⟨x.val / 704, by omega⟩ r ⟨x.val % 704, by omega⟩) * a2 (ix4 0 ⟨x.val / 704, by omega⟩ ⟨x.val % 704, by omega⟩ i)

/-- One row's part of the gradient of the gain. -/
def part (a0 a1 : FVec Ideal S4x8192x704 .bf16) (a2 a3 : FVec Ideal S1x4x704x1024 .bf16) (a4 : FVec Ideal S8192x1024 .f32)
    (l : Fin 1024) (r : Fin 8192) : EReal :=
  a4 (ix2 r l) * RmsGrad.rr (fun i => a4 (ix2 r i)) * back a0 a1 a2 a3 r l

theorem four (a : FVec Ideal S4x8192x704 .bf16) (b : FVec Ideal S1x4x704x1024 .bf16) (r : Fin 8192) (i : Fin 1024) :
    (∑ x : Fin 2816, a (ix3 ⟨x.val / 704, by omega⟩ r ⟨x.val % 704, by omega⟩) * b (ix4 0 ⟨x.val / 704, by omega⟩ ⟨x.val % 704, by omega⟩ i))
      = (∑ k : Fin 704, a (ix3 0 r k) * b (ix4 0 0 k i)) + (∑ k : Fin 704, a (ix3 1 r k) * b (ix4 0 1 k i))
        + (∑ k : Fin 704, a (ix3 2 r k) * b (ix4 0 2 k i)) + (∑ k : Fin 704, a (ix3 3 r k) * b (ix4 0 3 k i)) := by
  rw [← Fin.sum_univ_four (fun s : Fin 4 => ∑ k : Fin 704, a (ix3 s r k) * b (ix4 0 s k i)), Fin.sum_univ_tiles 4 704 rfl]
  refine Finset.sum_congr rfl fun s _ => Finset.sum_congr rfl fun k _ => ?_
  have e1 : (⟨(s.val * 704 + k.val) / 704, by omega⟩ : Fin 4) = s := Fin.ext (by show (s.val * 704 + k.val) / 704 = s.val; omega)
  have e2 : (⟨(s.val * 704 + k.val) % 704, by omega⟩ : Fin 704) = k := Fin.ext (by show (s.val * 704 + k.val) % 704 = k.val; omega)
  simp only [e1, e2]

theorem ref0_at (a0 a1 : FVec Ideal S4x8192x704 .bf16) (a2 a3 : FVec Ideal S1x4x704x1024 .bf16) (a4 : FVec Ideal S8192x1024 .f32)
    (a5 : FVec Ideal S1x1024 .f32) (a6 : FVec Ideal S8192x1024 .f32) (r : Fin 8192) (l : Fin 1024) :
    ref0 a0 a1 a2 a3 a4 a5 a6 (ix2 r l)
      = RmsGrad.dxR (fun i => back a0 a1 a2 a3 r i * a5 (ix2 0 i)) (fun i => a4 (ix2 r i)) (a6 (ix2 r l)) l := by
  pointwise [ref0]
  rfl

theorem ref2_at (a0 a1 : FVec Ideal S4x8192x704 .bf16) (a2 a3 : FVec Ideal S1x4x704x1024 .bf16) (a4 : FVec Ideal S8192x1024 .f32)
    (l : Fin 1024) : ref2 a0 a1 a2 a3 a4 (ix2 0 l) = ∑ r, part a0 a1 a2 a3 a4 l r := by
  pointwise [ref2]
  exact Fin.sum_univ_one _

end Cert.Reference3Ideal.DgradFfn

namespace Cert.Kernel3Ideal.DgradFfn
open Cert.Kernel3Ideal Cert.Kernel3Ideal.Gen
open Cert.Reference3Ideal.DgradFfn (ref0 ref1 ref2 back four part ref0_at ref2_at)

/-- What a point stores of the gradient of the rows, over its backward product. -/
theorem pay12_at (x2 x4 : Vec Ideal S512x1024 .f32) (v45 v50 : FVec Ideal S512x1024 .f32) (v52 : FVec Ideal S512x704 .bf16)
    (v53 : Vec Ideal S1x1x704x1024 .bf16) (x3 : Vec Ideal S1x1024 .f32) (r : Fin 512) (l : Fin 1024) :
    k0_pay12 (F := Ideal) (k0_pay1 x2) (k0_pay2 x2) v45 v50 v52 v53 x3 x4 (ix2 r l)
      = RmsGrad.dxR (fun i => k0_pay8 (F := Ideal) v45 v50 v52 v53 (ix2 r i) * x3 (ix2 0 i)) (fun i => x2 (ix2 r i)) (x4 (ix2 r l)) l := by
  rw [← RmsGrad.dx_eq]
  pointwise [k0_pay12, k0_pay1, k0_pay2]
  rfl

/-- A point's backward product, row by row. -/
theorem pay8_at (g0 g1 g2 g3 u0 u1 u2 u3 : Vec Ideal S1x512x704 .bf16) (p0 p1 p2 p3 q0 q1 q2 q3 : Vec Ideal S1x1x704x1024 .bf16)
    (y : Fin 512) (i : Fin 1024) (r : Fin 8192) (a0 a1 : FVec Ideal S4x8192x704 .bf16) (a2 a3 : FVec Ideal S1x4x704x1024 .bf16)
    (hg0 : ∀ k : Fin 704, g0 (ix3 0 y k) = a0 (ix3 0 r k))
    (hu0 : ∀ k : Fin 704, u0 (ix3 0 y k) = a1 (ix3 0 r k))
    (hp0 : ∀ k : Fin 704, p0 (ix4 0 0 k i) = a2 (ix4 0 0 k i))
    (hq0 : ∀ k : Fin 704, q0 (ix4 0 0 k i) = a3 (ix4 0 0 k i))
    (hg1 : ∀ k : Fin 704, g1 (ix3 0 y k) = a0 (ix3 1 r k))
    (hu1 : ∀ k : Fin 704, u1 (ix3 0 y k) = a1 (ix3 1 r k))
    (hp1 : ∀ k : Fin 704, p1 (ix4 0 0 k i) = a2 (ix4 0 1 k i))
    (hq1 : ∀ k : Fin 704, q1 (ix4 0 0 k i) = a3 (ix4 0 1 k i))
    (hg2 : ∀ k : Fin 704, g2 (ix3 0 y k) = a0 (ix3 2 r k))
    (hu2 : ∀ k : Fin 704, u2 (ix3 0 y k) = a1 (ix3 2 r k))
    (hp2 : ∀ k : Fin 704, p2 (ix4 0 0 k i) = a2 (ix4 0 2 k i))
    (hq2 : ∀ k : Fin 704, q2 (ix4 0 0 k i) = a3 (ix4 0 2 k i))
    (hg3 : ∀ k : Fin 704, g3 (ix3 0 y k) = a0 (ix3 3 r k))
    (hu3 : ∀ k : Fin 704, u3 (ix3 0 y k) = a1 (ix3 3 r k))
    (hp3 : ∀ k : Fin 704, p3 (ix4 0 0 k i) = a2 (ix4 0 3 k i))
    (hq3 : ∀ k : Fin 704, q3 (ix4 0 0 k i) = a3 (ix4 0 3 k i)) :
    k0_pay8 (F := Ideal) (k0_pay5 (k0_pay3 g0 p0 u0 q0) (k0_pay4 g1 p1) u1 q1 g2 p2 u2 q2) (k0_pay6 g3 p3) (k0_pay7 u3) q3 (ix2 y i) = back a0 a1 a2 a3 r i := by
  unfold back
  rw [four a1 a3, four a0 a2]
  pointwise [k0_pay8, k0_pay7, k0_pay6, k0_pay5, k0_pay4, k0_pay3]
  simp only [hg0, hu0, hp0, hq0, hg1, hu1, hp1, hq1, hg2, hu2, hp2, hq2, hg3, hu3, hp3, hq3]
  ac_rfl

/-- What a point adds into the eight rows it keeps. -/
theorem pay9_at (g0 g1 g2 g3 u0 u1 u2 u3 : Vec Ideal S1x512x704 .bf16) (p0 p1 p2 p3 q0 q1 q2 q3 : Vec Ideal S1x1x704x1024 .bf16)
    (x2 : Vec Ideal S512x1024 .f32)
    (s : Fin 8) (l : Fin 1024) (t : Fin 16) (a0 a1 : FVec Ideal S4x8192x704 .bf16) (a2 a3 : FVec Ideal S1x4x704x1024 .bf16) (a4 : FVec Ideal S8192x1024 .f32)
    (h : ∀ y : Fin 512, k0_pay8 (F := Ideal) (k0_pay5 (k0_pay3 g0 p0 u0 q0) (k0_pay4 g1 p1) u1 q1 g2 p2 u2 q2) (k0_pay6 g3 p3) (k0_pay7 u3) q3 (ix2 y l) = back a0 a1 a2 a3 ⟨t.val * 512 + y.val, by omega⟩ l)
    (hx : ∀ (y : Fin 512) i, x2 (ix2 y i) = a4 (ix2 ⟨t.val * 512 + y.val, by omega⟩ i)) :
    k0_pay9 (F := Ideal) (k0_pay2 x2) (k0_pay5 (k0_pay3 g0 p0 u0 q0) (k0_pay4 g1 p1) u1 q1 g2 p2 u2 q2) (k0_pay6 g3 p3) (k0_pay7 u3) q3 (ix2 s l)
      = ∑ x : Fin 64, part a0 a1 a2 a3 a4 l ⟨t.val * 512 + (x.val * 8 + s.val), by omega⟩ := by
  pointwise [k0_pay9, k0_pay2, k0_pay1]
  refine Finset.sum_congr rfl fun x _ => ?_
  rw [h]
  simp only [hx]
  exact mul_comm _ _

theorem pay10_at (v10 v45 v50 : FVec Ideal S512x1024 .f32) (v52 : FVec Ideal S512x704 .bf16)
    (v53 : Vec Ideal S1x1x704x1024 .bf16) (j : S8x1024.Idx) :
    k0_pay10 (F := Ideal) v10 v45 v50 v52 v53 j = k0_pay9 (F := Ideal) v10 v45 v50 v52 v53 j := by
  pointwise [k0_pay10]

theorem pay11_at (v10 v45 v50 : FVec Ideal S512x1024 .f32) (v52 : FVec Ideal S512x704 .bf16)
    (v53 : Vec Ideal S1x1x704x1024 .bf16) (x : Vec Ideal S8x1024 .f32) (j : S8x1024.Idx) :
    k0_pay11 (F := Ideal) v10 v45 v50 v52 v53 x j = x j + k0_pay9 (F := Ideal) v10 v45 v50 v52 v53 j := by
  pointwise [k0_pay11]

theorem pay14_at (x : Vec Ideal S8x1024 .f32) (i : Fin 1) (l : Fin 1024) :
    k0_pay14 (F := Ideal) x (ix2 i l) = ∑ s : Fin 8, x (ix2 s l) := by
  pointwise [k0_pay14]

variable (m : (ℓ : Loc nD τ sig) → Buf (Elt Ideal) ℓ)

theorem idx : ∀ t : Fin cfg0.N, win0_0.index t = ![0, t.val, 0] ∧ win0_1.index t = ![0, t.val, 0] ∧ win0_2.index t = ![0, 0, 0, 0]
    ∧ win0_3.index t = ![0, 0, 0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

set_option maxHeartbeats 4000000 in
theorem rows (c : Dev nD) (t : Fin cfg0.N) (y0 : Fin 512) (y1 : Fin 1024) (r : Fin 8192) (hr : r.val = t.val * 512 + y0.val) :
    (dats m 0 c).after 7 t (ix2 y0 y1) = ref0 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (ix2 r y1) := by
  have hN : t.val < 16 := t.isLt
  rw [ref0_at, after0_7]
  by_cases h2 : t.val % 16 = 15
  on_goal 2 => by_cases h0 : t.val % 16 = 0
  · rw [outsAt0_C m c t (by omega) (by omega) h2]; frame_out
    refine (pay12_at _ _ _ _ _ _ _ _ _).trans (RmsGrad.dxR_congr _
      (fun i => congrArg₂ (· * ·) (pay8_at _ _ _ _ _ _ _ _ _ _ _ _ _ _ _ _ _ _ r _ _ _ _ ?_ ?_ ?_ ?_ ?_ ?_ ?_ ?_ ?_ ?_ ?_ ?_ ?_ ?_ ?_ ?_) ?_) (fun i => ?_) ?_)
    all_goals try intro k
    all_goals pointwise
    all_goals blk_ext [iblk, V, idx t]
  · rw [outsAt0_A m c t h0 (by omega) h2]; frame_out
    refine (pay12_at _ _ _ _ _ _ _ _ _).trans (RmsGrad.dxR_congr _
      (fun i => congrArg₂ (· * ·) (pay8_at _ _ _ _ _ _ _ _ _ _ _ _ _ _ _ _ _ _ r _ _ _ _ ?_ ?_ ?_ ?_ ?_ ?_ ?_ ?_ ?_ ?_ ?_ ?_ ?_ ?_ ?_ ?_) ?_) (fun i => ?_) ?_)
    all_goals try intro k
    all_goals pointwise
    all_goals blk_ext [iblk, V, idx t]
  · rw [outsAt0_B m c t h0 (by omega) h2]; frame_out
    refine (pay12_at _ _ _ _ _ _ _ _ _).trans (RmsGrad.dxR_congr _
      (fun i => congrArg₂ (· * ·) (pay8_at _ _ _ _ _ _ _ _ _ _ _ _ _ _ _ _ _ _ r _ _ _ _ ?_ ?_ ?_ ?_ ?_ ?_ ?_ ?_ ?_ ?_ ?_ ?_ ?_ ?_ ?_ ?_) ?_) (fun i => ?_) ?_)
    all_goals try intro k
    all_goals pointwise
    all_goals blk_ext [iblk, V, idx t]

theorem after8 (c : Dev nD) (t : Fin cfg0.N) : (dats m 0 c).after 8 t = (dats m 0 c).after 7 t := by
  have hN : t.val < 16 := t.isLt
  rw [after0_7, after0_8]
  by_cases h2 : t.val % 16 = 15
  · rw [outsAt0_C m c t (by omega) (by omega) h2]; funext y; frame_out; rfl
  · by_cases h0 : t.val % 16 = 0
    · rw [outsAt0_A m c t h0 (by omega) h2]; funext y; frame_out; rfl
    · rw [outsAt0_B m c t h0 (by omega) h2]; funext y; frame_out; rfl

theorem final7 (c : Dev nD) : (dats m 0 c).arrAt 7 (cfgs 0).N = ref0 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 7 _ (by decide +kernel) fun t hf y => ?_
  have hN : t.val < 16 := t.isLt
  blk_simp
  idx_vars y
  refine (rows m c t y0 y1 ⟨t.val * 512 + y0.val, by omega⟩ rfl).trans ?_
  congr 1
  blk_ext [idx t]

theorem final8 (c : Dev nD) : (dats m 0 c).arrAt 8 (cfgs 0).N = ref1 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  refine (dats m 0 c).arrAt_eq_of_covers 8 _ (by decide +kernel) fun t hf y => ?_
  have hN : t.val < 16 := t.isLt
  blk_simp
  idx_vars y
  rw [after8]
  refine (rows m c t y0 y1 ⟨t.val * 512 + y0.val, by omega⟩ rfl).trans ?_
  show _ = ref0 _ _ _ _ _ _ _ _
  congr 1
  blk_ext [idx t]

/-- A point's share of the gain's gradient, in each of the eight kept rows. -/
def share (c : Dev nD) (t : Fin 16) (j : S8x1024.Idx) : EReal :=
  ∑ x : Fin 64, part (m ((c : Thread nD τ).loc main_arg0))
    (m ((c : Thread nD τ).loc main_arg1)) (m ((c : Thread nD τ).loc main_arg2)) (m ((c : Thread nD τ).loc main_arg3))
    (m ((c : Thread nD τ).loc main_arg4)) (j 1)
    ⟨t.val * 512 + (x.val * 8 + (show Fin 8 from j 0).val), by have := (show Fin 8 from j 0).isLt; omega⟩

set_option maxHeartbeats 4000000 in
/-- The kept rows after the last point. -/
theorem kept (c : Dev nD) (j : S8x1024.Idx) : (show FVec Ideal S8x1024 .f32 from (outsAt0 m c t0_15.val t0_15.isLt).2.2.2) j
    = ∑ t : Fin cfg0.N, share m c t j := by
  refine (Pipeline.eq_sum_fin_of_reset_step_apply_last (fun n h => (outsAt0 m c n h).2.2.2) 16 (fun _ => 0)
    (fun t j => share m c t j)
    (fun t h j => by
      have hN : t.val < 16 := t.isLt
      rw [outsAt0_A m c t h (by omega) (by omega)]; frame_out
      rw [zero_add, pay10_at]
      idx_vars j
      refine pay9_at _ _ _ _ _ _ _ _ _ _ _ _ _ _ _ _ _ _ _ t _ _ _ _ _ (fun y => pay8_at _ _ _ _ _ _ _ _ _ _ _ _ _ _ _ _ _ _ _ _ _ _ _ ?_ ?_ ?_ ?_ ?_ ?_ ?_ ?_ ?_ ?_ ?_ ?_ ?_ ?_ ?_ ?_) (fun y i => ?_)
      all_goals try intro k
      all_goals pointwise
      all_goals blk_ext [iblk, V, idx t])
    (fun t h j => by
      have hN : t.val < 16 := t.isLt
      by_cases h2 : t.val % 16 = 15
      · rw [outsAt0_C m c t h (by omega) h2]; frame_out
        rw [pay11_at]
        refine congrArg₂ (· + ·) (congrFun (Memref.IsWhole.read_unread _ _) _) ?_
        idx_vars j
        refine pay9_at _ _ _ _ _ _ _ _ _ _ _ _ _ _ _ _ _ _ _ t _ _ _ _ _ (fun y => pay8_at _ _ _ _ _ _ _ _ _ _ _ _ _ _ _ _ _ _ _ _ _ _ _ ?_ ?_ ?_ ?_ ?_ ?_ ?_ ?_ ?_ ?_ ?_ ?_ ?_ ?_ ?_ ?_) (fun y i => ?_)
        all_goals try intro k
        all_goals pointwise
        all_goals blk_ext [iblk, V, idx t]
      · rw [outsAt0_B m c t h (by omega) h2]; frame_out
        rw [pay11_at]
        refine congrArg₂ (· + ·) (congrFun (Memref.IsWhole.read_unread _ _) _) ?_
        idx_vars j
        refine pay9_at _ _ _ _ _ _ _ _ _ _ _ _ _ _ _ _ _ _ _ t _ _ _ _ _ (fun y => pay8_at _ _ _ _ _ _ _ _ _ _ _ _ _ _ _ _ _ _ _ _ _ _ _ ?_ ?_ ?_ ?_ ?_ ?_ ?_ ?_ ?_ ?_ ?_ ?_ ?_ ?_ ?_ ?_) (fun y i => ?_)
        all_goals try intro k
        all_goals pointwise
        all_goals blk_ext [iblk, V, idx t])
    (le_of_eq N_0) t0_15 rfl j).trans (zero_add _)

theorem after9 (c : Dev nD) : (dats m 0 c).after 9 t0_15 = k0_pay14 (F := Ideal) (outsAt0 m c t0_15.val t0_15.isLt).2.2.2 := by
  rw [after0_9, outsAt0_C m c t0_15 (by decide) (by decide) (by decide)]; funext y; frame_out

theorem final9 (c : Dev nD) : (dats m 0 c).arrAt 9 (cfgs 0).N = ref2 (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_after_last 9 t0_15 (by decide +kernel) _ fun y => ?_
  blk_simp
  rw [after9]
  idx_vars y
  obtain rfl : y0 = 0 := Subsingleton.elim _ _
  refine (pay14_at _ _ _).trans (Eq.trans ?_ (ref2_at _ _ _ _ _ _).symm)
  refine Eq.trans (Finset.sum_congr rfl fun s _ => kept m c (ix2 s y1))
    (RmsGrad.regroup (T := 16) (part (m ((c : Thread nD τ).loc main_arg0))
    (m ((c : Thread nD τ).loc main_arg1)) (m ((c : Thread nD τ).loc main_arg2)) (m ((c : Thread nD τ).loc main_arg3))
    (m ((c : Thread nD τ).loc main_arg4)) y1))

end Cert.Kernel3Ideal.DgradFfn
-- ==== Proof.Values.DgradFfn.lean ====
/- The values of the pair Kernel3, Reference3: every result of the one is the result of the other. -/
module

public import proofs.«01_k».proof.Defs
public import proofs.«01_k».proof.Proof.Gen.Kernel3Ideal.Value
public import proofs.«01_k».proof.Proof.Gen.Reference3Ideal.Run
public import proofs.«01_k».proof.Proof.DgradFfn
public import Idealize.ShloMosaic.Lib.Claim

@[expose] public section

noncomputable section

namespace Cert.Proof

open Idealize.ShloMosaic Idealize.SL.Sem

set_option maxHeartbeats 4000000 in
set_option maxRecDepth 16384 in
theorem values3 : Cert.algebraic_Kernel3Ideal_Reference3Ideal (hKernel3Ideal := Cert.Kernel3Ideal.Gen.facts) (hReference3Ideal := Cert.Reference3Ideal.Gen.facts) := by
  pair_intro
  · run_from Cert.Kernel3Ideal.Gen.run_main m g
  · run_from Cert.Reference3Ideal.Value.run m' g'
    · show Cert.Reference3Ideal.DgradFfn.ref0 (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) = _
      simp only [hagree c]
      exact (Cert.Kernel3Ideal.DgradFfn.final7 m c).symm
    · show Cert.Reference3Ideal.DgradFfn.ref1 (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) = _
      simp only [hagree c]
      exact (Cert.Kernel3Ideal.DgradFfn.final8 m c).symm
    · exact (Cert.Kernel3Ideal.DgradFfn.final9 m c).symm

end Cert.Proof

end
-- ==== Proof.WgradDown.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

set_option maxRecDepth 16384

/-! The gradient of the feed-forward layer's second weight: the hidden activations against the gradient that arrives, summed over the tokens. -/

noncomputable section

open Idealize.ShloMosaic Idealize.ShloMosaic.TcCoe Idealize.SL.Sem
open Idealize.ShloMosaic.Pipeline (Dat)

namespace Cert.Reference4Ideal.WgradDown
open Cert.Reference4Ideal Cert.Reference4Ideal.Gen

def ref0 (a0 : FVec Ideal S4x8192x704 .bf16) (a1 : FVec Ideal S8192x1024 .bf16) : FVec Ideal S4x704x1024 .f32 :=
  shapeCast _ (transpose S2816x1024 [1, 0] (Host.dotGeneral dot_S8192x1024_S8192x2816_S1024x2816_0_0_1_1_n_n none (extf .f32 a1 bitsLt_bf16_f32) (extf .f32 (shapeCast _ (transpose S8192x4x704 [1, 0, 2] a0 transposes_S4x8192x704_S8192x4x704_1_0_2) shapeCasts_S8192x4x704_S8192x2816) bitsLt_bf16_f32)) transposes_S1024x2816_S2816x1024_1_0) shapeCasts_S2816x1024_S4x704x1024

theorem ref0_at (a0 : FVec Ideal S4x8192x704 .bf16) (a1 : FVec Ideal S8192x1024 .bf16) (s : Fin 4) (i : Fin 704) (j : Fin 1024) :
    ref0 a0 a1 (ix3 s i j) = ∑ k : Fin 8192, a1 (ix2 k j) * a0 (ix3 s k i) := by
  pointwise [ref0]

end Cert.Reference4Ideal.WgradDown

namespace Cert.Kernel4Ideal.WgradDown
open Cert.Kernel4Ideal Cert.Kernel4Ideal.Gen
open Cert.Reference4Ideal.WgradDown (ref0 ref0_at)

/-- A point's part of the product. -/
theorem first_at (x0 : Vec Ideal S1x2048x704 .bf16) (x1 : Vec Ideal S2048x1024 .bf16) (z : Fin 1) (i : Fin 704) (j : Fin 1024) :
    k0_pay2 (F := Ideal) x0 x1 (ix3 z i j) = ∑ k : Fin 2048, x0 (ix3 0 k i) * x1 (ix2 k j) := by
  pointwise [k0_pay2, k0_pay1]

/-- A later point adds its part. -/
theorem later_at (x0 : Vec Ideal S1x2048x704 .bf16) (x1 : Vec Ideal S2048x1024 .bf16) (x2 : Vec Ideal S1x704x1024 .f32) (j : S1x704x1024.Idx) :
    k0_pay3 (F := Ideal) x0 x1 x2 j = x2 j + k0_pay2 (F := Ideal) x0 x1 j := by
  pointwise [k0_pay3, k0_pay2]

variable (m : (ℓ : Loc nD τ sig) → Buf (Elt Ideal) ℓ)

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 16 := t.isLt
  have hr := (flush0_2 t).mp hf
  blk_simp
  rw [after0_2]
  refine (Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by have : t.val < 16 := t.isLt; omega)]; frame_out; exact (zero_add _).symm)
    (fun t h j => by rw [outsAt0_B m c t h (by have : t.val < 16 := t.isLt; omega)]; frame_out; exact later_at _ _ _ _)
    t hr _).trans ?_
  rw [zero_add]
  idx_vars y
  refine Eq.trans (Fin.sum_fin_congr fun s => first_at _ _ y0 y1 y2) ?_
  refine Eq.trans ?_ (Eq.symm ((congrArg _ (?_ : _ = ix3 ⟨t.val / 4, by omega⟩ y1 y2)).trans (ref0_at _ _ _ _ _)))
  · refine Fin.sum_mul_add_congr fun s k hl => ?_
    refine (mul_comm _ _).trans (congrArg₂ (· * ·) ?_ ?_)
    all_goals blk_ext [iblk, V, idx t, idx ⟨_, Pipeline.run_point_lt_of_flush t hr s⟩]
  · blk_ext [idx t]

end Cert.Kernel4Ideal.WgradDown
-- ==== Proof.Values.WgradDown.lean ====
/- The values of the pair Kernel4, Reference4: every result of the one is the result of the other. -/
module

public import proofs.«01_k».proof.Defs
public import proofs.«01_k».proof.Proof.Gen.Kernel4Ideal.Value
public import proofs.«01_k».proof.Proof.Gen.Reference4Ideal.Run
public import proofs.«01_k».proof.Proof.WgradDown
public import Idealize.ShloMosaic.Lib.Claim

@[expose] public section

noncomputable section

namespace Cert.Proof

open Idealize.ShloMosaic Idealize.SL.Sem

set_option maxHeartbeats 4000000 in
set_option maxRecDepth 16384 in
theorem values4 : Cert.algebraic_Kernel4Ideal_Reference4Ideal (hKernel4Ideal := Cert.Kernel4Ideal.Gen.facts) (hReference4Ideal := Cert.Reference4Ideal.Gen.facts) := by
  pair_intro
  · run_from Cert.Kernel4Ideal.Gen.run_main m g
  · run_from Cert.Reference4Ideal.Value.run m' g'
    · exact (Cert.Kernel4Ideal.WgradDown.final2 m c).symm

end Cert.Proof

end
-- ==== Proof.WgradUp.lean ====
module

public import proofs.«01_k».proof.Proof.Gen.Kernel5Ideal.Frame
public import proofs.«01_k».proof.Proof.Gen.Reference5Ideal.Run
public import Idealize.ShloMosaic.Lib.Pipeline.ValueKit
public import Idealize.ShloMosaic.Lib.Claim

@[expose] public section

set_option maxRecDepth 16384

/-! The gradient of the feed-forward layer's first weights: the hidden gradient against the normalised activations, summed over the tokens. -/

noncomputable section

open Idealize.ShloMosaic Idealize.ShloMosaic.TcCoe Idealize.SL.Sem
open Idealize.ShloMosaic.Pipeline (Dat)

namespace Cert.Reference5Ideal.WgradUp
open Cert.Reference5Ideal Cert.Reference5Ideal.Gen

def ref0 (a0 : FVec Ideal S4x8192x704 .bf16) (a1 : FVec Ideal S8192x1024 .bf16) : FVec Ideal S4x704x1024 .f32 :=
  shapeCast _ (transpose S2816x1024 [1, 0] (transpose S1024x2816 [1, 0] (Host.dotGeneral dot_S8192x2816_S8192x1024_S2816x1024_0_0_1_1_n_n none (extf .f32 (shapeCast _ (transpose S8192x4x704 [1, 0, 2] a0 transposes_S4x8192x704_S8192x4x704_1_0_2) shapeCasts_S8192x4x704_S8192x2816) bitsLt_bf16_f32) (extf .f32 a1 bitsLt_bf16_f32)) transposes_S2816x1024_S1024x2816_1_0) transposes_S1024x2816_S2816x1024_1_0) shapeCasts_S2816x1024_S4x704x1024

theorem ref0_at (a0 : FVec Ideal S4x8192x704 .bf16) (a1 : FVec Ideal S8192x1024 .bf16) (s : Fin 4) (i : Fin 704) (j : Fin 1024) :
    ref0 a0 a1 (ix3 s i j) = ∑ k : Fin 8192, a0 (ix3 s k i) * a1 (ix2 k j) := by
  pointwise [ref0]

end Cert.Reference5Ideal.WgradUp

namespace Cert.Kernel5Ideal.WgradUp
open Cert.Kernel5Ideal Cert.Kernel5Ideal.Gen
open Cert.Reference5Ideal.WgradUp (ref0 ref0_at)

/-- A point's part of the product. -/
theorem first_at (x0 : Vec Ideal S1x2048x704 .bf16) (x1 : Vec Ideal S2048x1024 .bf16) (z : Fin 1) (i : Fin 704) (j : Fin 1024) :
    k0_pay2 (F := Ideal) x0 x1 (ix3 z i j) = ∑ k : Fin 2048, x0 (ix3 0 k i) * x1 (ix2 k j) := by
  pointwise [k0_pay2, k0_pay1]

/-- A later point adds its part. -/
theorem later_at (x0 : Vec Ideal S1x2048x704 .bf16) (x1 : Vec Ideal S2048x1024 .bf16) (x2 : Vec Ideal S1x704x1024 .f32) (j : S1x704x1024.Idx) :
    k0_pay3 (F := Ideal) x0 x1 x2 j = x2 j + k0_pay2 (F := Ideal) x0 x1 j := by
  pointwise [k0_pay3, k0_pay2]

variable (m : (ℓ : Loc nD τ sig) → Buf (Elt Ideal) ℓ)

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 16 := t.isLt
  have hr := (flush0_2 t).mp hf
  blk_simp
  rw [after0_2]
  refine (Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by have : t.val < 16 := t.isLt; omega)]; frame_out; exact (zero_add _).symm)
    (fun t h j => by rw [outsAt0_B m c t h (by have : t.val < 16 := t.isLt; omega)]; frame_out; exact later_at _ _ _ _)
    t hr _).trans ?_
  rw [zero_add]
  idx_vars y
  refine Eq.trans (Fin.sum_fin_congr fun s => first_at _ _ y0 y1 y2) ?_
  refine Eq.trans ?_ (Eq.symm ((congrArg _ (?_ : _ = ix3 ⟨t.val / 4, by omega⟩ y1 y2)).trans (ref0_at _ _ _ _ _)))
  · refine Fin.sum_mul_add_congr fun s k hl => ?_
    refine congrArg₂ (· * ·) ?_ ?_
    all_goals blk_ext [iblk, V, idx t, idx ⟨_, Pipeline.run_point_lt_of_flush t hr s⟩]
  · blk_ext [idx t]

end Cert.Kernel5Ideal.WgradUp
-- ==== Proof.Values.WgradUp.lean ====
/- The values of the pair Kernel5, Reference5: every result of the one is the result of the other. -/
module

public import proofs.«01_k».proof.Defs
public import proofs.«01_k».proof.Proof.Gen.Kernel5Ideal.Value
public import proofs.«01_k».proof.Proof.Gen.Reference5Ideal.Run
public import proofs.«01_k».proof.Proof.WgradUp
public import Idealize.ShloMosaic.Lib.Claim

@[expose] public section

noncomputable section

namespace Cert.Proof

open Idealize.ShloMosaic Idealize.SL.Sem

set_option maxHeartbeats 4000000 in
set_option maxRecDepth 16384 in
theorem values5 : Cert.algebraic_Kernel5Ideal_Reference5Ideal (hKernel5Ideal := Cert.Kernel5Ideal.Gen.facts) (hReference5Ideal := Cert.Reference5Ideal.Gen.facts) := by
  pair_intro
  · run_from Cert.Kernel5Ideal.Gen.run_main m g
  · run_from Cert.Reference5Ideal.Value.run m' g'
    · exact (Cert.Kernel5Ideal.WgradUp.final2 m c).symm

end Cert.Proof

end
-- ==== Proof.WgradIn.lean ====
module

public import proofs.«01_k».proof.Proof.Gen.Kernel6Ideal.Frame
public import proofs.«01_k».proof.Proof.Gen.Reference6Ideal.Run
public import Idealize.ShloMosaic.Lib.Pipeline.ValueKit
public import Idealize.ShloMosaic.Lib.Claim

@[expose] public section

set_option maxRecDepth 16384

/-! The gradient of the gMLP's input projection: the activations against the gradient that arrives, summed over the tokens. -/

noncomputable section

open Idealize.ShloMosaic Idealize.ShloMosaic.TcCoe Idealize.SL.Sem
open Idealize.ShloMosaic.Pipeline (Dat)

namespace Cert.Reference6Ideal.WgradIn
open Cert.Reference6Ideal Cert.Reference6Ideal.Gen

def ref0 (a0 : FVec Ideal S8192x1024 .bf16) (a1 : FVec Ideal S8192x4096 .bf16) : FVec Ideal S1024x4096 .f32 :=
  transpose S1024x4096 [1, 0] (Host.dotGeneral dot_S8192x4096_S8192x1024_S4096x1024_0_0_1_1_n_n none (extf .f32 a1 bitsLt_bf16_f32) (extf .f32 a0 bitsLt_bf16_f32)) transposes_S4096x1024_S1024x4096_1_0

theorem ref0_at (a0 : FVec Ideal S8192x1024 .bf16) (a1 : FVec Ideal S8192x4096 .bf16) (i : Fin 1024) (j : Fin 4096) :
    ref0 a0 a1 (ix2 i j) = ∑ k : Fin 8192, a1 (ix2 k j) * a0 (ix2 k i) := by
  pointwise [ref0]

end Cert.Reference6Ideal.WgradIn

namespace Cert.Kernel6Ideal.WgradIn
open Cert.Kernel6Ideal Cert.Kernel6Ideal.Gen
open Cert.Reference6Ideal.WgradIn (ref0 ref0_at)

/-- A point's part of the product. -/
theorem first_at (x0 : Vec Ideal S2048x1024 .bf16) (x1 : Vec Ideal S2048x1024 .bf16) (i j : Fin 1024) :
    k0_pay1 (F := Ideal) x0 x1 (ix2 i j) = ∑ k : Fin 2048, x0 (ix2 k i) * x1 (ix2 k j) := by
  pointwise [k0_pay1]

/-- A later point adds its part. -/
theorem later_at (x0 : Vec Ideal S2048x1024 .bf16) (x1 : Vec Ideal S2048x1024 .bf16) (x2 : Vec Ideal S1024x1024 .f32) (j : S1024x1024.Idx) :
    k0_pay2 (F := Ideal) x0 x1 x2 j = x2 j + k0_pay1 (F := Ideal) x0 x1 j := by
  pointwise [k0_pay2, k0_pay1]

variable (m : (ℓ : Loc nD τ sig) → Buf (Elt Ideal) ℓ)

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 16 := t.isLt
  have hr := (flush0_2 t).mp hf
  blk_simp
  rw [after0_2]
  refine (Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by have : t.val < 16 := t.isLt; omega)]; frame_out; exact (zero_add _).symm)
    (fun t h j => by rw [outsAt0_B m c t h (by have : t.val < 16 := t.isLt; omega)]; frame_out; exact later_at _ _ _ _)
    t hr _).trans ?_
  rw [zero_add]
  idx_vars y
  refine Eq.trans (Fin.sum_fin_congr fun s => first_at _ _ y0 y1) ?_
  refine Eq.trans ?_ (Eq.symm ((congrArg _ (?_ : _ = ix2 y0 ⟨t.val / 4 * 1024 + y1.val, by omega⟩)).trans (ref0_at _ _ _ _)))
  · refine Fin.sum_mul_add_congr fun s k hl => ?_
    refine (mul_comm _ _).trans (congrArg₂ (· * ·) ?_ ?_)
    all_goals blk_ext [iblk, V, idx t, idx ⟨_, Pipeline.run_point_lt_of_flush t hr s⟩]
  · blk_ext [idx t]

end Cert.Kernel6Ideal.WgradIn
-- ==== Proof.Values.WgradIn.lean ====
/- The values of the pair Kernel6, Reference6: every result of the one is the result of the other. -/
module

public import proofs.«01_k».proof.Defs
public import proofs.«01_k».proof.Proof.Gen.Kernel6Ideal.Value
public import proofs.«01_k».proof.Proof.Gen.Reference6Ideal.Run
public import proofs.«01_k».proof.Proof.WgradIn
public import Idealize.ShloMosaic.Lib.Claim

@[expose] public section

noncomputable section

namespace Cert.Proof

open Idealize.ShloMosaic Idealize.SL.Sem

set_option maxHeartbeats 4000000 in
set_option maxRecDepth 16384 in
theorem values6 : Cert.algebraic_Kernel6Ideal_Reference6Ideal (hKernel6Ideal := Cert.Kernel6Ideal.Gen.facts) (hReference6Ideal := Cert.Reference6Ideal.Gen.facts) := by
  pair_intro
  · run_from Cert.Kernel6Ideal.Gen.run_main m g
  · run_from Cert.Reference6Ideal.Value.run m' g'
    · exact (Cert.Kernel6Ideal.WgradIn.final2 m c).symm

end Cert.Proof

end
-- ==== Proof.WgradQkv.lean ====
module

public import proofs.«01_k».proof.Proof.Gen.Kernel7Ideal.Frame
public import proofs.«01_k».proof.Proof.Gen.Reference7Ideal.Run
public import Idealize.ShloMosaic.Lib.Pipeline.ValueKit
public import Idealize.ShloMosaic.Lib.Claim

@[expose] public section

set_option maxRecDepth 16384

/-! The gradient of the attention's joint projection: the activations against the three gradients that arrive, summed over the tokens. -/

noncomputable section

open Idealize.ShloMosaic Idealize.ShloMosaic.TcCoe Idealize.SL.Sem
open Idealize.ShloMosaic.Pipeline (Dat)

namespace Cert.Reference7Ideal.WgradQkv
open Cert.Reference7Ideal Cert.Reference7Ideal.Gen

def ref0 (a0 : FVec Ideal S8192x1024 .bf16) (a1 : FVec Ideal S3x10240x1024 .bf16) : FVec Ideal S1024x3072 .f32 :=
  transpose S1024x3072 [1, 0] (Host.dotGeneral dot_S8192x3072_S8192x1024_S3072x1024_0_0_1_1_n_n none (extf .f32 ((concatenate S8192x3072 1 [⟨S8192x1024, ((shapeCast _ (extractStridedSlice S1x8192x1024 ![0, 2048, 0] a1 slices_S3x10240x1024_S1x8192x1024_0_2048_0) shapeCasts_S1x8192x1024_S8192x1024) : (⟨S8192x1024, .bf16⟩ : BufTy).Contents (Elt Ideal))⟩, ⟨S8192x1024, ((shapeCast _ (extractStridedSlice S1x8192x1024 ![1, 2048, 0] a1 slices_S3x10240x1024_S1x8192x1024_1_2048_0) shapeCasts_S1x8192x1024_S8192x1024) : (⟨S8192x1024, .bf16⟩ : BufTy).Contents (Elt Ideal))⟩, ⟨S8192x1024, ((shapeCast _ (extractStridedSlice S1x8192x1024 ![2, 2048, 0] a1 slices_S3x10240x1024_S1x8192x1024_2_2048_0) shapeCasts_S1x8192x1024_S8192x1024) : (⟨S8192x1024, .bf16⟩ : BufTy).Contents (Elt Ideal))⟩] concatenates_S8192x1024_S8192x1024_S8192x1024_S8192x3072_d1 : (⟨S8192x3072, .bf16⟩ : BufTy).Contents (Elt Ideal))) bitsLt_bf16_f32) (extf .f32 a0 bitsLt_bf16_f32)) transposes_S3072x1024_S1024x3072_1_0

/-- The three gradients joined along the columns, at one place. -/
def cat (a1 : FVec Ideal S3x10240x1024 .bf16) (r : Fin 8192) (x : Fin 3072) : EReal :=
  if h : x.val < 1024 then a1 (ix3 0 ⟨2048 + r.val, by omega⟩ ⟨x.val, h⟩)
  else if h : x.val - 1024 < 1024 then a1 (ix3 1 ⟨2048 + r.val, by omega⟩ ⟨x.val - 1024, h⟩)
  else a1 (ix3 2 ⟨2048 + r.val, by omega⟩ ⟨x.val - 1024 - 1024, by omega⟩)

theorem cat_eq (a1 : FVec Ideal S3x10240x1024 .bf16) (r : Fin 8192) (g : Fin 3) (j : Fin 1024) :
    cat a1 r ⟨g.val * 1024 + j.val, by omega⟩ = a1 (ix3 g ⟨2048 + r.val, by omega⟩ j) := by
  unfold cat
  fin_cases g
  · rw [dif_pos (by show 0 * 1024 + j.val < 1024; omega)]
    congr 2; exact Fin.ext (by show 0 * 1024 + j.val = j.val; omega)
  · rw [dif_neg (by show ¬ 1 * 1024 + j.val < 1024; omega), dif_pos (by show 1 * 1024 + j.val - 1024 < 1024; omega)]
    congr 2; exact Fin.ext (by show 1 * 1024 + j.val - 1024 = j.val; omega)
  · rw [dif_neg (by show ¬ 2 * 1024 + j.val < 1024; omega), dif_neg (by show ¬ 2 * 1024 + j.val - 1024 < 1024; omega)]
    congr 2; exact Fin.ext (by show 2 * 1024 + j.val - 1024 - 1024 = j.val; omega)

theorem ref0_at (a0 : FVec Ideal S8192x1024 .bf16) (a1 : FVec Ideal S3x10240x1024 .bf16) (i : Fin 1024) (j : Fin 3072) :
    ref0 a0 a1 (ix2 i j) = ∑ k : Fin 8192, cat a1 k j * a0 (ix2 k i) := by
  pointwise [ref0]
  rfl

end Cert.Reference7Ideal.WgradQkv

namespace Cert.Kernel7Ideal.WgradQkv
open Cert.Kernel7Ideal Cert.Kernel7Ideal.Gen
open Cert.Reference7Ideal.WgradQkv (ref0 ref0_at cat_eq)

/-- A point's part of the product. -/
theorem first_at (x0 : Vec Ideal S2048x1024 .bf16) (x1 : Vec Ideal S1x2048x1024 .bf16) (i j : Fin 1024) :
    k0_pay1 (F := Ideal) x0 x1 (ix2 i j) = ∑ k : Fin 2048, x0 (ix2 k i) * x1 (ix3 0 k j) := by
  pointwise [k0_pay1]

/-- A later point adds its part. -/
theorem later_at (x0 : Vec Ideal S2048x1024 .bf16) (x1 : Vec Ideal S1x2048x1024 .bf16) (x2 : Vec Ideal S1024x1024 .f32) (j : S1024x1024.Idx) :
    k0_pay2 (F := Ideal) x0 x1 x2 j = x2 j + k0_pay1 (F := Ideal) x0 x1 j := by
  pointwise [k0_pay2, k0_pay1]

variable (m : (ℓ : Loc nD τ sig) → Buf (Elt Ideal) ℓ)

theorem idx : ∀ t : Fin cfg0.N, win0_0.index t = ![t.val % 4, 0] ∧ win0_1.index t = ![t.val / 4, t.val % 4 + 1, 0] ∧ win0_2.index t = ![0, t.val / 4] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 12 := t.isLt
  have hr := (flush0_2 t).mp hf
  blk_simp
  rw [after0_2]
  refine (Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by have : t.val < 12 := t.isLt; omega)]; frame_out; exact (zero_add _).symm)
    (fun t h j => by rw [outsAt0_B m c t h (by have : t.val < 12 := t.isLt; omega)]; frame_out; exact later_at _ _ _ _)
    t hr _).trans ?_
  rw [zero_add]
  idx_vars y
  refine Eq.trans (Fin.sum_fin_congr fun s => first_at _ _ y0 y1) ?_
  refine Eq.trans ?_ (Eq.symm ((congrArg _ (?_ : _ = ix2 y0 ⟨t.val / 4 * 1024 + y1.val, by omega⟩)).trans (ref0_at _ _ _ _)))
  · refine Fin.sum_mul_add_congr fun s k hl => ?_
    refine (mul_comm _ _).trans ((congrArg₂ (· * ·) ?_ ?_).trans (congrArg (· * _) (cat_eq _ _ ⟨t.val / 4, by omega⟩ y1).symm))
    all_goals blk_ext [iblk, V, idx t, idx ⟨_, Pipeline.run_point_lt_of_flush t hr s⟩]
  · blk_ext [idx t]

end Cert.Kernel7Ideal.WgradQkv
-- ==== Proof.Values.WgradQkv.lean ====
/- The values of the pair Kernel7, Reference7: every result of the one is the result of the other. -/
module

public import proofs.«01_k».proof.Defs
public import proofs.«01_k».proof.Proof.Gen.Kernel7Ideal.Value
public import proofs.«01_k».proof.Proof.Gen.Reference7Ideal.Run
public import proofs.«01_k».proof.Proof.WgradQkv
public import Idealize.ShloMosaic.Lib.Claim

@[expose] public section

noncomputable section

namespace Cert.Proof

open Idealize.ShloMosaic Idealize.SL.Sem

set_option maxHeartbeats 4000000 in
set_option maxRecDepth 16384 in
theorem values7 : Cert.algebraic_Kernel7Ideal_Reference7Ideal (hKernel7Ideal := Cert.Kernel7Ideal.Gen.facts) (hReference7Ideal := Cert.Reference7Ideal.Gen.facts) := by
  pair_intro
  · run_from Cert.Kernel7Ideal.Gen.run_main m g
  · run_from Cert.Reference7Ideal.Value.run m' g'
    · exact (Cert.Kernel7Ideal.WgradQkv.final2 m c).symm

end Cert.Proof

end
-- ==== Proof.WgradAout.lean ====
module

public import proofs.«01_k».proof.Proof.Gen.Kernel8Ideal.Frame
public import proofs.«01_k».proof.Proof.Gen.Reference8Ideal.Run
public import Idealize.ShloMosaic.Lib.Pipeline.ValueKit
public import Idealize.ShloMosaic.Lib.Claim

@[expose] public section

set_option maxRecDepth 16384

/-! The gradient of the gMLP's output projection: the block's activations against the gradient that arrives, summed over the tokens. -/

noncomputable section

open Idealize.ShloMosaic Idealize.ShloMosaic.TcCoe Idealize.SL.Sem
open Idealize.ShloMosaic.Pipeline (Dat)

namespace Cert.Reference8Ideal.WgradAout
open Cert.Reference8Ideal Cert.Reference8Ideal.Gen

def ref0 (a0 : FVec Ideal S8192x2048 .bf16) (a1 : FVec Ideal S8192x1024 .bf16) : FVec Ideal S2048x1024 .f32 :=
  transpose S2048x1024 [1, 0] (Host.dotGeneral dot_S8192x1024_S8192x2048_S1024x2048_0_0_1_1_n_n none (extf .f32 a1 bitsLt_bf16_f32) (extf .f32 a0 bitsLt_bf16_f32)) transposes_S1024x2048_S2048x1024_1_0

theorem ref0_at (a0 : FVec Ideal S8192x2048 .bf16) (a1 : FVec Ideal S8192x1024 .bf16) (i : Fin 2048) (j : Fin 1024) :
    ref0 a0 a1 (ix2 i j) = ∑ k : Fin 8192, a1 (ix2 k j) * a0 (ix2 k i) := by
  pointwise [ref0]

end Cert.Reference8Ideal.WgradAout

namespace Cert.Kernel8Ideal.WgradAout
open Cert.Kernel8Ideal Cert.Kernel8Ideal.Gen
open Cert.Reference8Ideal.WgradAout (ref0 ref0_at)

/-- A point's part of the product. -/
theorem first_at (x0 : Vec Ideal S2048x1024 .bf16) (x1 : Vec Ideal S2048x1024 .bf16) (i j : Fin 1024) :
    k0_pay1 (F := Ideal) x0 x1 (ix2 i j) = ∑ k : Fin 2048, x0 (ix2 k i) * x1 (ix2 k j) := by
  pointwise [k0_pay1]

/-- A later point adds its part. -/
theorem later_at (x0 : Vec Ideal S2048x1024 .bf16) (x1 : Vec Ideal S2048x1024 .bf16) (x2 : Vec Ideal S1024x1024 .f32) (j : S1024x1024.Idx) :
    k0_pay2 (F := Ideal) x0 x1 x2 j = x2 j + k0_pay1 (F := Ideal) x0 x1 j := by
  pointwise [k0_pay2, k0_pay1]

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 8 := t.isLt
  have hr := (flush0_2 t).mp hf
  blk_simp
  rw [after0_2]
  refine (Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by have : t.val < 8 := t.isLt; omega)]; frame_out; exact (zero_add _).symm)
    (fun t h j => by rw [outsAt0_B m c t h (by have : t.val < 8 := t.isLt; omega)]; frame_out; exact later_at _ _ _ _)
    t hr _).trans ?_
  rw [zero_add]
  idx_vars y
  refine Eq.trans (Fin.sum_fin_congr fun s => first_at _ _ y0 y1) ?_
  refine Eq.trans ?_ (Eq.symm ((congrArg _ (?_ : _ = ix2 ⟨t.val / 4 * 1024 + y0.val, by omega⟩ y1)).trans (ref0_at _ _ _ _)))
  · refine Fin.sum_mul_add_congr fun s k hl => ?_
    refine (mul_comm _ _).trans (congrArg₂ (· * ·) ?_ ?_)
    all_goals blk_ext [iblk, V, idx t, idx ⟨_, Pipeline.run_point_lt_of_flush t hr s⟩]
  · blk_ext [idx t]

end Cert.Kernel8Ideal.WgradAout
-- ==== Proof.Values.WgradAout.lean ====
/- The values of the pair Kernel8, Reference8: every result of the one is the result of the other. -/
module

public import proofs.«01_k».proof.Defs
public import proofs.«01_k».proof.Proof.Gen.Kernel8Ideal.Value
public import proofs.«01_k».proof.Proof.Gen.Reference8Ideal.Run
public import proofs.«01_k».proof.Proof.WgradAout
public import Idealize.ShloMosaic.Lib.Claim

@[expose] public section

noncomputable section

namespace Cert.Proof

open Idealize.ShloMosaic Idealize.SL.Sem

set_option maxHeartbeats 4000000 in
set_option maxRecDepth 16384 in
theorem values8 : Cert.algebraic_Kernel8Ideal_Reference8Ideal (hKernel8Ideal := Cert.Kernel8Ideal.Gen.facts) (hReference8Ideal := Cert.Reference8Ideal.Gen.facts) := by
  pair_intro
  · run_from Cert.Kernel8Ideal.Gen.run_main m g
  · run_from Cert.Reference8Ideal.Value.run m' g'
    · exact (Cert.Kernel8Ideal.WgradAout.final2 m c).symm

end Cert.Proof

end
-- ==== Proof.WgradBout.lean ====
module

public import proofs.«01_k».proof.Proof.Gen.Kernel9Ideal.Frame
public import proofs.«01_k».proof.Proof.Gen.Reference9Ideal.Run
public import Idealize.ShloMosaic.Lib.Pipeline.ValueKit
public import Idealize.ShloMosaic.Lib.Claim

@[expose] public section

set_option maxRecDepth 16384

/-! The gradient of the attention's output projection: the heads' outputs against the gradient that arrives, summed over the tokens. -/

noncomputable section

open Idealize.ShloMosaic Idealize.ShloMosaic.TcCoe Idealize.SL.Sem
open Idealize.ShloMosaic.Pipeline (Dat)

namespace Cert.Reference9Ideal.WgradBout
open Cert.Reference9Ideal Cert.Reference9Ideal.Gen

def ref0 (a0 : FVec Ideal S8192x1024 .bf16) (a1 : FVec Ideal S8192x1024 .bf16) : FVec Ideal S1024x1024 .f32 :=
  transpose S1024x1024 [1, 0] (Host.dotGeneral dot_S8192x1024_S8192x1024_S1024x1024_0_0_1_1_n_n none (extf .f32 a1 bitsLt_bf16_f32) (extf .f32 a0 bitsLt_bf16_f32)) transposes_S1024x1024_S1024x1024_1_0

theorem ref0_at (a0 : FVec Ideal S8192x1024 .bf16) (a1 : FVec Ideal S8192x1024 .bf16) (i j : Fin 1024) :
    ref0 a0 a1 (ix2 i j) = ∑ k : Fin 8192, a1 (ix2 k j) * a0 (ix2 k i) := by
  pointwise [ref0]

end Cert.Reference9Ideal.WgradBout

namespace Cert.Kernel9Ideal.WgradBout
open Cert.Kernel9Ideal Cert.Kernel9Ideal.Gen
open Cert.Reference9Ideal.WgradBout (ref0 ref0_at)

/-- A point's part of the product. -/
theorem first_at (x0 : Vec Ideal S2048x1024 .bf16) (x1 : Vec Ideal S2048x1024 .bf16) (i j : Fin 1024) :
    k0_pay1 (F := Ideal) x0 x1 (ix2 i j) = ∑ k : Fin 2048, x0 (ix2 k i) * x1 (ix2 k j) := by
  pointwise [k0_pay1]

/-- A later point adds its part. -/
theorem later_at (x0 : Vec Ideal S2048x1024 .bf16) (x1 : Vec Ideal S2048x1024 .bf16) (x2 : Vec Ideal S1024x1024 .f32) (j : S1024x1024.Idx) :
    k0_pay2 (F := Ideal) x0 x1 x2 j = x2 j + k0_pay1 (F := Ideal) x0 x1 j := by
  pointwise [k0_pay2, k0_pay1]

variable (m : (ℓ : Loc nD τ sig) → Buf (Elt Ideal) ℓ)

theorem idx : ∀ t : Fin cfg0.N, win0_0.index t = ![t.val % 4, 0] ∧ win0_1.index t = ![t.val % 4, 0] ∧ win0_2.index t = ![0, 0] :=
  (by decide +kernel : ∀ t : Fin grid0.N, _)

/-- The array the call returns is the weight's gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 4 := t.isLt
  have hr := (flush0_2 t).mp hf
  blk_simp
  rw [after0_2]
  refine (Pipeline.eq_sum_fin_of_reset_step_apply_of_flush (fun n h => outsAt0 m c n h) 4 (fun _ => 0)
    (fun t j => k0_pay1 (F := Ideal) (iblk m c 0 t) (iblk m c 1 t) j)
    (fun t h j => by rw [outsAt0_A m c t h (by have : t.val < 4 := t.isLt; omega)]; frame_out; exact (zero_add _).symm)
    (fun t h j => by rw [outsAt0_B m c t h (by have : t.val < 4 := t.isLt; omega)]; frame_out; exact later_at _ _ _ _)
    t hr _).trans ?_
  rw [zero_add]
  idx_vars y
  refine Eq.trans (Fin.sum_fin_congr fun s => first_at _ _ y0 y1) ?_
  refine Eq.trans ?_ (Eq.symm ((congrArg _ (?_ : _ = ix2 y0 y1)).trans (ref0_at _ _ _ _)))
  · refine Fin.sum_mul_add_congr fun s k hl => ?_
    refine (mul_comm _ _).trans (congrArg₂ (· * ·) ?_ ?_)
    all_goals blk_ext [iblk, V, idx t, idx ⟨_, Pipeline.run_point_lt_of_flush t hr s⟩]
  · blk_ext [idx t]

end Cert.Kernel9Ideal.WgradBout
-- ==== Proof.Values.WgradBout.lean ====
/- The values of the pair Kernel9, Reference9: every result of the one is the result of the other. -/
module

public import proofs.«01_k».proof.Defs
public import proofs.«01_k».proof.Proof.Gen.Kernel9Ideal.Value
public import proofs.«01_k».proof.Proof.Gen.Reference9Ideal.Run
public import proofs.«01_k».proof.Proof.WgradBout
public import Idealize.ShloMosaic.Lib.Claim

@[expose] public section

noncomputable section

namespace Cert.Proof

open Idealize.ShloMosaic Idealize.SL.Sem

set_option maxHeartbeats 4000000 in
set_option maxRecDepth 16384 in
theorem values9 : Cert.algebraic_Kernel9Ideal_Reference9Ideal (hKernel9Ideal := Cert.Kernel9Ideal.Gen.facts) (hReference9Ideal := Cert.Reference9Ideal.Gen.facts) := by
  pair_intro
  · run_from Cert.Kernel9Ideal.Gen.run_main m g
  · run_from Cert.Reference9Ideal.Value.run m' g'
    · exact (Cert.Kernel9Ideal.WgradBout.final2 m c).symm

end Cert.Proof

end
-- ==== Proof.DgradAout.lean ====
module

public import proofs.«01_k».proof.Proof.Gen.Kernel10Ideal.Frame
public import proofs.«01_k».proof.Proof.Gen.Reference10Ideal.Run
public import Idealize.ShloMosaic.Lib.Pipeline.ValueKit
public import Idealize.ShloMosaic.Lib.Claim

@[expose] public section

set_option maxRecDepth 16384

/-! The gradient of the gMLP block's activations: the gradient that arrives against the output projection's weight. -/

noncomputable section

open Idealize.ShloMosaic Idealize.ShloMosaic.TcCoe Idealize.SL.Sem
open Idealize.ShloMosaic.Pipeline (Dat)

namespace Cert.Reference10Ideal.DgradAout
open Cert.Reference10Ideal Cert.Reference10Ideal.Gen

def ref0 (a0 : FVec Ideal S8192x1024 .bf16) (a1 : FVec Ideal S1x2048x1024 .bf16) : FVec Ideal S8192x2048 .bf16 :=
  truncf .bf16 (Host.dotGeneral dot_S8192x1024_S2048x1024_S8192x2048_1_1_0_0_n_n none (extf .f32 a0 bitsLt_bf16_f32) (extf .f32 (shapeCast _ a1 shapeCasts_S1x2048x1024_S2048x1024) bitsLt_bf16_f32)) bitsLt_bf16_f32

theorem ref0_at (a0 : FVec Ideal S8192x1024 .bf16) (a1 : FVec Ideal S1x2048x1024 .bf16) (r : Fin 8192) (i : Fin 2048) :
    ref0 a0 a1 (ix2 r i) = ∑ k : Fin 1024, a0 (ix2 r k) * a1 (ix3 0 i k) := by
  pointwise [ref0]

end Cert.Reference10Ideal.DgradAout

namespace Cert.Kernel10Ideal.DgradAout
open Cert.Kernel10Ideal Cert.Kernel10Ideal.Gen
open Cert.Reference10Ideal.DgradAout (ref0 ref0_at)

/-- A block's product. -/
theorem block_at (x0 : Vec Ideal S1024x1024 .bf16) (x1 : Vec Ideal S1x1024x1024 .bf16) (r i : Fin 1024) :
    k0_pay1 (F := Ideal) x0 x1 (ix2 r i) = ∑ k : Fin 1024, x0 (ix2 r k) * x1 (ix3 0 i k) := by
  pointwise [k0_pay1]

variable (m : (ℓ : Loc nD τ sig) → Buf (Elt Ideal) ℓ)

theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

/-- The array the call returns is the activations' gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  unfold out0_2
  frame_out
  idx_vars y
  refine (block_at _ _ y0 y1).trans ?_
  refine Eq.trans ?_ (Eq.symm ((congrArg _ (?_ : _ = ix2 ⟨t.val / 2 * 1024 + y0.val, by omega⟩ ⟨t.val % 2 * 1024 + y1.val, by omega⟩)).trans (ref0_at _ _ _ _)))
  · refine Finset.sum_congr rfl fun k _ => congrArg₂ (· * ·) ?_ ?_
    all_goals blk_ext [iblk, V, idx t]
  · blk_ext [idx t]

end Cert.Kernel10Ideal.DgradAout
-- ==== Proof.Values.DgradAout.lean ====
/- The values of the pair Kernel10, Reference10: every result of the one is the result of the other. -/
module

public import proofs.«01_k».proof.Defs
public import proofs.«01_k».proof.Proof.Gen.Kernel10Ideal.Value
public import proofs.«01_k».proof.Proof.Gen.Reference10Ideal.Run
public import proofs.«01_k».proof.Proof.DgradAout
public import Idealize.ShloMosaic.Lib.Claim

@[expose] public section

noncomputable section

namespace Cert.Proof

open Idealize.ShloMosaic Idealize.SL.Sem

set_option maxHeartbeats 4000000 in
set_option maxRecDepth 16384 in
theorem values10 : Cert.algebraic_Kernel10Ideal_Reference10Ideal (hKernel10Ideal := Cert.Kernel10Ideal.Gen.facts) (hReference10Ideal := Cert.Reference10Ideal.Gen.facts) := by
  pair_intro
  · run_from Cert.Kernel10Ideal.Gen.run_main m g
  · run_from Cert.Reference10Ideal.Value.run m' g'
    · exact (Cert.Kernel10Ideal.DgradAout.final2 m c).symm

end Cert.Proof

end
-- ==== Proof.DgradBout.lean ====
module

public import proofs.«01_k».proof.Proof.Gen.Kernel11Ideal.Frame
public import proofs.«01_k».proof.Proof.Gen.Reference11Ideal.Run
public import Idealize.ShloMosaic.Lib.Pipeline.ValueKit
public import Idealize.ShloMosaic.Lib.Claim

@[expose] public section

set_option maxRecDepth 16384

/-! The gradient of the heads' outputs: the gradient that arrives against the output projection's weight. -/

noncomputable section

open Idealize.ShloMosaic Idealize.ShloMosaic.TcCoe Idealize.SL.Sem
open Idealize.ShloMosaic.Pipeline (Dat)

namespace Cert.Reference11Ideal.DgradBout
open Cert.Reference11Ideal Cert.Reference11Ideal.Gen

def ref0 (a0 : FVec Ideal S8192x1024 .bf16) (a1 : FVec Ideal S1x1024x1024 .bf16) : FVec Ideal S8192x1024 .bf16 :=
  truncf .bf16 (Host.dotGeneral dot_S8192x1024_S1024x1024_S8192x1024_1_1_0_0_n_n none (extf .f32 a0 bitsLt_bf16_f32) (extf .f32 (shapeCast _ a1 shapeCasts_S1x1024x1024_S1024x1024) bitsLt_bf16_f32)) bitsLt_bf16_f32

theorem ref0_at (a0 : FVec Ideal S8192x1024 .bf16) (a1 : FVec Ideal S1x1024x1024 .bf16) (r : Fin 8192) (i : Fin 1024) :
    ref0 a0 a1 (ix2 r i) = ∑ k : Fin 1024, a0 (ix2 r k) * a1 (ix3 0 i k) := by
  pointwise [ref0]

end Cert.Reference11Ideal.DgradBout

namespace Cert.Kernel11Ideal.DgradBout
open Cert.Kernel11Ideal Cert.Kernel11Ideal.Gen
open Cert.Reference11Ideal.DgradBout (ref0 ref0_at)

/-- A block's product. -/
theorem block_at (x0 : Vec Ideal S1024x1024 .bf16) (x1 : Vec Ideal S1x1024x1024 .bf16) (r i : Fin 1024) :
    k0_pay1 (F := Ideal) x0 x1 (ix2 r i) = ∑ k : Fin 1024, x0 (ix2 r k) * x1 (ix3 0 i k) := by
  pointwise [k0_pay1]

variable (m : (ℓ : Loc nD τ sig) → Buf (Elt Ideal) ℓ)

theorem idx : ∀ t : Fin cfg0.N, win0_0.index t = ![t.val, 0] ∧ win0_1.index t = ![0, 0, 0] ∧ win0_2.index t = ![t.val, 0] :=
  (by decide +kernel : ∀ t : Fin grid0.N, _)

/-- The array the call returns is the activations' gradient. -/
theorem final2 (c : Dev nD) : (dats m 0 c).arrAt 2 (cfgs 0).N
    = ref0 (m ((c : Thread nD τ).loc main_arg0)) (m ((c : Thread nD τ).loc main_arg1)) := by
  refine (dats m 0 c).arrAt_eq_of_covers 2 _ (by decide +kernel) fun t hf y => ?_
  have hN : t.val < 8 := t.isLt
  blk_simp
  rw [after0_2]
  unfold out0_2
  frame_out
  idx_vars y
  refine (block_at _ _ y0 y1).trans ?_
  refine Eq.trans ?_ (Eq.symm ((congrArg _ (?_ : _ = ix2 ⟨t.val * 1024 + y0.val, by omega⟩ y1)).trans (ref0_at _ _ _ _)))
  · refine Finset.sum_congr rfl fun k _ => congrArg₂ (· * ·) ?_ ?_
    all_goals blk_ext [iblk, V, idx t]
  · blk_ext [idx t]

end Cert.Kernel11Ideal.DgradBout
-- ==== Proof.Values.DgradBout.lean ====
/- The values of the pair Kernel11, Reference11: every result of the one is the result of the other. -/
module

public import proofs.«01_k».proof.Defs
public import proofs.«01_k».proof.Proof.Gen.Kernel11Ideal.Value
public import proofs.«01_k».proof.Proof.Gen.Reference11Ideal.Run
public import proofs.«01_k».proof.Proof.DgradBout
public import Idealize.ShloMosaic.Lib.Claim

@[expose] public section

noncomputable section

namespace Cert.Proof

open Idealize.ShloMosaic Idealize.SL.Sem

set_option maxHeartbeats 4000000 in
set_option maxRecDepth 16384 in
theorem values11 : Cert.algebraic_Kernel11Ideal_Reference11Ideal (hKernel11Ideal := Cert.Kernel11Ideal.Gen.facts) (hReference11Ideal := Cert.Reference11Ideal.Gen.facts) := by
  pair_intro
  · run_from Cert.Kernel11Ideal.Gen.run_main m g
  · run_from Cert.Reference11Ideal.Value.run m' g'
    · exact (Cert.Kernel11Ideal.DgradBout.final2 m c).symm

end Cert.Proof

end
-- ==== Proof.Adam.lean ====
module

public import Idealize.ShloMosaic.Lib.Pipeline.ValueKit

@[expose] public section

set_option maxRecDepth 16384

/-! The AdamW step of one weight entry, with the constants of the optimiser as the float words that the program holds. -/

noncomputable section

open Idealize.ShloMosaic Idealize.ShloMosaic.TcCoe Idealize.SL.Sem
open Idealize.ShloMosaic.Pipeline (Dat)

namespace Cert.Adam

/-- The new first moment. -/
def first (g m : EReal) : EReal := Ideal.ofBits .f32 0x3F666666#32 * m + Ideal.ofBits .f32 0x3DCCCCCD#32 * g

/-- The new second moment. -/
def second (g v : EReal) : EReal := Ideal.ofBits .f32 0x3F7FBE77#32 * v + Ideal.ofBits .f32 0x3A83126F#32 * (g * g)

/-- The change of the weight. -/
def change (w g m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

end Cert.Adam
-- ==== Proof.AdamNorm.lean ====
module

public import proofs.«01_k».proof.Proof.Gen.Kernel12Ideal.Frame
public import proofs.«01_k».proof.Proof.Gen.Reference12Ideal.Run
public import proofs.«01_k».proof.Proof.Adam
public import Idealize.ShloMosaic.Lib.Pipeline.ValueKit
public import Idealize.ShloMosaic.Lib.Claim

@[expose] public section

set_option maxRecDepth 16384

/-! The AdamW step of the gains of the norms: every entry of the call's arrays is the step of that entry. -/

noncomputable section

open Idealize.ShloMosaic Idealize.ShloMosaic.TcCoe Idealize.SL.Sem
open Idealize.ShloMosaic.Pipeline (Dat)

namespace Cert.Reference12Ideal.AdamNorm
open Cert.Reference12Ideal Cert.Reference12Ideal.Gen

def ref0 (a0 : FVec Ideal S1x4x1024 .f32) (a1 : FVec Ideal S1x4x1024 .f32) (a2 : FVec Ideal S1x4x1024 .f32) (a3 : FVec Ideal S1x4x1024 .f32) : FVec Ideal S1x4x1024 .f32 :=
  mulf (broadcastInDim S1x4x1024 ![] bcast_S_S1x4x1024 (constant S_ .f32 0xBA83126F#32)) (addf (Host.divf (Host.divf (addf (mulf (broadcastInDim S1x4x1024 ![] bcast_S_S1x4x1024 (constant S_ .f32 0x3F666666#32)) a2) (mulf (broadcastInDim S1x4x1024 ![] bcast_S_S1x4x1024 (constant S_ .f32 0x3DCCCCCD#32)) a1)) (broadcastInDim S1x4x1024 ![] bcast_S_S1x4x1024 (constant S_ .f32 0x3F26BD02#32))) (addf (Host.sqrt (Host.divf (addf (mulf (broadcastInDim S1x4x1024 ![] bcast_S_S1x4x1024 (constant S_ .f32 0x3F7FBE77#32)) a3) (mulf (broadcastInDim S1x4x1024 ![] bcast_S_S1x4x1024 (constant S_ .f32 0x3A83126F#32)) (mulf a1 a1))) (broadcastInDim S1x4x1024 ![] bcast_S_S1x4x1024 (constant S_ .f32 0x3C231ACC#32)))) (broadcastInDim S1x4x1024 ![] bcast_S_S1x4x1024 (constant S_ .f32 0x322BCC77#32)))) (mulf (broadcastInDim S1x4x1024 ![] bcast_S_S1x4x1024 (constant S_ .f32 0x3C23D70A#32)) a0))

def ref1 (a1 : FVec Ideal S1x4x1024 .f32) (a2 : FVec Ideal S1x4x1024 .f32) : FVec Ideal S1x4x1024 .f32 :=
  addf (mulf (broadcastInDim S1x4x1024 ![] bcast_S_S1x4x1024 (constant S_ .f32 0x3F666666#32)) a2) (mulf (broadcastInDim S1x4x1024 ![] bcast_S_S1x4x1024 (constant S_ .f32 0x3DCCCCCD#32)) a1)

def ref2 (a1 : FVec Ideal S1x4x1024 .f32) (a3 : FVec Ideal S1x4x1024 .f32) : FVec Ideal S1x4x1024 .f32 :=
  addf (mulf (broadcastInDim S1x4x1024 ![] bcast_S_S1x4x1024 (constant S_ .f32 0x3F7FBE77#32)) a3) (mulf (broadcastInDim S1x4x1024 ![] bcast_S_S1x4x1024 (constant S_ .f32 0x3A83126F#32)) (mulf a1 a1))

theorem ref0_at (a0 a1 a2 a3 : FVec Ideal S1x4x1024 .f32) (j : S1x4x1024.Idx) :
    ref0 a0 a1 a2 a3 j = Adam.change (a0 j) (a1 j) (a2 j) (a3 j) := by
  pointwise [ref0, Adam.change, Adam.first, Adam.second]

theorem ref1_at (a1 a2 : FVec Ideal S1x4x1024 .f32) (j : S1x4x1024.Idx) : ref1 a1 a2 j = Adam.first (a1 j) (a2 j) := by
  pointwise [ref1, Adam.first]

theorem ref2_at (a1 a3 : FVec Ideal S1x4x1024 .f32) (j : S1x4x1024.Idx) : ref2 a1 a3 j = Adam.second (a1 j) (a3 j) := by
  pointwise [ref2, Adam.second]

end Cert.Reference12Ideal.AdamNorm

namespace Cert.Kernel12Ideal.AdamNorm
open Cert.Kernel12Ideal Cert.Kernel12Ideal.Gen
open Cert.Reference12Ideal.AdamNorm (ref0 ref1 ref2 ref0_at ref1_at ref2_at)

variable (x0 x1 x2 x3 : Vec Ideal S1x4x1024 .f32) (z : Fin 1) (r : Fin 4) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 1 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 1 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 1 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 1 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel12Ideal.AdamNorm
-- ==== Proof.Values.AdamNorm.lean ====
/- The values of the pair Kernel12, Reference12: every result of the one is the result of the other. -/
module

public import proofs.«01_k».proof.Defs
public import proofs.«01_k».proof.Proof.Gen.Kernel12Ideal.Value
public import proofs.«01_k».proof.Proof.Gen.Reference12Ideal.Run
public import proofs.«01_k».proof.Proof.AdamNorm
public import Idealize.ShloMosaic.Lib.Claim

@[expose] public section

noncomputable section

namespace Cert.Proof

open Idealize.ShloMosaic Idealize.SL.Sem

set_option maxHeartbeats 4000000 in
set_option maxRecDepth 16384 in
theorem values12 : Cert.algebraic_Kernel12Ideal_Reference12Ideal (hKernel12Ideal := Cert.Kernel12Ideal.Gen.facts) (hReference12Ideal := Cert.Reference12Ideal.Gen.facts) := by
  pair_intro
  · run_from Cert.Kernel12Ideal.Gen.run_main m g
  · run_from Cert.Reference12Ideal.Value.run m' g'
    · exact (Cert.Kernel12Ideal.AdamNorm.final4 m c).symm
    · exact (Cert.Kernel12Ideal.AdamNorm.final5 m c).symm
    · exact (Cert.Kernel12Ideal.AdamNorm.final6 m c).symm
    · exact (Cert.Kernel12Ideal.AdamNorm.final7 m c).symm

end Cert.Proof

end
-- ==== Proof.AdamFinal.lean ====
module

public import proofs.«01_k».proof.Proof.Gen.Kernel13Ideal.Frame
public import proofs.«01_k».proof.Proof.Gen.Reference13Ideal.Run
public import proofs.«01_k».proof.Proof.Adam
public import Idealize.ShloMosaic.Lib.Pipeline.ValueKit
public import Idealize.ShloMosaic.Lib.Claim

@[expose] public section

set_option maxRecDepth 16384

/-! The AdamW step of the last gain: every entry of the call's arrays is the step of that entry. -/

noncomputable section

open Idealize.ShloMosaic Idealize.ShloMosaic.TcCoe Idealize.SL.Sem
open Idealize.ShloMosaic.Pipeline (Dat)

namespace Cert.Reference13Ideal.AdamFinal
open Cert.Reference13Ideal Cert.Reference13Ideal.Gen

def ref0 (a0 : FVec Ideal S1x1x1024 .f32) (a1 : FVec Ideal S1x1x1024 .f32) (a2 : FVec Ideal S1x1x1024 .f32) (a3 : FVec Ideal S1x1x1024 .f32) : FVec Ideal S1x1x1024 .f32 :=
  mulf (broadcastInDim S1x1x1024 ![] bcast_S_S1x1x1024 (constant S_ .f32 0xBA83126F#32)) (addf (Host.divf (Host.divf (addf (mulf (broadcastInDim S1x1x1024 ![] bcast_S_S1x1x1024 (constant S_ .f32 0x3F666666#32)) a2) (mulf (broadcastInDim S1x1x1024 ![] bcast_S_S1x1x1024 (constant S_ .f32 0x3DCCCCCD#32)) a1)) (broadcastInDim S1x1x1024 ![] bcast_S_S1x1x1024 (constant S_ .f32 0x3F26BD02#32))) (addf (Host.sqrt (Host.divf (addf (mulf (broadcastInDim S1x1x1024 ![] bcast_S_S1x1x1024 (constant S_ .f32 0x3F7FBE77#32)) a3) (mulf (broadcastInDim S1x1x1024 ![] bcast_S_S1x1x1024 (constant S_ .f32 0x3A83126F#32)) (mulf a1 a1))) (broadcastInDim S1x1x1024 ![] bcast_S_S1x1x1024 (constant S_ .f32 0x3C231ACC#32)))) (broadcastInDim S1x1x1024 ![] bcast_S_S1x1x1024 (constant S_ .f32 0x322BCC77#32)))) (mulf (broadcastInDim S1x1x1024 ![] bcast_S_S1x1x1024 (constant S_ .f32 0x3C23D70A#32)) a0))

def ref1 (a1 : FVec Ideal S1x1x1024 .f32) (a2 : FVec Ideal S1x1x1024 .f32) : FVec Ideal S1x1x1024 .f32 :=
  addf (mulf (broadcastInDim S1x1x1024 ![] bcast_S_S1x1x1024 (constant S_ .f32 0x3F666666#32)) a2) (mulf (broadcastInDim S1x1x1024 ![] bcast_S_S1x1x1024 (constant S_ .f32 0x3DCCCCCD#32)) a1)

def ref2 (a1 : FVec Ideal S1x1x1024 .f32) (a3 : FVec Ideal S1x1x1024 .f32) : FVec Ideal S1x1x1024 .f32 :=
  addf (mulf (broadcastInDim S1x1x1024 ![] bcast_S_S1x1x1024 (constant S_ .f32 0x3F7FBE77#32)) a3) (mulf (broadcastInDim S1x1x1024 ![] bcast_S_S1x1x1024 (constant S_ .f32 0x3A83126F#32)) (mulf a1 a1))

theorem ref0_at (a0 a1 a2 a3 : FVec Ideal S1x1x1024 .f32) (j : S1x1x1024.Idx) :
    ref0 a0 a1 a2 a3 j = Adam.change (a0 j) (a1 j) (a2 j) (a3 j) := by
  pointwise [ref0, Adam.change, Adam.first, Adam.second]

theorem ref1_at (a1 a2 : FVec Ideal S1x1x1024 .f32) (j : S1x1x1024.Idx) : ref1 a1 a2 j = Adam.first (a1 j) (a2 j) := by
  pointwise [ref1, Adam.first]

theorem ref2_at (a1 a3 : FVec Ideal S1x1x1024 .f32) (j : S1x1x1024.Idx) : ref2 a1 a3 j = Adam.second (a1 j) (a3 j) := by
  pointwise [ref2, Adam.second]

end Cert.Reference13Ideal.AdamFinal

namespace Cert.Kernel13Ideal.AdamFinal
open Cert.Kernel13Ideal Cert.Kernel13Ideal.Gen
open Cert.Reference13Ideal.AdamFinal (ref0 ref1 ref2 ref0_at ref1_at ref2_at)

variable (x0 x1 x2 x3 : Vec Ideal S1x1x1024 .f32) (z : Fin 1) (r : Fin 1) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 0 i)) (x1 (ix3 0 0 i)) (x2 (ix3 0 0 i)) (x3 (ix3 0 0 i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 0 i)) (x2 (ix3 0 0 i)) := by
  pointwise [k0_pay2, k0_pay6, k0_pay4, Adam.first]

theorem second_at : k0_pay3 (k0_pay7 (F := Ideal) x1 x3) (ix3 z r i) = Adam.second (x1 (ix3 0 0 i)) (x3 (ix3 0 0 i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 1 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 1 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 1 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 1 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel13Ideal.AdamFinal
-- ==== Proof.Values.AdamFinal.lean ====
/- The values of the pair Kernel13, Reference13: every result of the one is the result of the other. -/
module

public import proofs.«01_k».proof.Defs
public import proofs.«01_k».proof.Proof.Gen.Kernel13Ideal.Value
public import proofs.«01_k».proof.Proof.Gen.Reference13Ideal.Run
public import proofs.«01_k».proof.Proof.AdamFinal
public import Idealize.ShloMosaic.Lib.Claim

@[expose] public section

noncomputable section

namespace Cert.Proof

open Idealize.ShloMosaic Idealize.SL.Sem

set_option maxHeartbeats 4000000 in
set_option maxRecDepth 16384 in
theorem values13 : Cert.algebraic_Kernel13Ideal_Reference13Ideal (hKernel13Ideal := Cert.Kernel13Ideal.Gen.facts) (hReference13Ideal := Cert.Reference13Ideal.Gen.facts) := by
  pair_intro
  · run_from Cert.Kernel13Ideal.Gen.run_main m g
  · run_from Cert.Reference13Ideal.Value.run m' g'
    · exact (Cert.Kernel13Ideal.AdamFinal.final4 m c).symm
    · exact (Cert.Kernel13Ideal.AdamFinal.final5 m c).symm
    · exact (Cert.Kernel13Ideal.AdamFinal.final6 m c).symm
    · exact (Cert.Kernel13Ideal.AdamFinal.final7 m c).symm

end Cert.Proof

end
-- ==== Proof.AdamIn.lean ====
module

public import proofs.«01_k».proof.Proof.Gen.Kernel14Ideal.Frame
public import proofs.«01_k».proof.Proof.Gen.Reference14Ideal.Run
public import proofs.«01_k».proof.Proof.Adam
public import Idealize.ShloMosaic.Lib.Pipeline.ValueKit
public import Idealize.ShloMosaic.Lib.Claim

@[expose] public section

set_option maxRecDepth 16384

/-! The AdamW step of the gMLP input projection: every entry of the call's arrays is the step of that entry. -/

noncomputable section

open Idealize.ShloMosaic Idealize.ShloMosaic.TcCoe Idealize.SL.Sem
open Idealize.ShloMosaic.Pipeline (Dat)

namespace Cert.Reference14Ideal.AdamIn
open Cert.Reference14Ideal Cert.Reference14Ideal.Gen

def ref0 (a0 : FVec Ideal S2x1024x1024 .f32) (a1 : FVec Ideal S2x1024x1024 .f32) (a2 : FVec Ideal S2x1024x1024 .f32) (a3 : FVec Ideal S2x1024x1024 .f32) : FVec Ideal S2x1024x1024 .f32 :=
  mulf (broadcastInDim S2x1024x1024 ![] bcast_S_S2x1024x1024 (constant S_ .f32 0xBA83126F#32)) (addf (Host.divf (Host.divf (addf (mulf (broadcastInDim S2x1024x1024 ![] bcast_S_S2x1024x1024 (constant S_ .f32 0x3F666666#32)) a2) (mulf (broadcastInDim S2x1024x1024 ![] bcast_S_S2x1024x1024 (constant S_ .f32 0x3DCCCCCD#32)) a1)) (broadcastInDim S2x1024x1024 ![] bcast_S_S2x1024x1024 (constant S_ .f32 0x3F26BD02#32))) (addf (Host.sqrt (Host.divf (addf (mulf (broadcastInDim S2x1024x1024 ![] bcast_S_S2x1024x1024 (constant S_ .f32 0x3F7FBE77#32)) a3) (mulf (broadcastInDim S2x1024x1024 ![] bcast_S_S2x1024x1024 (constant S_ .f32 0x3A83126F#32)) (mulf a1 a1))) (broadcastInDim S2x1024x1024 ![] bcast_S_S2x1024x1024 (constant S_ .f32 0x3C231ACC#32)))) (broadcastInDim S2x1024x1024 ![] bcast_S_S2x1024x1024 (constant S_ .f32 0x322BCC77#32)))) (mulf (broadcastInDim S2x1024x1024 ![] bcast_S_S2x1024x1024 (constant S_ .f32 0x3C23D70A#32)) a0))

def ref1 (a1 : FVec Ideal S2x1024x1024 .f32) (a2 : FVec Ideal S2x1024x1024 .f32) : FVec Ideal S2x1024x1024 .f32 :=
  addf (mulf (broadcastInDim S2x1024x1024 ![] bcast_S_S2x1024x1024 (constant S_ .f32 0x3F666666#32)) a2) (mulf (broadcastInDim S2x1024x1024 ![] bcast_S_S2x1024x1024 (constant S_ .f32 0x3DCCCCCD#32)) a1)

def ref2 (a1 : FVec Ideal S2x1024x1024 .f32) (a3 : FVec Ideal S2x1024x1024 .f32) : FVec Ideal S2x1024x1024 .f32 :=
  addf (mulf (broadcastInDim S2x1024x1024 ![] bcast_S_S2x1024x1024 (constant S_ .f32 0x3F7FBE77#32)) a3) (mulf (broadcastInDim S2x1024x1024 ![] bcast_S_S2x1024x1024 (constant S_ .f32 0x3A83126F#32)) (mulf a1 a1))

theorem ref0_at (a0 a1 a2 a3 : FVec Ideal S2x1024x1024 .f32) (j : S2x1024x1024.Idx) :
    ref0 a0 a1 a2 a3 j = Adam.change (a0 j) (a1 j) (a2 j) (a3 j) := by
  pointwise [ref0, Adam.change, Adam.first, Adam.second]

theorem ref1_at (a1 a2 : FVec Ideal S2x1024x1024 .f32) (j : S2x1024x1024.Idx) : ref1 a1 a2 j = Adam.first (a1 j) (a2 j) := by
  pointwise [ref1, Adam.first]

theorem ref2_at (a1 a3 : FVec Ideal S2x1024x1024 .f32) (j : S2x1024x1024.Idx) : ref2 a1 a3 j = Adam.second (a1 j) (a3 j) := by
  pointwise [ref2, Adam.second]

end Cert.Reference14Ideal.AdamIn

namespace Cert.Kernel14Ideal.AdamIn
open Cert.Kernel14Ideal Cert.Kernel14Ideal.Gen
open Cert.Reference14Ideal.AdamIn (ref0 ref1 ref2 ref0_at ref1_at ref2_at)

variable (x0 x1 x2 x3 : Vec Ideal S1x256x1024 .f32) (z : Fin 1) (r : Fin 256) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 8 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 8 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 8 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel14Ideal.AdamIn
-- ==== Proof.Values.AdamIn.lean ====
/- The values of the pair Kernel14, Reference14: every result of the one is the result of the other. -/
module

public import proofs.«01_k».proof.Defs
public import proofs.«01_k».proof.Proof.Gen.Kernel14Ideal.Value
public import proofs.«01_k».proof.Proof.Gen.Reference14Ideal.Run
public import proofs.«01_k».proof.Proof.AdamIn
public import Idealize.ShloMosaic.Lib.Claim

@[expose] public section

noncomputable section

namespace Cert.Proof

open Idealize.ShloMosaic Idealize.SL.Sem

set_option maxHeartbeats 4000000 in
set_option maxRecDepth 16384 in
theorem values14 : Cert.algebraic_Kernel14Ideal_Reference14Ideal (hKernel14Ideal := Cert.Kernel14Ideal.Gen.facts) (hReference14Ideal := Cert.Reference14Ideal.Gen.facts) := by
  pair_intro
  · run_from Cert.Kernel14Ideal.Gen.run_main m g
  · run_from Cert.Reference14Ideal.Value.run m' g'
    · exact (Cert.Kernel14Ideal.AdamIn.final4 m c).symm
    · exact (Cert.Kernel14Ideal.AdamIn.final5 m c).symm
    · exact (Cert.Kernel14Ideal.AdamIn.final6 m c).symm
    · exact (Cert.Kernel14Ideal.AdamIn.final7 m c).symm

end Cert.Proof

end
-- ==== Proof.AdamQkv.lean ====
module

public import proofs.«01_k».proof.Proof.Gen.Kernel15Ideal.Frame
public import proofs.«01_k».proof.Proof.Gen.Reference15Ideal.Run
public import proofs.«01_k».proof.Proof.Adam
public import Idealize.ShloMosaic.Lib.Pipeline.ValueKit
public import Idealize.ShloMosaic.Lib.Claim

@[expose] public section

set_option maxRecDepth 16384

/-! The AdamW step of the attention's joint projection: every entry of the call's arrays is the step of that entry. -/

noncomputable section

open Idealize.ShloMosaic Idealize.ShloMosaic.TcCoe Idealize.SL.Sem
open Idealize.ShloMosaic.Pipeline (Dat)

namespace Cert.Reference15Ideal.AdamQkv
open Cert.Reference15Ideal Cert.Reference15Ideal.Gen

def ref0 (a0 : FVec Ideal S2x1024x768 .f32) (a1 : FVec Ideal S2x1024x768 .f32) (a2 : FVec Ideal S2x1024x768 .f32) (a3 : FVec Ideal S2x1024x768 .f32) : FVec Ideal S2x1024x768 .f32 :=
  mulf (broadcastInDim S2x1024x768 ![] bcast_S_S2x1024x768 (constant S_ .f32 0xBA83126F#32)) (addf (Host.divf (Host.divf (addf (mulf (broadcastInDim S2x1024x768 ![] bcast_S_S2x1024x768 (constant S_ .f32 0x3F666666#32)) a2) (mulf (broadcastInDim S2x1024x768 ![] bcast_S_S2x1024x768 (constant S_ .f32 0x3DCCCCCD#32)) a1)) (broadcastInDim S2x1024x768 ![] bcast_S_S2x1024x768 (constant S_ .f32 0x3F26BD02#32))) (addf (Host.sqrt (Host.divf (addf (mulf (broadcastInDim S2x1024x768 ![] bcast_S_S2x1024x768 (constant S_ .f32 0x3F7FBE77#32)) a3) (mulf (broadcastInDim S2x1024x768 ![] bcast_S_S2x1024x768 (constant S_ .f32 0x3A83126F#32)) (mulf a1 a1))) (broadcastInDim S2x1024x768 ![] bcast_S_S2x1024x768 (constant S_ .f32 0x3C231ACC#32)))) (broadcastInDim S2x1024x768 ![] bcast_S_S2x1024x768 (constant S_ .f32 0x322BCC77#32)))) (mulf (broadcastInDim S2x1024x768 ![] bcast_S_S2x1024x768 (constant S_ .f32 0x3C23D70A#32)) a0))

def ref1 (a1 : FVec Ideal S2x1024x768 .f32) (a2 : FVec Ideal S2x1024x768 .f32) : FVec Ideal S2x1024x768 .f32 :=
  addf (mulf (broadcastInDim S2x1024x768 ![] bcast_S_S2x1024x768 (constant S_ .f32 0x3F666666#32)) a2) (mulf (broadcastInDim S2x1024x768 ![] bcast_S_S2x1024x768 (constant S_ .f32 0x3DCCCCCD#32)) a1)

def ref2 (a1 : FVec Ideal S2x1024x768 .f32) (a3 : FVec Ideal S2x1024x768 .f32) : FVec Ideal S2x1024x768 .f32 :=
  addf (mulf (broadcastInDim S2x1024x768 ![] bcast_S_S2x1024x768 (constant S_ .f32 0x3F7FBE77#32)) a3) (mulf (broadcastInDim S2x1024x768 ![] bcast_S_S2x1024x768 (constant S_ .f32 0x3A83126F#32)) (mulf a1 a1))

theorem ref0_at (a0 a1 a2 a3 : FVec Ideal S2x1024x768 .f32) (j : S2x1024x768.Idx) :
    ref0 a0 a1 a2 a3 j = Adam.change (a0 j) (a1 j) (a2 j) (a3 j) := by
  pointwise [ref0, Adam.change, Adam.first, Adam.second]

theorem ref1_at (a1 a2 : FVec Ideal S2x1024x768 .f32) (j : S2x1024x768.Idx) : ref1 a1 a2 j = Adam.first (a1 j) (a2 j) := by
  pointwise [ref1, Adam.first]

theorem ref2_at (a1 a3 : FVec Ideal S2x1024x768 .f32) (j : S2x1024x768.Idx) : ref2 a1 a3 j = Adam.second (a1 j) (a3 j) := by
  pointwise [ref2, Adam.second]

end Cert.Reference15Ideal.AdamQkv

namespace Cert.Kernel15Ideal.AdamQkv
open Cert.Kernel15Ideal Cert.Kernel15Ideal.Gen
open Cert.Reference15Ideal.AdamQkv (ref0 ref1 ref2 ref0_at ref1_at ref2_at)

variable (x0 x1 x2 x3 : Vec Ideal S1x256x768 .f32) (z : Fin 1) (r : Fin 256) (i : Fin 768)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 8 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 8 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 8 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel15Ideal.AdamQkv
-- ==== Proof.Values.AdamQkv.lean ====
/- The values of the pair Kernel15, Reference15: every result of the one is the result of the other. -/
module

public import proofs.«01_k».proof.Defs
public import proofs.«01_k».proof.Proof.Gen.Kernel15Ideal.Value
public import proofs.«01_k».proof.Proof.Gen.Reference15Ideal.Run
public import proofs.«01_k».proof.Proof.AdamQkv
public import Idealize.ShloMosaic.Lib.Claim

@[expose] public section

noncomputable section

namespace Cert.Proof

open Idealize.ShloMosaic Idealize.SL.Sem

set_option maxHeartbeats 4000000 in
set_option maxRecDepth 16384 in
theorem values15 : Cert.algebraic_Kernel15Ideal_Reference15Ideal (hKernel15Ideal := Cert.Kernel15Ideal.Gen.facts) (hReference15Ideal := Cert.Reference15Ideal.Gen.facts) := by
  pair_intro
  · run_from Cert.Kernel15Ideal.Gen.run_main m g
  · run_from Cert.Reference15Ideal.Value.run m' g'
    · exact (Cert.Kernel15Ideal.AdamQkv.final4 m c).symm
    · exact (Cert.Kernel15Ideal.AdamQkv.final5 m c).symm
    · exact (Cert.Kernel15Ideal.AdamQkv.final6 m c).symm
    · exact (Cert.Kernel15Ideal.AdamQkv.final7 m c).symm

end Cert.Proof

end
-- ==== Proof.AdamAout.lean ====
module

public import proofs.«01_k».proof.Proof.Gen.Kernel16Ideal.Frame
public import proofs.«01_k».proof.Proof.Gen.Reference16Ideal.Run
public import proofs.«01_k».proof.Proof.Adam
public import Idealize.ShloMosaic.Lib.Pipeline.ValueKit
public import Idealize.ShloMosaic.Lib.Claim

@[expose] public section

set_option maxRecDepth 16384

/-! The AdamW step of the gMLP's output projection: every entry of the call's arrays is the step of that entry. -/

noncomputable section

open Idealize.ShloMosaic Idealize.ShloMosaic.TcCoe Idealize.SL.Sem
open Idealize.ShloMosaic.Pipeline (Dat)

namespace Cert.Reference16Ideal.AdamAout
open Cert.Reference16Ideal Cert.Reference16Ideal.Gen

def ref0 (a0 : FVec Ideal S2x512x1024 .f32) (a1 : FVec Ideal S2x512x1024 .f32) (a2 : FVec Ideal S2x512x1024 .f32) (a3 : FVec Ideal S2x512x1024 .f32) : FVec Ideal S2x512x1024 .f32 :=
  mulf (broadcastInDim S2x512x1024 ![] bcast_S_S2x512x1024 (constant S_ .f32 0xBA83126F#32)) (addf (Host.divf (Host.divf (addf (mulf (broadcastInDim S2x512x1024 ![] bcast_S_S2x512x1024 (constant S_ .f32 0x3F666666#32)) a2) (mulf (broadcastInDim S2x512x1024 ![] bcast_S_S2x512x1024 (constant S_ .f32 0x3DCCCCCD#32)) a1)) (broadcastInDim S2x512x1024 ![] bcast_S_S2x512x1024 (constant S_ .f32 0x3F26BD02#32))) (addf (Host.sqrt (Host.divf (addf (mulf (broadcastInDim S2x512x1024 ![] bcast_S_S2x512x1024 (constant S_ .f32 0x3F7FBE77#32)) a3) (mulf (broadcastInDim S2x512x1024 ![] bcast_S_S2x512x1024 (constant S_ .f32 0x3A83126F#32)) (mulf a1 a1))) (broadcastInDim S2x512x1024 ![] bcast_S_S2x512x1024 (constant S_ .f32 0x3C231ACC#32)))) (broadcastInDim S2x512x1024 ![] bcast_S_S2x512x1024 (constant S_ .f32 0x322BCC77#32)))) (mulf (broadcastInDim S2x512x1024 ![] bcast_S_S2x512x1024 (constant S_ .f32 0x3C23D70A#32)) a0))

def ref1 (a1 : FVec Ideal S2x512x1024 .f32) (a2 : FVec Ideal S2x512x1024 .f32) : FVec Ideal S2x512x1024 .f32 :=
  addf (mulf (broadcastInDim S2x512x1024 ![] bcast_S_S2x512x1024 (constant S_ .f32 0x3F666666#32)) a2) (mulf (broadcastInDim S2x512x1024 ![] bcast_S_S2x512x1024 (constant S_ .f32 0x3DCCCCCD#32)) a1)

def ref2 (a1 : FVec Ideal S2x512x1024 .f32) (a3 : FVec Ideal S2x512x1024 .f32) : FVec Ideal S2x512x1024 .f32 :=
  addf (mulf (broadcastInDim S2x512x1024 ![] bcast_S_S2x512x1024 (constant S_ .f32 0x3F7FBE77#32)) a3) (mulf (broadcastInDim S2x512x1024 ![] bcast_S_S2x512x1024 (constant S_ .f32 0x3A83126F#32)) (mulf a1 a1))

theorem ref0_at (a0 a1 a2 a3 : FVec Ideal S2x512x1024 .f32) (j : S2x512x1024.Idx) :
    ref0 a0 a1 a2 a3 j = Adam.change (a0 j) (a1 j) (a2 j) (a3 j) := by
  pointwise [ref0, Adam.change, Adam.first, Adam.second]

theorem ref1_at (a1 a2 : FVec Ideal S2x512x1024 .f32) (j : S2x512x1024.Idx) : ref1 a1 a2 j = Adam.first (a1 j) (a2 j) := by
  pointwise [ref1, Adam.first]

theorem ref2_at (a1 a3 : FVec Ideal S2x512x1024 .f32) (j : S2x512x1024.Idx) : ref2 a1 a3 j = Adam.second (a1 j) (a3 j) := by
  pointwise [ref2, Adam.second]

end Cert.Reference16Ideal.AdamAout

namespace Cert.Kernel16Ideal.AdamAout
open Cert.Kernel16Ideal Cert.Kernel16Ideal.Gen
open Cert.Reference16Ideal.AdamAout (ref0 ref1 ref2 ref0_at ref1_at ref2_at)

variable (x0 x1 x2 x3 : Vec Ideal S1x128x1024 .f32) (z : Fin 1) (r : Fin 128) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 8 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 8 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 8 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel16Ideal.AdamAout
-- ==== Proof.Values.AdamAout.lean ====
/- The values of the pair Kernel16, Reference16: every result of the one is the result of the other. -/
module

public import proofs.«01_k».proof.Defs
public import proofs.«01_k».proof.Proof.Gen.Kernel16Ideal.Value
public import proofs.«01_k».proof.Proof.Gen.Reference16Ideal.Run
public import proofs.«01_k».proof.Proof.AdamAout
public import Idealize.ShloMosaic.Lib.Claim

@[expose] public section

noncomputable section

namespace Cert.Proof

open Idealize.ShloMosaic Idealize.SL.Sem

set_option maxHeartbeats 4000000 in
set_option maxRecDepth 16384 in
theorem values16 : Cert.algebraic_Kernel16Ideal_Reference16Ideal (hKernel16Ideal := Cert.Kernel16Ideal.Gen.facts) (hReference16Ideal := Cert.Reference16Ideal.Gen.facts) := by
  pair_intro
  · run_from Cert.Kernel16Ideal.Gen.run_main m g
  · run_from Cert.Reference16Ideal.Value.run m' g'
    · exact (Cert.Kernel16Ideal.AdamAout.final4 m c).symm
    · exact (Cert.Kernel16Ideal.AdamAout.final5 m c).symm
    · exact (Cert.Kernel16Ideal.AdamAout.final6 m c).symm
    · exact (Cert.Kernel16Ideal.AdamAout.final7 m c).symm

end Cert.Proof

end
-- ==== Proof.AdamBout.lean ====
module

public import proofs.«01_k».proof.Proof.Gen.Kernel17Ideal.Frame
public import proofs.«01_k».proof.Proof.Gen.Reference17Ideal.Run
public import proofs.«01_k».proof.Proof.Adam
public import Idealize.ShloMosaic.Lib.Pipeline.ValueKit
public import Idealize.ShloMosaic.Lib.Claim

@[expose] public section

set_option maxRecDepth 16384

/-! The AdamW step of the attention's output projection: every entry of the call's arrays is the step of that entry. -/

noncomputable section

open Idealize.ShloMosaic Idealize.ShloMosaic.TcCoe Idealize.SL.Sem
open Idealize.ShloMosaic.Pipeline (Dat)

namespace Cert.Reference17Ideal.AdamBout
open Cert.Reference17Ideal Cert.Reference17Ideal.Gen

def ref0 (a0 : FVec Ideal S2x256x1024 .f32) (a1 : FVec Ideal S2x256x1024 .f32) (a2 : FVec Ideal S2x256x1024 .f32) (a3 : FVec Ideal S2x256x1024 .f32) : FVec Ideal S2x256x1024 .f32 :=
  mulf (broadcastInDim S2x256x1024 ![] bcast_S_S2x256x1024 (constant S_ .f32 0xBA83126F#32)) (addf (Host.divf (Host.divf (addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)) (broadcastInDim S2x256x1024 ![] bcast_S_S2x256x1024 (constant S_ .f32 0x3F26BD02#32))) (addf (Host.sqrt (Host.divf (addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))) (broadcastInDim S2x256x1024 ![] bcast_S_S2x256x1024 (constant S_ .f32 0x3C231ACC#32)))) (broadcastInDim S2x256x1024 ![] bcast_S_S2x256x1024 (constant S_ .f32 0x322BCC77#32)))) (mulf (broadcastInDim S2x256x1024 ![] bcast_S_S2x256x1024 (constant S_ .f32 0x3C23D70A#32)) a0))

def ref1 (a1 : FVec Ideal S2x256x1024 .f32) (a2 : FVec Ideal S2x256x1024 .f32) : FVec Ideal S2x256x1024 .f32 :=
  addf (mulf (broadcastInDim S2x256x1024 ![] bcast_S_S2x256x1024 (constant S_ .f32 0x3F666666#32)) a2) (mulf (broadcastInDim S2x256x1024 ![] bcast_S_S2x256x1024 (constant S_ .f32 0x3DCCCCCD#32)) a1)

def ref2 (a1 : FVec Ideal S2x256x1024 .f32) (a3 : FVec Ideal S2x256x1024 .f32) : FVec Ideal S2x256x1024 .f32 :=
  addf (mulf (broadcastInDim S2x256x1024 ![] bcast_S_S2x256x1024 (constant S_ .f32 0x3F7FBE77#32)) a3) (mulf (broadcastInDim S2x256x1024 ![] bcast_S_S2x256x1024 (constant S_ .f32 0x3A83126F#32)) (mulf a1 a1))

theorem ref0_at (a0 a1 a2 a3 : FVec Ideal S2x256x1024 .f32) (j : S2x256x1024.Idx) :
    ref0 a0 a1 a2 a3 j = Adam.change (a0 j) (a1 j) (a2 j) (a3 j) := by
  pointwise [ref0, Adam.change, Adam.first, Adam.second]

theorem ref1_at (a1 a2 : FVec Ideal S2x256x1024 .f32) (j : S2x256x1024.Idx) : ref1 a1 a2 j = Adam.first (a1 j) (a2 j) := by
  pointwise [ref1, Adam.first]

theorem ref2_at (a1 a3 : FVec Ideal S2x256x1024 .f32) (j : S2x256x1024.Idx) : ref2 a1 a3 j = Adam.second (a1 j) (a3 j) := by
  pointwise [ref2, Adam.second]

end Cert.Reference17Ideal.AdamBout

namespace Cert.Kernel17Ideal.AdamBout
open Cert.Kernel17Ideal Cert.Kernel17Ideal.Gen
open Cert.Reference17Ideal.AdamBout (ref0 ref1 ref2 ref0_at ref1_at ref2_at)

variable (x0 x1 x2 x3 : Vec Ideal S1x64x1024 .f32) (z : Fin 1) (r : Fin 64) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 8 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 8 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 8 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel17Ideal.AdamBout
-- ==== Proof.Values.AdamBout.lean ====
/- The values of the pair Kernel17, Reference17: every result of the one is the result of the other. -/
module

public import proofs.«01_k».proof.Defs
public import proofs.«01_k».proof.Proof.Gen.Kernel17Ideal.Value
public import proofs.«01_k».proof.Proof.Gen.Reference17Ideal.Run
public import proofs.«01_k».proof.Proof.AdamBout
public import Idealize.ShloMosaic.Lib.Claim

@[expose] public section

noncomputable section

namespace Cert.Proof

open Idealize.ShloMosaic Idealize.SL.Sem

set_option maxHeartbeats 4000000 in
set_option maxRecDepth 16384 in
theorem values17 : Cert.algebraic_Kernel17Ideal_Reference17Ideal (hKernel17Ideal := Cert.Kernel17Ideal.Gen.facts) (hReference17Ideal := Cert.Reference17Ideal.Gen.facts) := by
  pair_intro
  · run_from Cert.Kernel17Ideal.Gen.run_main m g
  · run_from Cert.Reference17Ideal.Value.run m' g'
    · exact (Cert.Kernel17Ideal.AdamBout.final4 m c).symm
    · exact (Cert.Kernel17Ideal.AdamBout.final5 m c).symm
    · exact (Cert.Kernel17Ideal.AdamBout.final6 m c).symm
    · exact (Cert.Kernel17Ideal.AdamBout.final7 m c).symm

end Cert.Proof

end
-- ==== Proof.AdamFfn.lean ====
module

public import proofs.«01_k».proof.Proof.Gen.Kernel18Ideal.Frame
public import proofs.«01_k».proof.Proof.Gen.Reference18Ideal.Run
public import proofs.«01_k».proof.Proof.Adam
public import Idealize.ShloMosaic.Lib.Pipeline.ValueKit
public import Idealize.ShloMosaic.Lib.Claim

@[expose] public section

set_option maxRecDepth 16384

/-! The AdamW step of the feed-forward layer's weights: every entry of the call's arrays is the step of that entry. -/

noncomputable section

open Idealize.ShloMosaic Idealize.ShloMosaic.TcCoe Idealize.SL.Sem
open Idealize.ShloMosaic.Pipeline (Dat)

namespace Cert.Reference18Ideal.AdamFfn
open Cert.Reference18Ideal Cert.Reference18Ideal.Gen

def ref0 (a0 : FVec Ideal S4x704x1024 .f32) (a1 : FVec Ideal S4x704x1024 .f32) (a2 : FVec Ideal S4x704x1024 .f32) (a3 : FVec Ideal S4x704x1024 .f32) : FVec Ideal S4x704x1024 .f32 :=
  mulf (broadcastInDim S4x704x1024 ![] bcast_S_S4x704x1024 (constant S_ .f32 0xBA83126F#32)) (addf (Host.divf (Host.divf (addf (mulf (broadcastInDim S4x704x1024 ![] bcast_S_S4x704x1024 (constant S_ .f32 0x3F666666#32)) a2) (mulf (broadcastInDim S4x704x1024 ![] bcast_S_S4x704x1024 (constant S_ .f32 0x3DCCCCCD#32)) a1)) (broadcastInDim S4x704x1024 ![] bcast_S_S4x704x1024 (constant S_ .f32 0x3F26BD02#32))) (addf (Host.sqrt (Host.divf (addf (mulf (broadcastInDim S4x704x1024 ![] bcast_S_S4x704x1024 (constant S_ .f32 0x3F7FBE77#32)) a3) (mulf (broadcastInDim S4x704x1024 ![] bcast_S_S4x704x1024 (constant S_ .f32 0x3A83126F#32)) (mulf a1 a1))) (broadcastInDim S4x704x1024 ![] bcast_S_S4x704x1024 (constant S_ .f32 0x3C231ACC#32)))) (broadcastInDim S4x704x1024 ![] bcast_S_S4x704x1024 (constant S_ .f32 0x322BCC77#32)))) (mulf (broadcastInDim S4x704x1024 ![] bcast_S_S4x704x1024 (constant S_ .f32 0x3C23D70A#32)) a0))

def ref1 (a1 : FVec Ideal S4x704x1024 .f32) (a2 : FVec Ideal S4x704x1024 .f32) : FVec Ideal S4x704x1024 .f32 :=
  addf (mulf (broadcastInDim S4x704x1024 ![] bcast_S_S4x704x1024 (constant S_ .f32 0x3F666666#32)) a2) (mulf (broadcastInDim S4x704x1024 ![] bcast_S_S4x704x1024 (constant S_ .f32 0x3DCCCCCD#32)) a1)

def ref2 (a1 : FVec Ideal S4x704x1024 .f32) (a3 : FVec Ideal S4x704x1024 .f32) : FVec Ideal S4x704x1024 .f32 :=
  addf (mulf (broadcastInDim S4x704x1024 ![] bcast_S_S4x704x1024 (constant S_ .f32 0x3F7FBE77#32)) a3) (mulf (broadcastInDim S4x704x1024 ![] bcast_S_S4x704x1024 (constant S_ .f32 0x3A83126F#32)) (mulf a1 a1))

theorem ref0_at (a0 a1 a2 a3 : FVec Ideal S4x704x1024 .f32) (j : S4x704x1024.Idx) :
    ref0 a0 a1 a2 a3 j = Adam.change (a0 j) (a1 j) (a2 j) (a3 j) := by
  pointwise [ref0, Adam.change, Adam.first, Adam.second]

theorem ref1_at (a1 a2 : FVec Ideal S4x704x1024 .f32) (j : S4x704x1024.Idx) : ref1 a1 a2 j = Adam.first (a1 j) (a2 j) := by
  pointwise [ref1, Adam.first]

theorem ref2_at (a1 a3 : FVec Ideal S4x704x1024 .f32) (j : S4x704x1024.Idx) : ref2 a1 a3 j = Adam.second (a1 j) (a3 j) := by
  pointwise [ref2, Adam.second]

end Cert.Reference18Ideal.AdamFfn

namespace Cert.Kernel18Ideal.AdamFfn
open Cert.Kernel18Ideal Cert.Kernel18Ideal.Gen
open Cert.Reference18Ideal.AdamFfn (ref0 ref1 ref2 ref0_at ref1_at ref2_at)

variable (x0 x1 x2 x3 : Vec Ideal S1x176x1024 .f32) (z : Fin 1) (r : Fin 176) (i : Fin 1024)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 16 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 16 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 16 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel18Ideal.AdamFfn
-- ==== Proof.Values.AdamFfn.lean ====
/- The values of the pair Kernel18, Reference18: every result of the one is the result of the other. -/
module

public import proofs.«01_k».proof.Defs
public import proofs.«01_k».proof.Proof.Gen.Kernel18Ideal.Value
public import proofs.«01_k».proof.Proof.Gen.Reference18Ideal.Run
public import proofs.«01_k».proof.Proof.AdamFfn
public import Idealize.ShloMosaic.Lib.Claim

@[expose] public section

noncomputable section

namespace Cert.Proof

open Idealize.ShloMosaic Idealize.SL.Sem

set_option maxHeartbeats 4000000 in
set_option maxRecDepth 16384 in
theorem values18 : Cert.algebraic_Kernel18Ideal_Reference18Ideal (hKernel18Ideal := Cert.Kernel18Ideal.Gen.facts) (hReference18Ideal := Cert.Reference18Ideal.Gen.facts) := by
  pair_intro
  · run_from Cert.Kernel18Ideal.Gen.run_main m g
  · run_from Cert.Reference18Ideal.Value.run m' g'
    · exact (Cert.Kernel18Ideal.AdamFfn.final4 m c).symm
    · exact (Cert.Kernel18Ideal.AdamFfn.final5 m c).symm
    · exact (Cert.Kernel18Ideal.AdamFfn.final6 m c).symm
    · exact (Cert.Kernel18Ideal.AdamFfn.final7 m c).symm

end Cert.Proof

end
-- ==== Proof.AdamGain.lean ====
module

public import proofs.«01_k».proof.Proof.Gen.Kernel19Ideal.Frame
public import proofs.«01_k».proof.Proof.Gen.Reference19Ideal.Run
public import proofs.«01_k».proof.Proof.Adam
public import Idealize.ShloMosaic.Lib.Pipeline.ValueKit
public import Idealize.ShloMosaic.Lib.Claim

@[expose] public section

set_option maxRecDepth 16384

/-! The AdamW step of the gate's gain: every entry of the call's arrays is the step of that entry. -/

noncomputable section

open Idealize.ShloMosaic Idealize.ShloMosaic.TcCoe Idealize.SL.Sem
open Idealize.ShloMosaic.Pipeline (Dat)

namespace Cert.Reference19Ideal.AdamGain
open Cert.Reference19Ideal Cert.Reference19Ideal.Gen

def ref0 (a0 : FVec Ideal S1x2x2048 .f32) (a1 : FVec Ideal S1x2x2048 .f32) (a2 : FVec Ideal S1x2x2048 .f32) (a3 : FVec Ideal S1x2x2048 .f32) : FVec Ideal S1x2x2048 .f32 :=
  mulf (broadcastInDim S1x2x2048 ![] bcast_S_S1x2x2048 (constant S_ .f32 0xBA83126F#32)) (addf (Host.divf (Host.divf (addf (mulf (broadcastInDim S1x2x2048 ![] bcast_S_S1x2x2048 (constant S_ .f32 0x3F666666#32)) a2) (mulf (broadcastInDim S1x2x2048 ![] bcast_S_S1x2x2048 (constant S_ .f32 0x3DCCCCCD#32)) a1)) (broadcastInDim S1x2x2048 ![] bcast_S_S1x2x2048 (constant S_ .f32 0x3F26BD02#32))) (addf (Host.sqrt (Host.divf (addf (mulf (broadcastInDim S1x2x2048 ![] bcast_S_S1x2x2048 (constant S_ .f32 0x3F7FBE77#32)) a3) (mulf (broadcastInDim S1x2x2048 ![] bcast_S_S1x2x2048 (constant S_ .f32 0x3A83126F#32)) (mulf a1 a1))) (broadcastInDim S1x2x2048 ![] bcast_S_S1x2x2048 (constant S_ .f32 0x3C231ACC#32)))) (broadcastInDim S1x2x2048 ![] bcast_S_S1x2x2048 (constant S_ .f32 0x322BCC77#32)))) (mulf (broadcastInDim S1x2x2048 ![] bcast_S_S1x2x2048 (constant S_ .f32 0x3C23D70A#32)) a0))

def ref1 (a1 : FVec Ideal S1x2x2048 .f32) (a2 : FVec Ideal S1x2x2048 .f32) : FVec Ideal S1x2x2048 .f32 :=
  addf (mulf (broadcastInDim S1x2x2048 ![] bcast_S_S1x2x2048 (constant S_ .f32 0x3F666666#32)) a2) (mulf (broadcastInDim S1x2x2048 ![] bcast_S_S1x2x2048 (constant S_ .f32 0x3DCCCCCD#32)) a1)

def ref2 (a1 : FVec Ideal S1x2x2048 .f32) (a3 : FVec Ideal S1x2x2048 .f32) : FVec Ideal S1x2x2048 .f32 :=
  addf (mulf (broadcastInDim S1x2x2048 ![] bcast_S_S1x2x2048 (constant S_ .f32 0x3F7FBE77#32)) a3) (mulf (broadcastInDim S1x2x2048 ![] bcast_S_S1x2x2048 (constant S_ .f32 0x3A83126F#32)) (mulf a1 a1))

theorem ref0_at (a0 a1 a2 a3 : FVec Ideal S1x2x2048 .f32) (j : S1x2x2048.Idx) :
    ref0 a0 a1 a2 a3 j = Adam.change (a0 j) (a1 j) (a2 j) (a3 j) := by
  pointwise [ref0, Adam.change, Adam.first, Adam.second]

theorem ref1_at (a1 a2 : FVec Ideal S1x2x2048 .f32) (j : S1x2x2048.Idx) : ref1 a1 a2 j = Adam.first (a1 j) (a2 j) := by
  pointwise [ref1, Adam.first]

theorem ref2_at (a1 a3 : FVec Ideal S1x2x2048 .f32) (j : S1x2x2048.Idx) : ref2 a1 a3 j = Adam.second (a1 j) (a3 j) := by
  pointwise [ref2, Adam.second]

end Cert.Reference19Ideal.AdamGain

namespace Cert.Kernel19Ideal.AdamGain
open Cert.Kernel19Ideal Cert.Kernel19Ideal.Gen
open Cert.Reference19Ideal.AdamGain (ref0 ref1 ref2 ref0_at ref1_at ref2_at)

variable (x0 x1 x2 x3 : Vec Ideal S1x2x2048 .f32) (z : Fin 1) (r : Fin 2) (i : Fin 2048)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 1 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 1 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 1 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 1 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel19Ideal.AdamGain
-- ==== Proof.Values.AdamGain.lean ====
/- The values of the pair Kernel19, Reference19: every result of the one is the result of the other. -/
module

public import proofs.«01_k».proof.Defs
public import proofs.«01_k».proof.Proof.Gen.Kernel19Ideal.Value
public import proofs.«01_k».proof.Proof.Gen.Reference19Ideal.Run
public import proofs.«01_k».proof.Proof.AdamGain
public import Idealize.ShloMosaic.Lib.Claim

@[expose] public section

noncomputable section

namespace Cert.Proof

open Idealize.ShloMosaic Idealize.SL.Sem

set_option maxHeartbeats 4000000 in
set_option maxRecDepth 16384 in
theorem values19 : Cert.algebraic_Kernel19Ideal_Reference19Ideal (hKernel19Ideal := Cert.Kernel19Ideal.Gen.facts) (hReference19Ideal := Cert.Reference19Ideal.Gen.facts) := by
  pair_intro
  · run_from Cert.Kernel19Ideal.Gen.run_main m g
  · run_from Cert.Reference19Ideal.Value.run m' g'
    · exact (Cert.Kernel19Ideal.AdamGain.final4 m c).symm
    · exact (Cert.Kernel19Ideal.AdamGain.final5 m c).symm
    · exact (Cert.Kernel19Ideal.AdamGain.final6 m c).symm
    · exact (Cert.Kernel19Ideal.AdamGain.final7 m c).symm

end Cert.Proof

end
-- ==== Proof.AdamSpatial.lean ====
module

public import proofs.«01_k».proof.Proof.Gen.Kernel20Ideal.Frame
public import proofs.«01_k».proof.Proof.Gen.Reference20Ideal.Run
public import proofs.«01_k».proof.Proof.Adam
public import Idealize.ShloMosaic.Lib.Pipeline.ValueKit
public import Idealize.ShloMosaic.Lib.Claim

@[expose] public section

set_option maxRecDepth 16384

/-! The AdamW step of the gate's spatial weight: every entry of the call's arrays is the step of that entry. -/

noncomputable section

open Idealize.ShloMosaic Idealize.ShloMosaic.TcCoe Idealize.SL.Sem
open Idealize.ShloMosaic.Pipeline (Dat)

namespace Cert.Reference20Ideal.AdamSpatial
open Cert.Reference20Ideal Cert.Reference20Ideal.Gen

def ref0 (a0 : FVec Ideal S2x1024x128 .f32) (a1 : FVec Ideal S2x1024x128 .f32) (a2 : FVec Ideal S2x1024x128 .f32) (a3 : FVec Ideal S2x1024x128 .f32) : FVec Ideal S2x1024x128 .f32 :=
  mulf (broadcastInDim S2x1024x128 ![] bcast_S_S2x1024x128 (constant S_ .f32 0xBA83126F#32)) (addf (Host.divf (Host.divf (addf (mulf (broadcastInDim S2x1024x128 ![] bcast_S_S2x1024x128 (constant S_ .f32 0x3F666666#32)) a2) (mulf (broadcastInDim S2x1024x128 ![] bcast_S_S2x1024x128 (constant S_ .f32 0x3DCCCCCD#32)) a1)) (broadcastInDim S2x1024x128 ![] bcast_S_S2x1024x128 (constant S_ .f32 0x3F26BD02#32))) (addf (Host.sqrt (Host.divf (addf (mulf (broadcastInDim S2x1024x128 ![] bcast_S_S2x1024x128 (constant S_ .f32 0x3F7FBE77#32)) a3) (mulf (broadcastInDim S2x1024x128 ![] bcast_S_S2x1024x128 (constant S_ .f32 0x3A83126F#32)) (mulf a1 a1))) (broadcastInDim S2x1024x128 ![] bcast_S_S2x1024x128 (constant S_ .f32 0x3C231ACC#32)))) (broadcastInDim S2x1024x128 ![] bcast_S_S2x1024x128 (constant S_ .f32 0x322BCC77#32)))) (mulf (broadcastInDim S2x1024x128 ![] bcast_S_S2x1024x128 (constant S_ .f32 0x3C23D70A#32)) a0))

def ref1 (a1 : FVec Ideal S2x1024x128 .f32) (a2 : FVec Ideal S2x1024x128 .f32) : FVec Ideal S2x1024x128 .f32 :=
  addf (mulf (broadcastInDim S2x1024x128 ![] bcast_S_S2x1024x128 (constant S_ .f32 0x3F666666#32)) a2) (mulf (broadcastInDim S2x1024x128 ![] bcast_S_S2x1024x128 (constant S_ .f32 0x3DCCCCCD#32)) a1)

def ref2 (a1 : FVec Ideal S2x1024x128 .f32) (a3 : FVec Ideal S2x1024x128 .f32) : FVec Ideal S2x1024x128 .f32 :=
  addf (mulf (broadcastInDim S2x1024x128 ![] bcast_S_S2x1024x128 (constant S_ .f32 0x3F7FBE77#32)) a3) (mulf (broadcastInDim S2x1024x128 ![] bcast_S_S2x1024x128 (constant S_ .f32 0x3A83126F#32)) (mulf a1 a1))

theorem ref0_at (a0 a1 a2 a3 : FVec Ideal S2x1024x128 .f32) (j : S2x1024x128.Idx) :
    ref0 a0 a1 a2 a3 j = Adam.change (a0 j) (a1 j) (a2 j) (a3 j) := by
  pointwise [ref0, Adam.change, Adam.first, Adam.second]

theorem ref1_at (a1 a2 : FVec Ideal S2x1024x128 .f32) (j : S2x1024x128.Idx) : ref1 a1 a2 j = Adam.first (a1 j) (a2 j) := by
  pointwise [ref1, Adam.first]

theorem ref2_at (a1 a3 : FVec Ideal S2x1024x128 .f32) (j : S2x1024x128.Idx) : ref2 a1 a3 j = Adam.second (a1 j) (a3 j) := by
  pointwise [ref2, Adam.second]

end Cert.Reference20Ideal.AdamSpatial

namespace Cert.Kernel20Ideal.AdamSpatial
open Cert.Kernel20Ideal Cert.Kernel20Ideal.Gen
open Cert.Reference20Ideal.AdamSpatial (ref0 ref1 ref2 ref0_at ref1_at ref2_at)

variable (x0 x1 x2 x3 : Vec Ideal S1x256x128 .f32) (z : Fin 1) (r : Fin 256) (i : Fin 128)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 8 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 8 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 8 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 8 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel20Ideal.AdamSpatial
-- ==== Proof.Values.AdamSpatial.lean ====
/- The values of the pair Kernel20, Reference20: every result of the one is the result of the other. -/
module

public import proofs.«01_k».proof.Defs
public import proofs.«01_k».proof.Proof.Gen.Kernel20Ideal.Value
public import proofs.«01_k».proof.Proof.Gen.Reference20Ideal.Run
public import proofs.«01_k».proof.Proof.AdamSpatial
public import Idealize.ShloMosaic.Lib.Claim

@[expose] public section

noncomputable section

namespace Cert.Proof

open Idealize.ShloMosaic Idealize.SL.Sem

set_option maxHeartbeats 4000000 in
set_option maxRecDepth 16384 in
theorem values20 : Cert.algebraic_Kernel20Ideal_Reference20Ideal (hKernel20Ideal := Cert.Kernel20Ideal.Gen.facts) (hReference20Ideal := Cert.Reference20Ideal.Gen.facts) := by
  pair_intro
  · run_from Cert.Kernel20Ideal.Gen.run_main m g
  · run_from Cert.Reference20Ideal.Value.run m' g'
    · exact (Cert.Kernel20Ideal.AdamSpatial.final4 m c).symm
    · exact (Cert.Kernel20Ideal.AdamSpatial.final5 m c).symm
    · exact (Cert.Kernel20Ideal.AdamSpatial.final6 m c).symm
    · exact (Cert.Kernel20Ideal.AdamSpatial.final7 m c).symm

end Cert.Proof

end
-- ==== Proof.AdamSpatialBias.lean ====
module

public import proofs.«01_k».proof.Proof.Gen.Kernel21Ideal.Frame
public import proofs.«01_k».proof.Proof.Gen.Reference21Ideal.Run
public import proofs.«01_k».proof.Proof.Adam
public import Idealize.ShloMosaic.Lib.Pipeline.ValueKit
public import Idealize.ShloMosaic.Lib.Claim

@[expose] public section

set_option maxRecDepth 16384

/-! The AdamW step of the gate's bias: every entry of the call's arrays is the step of that entry. -/

noncomputable section

open Idealize.ShloMosaic Idealize.ShloMosaic.TcCoe Idealize.SL.Sem
open Idealize.ShloMosaic.Pipeline (Dat)

namespace Cert.Reference21Ideal.AdamSpatialBias
open Cert.Reference21Ideal Cert.Reference21Ideal.Gen

def ref0 (a0 : FVec Ideal S2x8x128 .f32) (a1 : FVec Ideal S2x8x128 .f32) (a2 : FVec Ideal S2x8x128 .f32) (a3 : FVec Ideal S2x8x128 .f32) : FVec Ideal S2x8x128 .f32 :=
  mulf (broadcastInDim S2x8x128 ![] bcast_S_S2x8x128 (constant S_ .f32 0xBA83126F#32)) (addf (Host.divf (Host.divf (addf (mulf (broadcastInDim S2x8x128 ![] bcast_S_S2x8x128 (constant S_ .f32 0x3F666666#32)) a2) (mulf (broadcastInDim S2x8x128 ![] bcast_S_S2x8x128 (constant S_ .f32 0x3DCCCCCD#32)) a1)) (broadcastInDim S2x8x128 ![] bcast_S_S2x8x128 (constant S_ .f32 0x3F26BD02#32))) (addf (Host.sqrt (Host.divf (addf (mulf (broadcastInDim S2x8x128 ![] bcast_S_S2x8x128 (constant S_ .f32 0x3F7FBE77#32)) a3) (mulf (broadcastInDim S2x8x128 ![] bcast_S_S2x8x128 (constant S_ .f32 0x3A83126F#32)) (mulf a1 a1))) (broadcastInDim S2x8x128 ![] bcast_S_S2x8x128 (constant S_ .f32 0x3C231ACC#32)))) (broadcastInDim S2x8x128 ![] bcast_S_S2x8x128 (constant S_ .f32 0x322BCC77#32)))) (mulf (broadcastInDim S2x8x128 ![] bcast_S_S2x8x128 (constant S_ .f32 0x3C23D70A#32)) a0))

def ref1 (a1 : FVec Ideal S2x8x128 .f32) (a2 : FVec Ideal S2x8x128 .f32) : FVec Ideal S2x8x128 .f32 :=
  addf (mulf (broadcastInDim S2x8x128 ![] bcast_S_S2x8x128 (constant S_ .f32 0x3F666666#32)) a2) (mulf (broadcastInDim S2x8x128 ![] bcast_S_S2x8x128 (constant S_ .f32 0x3DCCCCCD#32)) a1)

def ref2 (a1 : FVec Ideal S2x8x128 .f32) (a3 : FVec Ideal S2x8x128 .f32) : FVec Ideal S2x8x128 .f32 :=
  addf (mulf (broadcastInDim S2x8x128 ![] bcast_S_S2x8x128 (constant S_ .f32 0x3F7FBE77#32)) a3) (mulf (broadcastInDim S2x8x128 ![] bcast_S_S2x8x128 (constant S_ .f32 0x3A83126F#32)) (mulf a1 a1))

theorem ref0_at (a0 a1 a2 a3 : FVec Ideal S2x8x128 .f32) (j : S2x8x128.Idx) :
    ref0 a0 a1 a2 a3 j = Adam.change (a0 j) (a1 j) (a2 j) (a3 j) := by
  pointwise [ref0, Adam.change, Adam.first, Adam.second]

theorem ref1_at (a1 a2 : FVec Ideal S2x8x128 .f32) (j : S2x8x128.Idx) : ref1 a1 a2 j = Adam.first (a1 j) (a2 j) := by
  pointwise [ref1, Adam.first]

theorem ref2_at (a1 a3 : FVec Ideal S2x8x128 .f32) (j : S2x8x128.Idx) : ref2 a1 a3 j = Adam.second (a1 j) (a3 j) := by
  pointwise [ref2, Adam.second]

end Cert.Reference21Ideal.AdamSpatialBias

namespace Cert.Kernel21Ideal.AdamSpatialBias
open Cert.Kernel21Ideal Cert.Kernel21Ideal.Gen
open Cert.Reference21Ideal.AdamSpatialBias (ref0 ref1 ref2 ref0_at ref1_at ref2_at)

variable (x0 x1 x2 x3 : Vec Ideal S1x8x128 .f32) (z : Fin 1) (r : Fin 8) (i : Fin 128)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 2 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 2 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 2 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 2 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel21Ideal.AdamSpatialBias
-- ==== Proof.Values.AdamSpatialBias.lean ====
/- The values of the pair Kernel21, Reference21: every result of the one is the result of the other. -/
module

public import proofs.«01_k».proof.Defs
public import proofs.«01_k».proof.Proof.Gen.Kernel21Ideal.Value
public import proofs.«01_k».proof.Proof.Gen.Reference21Ideal.Run
public import proofs.«01_k».proof.Proof.AdamSpatialBias
public import Idealize.ShloMosaic.Lib.Claim

@[expose] public section

noncomputable section

namespace Cert.Proof

open Idealize.ShloMosaic Idealize.SL.Sem

set_option maxHeartbeats 4000000 in
set_option maxRecDepth 16384 in
theorem values21 : Cert.algebraic_Kernel21Ideal_Reference21Ideal (hKernel21Ideal := Cert.Kernel21Ideal.Gen.facts) (hReference21Ideal := Cert.Reference21Ideal.Gen.facts) := by
  pair_intro
  · run_from Cert.Kernel21Ideal.Gen.run_main m g
  · run_from Cert.Reference21Ideal.Value.run m' g'
    · exact (Cert.Kernel21Ideal.AdamSpatialBias.final4 m c).symm
    · exact (Cert.Kernel21Ideal.AdamSpatialBias.final5 m c).symm
    · exact (Cert.Kernel21Ideal.AdamSpatialBias.final6 m c).symm
    · exact (Cert.Kernel21Ideal.AdamSpatialBias.final7 m c).symm

end Cert.Proof

end
-- ==== Proof.AdamRel.lean ====
module

public import proofs.«01_k».proof.Proof.Gen.Kernel22Ideal.Frame
public import proofs.«01_k».proof.Proof.Gen.Reference22Ideal.Run
public import proofs.«01_k».proof.Proof.Adam
public import Idealize.ShloMosaic.Lib.Pipeline.ValueKit
public import Idealize.ShloMosaic.Lib.Claim

@[expose] public section

set_option maxRecDepth 16384

/-! The AdamW step of the relative-position bias: every entry of the call's arrays is the step of that entry. -/

noncomputable section

open Idealize.ShloMosaic Idealize.ShloMosaic.TcCoe Idealize.SL.Sem
open Idealize.ShloMosaic.Pipeline (Dat)

namespace Cert.Reference22Ideal.AdamRel
open Cert.Reference22Ideal Cert.Reference22Ideal.Gen

def ref0 (a0 : FVec Ideal S2x16x192 .f32) (a1 : FVec Ideal S2x16x192 .f32) (a2 : FVec Ideal S2x16x192 .f32) (a3 : FVec Ideal S2x16x192 .f32) : FVec Ideal S2x16x192 .f32 :=
  mulf (broadcastInDim S2x16x192 ![] bcast_S_S2x16x192 (constant S_ .f32 0xBA83126F#32)) (addf (Host.divf (Host.divf (addf (mulf (broadcastInDim S2x16x192 ![] bcast_S_S2x16x192 (constant S_ .f32 0x3F666666#32)) a2) (mulf (broadcastInDim S2x16x192 ![] bcast_S_S2x16x192 (constant S_ .f32 0x3DCCCCCD#32)) a1)) (broadcastInDim S2x16x192 ![] bcast_S_S2x16x192 (constant S_ .f32 0x3F26BD02#32))) (addf (Host.sqrt (Host.divf (addf (mulf (broadcastInDim S2x16x192 ![] bcast_S_S2x16x192 (constant S_ .f32 0x3F7FBE77#32)) a3) (mulf (broadcastInDim S2x16x192 ![] bcast_S_S2x16x192 (constant S_ .f32 0x3A83126F#32)) (mulf a1 a1))) (broadcastInDim S2x16x192 ![] bcast_S_S2x16x192 (constant S_ .f32 0x3C231ACC#32)))) (broadcastInDim S2x16x192 ![] bcast_S_S2x16x192 (constant S_ .f32 0x322BCC77#32)))) (mulf (broadcastInDim S2x16x192 ![] bcast_S_S2x16x192 (constant S_ .f32 0x3C23D70A#32)) a0))

def ref1 (a1 : FVec Ideal S2x16x192 .f32) (a2 : FVec Ideal S2x16x192 .f32) : FVec Ideal S2x16x192 .f32 :=
  addf (mulf (broadcastInDim S2x16x192 ![] bcast_S_S2x16x192 (constant S_ .f32 0x3F666666#32)) a2) (mulf (broadcastInDim S2x16x192 ![] bcast_S_S2x16x192 (constant S_ .f32 0x3DCCCCCD#32)) a1)

def ref2 (a1 : FVec Ideal S2x16x192 .f32) (a3 : FVec Ideal S2x16x192 .f32) : FVec Ideal S2x16x192 .f32 :=
  addf (mulf (broadcastInDim S2x16x192 ![] bcast_S_S2x16x192 (constant S_ .f32 0x3F7FBE77#32)) a3) (mulf (broadcastInDim S2x16x192 ![] bcast_S_S2x16x192 (constant S_ .f32 0x3A83126F#32)) (mulf a1 a1))

theorem ref0_at (a0 a1 a2 a3 : FVec Ideal S2x16x192 .f32) (j : S2x16x192.Idx) :
    ref0 a0 a1 a2 a3 j = Adam.change (a0 j) (a1 j) (a2 j) (a3 j) := by
  pointwise [ref0, Adam.change, Adam.first, Adam.second]

theorem ref1_at (a1 a2 : FVec Ideal S2x16x192 .f32) (j : S2x16x192.Idx) : ref1 a1 a2 j = Adam.first (a1 j) (a2 j) := by
  pointwise [ref1, Adam.first]

theorem ref2_at (a1 a3 : FVec Ideal S2x16x192 .f32) (j : S2x16x192.Idx) : ref2 a1 a3 j = Adam.second (a1 j) (a3 j) := by
  pointwise [ref2, Adam.second]

end Cert.Reference22Ideal.AdamRel

namespace Cert.Kernel22Ideal.AdamRel
open Cert.Kernel22Ideal Cert.Kernel22Ideal.Gen
open Cert.Reference22Ideal.AdamRel (ref0 ref1 ref2 ref0_at ref1_at ref2_at)

variable (x0 x1 x2 x3 : Vec Ideal S1x16x192 .f32) (z : Fin 1) (r : Fin 16) (i : Fin 192)

theorem same_at : k0_pay5 (F := Ideal) x1 (ix3 z r i) = x1 (ix3 z r i) := by
  pointwise [k0_pay5, k0_pay4]

theorem change_at : k0_pay1 (k0_pay8 (F := Ideal) x1 x2 x3 x0) (Scalar.ofBits .f32 0xBA83126F#32) (ix3 z r i)
    = Adam.change (x0 (ix3 0 r i)) (x1 (ix3 0 r i)) (x2 (ix3 0 r i)) (x3 (ix3 0 r i)) := by
  pointwise [k0_pay1, k0_pay8, k0_pay7, k0_pay6, k0_pay4, Adam.change, Adam.first, Adam.second]

theorem first_at : k0_pay2 (k0_pay6 (F := Ideal) x1 x2) (ix3 z r i) = Adam.first (x1 (ix3 0 r i)) (x2 (ix3 0 r i)) := by
  pointwise [k0_pay2, k0_pay6, k0_pay4, Adam.first]

theorem second_at : k0_pay3 (k0_pay7 (F := Ideal) x1 x3) (ix3 z r i) = Adam.second (x1 (ix3 0 r i)) (x3 (ix3 0 r i)) := by
  pointwise [k0_pay3, k0_pay7, k0_pay4, Adam.second]

variable (m : (ℓ : Loc nD τ sig) → Buf (Elt Ideal) ℓ) (c : Dev nD)

theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] :=
  (by decide +kernel : ∀ t : Fin grid0.N, _)

/-- The gradient comes back as it was. -/
theorem final4 : (dats m 0 c).arrAt 4 (cfgs 0).N = (m ((c : Thread nD τ).loc main_arg1)) := by
  refine (dats m 0 c).arrAt_eq_of_covers 4 _ (by decide +kernel) fun t hf y => ?_
  have hN : t.val < 2 := t.isLt
  blk_simp
  rw [after0_4]
  unfold out0_4
  frame_out
  idx_vars y
  refine (same_at _ y0 y1 y2).trans ?_
  blk_ext [iblk, V, idx t]

/-- The changes of the weights. -/
theorem final5 : (dats m 0 c).arrAt 5 (cfgs 0).N = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 2 := t.isLt
  blk_simp
  rw [after0_5]
  unfold out0_5
  frame_out
  idx_vars y
  refine (change_at _ _ _ _ y0 y1 y2).trans (Eq.trans (congr (congr (congrArg₂ Adam.change ?_ ?_) ?_) ?_) (ref0_at _ _ _ _ _).symm)
  all_goals blk_ext [iblk, V, idx t]

/-- The new first moments. -/
theorem final6 : (dats m 0 c).arrAt 6 (cfgs 0).N = ref1 (m ((c : Thread nD τ).loc main_arg1)) (m ((c : Thread nD τ).loc main_arg2)) := by
  refine (dats m 0 c).arrAt_eq_of_covers 6 _ (by decide +kernel) fun t hf y => ?_
  have hN : t.val < 2 := t.isLt
  blk_simp
  rw [after0_6]
  unfold out0_6
  frame_out
  idx_vars y
  refine (first_at _ _ y0 y1 y2).trans (Eq.trans (congrArg₂ Adam.first ?_ ?_) (ref1_at _ _ _).symm)
  all_goals blk_ext [iblk, V, idx t]

/-- The new second moments. -/
theorem final7 : (dats m 0 c).arrAt 7 (cfgs 0).N = ref2 (m ((c : Thread nD τ).loc main_arg1)) (m ((c : Thread nD τ).loc main_arg3)) := by
  refine (dats m 0 c).arrAt_eq_of_covers 7 _ (by decide +kernel) fun t hf y => ?_
  have hN : t.val < 2 := t.isLt
  blk_simp
  rw [after0_7]
  unfold out0_7
  frame_out
  idx_vars y
  refine (second_at _ _ y0 y1 y2).trans (Eq.trans (congrArg₂ Adam.second ?_ ?_) (ref2_at _ _ _).symm)
  all_goals blk_ext [iblk, V, idx t]

end Cert.Kernel22Ideal.AdamRel
-- ==== Proof.Values.AdamRel.lean ====
/- The values of the pair Kernel22, Reference22: every result of the one is the result of the other. -/
module

public import proofs.«01_k».proof.Defs
public import proofs.«01_k».proof.Proof.Gen.Kernel22Ideal.Value
public import proofs.«01_k».proof.Proof.Gen.Reference22Ideal.Run
public import proofs.«01_k».proof.Proof.AdamRel
public import Idealize.ShloMosaic.Lib.Claim

@[expose] public section

noncomputable section

namespace Cert.Proof

open Idealize.ShloMosaic Idealize.SL.Sem

set_option maxHeartbeats 4000000 in
set_option maxRecDepth 16384 in
theorem values22 : Cert.algebraic_Kernel22Ideal_Reference22Ideal (hKernel22Ideal := Cert.Kernel22Ideal.Gen.facts) (hReference22Ideal := Cert.Reference22Ideal.Gen.facts) := by
  pair_intro
  · run_from Cert.Kernel22Ideal.Gen.run_main m g
  · run_from Cert.Reference22Ideal.Value.run m' g'
    · exact (Cert.Kernel22Ideal.AdamRel.final4 m c).symm
    · exact (Cert.Kernel22Ideal.AdamRel.final5 m c).symm
    · exact (Cert.Kernel22Ideal.AdamRel.final6 m c).symm
    · exact (Cert.Kernel22Ideal.AdamRel.final7 m c).symm

end Cert.Proof

end
-- ==== Proof.Forward.lean ====
module

public import Idealize.ShloMosaic.Lib.Pipeline.ValueKit

@[expose] public section

set_option maxRecDepth 16384

/-! What the forward calls have in common: the RMS norm of a row, and the logistic function by the hyperbolic tangent. -/

noncomputable section

open Idealize.ShloMosaic Idealize.ShloMosaic.TcCoe Idealize.SL.Sem
open Idealize.ShloMosaic.Pipeline (Dat)

namespace Cert.Forward

/-- The RMS norm of a row, at one entry. -/
def normed (X : Fin 1024 → EReal) (g : EReal) (l : Fin 1024) : EReal :=
  X l * Ideal.rsqrt (Ideal.div (∑ x, X x * X x) (Ideal.ofBits .f32 0x44800000#32) + Ideal.ofBits .f32 0x358637BD#32) * g

theorem ofBits_half : Ideal.ofBits .f32 0x3F000000#32 = ((1 / 2 : ℝ) : EReal) := by
  simp [Ideal.ofBits, Ideal.ieee, -EReal.coe_mul]; norm_num

theorem real_logistic (r : ℝ) : 1 / 2 * (Real.tanh (1 / 2 * r) + 1) = (1 + Real.exp (-r))⁻¹ := by
  have h : Real.exp (-r) = Real.exp (-(1 / 2 * r)) * Real.exp (-(1 / 2 * r)) := by rw [← Real.exp_add]; ring_nf
  have e : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = a at *
  generalize Real.exp (-(1 / 2 * r)) = b at *
  field_simp
  linear_combination (2 * b) * e

/-- The logistic function, at every point and at both infinities. -/
theorem logistic_eq (g : EReal) :
    Ideal.ofBits .f32 0x3F000000#32 * (Ideal.tanh (Ideal.ofBits .f32 0x3F000000#32 * g) + 1) = Ideal.logistic g := by
  rw [ofBits_half]
  induction g with
  | bot =>
    rw [EReal.coe_mul_bot_of_pos (by norm_num), Ideal.tanh_bot, Ideal.logistic_bot]
    have : (-1 : EReal) + 1 = 0 := by rw [← EReal.coe_one, ← EReal.coe_neg, ← EReal.coe_add]; norm_num
    rw [this, mul_zero]
  | top =>
    rw [EReal.coe_mul_top_of_pos (by norm_num), Ideal.tanh_top, Ideal.logistic_top]
    rw [← EReal.coe_one, ← EReal.coe_add, ← EReal.coe_mul]; norm_num
  | coe r =>
    rw [← EReal.coe_mul, Ideal.tanh_coe, Ideal.logistic_coe, ← real_logistic r]
    push_cast
    rfl

/-- The derivative of g · logistic g in its two usual forms. -/
theorem slope_eq (g : EReal) :
    Ideal.logistic g * (1 + g * (1 - Ideal.logistic g))
      = Ideal.logistic g + g * (Ideal.logistic g * (1 - Ideal.logistic g)) := by
  induction g with
  | bot => simp
  | top =>
    rw [Ideal.logistic_top]
    have : (1 : EReal) - 1 = 0 := by rw [← EReal.coe_one, ← EReal.coe_sub]; norm_num
    simp [this]
  | coe r =>
    rw [Ideal.logistic_coe]
    generalize (1 + Real.exp (-r))⁻¹ = s
    have : ∀ x : ℝ, (1 : EReal) - (x : EReal) = ((1 - x : ℝ) : EReal) := fun x => by push_cast; rfl
    rw [this, ← EReal.coe_mul, ← EReal.coe_mul, ← EReal.coe_mul]
    rw [← EReal.coe_add, ← EReal.coe_one, ← EReal.coe_add, ← EReal.coe_mul]
    congr 1
    ring

/-- g · logistic g. -/
def silu (g : EReal) : EReal := g * Ideal.logistic g

/-- The derivative of silu g · u in g, term by term. -/
def dgate (g u : EReal) : EReal :=
  u * (1 * Ideal.logistic g + g * 1 * (Ideal.logistic g * (1 - Ideal.logistic g)))

/-- The logistic function as the program computes it. -/
def half (g : EReal) : EReal :=
  Ideal.ofBits .f32 0x3F000000#32 * (Ideal.tanh (Ideal.ofBits .f32 0x3F000000#32 * g) + 1)

theorem silu_eq (g : EReal) : g * half g = silu g := congrArg (g * ·) (logistic_eq g)

theorem dgate_eq (g u : EReal) : u * (half g * (1 + g * (1 - half g))) = dgate g u := by
  rw [show half g = Ideal.logistic g from logistic_eq g, slope_eq, dgate, one_mul, mul_one]

end Cert.Forward
-- ==== Proof.FfnUp.lean ====
module

public import proofs.«01_k».proof.Proof.Gen.Kernel23Ideal.Frame
public import proofs.«01_k».proof.Proof.Gen.Reference23Ideal.Run
public import proofs.«01_k».proof.Proof.Forward
public import Idealize.ShloMosaic.Lib.Pipeline.ValueKit
public import Idealize.ShloMosaic.Lib.Claim

@[expose] public section

set_option maxRecDepth 16384

/-! The feed-forward block's gate and up projections: their product under the silu function, and its derivatives, chip by chip. -/

noncomputable section

open Idealize.ShloMosaic Idealize.ShloMosaic.TcCoe Idealize.SL.Sem
open Idealize.ShloMosaic.Pipeline (Dat)

namespace Cert.Reference23Ideal.FfnUp
open Cert.Reference23Ideal Cert.Reference23Ideal.Gen

def ref0 (a0 : FVec Ideal S8192x1024 .bf16) (a1 : FVec Ideal S1x4x704x1024 .bf16) (a2 : FVec Ideal S1x4x704x1024 .bf16) : FVec Ideal S4x8192x704 .bf16 :=
  truncf .bf16 (transpose S4x8192x704 [1, 0, 2] (shapeCast _ (mulf (Host.dotGeneral dot_S8192x1024_S1024x2816_S8192x2816_1_0_0_1_n_n none (extf .f32 a0 bitsLt_bf16_f32) (transpose S1024x2816 [1, 0] (extf .f32 (shapeCast _ (shapeCast _ a2 shapeCasts_S1x4x704x1024_S4x704x1024) shapeCasts_S4x704x1024_S2816x1024) bitsLt_bf16_f32) transposes_S2816x1024_S1024x2816_1_0)) (addf (mulf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0))))))) (mulf (mulf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0)) (broadcastInDim S8192x2816 ![] bcast_S_S8192x2816 (constant S_ .f32 0x3F800000#32))) (mulf (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0)))))) (subf (broadcastInDim S8192x2816 ![] bcast_S_S8192x2816 (constant S_ .f32 0x3F800000#32)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0))))))))))) shapeCasts_S8192x2816_S8192x4x704) transposes_S8192x4x704_S4x8192x704_1_0_2) bitsLt_bf16_f32

def ref1 (a0 : FVec Ideal S8192x1024 .bf16) (a1 : FVec Ideal S1x4x704x1024 .bf16) : FVec Ideal S4x8192x704 .bf16 :=
  truncf .bf16 (transpose S4x8192x704 [1, 0, 2] (shapeCast _ (mulf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0))))))) shapeCasts_S8192x2816_S8192x4x704) transposes_S8192x4x704_S4x8192x704_1_0_2) bitsLt_bf16_f32

def ref2 (a0 : FVec Ideal S8192x1024 .bf16) (a1 : FVec Ideal S1x4x704x1024 .bf16) (a2 : FVec Ideal S1x4x704x1024 .bf16) : FVec Ideal S4x8192x704 .bf16 :=
  truncf .bf16 (transpose S4x8192x704 [1, 0, 2] (shapeCast _ (mulf (mulf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0)) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (Host.dotGeneral dot_S8192x1024_S1024x2816_S8192x2816_1_0_0_1_n_n none (extf .f32 a0 bitsLt_bf16_f32) (transpose S1024x2816 [1, 0] (extf .f32 (shapeCast _ (shapeCast _ a1 shapeCasts_S1x4x704x1024_S4x704x1024) shapeCasts_S4x704x1024_S2816x1024) bitsLt_bf16_f32) transposes_S2816x1024_S1024x2816_1_0))))))) (Host.dotGeneral dot_S8192x1024_S1024x2816_S8192x2816_1_0_0_1_n_n none (extf .f32 a0 bitsLt_bf16_f32) (transpose S1024x2816 [1, 0] (extf .f32 (shapeCast _ (shapeCast _ a2 shapeCasts_S1x4x704x1024_S4x704x1024) shapeCasts_S4x704x1024_S2816x1024) bitsLt_bf16_f32) transposes_S2816x1024_S1024x2816_1_0))) shapeCasts_S8192x2816_S8192x4x704) transposes_S8192x4x704_S4x8192x704_1_0_2) bitsLt_bf16_f32

/-- A hidden column of one chip: a row of the normalised activations against a row of the weight. -/
def hid (a0 : FVec Ideal S8192x1024 .bf16) (a1 : FVec Ideal S1x4x704x1024 .bf16) (s : Fin 4) (r : Fin 8192) (j : Fin 704) : EReal :=
  ∑ k : Fin 1024, a0 (ix2 r k) * a1 (ix4 0 s j k)

theorem ref0_at (a0 : FVec Ideal S8192x1024 .bf16) (a1 : FVec Ideal S1x4x704x1024 .bf16) (a2 : FVec Ideal S1x4x704x1024 .bf16) (s : Fin 4) (r : Fin 8192) (j : Fin 704) :
    ref0 a0 a1 a2 (ix3 s r j) = Forward.dgate (hid a0 a1 s r j) (hid a0 a2 s r j) := by
  pointwise [ref0, Forward.dgate, Ideal.logistic, hid]

theorem ref1_at (a0 : FVec Ideal S8192x1024 .bf16) (a1 : FVec Ideal S1x4x704x1024 .bf16) (s : Fin 4) (r : Fin 8192) (j : Fin 704) :
    ref1 a0 a1 (ix3 s r j) = Forward.silu (hid a0 a1 s r j) := by
  pointwise [ref1, Forward.silu, Ideal.logistic, hid]

theorem ref2_at (a0 : FVec Ideal S8192x1024 .bf16) (a1 : FVec Ideal S1x4x704x1024 .bf16) (a2 : FVec Ideal S1x4x704x1024 .bf16) (s : Fin 4) (r : Fin 8192) (j : Fin 704) :
    ref2 a0 a1 a2 (ix3 s r j) = Forward.silu (hid a0 a1 s r j) * hid a0 a2 s r j := by
  pointwise [ref2, Forward.silu, Ideal.logistic, hid]

end Cert.Reference23Ideal.FfnUp

namespace Cert.Kernel23Ideal.FfnUp
open Cert.Kernel23Ideal Cert.Kernel23Ideal.Gen
open Cert.Reference23Ideal.FfnUp (ref0 ref1 ref2 ref0_at ref1_at ref2_at)

/-- A hidden column of a block. -/
def hid (x0 : Vec Ideal S1024x1024 .bf16) (x1 : Vec Ideal S1x1x704x1024 .bf16) (r : Fin 1024) (j : Fin 704) : EReal :=
  ∑ k : Fin 1024, x0 (ix2 r k) * x1 (ix4 0 0 j k)

variable (x0 : Vec Ideal S1024x1024 .bf16) (x1 x2 : Vec Ideal S1x1x704x1024 .bf16) (z : Fin 1) (r : Fin 1024) (j : Fin 704)

theorem dgate_at : k0_pay6 (F := Ideal) x0 x1 x2 (ix3 z r j) = Forward.dgate (hid x0 x1 r j) (hid x0 x2 r j) := by
  rw [← Forward.dgate_eq]
  pointwise [k0_pay6, k0_pay4, k0_pay3, k0_pay2, hid, Forward.half]

theorem silu_at : k0_pay7 (F := Ideal) x0 x1 (ix3 z r j) = Forward.silu (hid x0 x1 r j) := by
  rw [← Forward.silu_eq]
  pointwise [k0_pay7, k0_pay5, k0_pay4, k0_pay2, hid, Forward.half]

theorem out_at : k0_pay1 (k0_pay8 (F := Ideal) x0 x1 x2) (ix3 z r j) = Forward.silu (hid x0 x1 r j) * hid x0 x2 r j := by
  rw [← Forward.silu_eq]
  pointwise [k0_pay1, k0_pay8, k0_pay5, k0_pay4, k0_pay3, k0_pay2, hid, Forward.half]

variable (m : (ℓ : Loc nD τ sig) → Buf (Elt Ideal) ℓ) (c : Dev nD)

theorem idx : ∀ t : Fin cfg0.N, win0_0.index t = ![t.val % 8, 0] ∧ win0_1.index t = ![0, t.val / 8, 0, 0] ∧ win0_2.index t = ![0, t.val / 8, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

theorem gates (t : Fin cfg0.N) (s : Fin 4) (hs : s.val = t.val / 8) (r : Fin 1024) (R : Fin 8192) (hR : R.val = t.val % 8 * 1024 + r.val) (j : Fin 704) :
    hid (iblk m c 0 t) (iblk m c 1 t) r j = Reference23Ideal.FfnUp.hid (m ((c : Thread nD τ).loc main_arg0)) (m ((c : Thread nD τ).loc main_arg1)) s R j := by
  have hN : t.val < 32 := t.isLt
  refine Finset.sum_congr rfl fun k _ => congrArg₂ (· * ·) ?_ ?_
  all_goals blk_ext [iblk, V, idx t]

theorem ups (t : Fin cfg0.N) (s : Fin 4) (hs : s.val = t.val / 8) (r : Fin 1024) (R : Fin 8192) (hR : R.val = t.val % 8 * 1024 + r.val) (j : Fin 704) :
    hid (iblk m c 0 t) (iblk m c 2 t) r j = Reference23Ideal.FfnUp.hid (m ((c : Thread nD τ).loc main_arg0)) (m ((c : Thread nD τ).loc main_arg2)) s R j := by
  have hN : t.val < 32 := t.isLt
  refine Finset.sum_congr rfl fun k _ => congrArg₂ (· * ·) ?_ ?_
  all_goals blk_ext [iblk, V, idx t]

/-- The derivative of the product in the gate. -/
theorem final3 : (dats m 0 c).arrAt 3 (cfgs 0).N
    = ref0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 32 := t.isLt
  blk_simp
  rw [after0_3]
  unfold out0_3
  frame_out
  idx_vars y
  refine (dgate_at _ _ _ y0 y1 y2).trans ((congrArg₂ Forward.dgate (gates m c t ⟨t.val / 8, by omega⟩ rfl y1 ⟨t.val % 8 * 1024 + y1.val, by omega⟩ rfl y2) (ups m c t ⟨t.val / 8, by omega⟩ rfl y1 ⟨t.val % 8 * 1024 + y1.val, by omega⟩ rfl y2)).trans
    (Eq.symm ((congrArg _ (?_ : _ = ix3 ⟨t.val / 8, by omega⟩ ⟨t.val % 8 * 1024 + y1.val, by omega⟩ y2)).trans (ref0_at _ _ _ _ _ _))))
  blk_ext [idx t]

/-- The derivative of the product in the up projection. -/
theorem final4 : (dats m 0 c).arrAt 4 (cfgs 0).N
    = ref1 (m ((c : Thread nD τ).loc main_arg0)) (m ((c : Thread nD τ).loc main_arg1)) := by
  refine (dats m 0 c).arrAt_eq_of_covers 4 _ (by decide +kernel) fun t hf y => ?_
  have hN : t.val < 32 := t.isLt
  blk_simp
  rw [after0_4]
  unfold out0_4
  frame_out
  idx_vars y
  refine (silu_at _ _ y0 y1 y2).trans ((congrArg Forward.silu (gates m c t ⟨t.val / 8, by omega⟩ rfl y1 ⟨t.val % 8 * 1024 + y1.val, by omega⟩ rfl y2)).trans
    (Eq.symm ((congrArg _ (?_ : _ = ix3 ⟨t.val / 8, by omega⟩ ⟨t.val % 8 * 1024 + y1.val, by omega⟩ y2)).trans (ref1_at _ _ _ _ _))))
  blk_ext [idx t]

/-- The product that the down projection takes. -/
theorem final5 : (dats m 0 c).arrAt 5 (cfgs 0).N
    = ref2 (m ((c : Thread nD τ).loc main_arg0)) (m ((c : Thread nD τ).loc main_arg1)) (m ((c : Thread nD τ).loc main_arg2)) := by
  refine (dats m 0 c).arrAt_eq_of_covers 5 _ (by decide +kernel) fun t hf y => ?_
  have hN : t.val < 32 := t.isLt
  blk_simp
  rw [after0_5]
  unfold out0_5
  frame_out
  idx_vars y
  refine (out_at _ _ _ y0 y1 y2).trans ((congrArg₂ (fun a b => Forward.silu a * b) (gates m c t ⟨t.val / 8, by omega⟩ rfl y1 ⟨t.val % 8 * 1024 + y1.val, by omega⟩ rfl y2) (ups m c t ⟨t.val / 8, by omega⟩ rfl y1 ⟨t.val % 8 * 1024 + y1.val, by omega⟩ rfl y2)).trans
    (Eq.symm ((congrArg _ (?_ : _ = ix3 ⟨t.val / 8, by omega⟩ ⟨t.val % 8 * 1024 + y1.val, by omega⟩ y2)).trans (ref2_at _ _ _ _ _ _))))
  blk_ext [idx t]

end Cert.Kernel23Ideal.FfnUp
-- ==== Proof.Values.FfnUp.lean ====
/- The values of the pair Kernel23, Reference23: every result of the one is the result of the other. -/
module

public import proofs.«01_k».proof.Defs
public import proofs.«01_k».proof.Proof.Gen.Kernel23Ideal.Value
public import proofs.«01_k».proof.Proof.Gen.Reference23Ideal.Run
public import proofs.«01_k».proof.Proof.FfnUp
public import Idealize.ShloMosaic.Lib.Claim

@[expose] public section

noncomputable section

namespace Cert.Proof

open Idealize.ShloMosaic Idealize.SL.Sem

set_option maxHeartbeats 4000000 in
set_option maxRecDepth 16384 in
theorem values23 : Cert.algebraic_Kernel23Ideal_Reference23Ideal (hKernel23Ideal := Cert.Kernel23Ideal.Gen.facts) (hReference23Ideal := Cert.Reference23Ideal.Gen.facts) := by
  pair_intro
  · run_from Cert.Kernel23Ideal.Gen.run_main m g
  · run_from Cert.Reference23Ideal.Value.run m' g'
    · exact (Cert.Kernel23Ideal.FfnUp.final3 m c).symm
    · exact (Cert.Kernel23Ideal.FfnUp.final4 m c).symm
    · exact (Cert.Kernel23Ideal.FfnUp.final5 m c).symm

end Cert.Proof

end
-- ==== Proof.FfnDown.lean ====
module

public import proofs.«01_k».proof.Proof.Gen.Kernel24Ideal.Frame
public import proofs.«01_k».proof.Proof.Gen.Reference24Ideal.Run
public import proofs.«01_k».proof.Proof.Forward
public import Idealize.ShloMosaic.Lib.Pipeline.ValueKit
public import Idealize.ShloMosaic.Lib.Claim

@[expose] public section

set_option maxRecDepth 16384

/-! The feed-forward block's down projection over the four chips' hidden columns, the residual sum and the next layer's norm. -/

noncomputable section

open Idealize.ShloMosaic Idealize.ShloMosaic.TcCoe Idealize.SL.Sem
open Idealize.ShloMosaic.Pipeline (Dat)

namespace Cert.Reference24Ideal.FfnDown
open Cert.Reference24Ideal Cert.Reference24Ideal.Gen

def ref0 (a0 : FVec Ideal S4x8192x704 .bf16) (a1 : FVec Ideal S1x4x704x1024 .bf16) (a2 : FVec Ideal S8192x1024 .f32) : FVec Ideal S8192x1024 .f32 :=
  addf a2 (Host.dotGeneral dot_S8192x2816_S2816x1024_S8192x1024_1_0_0_1_n_n none (extf .f32 (shapeCast _ (transpose S8192x4x704 [1, 0, 2] a0 transposes_S4x8192x704_S8192x4x704_1_0_2) shapeCasts_S8192x4x704_S8192x2816) bitsLt_bf16_f32) (extf .f32 (shapeCast _ (shapeCast _ a1 shapeCasts_S1x4x704x1024_S4x704x1024) shapeCasts_S4x704x1024_S2816x1024) bitsLt_bf16_f32))

def ref1 (a0 : FVec Ideal S4x8192x704 .bf16) (a1 : FVec Ideal S1x4x704x1024 .bf16) (a2 : FVec Ideal S8192x1024 .f32) (a3 : FVec Ideal S1x1024 .f32) : FVec Ideal S8192x1024 .bf16 :=
  truncf .bf16 (mulf (mulf (addf a2 (Host.dotGeneral dot_S8192x2816_S2816x1024_S8192x1024_1_0_0_1_n_n none (extf .f32 (shapeCast _ (transpose S8192x4x704 [1, 0, 2] a0 transposes_S4x8192x704_S8192x4x704_1_0_2) shapeCasts_S8192x4x704_S8192x2816) bitsLt_bf16_f32) (extf .f32 (shapeCast _ (shapeCast _ a1 shapeCasts_S1x4x704x1024_S4x704x1024) shapeCasts_S4x704x1024_S2816x1024) bitsLt_bf16_f32))) (broadcastInDim S8192x1024 ![0, 1] bcast_S8192x1_S8192x1024_0_1 (Host.rsqrt (addf (Host.divf (broadcastInDim S8192x1 ![0] bcast_S8192_S8192x1_0 (Host.reduceAdd (mulf (addf a2 (Host.dotGeneral dot_S8192x2816_S2816x1024_S8192x1024_1_0_0_1_n_n none (extf .f32 (shapeCast _ (transpose S8192x4x704 [1, 0, 2] a0 transposes_S4x8192x704_S8192x4x704_1_0_2) shapeCasts_S8192x4x704_S8192x2816) bitsLt_bf16_f32) (extf .f32 (shapeCast _ (shapeCast _ a1 shapeCasts_S1x4x704x1024_S4x704x1024) shapeCasts_S4x704x1024_S2816x1024) bitsLt_bf16_f32))) (addf a2 (Host.dotGeneral dot_S8192x2816_S2816x1024_S8192x1024_1_0_0_1_n_n none (extf .f32 (shapeCast _ (transpose S8192x4x704 [1, 0, 2] a0 transposes_S4x8192x704_S8192x4x704_1_0_2) shapeCasts_S8192x4x704_S8192x2816) bitsLt_bf16_f32) (extf .f32 (shapeCast _ (shapeCast _ a1 shapeCasts_S1x4x704x1024_S4x704x1024) shapeCasts_S4x704x1024_S2816x1024) bitsLt_bf16_f32)))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a3 shapeCasts_S1x1024_S1024)))) bitsLt_bf16_f32

/-- The residual sum, the hidden columns taken chip by chip. -/
def sum (a0 : FVec Ideal S4x8192x704 .bf16) (a1 : FVec Ideal S1x4x704x1024 .bf16) (a2 : FVec Ideal S8192x1024 .f32) (r : Fin 8192) (i : Fin 1024) : EReal :=
  a2 (ix2 r i) + ((∑ k : Fin 704, a0 (ix3 0 r k) * a1 (ix4 0 0 k i)) + (∑ k : Fin 704, a0 (ix3 1 r k) * a1 (ix4 0 1 k i))
    + (∑ k : Fin 704, a0 (ix3 2 r k) * a1 (ix4 0 2 k i)) + (∑ k : Fin 704, a0 (ix3 3 r k) * a1 (ix4 0 3 k i)))

theorem four (a : FVec Ideal S4x8192x704 .bf16) (b : FVec Ideal S1x4x704x1024 .bf16) (r : Fin 8192) (i : Fin 1024) :
    (∑ x : Fin 2816, a (ix3 ⟨x.val / 704, by omega⟩ r ⟨x.val % 704, by omega⟩) * b (ix4 0 ⟨x.val / 704, by omega⟩ ⟨x.val % 704, by omega⟩ i))
      = (∑ k : Fin 704, a (ix3 0 r k) * b (ix4 0 0 k i)) + (∑ k : Fin 704, a (ix3 1 r k) * b (ix4 0 1 k i))
        + (∑ k : Fin 704, a (ix3 2 r k) * b (ix4 0 2 k i)) + (∑ k : Fin 704, a (ix3 3 r k) * b (ix4 0 3 k i)) := by
  rw [← Fin.sum_univ_four (fun s : Fin 4 => ∑ k : Fin 704, a (ix3 s r k) * b (ix4 0 s k i)), Fin.sum_univ_tiles 4 704 rfl]
  refine Finset.sum_congr rfl fun s _ => Finset.sum_congr rfl fun k _ => ?_
  have e1 : (⟨(s.val * 704 + k.val) / 704, by omega⟩ : Fin 4) = s := Fin.ext (by show (s.val * 704 + k.val) / 704 = s.val; omega)
  have e2 : (⟨(s.val * 704 + k.val) % 704, by omega⟩ : Fin 704) = k := Fin.ext (by show (s.val * 704 + k.val) % 704 = k.val; omega)
  simp only [e1, e2]

theorem ref0_at (a0 : FVec Ideal S4x8192x704 .bf16) (a1 : FVec Ideal S1x4x704x1024 .bf16) (a2 : FVec Ideal S8192x1024 .f32) (r : Fin 8192) (i : Fin 1024) :
    ref0 a0 a1 a2 (ix2 r i) = sum a0 a1 a2 r i := by
  unfold sum
  rw [← four a0 a1 r i]
  pointwise [ref0]

theorem ref1_at (a0 : FVec Ideal S4x8192x704 .bf16) (a1 : FVec Ideal S1x4x704x1024 .bf16) (a2 : FVec Ideal S8192x1024 .f32) (a3 : FVec Ideal S1x1024 .f32) (r : Fin 8192) (i : Fin 1024) :
    ref1 a0 a1 a2 a3 (ix2 r i) = Forward.normed (sum a0 a1 a2 r) (a3 (ix2 0 i)) i := by
  rw [(funext fun i => (ref0_at a0 a1 a2 r i).symm : sum a0 a1 a2 r = fun i => ref0 a0 a1 a2 (ix2 r i))]
  pointwise [ref1, ref0, Forward.normed]

end Cert.Reference24Ideal.FfnDown

namespace Cert.Kernel24Ideal.FfnDown
open Cert.Kernel24Ideal Cert.Kernel24Ideal.Gen
open Cert.Reference24Ideal.FfnDown (ref0 ref0_at ref1 ref1_at sum)

/-- What a point computes of a row: the residual sum of that row. -/
theorem sum_at (g0 : Vec Ideal S1x512x704 .bf16) (p0 : Vec Ideal S1x1x704x1024 .bf16) (g1 : Vec Ideal S1x512x704 .bf16) (p1 : Vec Ideal S1x1x704x1024 .bf16) (g2 : Vec Ideal S1x512x704 .bf16) (p2 : Vec Ideal S1x1x704x1024 .bf16) (g3 : Vec Ideal S1x512x704 .bf16) (p3 : Vec Ideal S1x1x704x1024 .bf16) (x2 : Vec Ideal S512x1024 .f32) (y : Fin 512) (i : Fin 1024) (r : Fin 8192)
    (a0 : FVec Ideal S4x8192x704 .bf16) (a1 : FVec Ideal S1x4x704x1024 .bf16) (a2 : FVec Ideal S8192x1024 .f32)
    (hx : x2 (ix2 y i) = a2 (ix2 r i))
    (hg0 : ∀ k : Fin 704, g0 (ix3 0 y k) = a0 (ix3 0 r k)) (hp0 : ∀ k : Fin 704, p0 (ix4 0 0 k i) = a1 (ix4 0 0 k i))
    (hg1 : ∀ k : Fin 704, g1 (ix3 0 y k) = a0 (ix3 1 r k)) (hp1 : ∀ k : Fin 704, p1 (ix4 0 0 k i) = a1 (ix4 0 1 k i))
    (hg2 : ∀ k : Fin 704, g2 (ix3 0 y k) = a0 (ix3 2 r k)) (hp2 : ∀ k : Fin 704, p2 (ix4 0 0 k i) = a1 (ix4 0 2 k i))
    (hg3 : ∀ k : Fin 704, g3 (ix3 0 y k) = a0 (ix3 3 r k)) (hp3 : ∀ k : Fin 704, p3 (ix4 0 0 k i) = a1 (ix4 0 3 k i)) :
    k0_pay2 (F := Ideal) x2 g0 p0 g1 p1 g2 p2 g3 p3 (ix2 y i) = sum a0 a1 a2 r i := by
  unfold sum
  pointwise [k0_pay2]
  simp only [hx, hg0, hp0, hg1, hp1, hg2, hp2, hg3, hp3]

variable (m : (ℓ : Loc nD τ sig) → Buf (Elt Ideal) ℓ) (c : Dev nD)

theorem idx : ∀ t : Fin cfg0.N, win0_0.index t = ![0, t.val, 0] ∧ win0_1.index t = ![0, 0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem norm_at (v : FVec Ideal S512x1024 .f32) (g : Vec Ideal S1x1024 .f32) (y : Fin 512) (i : Fin 1024) :
    k0_pay1 (F := Ideal) v g (ix2 y i) = Forward.normed (fun l => v (ix2 y l)) (g (ix2 0 i)) i := by
  pointwise [k0_pay1]
  rfl

set_option maxHeartbeats 1000000 in
theorem rows (t : Fin cfg0.N) (y : Fin 512) (r : Fin 8192) (hr : r.val = t.val * 512 + y.val) (i : Fin 1024) :
    k0_pay2 (F := Ideal) (iblk m c 2 t) (View.ld (iblk m c 0 t) r0_1) (View.ld (iblk m c 1 t) r0_2) (View.ld (iblk m c 0 t) r0_3) (View.ld (iblk m c 1 t) r0_4) (View.ld (iblk m c 0 t) r0_5) (View.ld (iblk m c 1 t) r0_6) (View.ld (iblk m c 0 t) r0_7) (View.ld (iblk m c 1 t) r0_8) (ix2 y i)
      = sum (m ((c : Thread nD τ).loc main_arg0)) (m ((c : Thread nD τ).loc main_arg1)) (m ((c : Thread nD τ).loc main_arg2)) r i := by
  have hN : t.val < 16 := t.isLt
  refine sum_at _ _ _ _ _ _ _ _ _ y i r _ _ _ ?_ ?_ ?_ ?_ ?_ ?_ ?_ ?_ ?_
  all_goals try intro k
  all_goals pointwise
  all_goals blk_ext [iblk, V, idx t]

/-- The residual sum, in the array that carries it on. -/
theorem final4 : (dats m 0 c).arrAt 4 (cfgs 0).N
    = ref0 (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 16 := t.isLt
  blk_simp
  rw [after0_4]
  unfold_out out0_4
  frame_out
  idx_vars y
  refine (rows m c t y0 ⟨t.val * 512 + y0.val, by omega⟩ rfl y1).trans
    (Eq.symm ((congrArg _ (?_ : _ = ix2 ⟨t.val * 512 + y0.val, by omega⟩ y1)).trans (ref0_at _ _ _ _ _)))
  blk_ext [idx t]

/-- The next norm of that sum. -/
theorem final5 : (dats m 0 c).arrAt 5 (cfgs 0).N
    = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := t.isLt
  blk_simp
  rw [after0_5]
  unfold_out out0_5
  frame_out
  idx_vars y
  refine (norm_at _ _ y0 y1).trans (Eq.trans (congrFun (congrArg₂ Forward.normed
    (funext fun i => rows m c t y0 ⟨t.val * 512 + y0.val, by omega⟩ rfl i) ?_) y1)
    (Eq.symm ((congrArg _ (?_ : _ = ix2 ⟨t.val * 512 + y0.val, by omega⟩ y1)).trans (ref1_at _ _ _ _ _ _))))
  · blk_ext [iblk, V, idx t]
  · blk_ext [idx t]

end Cert.Kernel24Ideal.FfnDown
-- ==== Proof.Values.FfnDown.lean ====
/- The values of the pair Kernel24, Reference24: every result of the one is the result of the other. -/
module

public import proofs.«01_k».proof.Defs
public import proofs.«01_k».proof.Proof.Gen.Kernel24Ideal.Value
public import proofs.«01_k».proof.Proof.Gen.Reference24Ideal.Run
public import proofs.«01_k».proof.Proof.FfnDown
public import Idealize.ShloMosaic.Lib.Claim

@[expose] public section

noncomputable section

namespace Cert.Proof

open Idealize.ShloMosaic Idealize.SL.Sem

set_option maxHeartbeats 4000000 in
set_option maxRecDepth 16384 in
theorem values24 : Cert.algebraic_Kernel24Ideal_Reference24Ideal (hKernel24Ideal := Cert.Kernel24Ideal.Gen.facts) (hReference24Ideal := Cert.Reference24Ideal.Gen.facts) := by
  pair_intro
  · run_from Cert.Kernel24Ideal.Gen.run_main m g
  · run_from Cert.Reference24Ideal.Value.run m' g'
    · exact (Cert.Kernel24Ideal.FfnDown.final4 m c).symm
    · exact (Cert.Kernel24Ideal.FfnDown.final5 m c).symm

end Cert.Proof

end
-- ==== Proof.FfnDownLast.lean ====
module

public import proofs.«01_k».proof.Proof.Gen.Kernel25Ideal.Frame
public import proofs.«01_k».proof.Proof.Gen.Reference25Ideal.Run
public import proofs.«01_k».proof.Proof.Forward
public import Idealize.ShloMosaic.Lib.Pipeline.ValueKit
public import Idealize.ShloMosaic.Lib.Claim

@[expose] public section

set_option maxRecDepth 16384

/-! The last feed-forward block's down projection over the four chips' hidden columns, and the residual sum. -/

noncomputable section

open Idealize.ShloMosaic Idealize.ShloMosaic.TcCoe Idealize.SL.Sem
open Idealize.ShloMosaic.Pipeline (Dat)

namespace Cert.Reference25Ideal.FfnDownLast
open Cert.Reference25Ideal Cert.Reference25Ideal.Gen

def ref0 (a0 : FVec Ideal S4x8192x704 .bf16) (a1 : FVec Ideal S1x4x704x1024 .bf16) (a2 : FVec Ideal S8192x1024 .f32) : FVec Ideal S8192x1024 .f32 :=
  addf a2 (Host.dotGeneral dot_S8192x2816_S2816x1024_S8192x1024_1_0_0_1_n_n none (extf .f32 (shapeCast _ (transpose S8192x4x704 [1, 0, 2] a0 transposes_S4x8192x704_S8192x4x704_1_0_2) shapeCasts_S8192x4x704_S8192x2816) bitsLt_bf16_f32) (extf .f32 (shapeCast _ (shapeCast _ a1 shapeCasts_S1x4x704x1024_S4x704x1024) shapeCasts_S4x704x1024_S2816x1024) bitsLt_bf16_f32))

/-- The residual sum, the hidden columns taken chip by chip. -/
def sum (a0 : FVec Ideal S4x8192x704 .bf16) (a1 : FVec Ideal S1x4x704x1024 .bf16) (a2 : FVec Ideal S8192x1024 .f32) (r : Fin 8192) (i : Fin 1024) : EReal :=
  a2 (ix2 r i) + ((∑ k : Fin 704, a0 (ix3 0 r k) * a1 (ix4 0 0 k i)) + (∑ k : Fin 704, a0 (ix3 1 r k) * a1 (ix4 0 1 k i))
    + (∑ k : Fin 704, a0 (ix3 2 r k) * a1 (ix4 0 2 k i)) + (∑ k : Fin 704, a0 (ix3 3 r k) * a1 (ix4 0 3 k i)))

theorem four (a : FVec Ideal S4x8192x704 .bf16) (b : FVec Ideal S1x4x704x1024 .bf16) (r : Fin 8192) (i : Fin 1024) :
    (∑ x : Fin 2816, a (ix3 ⟨x.val / 704, by omega⟩ r ⟨x.val % 704, by omega⟩) * b (ix4 0 ⟨x.val / 704, by omega⟩ ⟨x.val % 704, by omega⟩ i))
      = (∑ k : Fin 704, a (ix3 0 r k) * b (ix4 0 0 k i)) + (∑ k : Fin 704, a (ix3 1 r k) * b (ix4 0 1 k i))
        + (∑ k : Fin 704, a (ix3 2 r k) * b (ix4 0 2 k i)) + (∑ k : Fin 704, a (ix3 3 r k) * b (ix4 0 3 k i)) := by
  rw [← Fin.sum_univ_four (fun s : Fin 4 => ∑ k : Fin 704, a (ix3 s r k) * b (ix4 0 s k i)), Fin.sum_univ_tiles 4 704 rfl]
  refine Finset.sum_congr rfl fun s _ => Finset.sum_congr rfl fun k _ => ?_
  have e1 : (⟨(s.val * 704 + k.val) / 704, by omega⟩ : Fin 4) = s := Fin.ext (by show (s.val * 704 + k.val) / 704 = s.val; omega)
  have e2 : (⟨(s.val * 704 + k.val) % 704, by omega⟩ : Fin 704) = k := Fin.ext (by show (s.val * 704 + k.val) % 704 = k.val; omega)
  simp only [e1, e2]

theorem ref0_at (a0 : FVec Ideal S4x8192x704 .bf16) (a1 : FVec Ideal S1x4x704x1024 .bf16) (a2 : FVec Ideal S8192x1024 .f32) (r : Fin 8192) (i : Fin 1024) :
    ref0 a0 a1 a2 (ix2 r i) = sum a0 a1 a2 r i := by
  unfold sum
  rw [← four a0 a1 r i]
  pointwise [ref0]

end Cert.Reference25Ideal.FfnDownLast

namespace Cert.Kernel25Ideal.FfnDownLast
open Cert.Kernel25Ideal Cert.Kernel25Ideal.Gen
open Cert.Reference25Ideal.FfnDownLast (ref0 ref0_at sum)

/-- What a point computes of a row: the residual sum of that row. -/
theorem sum_at (g0 : Vec Ideal S1x512x704 .bf16) (p0 : Vec Ideal S1x1x704x1024 .bf16) (g1 : Vec Ideal S1x512x704 .bf16) (p1 : Vec Ideal S1x1x704x1024 .bf16) (g2 : Vec Ideal S1x512x704 .bf16) (p2 : Vec Ideal S1x1x704x1024 .bf16) (g3 : Vec Ideal S1x512x704 .bf16) (p3 : Vec Ideal S1x1x704x1024 .bf16) (x2 : Vec Ideal S512x1024 .f32) (y : Fin 512) (i : Fin 1024) (r : Fin 8192)
    (a0 : FVec Ideal S4x8192x704 .bf16) (a1 : FVec Ideal S1x4x704x1024 .bf16) (a2 : FVec Ideal S8192x1024 .f32)
    (hx : x2 (ix2 y i) = a2 (ix2 r i))
    (hg0 : ∀ k : Fin 704, g0 (ix3 0 y k) = a0 (ix3 0 r k)) (hp0 : ∀ k : Fin 704, p0 (ix4 0 0 k i) = a1 (ix4 0 0 k i))
    (hg1 : ∀ k : Fin 704, g1 (ix3 0 y k) = a0 (ix3 1 r k)) (hp1 : ∀ k : Fin 704, p1 (ix4 0 0 k i) = a1 (ix4 0 1 k i))
    (hg2 : ∀ k : Fin 704, g2 (ix3 0 y k) = a0 (ix3 2 r k)) (hp2 : ∀ k : Fin 704, p2 (ix4 0 0 k i) = a1 (ix4 0 2 k i))
    (hg3 : ∀ k : Fin 704, g3 (ix3 0 y k) = a0 (ix3 3 r k)) (hp3 : ∀ k : Fin 704, p3 (ix4 0 0 k i) = a1 (ix4 0 3 k i)) :
    k0_pay1 (F := Ideal) x2 g0 p0 g1 p1 g2 p2 g3 p3 (ix2 y i) = sum a0 a1 a2 r i := by
  unfold sum
  pointwise [k0_pay1]
  simp only [hx, hg0, hp0, hg1, hp1, hg2, hp2, hg3, hp3]

variable (m : (ℓ : Loc nD τ sig) → Buf (Elt Ideal) ℓ) (c : Dev nD)

theorem idx : ∀ t : Fin cfg0.N, win0_0.index t = ![0, t.val, 0] ∧ win0_1.index t = ![0, 0, 0, 0] ∧ win0_2.index t = ![t.val, 0]
    ∧ win0_3.index t = ![t.val, 0] :=
  (by decide +kernel : ∀ t : Fin grid0.N, _)

set_option maxHeartbeats 1000000 in
theorem rows (t : Fin cfg0.N) (y : Fin 512) (r : Fin 8192) (hr : r.val = t.val * 512 + y.val) (i : Fin 1024) :
    k0_pay1 (F := Ideal) (iblk m c 2 t) (View.ld (iblk m c 0 t) r0_1) (View.ld (iblk m c 1 t) r0_2) (View.ld (iblk m c 0 t) r0_3) (View.ld (iblk m c 1 t) r0_4) (View.ld (iblk m c 0 t) r0_5) (View.ld (iblk m c 1 t) r0_6) (View.ld (iblk m c 0 t) r0_7) (View.ld (iblk m c 1 t) r0_8) (ix2 y i)
      = sum (m ((c : Thread nD τ).loc main_arg0)) (m ((c : Thread nD τ).loc main_arg1)) (m ((c : Thread nD τ).loc main_arg2)) r i := by
  have hN : t.val < 16 := t.isLt
  refine sum_at _ _ _ _ _ _ _ _ _ y i r _ _ _ ?_ ?_ ?_ ?_ ?_ ?_ ?_ ?_ ?_
  all_goals try intro k
  all_goals pointwise
  all_goals blk_ext [iblk, V, idx t]

/-- The residual sum. -/
theorem final3 : (dats m 0 c).arrAt 3 (cfgs 0).N
    = ref0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN : t.val < 16 := t.isLt
  blk_simp
  rw [after0_3]
  unfold out0_3
  frame_out
  idx_vars y
  refine (rows m c t y0 ⟨t.val * 512 + y0.val, by omega⟩ rfl y1).trans
    (Eq.symm ((congrArg _ (?_ : _ = ix2 ⟨t.val * 512 + y0.val, by omega⟩ y1)).trans (ref0_at _ _ _ _ _)))
  blk_ext [idx t]

end Cert.Kernel25Ideal.FfnDownLast
-- ==== Proof.Values.FfnDownLast.lean ====
/- The values of the pair Kernel25, Reference25: every result of the one is the result of the other. -/
module

public import proofs.«01_k».proof.Defs
public import proofs.«01_k».proof.Proof.Gen.Kernel25Ideal.Value
public import proofs.«01_k».proof.Proof.Gen.Reference25Ideal.Run
public import proofs.«01_k».proof.Proof.FfnDownLast
public import Idealize.ShloMosaic.Lib.Claim

@[expose] public section

noncomputable section

namespace Cert.Proof

open Idealize.ShloMosaic Idealize.SL.Sem

set_option maxHeartbeats 4000000 in
set_option maxRecDepth 16384 in
theorem values25 : Cert.algebraic_Kernel25Ideal_Reference25Ideal (hKernel25Ideal := Cert.Kernel25Ideal.Gen.facts) (hReference25Ideal := Cert.Reference25Ideal.Gen.facts) := by
  pair_intro
  · run_from Cert.Kernel25Ideal.Gen.run_main m g
  · run_from Cert.Reference25Ideal.Value.run m' g'
    · exact (Cert.Kernel25Ideal.FfnDownLast.final3 m c).symm

end Cert.Proof

end
-- ==== Proof.SpatialOut.lean ====
module

public import proofs.«01_k».proof.Proof.Gen.Kernel26Ideal.Frame
public import proofs.«01_k».proof.Proof.Gen.Reference26Ideal.Run
public import proofs.«01_k».proof.Proof.Forward
public import Idealize.ShloMosaic.Lib.Pipeline.ValueKit
public import Idealize.ShloMosaic.Lib.Claim

@[expose] public section

set_option maxRecDepth 16384

/-! The gMLP block's output projection, the residual sum and the norm of the layer behind it. -/

noncomputable section

open Idealize.ShloMosaic Idealize.ShloMosaic.TcCoe Idealize.SL.Sem
open Idealize.ShloMosaic.Pipeline (Dat)

namespace Cert.Reference26Ideal.SpatialOut
open Cert.Reference26Ideal Cert.Reference26Ideal.Gen

def ref0 (a0 : FVec Ideal S8192x2048 .bf16) (a1 : FVec Ideal S1x2048x1024 .bf16) (a2 : FVec Ideal S8192x1024 .f32) : FVec Ideal S8192x1024 .f32 :=
  addf a2 (Host.dotGeneral dot_S8192x2048_S2048x1024_S8192x1024_1_0_0_1_n_n none (extf .f32 a0 bitsLt_bf16_f32) (extf .f32 (shapeCast _ a1 shapeCasts_S1x2048x1024_S2048x1024) bitsLt_bf16_f32))

def ref1 (a0 : FVec Ideal S8192x2048 .bf16) (a1 : FVec Ideal S1x2048x1024 .bf16) (a2 : FVec Ideal S8192x1024 .f32) (a3 : FVec Ideal S1x1024 .f32) : FVec Ideal S8192x1024 .bf16 :=
  truncf .bf16 (mulf (mulf (addf a2 (Host.dotGeneral dot_S8192x2048_S2048x1024_S8192x1024_1_0_0_1_n_n none (extf .f32 a0 bitsLt_bf16_f32) (extf .f32 (shapeCast _ a1 shapeCasts_S1x2048x1024_S2048x1024) bitsLt_bf16_f32))) (broadcastInDim S8192x1024 ![0, 1] bcast_S8192x1_S8192x1024_0_1 (Host.rsqrt (addf (Host.divf (broadcastInDim S8192x1 ![0] bcast_S8192_S8192x1_0 (Host.reduceAdd (mulf (addf a2 (Host.dotGeneral dot_S8192x2048_S2048x1024_S8192x1024_1_0_0_1_n_n none (extf .f32 a0 bitsLt_bf16_f32) (extf .f32 (shapeCast _ a1 shapeCasts_S1x2048x1024_S2048x1024) bitsLt_bf16_f32))) (addf a2 (Host.dotGeneral dot_S8192x2048_S2048x1024_S8192x1024_1_0_0_1_n_n none (extf .f32 a0 bitsLt_bf16_f32) (extf .f32 (shapeCast _ a1 shapeCasts_S1x2048x1024_S2048x1024) bitsLt_bf16_f32)))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a3 shapeCasts_S1x1024_S1024)))) bitsLt_bf16_f32

/-- The residual sum. -/
def sum (a0 : FVec Ideal S8192x2048 .bf16) (a1 : FVec Ideal S1x2048x1024 .bf16) (a2 : FVec Ideal S8192x1024 .f32) (r : Fin 8192) (i : Fin 1024) : EReal :=
  a2 (ix2 r i) + ∑ k : Fin 2048, a0 (ix2 r k) * a1 (ix3 0 k i)

theorem ref0_at (a0 : FVec Ideal S8192x2048 .bf16) (a1 : FVec Ideal S1x2048x1024 .bf16) (a2 : FVec Ideal S8192x1024 .f32) (r : Fin 8192) (i : Fin 1024) :
    ref0 a0 a1 a2 (ix2 r i) = sum a0 a1 a2 r i := by
  pointwise [ref0, sum]

theorem ref1_at (a0 : FVec Ideal S8192x2048 .bf16) (a1 : FVec Ideal S1x2048x1024 .bf16) (a2 : FVec Ideal S8192x1024 .f32) (a3 : FVec Ideal S1x1024 .f32) (r : Fin 8192) (i : Fin 1024) :
    ref1 a0 a1 a2 a3 (ix2 r i) = Forward.normed (sum a0 a1 a2 r) (a3 (ix2 0 i)) i := by
  pointwise [ref1]
  rfl

end Cert.Reference26Ideal.SpatialOut

namespace Cert.Kernel26Ideal.SpatialOut
open Cert.Kernel26Ideal Cert.Kernel26Ideal.Gen
open Cert.Reference26Ideal.SpatialOut (ref0 ref1 ref0_at ref1_at)

/-- The residual sum of a block's rows. -/
def sum (x0 : Vec Ideal S512x2048 .bf16) (x1 : Vec Ideal S1x2048x1024 .bf16) (x2 : Vec Ideal S512x1024 .f32) (r : Fin 512) (i : Fin 1024) : EReal :=
  x2 (ix2 r i) + ∑ k : Fin 2048, x0 (ix2 r k) * x1 (ix3 0 k i)

variable (x0 : Vec Ideal S512x2048 .bf16) (x1 : Vec Ideal S1x2048x1024 .bf16) (x2 : Vec Ideal S512x1024 .f32) (x3 : Vec Ideal S1x1024 .f32)

theorem sum_at (r : Fin 512) (i : Fin 1024) : k0_pay1 (F := Ideal) x2 x0 x1 (ix2 r i) = sum x0 x1 x2 r i := by
  pointwise [k0_pay1, sum]

theorem norm_at (r : Fin 512) (i : Fin 1024) :
    k0_pay2 (F := Ideal) x2 x0 x1 x3 (ix2 r i) = Forward.normed (sum x0 x1 x2 r) (x3 (ix2 0 i)) i := by
  pointwise [k0_pay2, k0_pay1]
  rfl

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem rows (t : Fin cfg0.N) (r : Fin 512) (R : Fin 8192) (hR : R.val = t.val * 512 + r.val) (i : Fin 1024) :
    sum (iblk m c 0 t) (iblk m c 1 t) (iblk m c 2 t) r i
      = Reference26Ideal.SpatialOut.sum (m ((c : Thread nD τ).loc main_arg0)) (m ((c : Thread nD τ).loc main_arg1)) (m ((c : Thread nD τ).loc main_arg2)) R i := by
  have hN : t.val < 16 := t.isLt
  refine congrArg₂ (· + ·) ?_ (Finset.sum_congr rfl fun k _ => congrArg₂ (· * ·) ?_ ?_)
  all_goals blk_ext [iblk, V, idx t]

/-- The residual sum, in the array that carries it on. -/
theorem final4 : (dats m 0 c).arrAt 4 (cfgs 0).N
    = ref0 (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 16 := t.isLt
  blk_simp
  rw [after0_4]
  unfold out0_4
  frame_out
  idx_vars y
  refine (sum_at _ _ _ y0 y1).trans ((rows m c t y0 ⟨t.val * 512 + y0.val, by omega⟩ rfl y1).trans
    (Eq.symm ((congrArg _ (?_ : _ = ix2 ⟨t.val * 512 + y0.val, by omega⟩ y1)).trans (ref0_at _ _ _ _ _))))
  blk_ext [idx t]

/-- The next norm of that sum. -/
theorem final5 : (dats m 0 c).arrAt 5 (cfgs 0).N
    = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := t.isLt
  blk_simp
  rw [after0_5]
  unfold out0_5
  frame_out
  idx_vars y
  refine (norm_at _ _ _ _ y0 y1).trans (Eq.trans (congrFun (congrArg₂ Forward.normed
    (funext fun i => rows m c t y0 ⟨t.val * 512 + y0.val, by omega⟩ rfl i) ?_) y1)
    (Eq.symm ((congrArg _ (?_ : _ = ix2 ⟨t.val * 512 + y0.val, by omega⟩ y1)).trans (ref1_at _ _ _ _ _ _))))
  · blk_ext [iblk, V, idx t]
  · blk_ext [idx t]

end Cert.Kernel26Ideal.SpatialOut
-- ==== Proof.Values.SpatialOut.lean ====
/- The values of the pair Kernel26, Reference26: every result of the one is the result of the other. -/
module

public import proofs.«01_k».proof.Defs
public import proofs.«01_k».proof.Proof.Gen.Kernel26Ideal.Value
public import proofs.«01_k».proof.Proof.Gen.Reference26Ideal.Run
public import proofs.«01_k».proof.Proof.SpatialOut
public import Idealize.ShloMosaic.Lib.Claim

@[expose] public section

noncomputable section

namespace Cert.Proof

open Idealize.ShloMosaic Idealize.SL.Sem

set_option maxHeartbeats 4000000 in
set_option maxRecDepth 16384 in
theorem values26 : Cert.algebraic_Kernel26Ideal_Reference26Ideal (hKernel26Ideal := Cert.Kernel26Ideal.Gen.facts) (hReference26Ideal := Cert.Reference26Ideal.Gen.facts) := by
  pair_intro
  · run_from Cert.Kernel26Ideal.Gen.run_main m g
  · run_from Cert.Reference26Ideal.Value.run m' g'
    · exact (Cert.Kernel26Ideal.SpatialOut.final4 m c).symm
    · exact (Cert.Kernel26Ideal.SpatialOut.final5 m c).symm

end Cert.Proof

end
-- ==== Proof.AttentionOut.lean ====
module

public import proofs.«01_k».proof.Proof.Gen.Kernel27Ideal.Frame
public import proofs.«01_k».proof.Proof.Gen.Reference27Ideal.Run
public import proofs.«01_k».proof.Proof.Forward
public import Idealize.ShloMosaic.Lib.Pipeline.ValueKit
public import Idealize.ShloMosaic.Lib.Claim

@[expose] public section

set_option maxRecDepth 16384

/-! The attention's output projection, the residual sum and the norm of the layer behind it. -/

noncomputable section

open Idealize.ShloMosaic Idealize.ShloMosaic.TcCoe Idealize.SL.Sem
open Idealize.ShloMosaic.Pipeline (Dat)

namespace Cert.Reference27Ideal.AttentionOut
open Cert.Reference27Ideal Cert.Reference27Ideal.Gen

def ref0 (a0 : FVec Ideal S8192x1024 .bf16) (a1 : FVec Ideal S1x1024x1024 .bf16) (a2 : FVec Ideal S8192x1024 .f32) : FVec Ideal S8192x1024 .f32 :=
  addf a2 (Host.dotGeneral dot_S8192x1024_S1024x1024_S8192x1024_1_0_0_1_n_n none (extf .f32 a0 bitsLt_bf16_f32) (extf .f32 (shapeCast _ a1 shapeCasts_S1x1024x1024_S1024x1024) bitsLt_bf16_f32))

def ref1 (a0 : FVec Ideal S8192x1024 .bf16) (a1 : FVec Ideal S1x1024x1024 .bf16) (a2 : FVec Ideal S8192x1024 .f32) (a3 : FVec Ideal S1x1024 .f32) : FVec Ideal S8192x1024 .bf16 :=
  truncf .bf16 (mulf (mulf (addf a2 (Host.dotGeneral dot_S8192x1024_S1024x1024_S8192x1024_1_0_0_1_n_n none (extf .f32 a0 bitsLt_bf16_f32) (extf .f32 (shapeCast _ a1 shapeCasts_S1x1024x1024_S1024x1024) bitsLt_bf16_f32))) (broadcastInDim S8192x1024 ![0, 1] bcast_S8192x1_S8192x1024_0_1 (Host.rsqrt (addf (Host.divf (broadcastInDim S8192x1 ![0] bcast_S8192_S8192x1_0 (Host.reduceAdd (mulf (addf a2 (Host.dotGeneral dot_S8192x1024_S1024x1024_S8192x1024_1_0_0_1_n_n none (extf .f32 a0 bitsLt_bf16_f32) (extf .f32 (shapeCast _ a1 shapeCasts_S1x1024x1024_S1024x1024) bitsLt_bf16_f32))) (addf a2 (Host.dotGeneral dot_S8192x1024_S1024x1024_S8192x1024_1_0_0_1_n_n none (extf .f32 a0 bitsLt_bf16_f32) (extf .f32 (shapeCast _ a1 shapeCasts_S1x1024x1024_S1024x1024) bitsLt_bf16_f32)))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a3 shapeCasts_S1x1024_S1024)))) bitsLt_bf16_f32

/-- The residual sum. -/
def sum (a0 : FVec Ideal S8192x1024 .bf16) (a1 : FVec Ideal S1x1024x1024 .bf16) (a2 : FVec Ideal S8192x1024 .f32) (r : Fin 8192) (i : Fin 1024) : EReal :=
  a2 (ix2 r i) + ∑ k : Fin 1024, a0 (ix2 r k) * a1 (ix3 0 k i)

theorem ref0_at (a0 : FVec Ideal S8192x1024 .bf16) (a1 : FVec Ideal S1x1024x1024 .bf16) (a2 : FVec Ideal S8192x1024 .f32) (r : Fin 8192) (i : Fin 1024) :
    ref0 a0 a1 a2 (ix2 r i) = sum a0 a1 a2 r i := by
  pointwise [ref0, sum]

theorem ref1_at (a0 : FVec Ideal S8192x1024 .bf16) (a1 : FVec Ideal S1x1024x1024 .bf16) (a2 : FVec Ideal S8192x1024 .f32) (a3 : FVec Ideal S1x1024 .f32) (r : Fin 8192) (i : Fin 1024) :
    ref1 a0 a1 a2 a3 (ix2 r i) = Forward.normed (sum a0 a1 a2 r) (a3 (ix2 0 i)) i := by
  pointwise [ref1]
  rfl

end Cert.Reference27Ideal.AttentionOut

namespace Cert.Kernel27Ideal.AttentionOut
open Cert.Kernel27Ideal Cert.Kernel27Ideal.Gen
open Cert.Reference27Ideal.AttentionOut (ref0 ref1 ref0_at ref1_at)

/-- The residual sum of a block's rows. -/
def sum (x0 : Vec Ideal S512x1024 .bf16) (x1 : Vec Ideal S1x1024x1024 .bf16) (x2 : Vec Ideal S512x1024 .f32) (r : Fin 512) (i : Fin 1024) : EReal :=
  x2 (ix2 r i) + ∑ k : Fin 1024, x0 (ix2 r k) * x1 (ix3 0 k i)

variable (x0 : Vec Ideal S512x1024 .bf16) (x1 : Vec Ideal S1x1024x1024 .bf16) (x2 : Vec Ideal S512x1024 .f32) (x3 : Vec Ideal S1x1024 .f32)

theorem sum_at (r : Fin 512) (i : Fin 1024) : k0_pay1 (F := Ideal) x2 x0 x1 (ix2 r i) = sum x0 x1 x2 r i := by
  pointwise [k0_pay1, sum]

theorem norm_at (r : Fin 512) (i : Fin 1024) :
    k0_pay2 (F := Ideal) x2 x0 x1 x3 (ix2 r i) = Forward.normed (sum x0 x1 x2 r) (x3 (ix2 0 i)) i := by
  pointwise [k0_pay2, k0_pay1]
  rfl

variable (m : (ℓ : Loc nD τ sig) → Buf (Elt Ideal) ℓ) (c : Dev nD)

theorem idx : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] :=
  (by decide +kernel : ∀ t : Fin grid0.N, _)

theorem rows (t : Fin cfg0.N) (r : Fin 512) (R : Fin 8192) (hR : R.val = t.val * 512 + r.val) (i : Fin 1024) :
    sum (iblk m c 0 t) (iblk m c 1 t) (iblk m c 2 t) r i
      = Reference27Ideal.AttentionOut.sum (m ((c : Thread nD τ).loc main_arg0)) (m ((c : Thread nD τ).loc main_arg1)) (m ((c : Thread nD τ).loc main_arg2)) R i := by
  have hN : t.val < 16 := t.isLt
  refine congrArg₂ (· + ·) ?_ (Finset.sum_congr rfl fun k _ => congrArg₂ (· * ·) ?_ ?_)
  all_goals blk_ext [iblk, V, idx t]

/-- The residual sum, in the array that carries it on. -/
theorem final4 : (dats m 0 c).arrAt 4 (cfgs 0).N
    = ref0 (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 16 := t.isLt
  blk_simp
  rw [after0_4]
  unfold out0_4
  frame_out
  idx_vars y
  refine (sum_at _ _ _ y0 y1).trans ((rows m c t y0 ⟨t.val * 512 + y0.val, by omega⟩ rfl y1).trans
    (Eq.symm ((congrArg _ (?_ : _ = ix2 ⟨t.val * 512 + y0.val, by omega⟩ y1)).trans (ref0_at _ _ _ _ _))))
  blk_ext [idx t]

/-- The next norm of that sum. -/
theorem final5 : (dats m 0 c).arrAt 5 (cfgs 0).N
    = ref1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have hN : t.val < 16 := t.isLt
  blk_simp
  rw [after0_5]
  unfold out0_5
  frame_out
  idx_vars y
  refine (norm_at _ _ _ _ y0 y1).trans (Eq.trans (congrFun (congrArg₂ Forward.normed
    (funext fun i => rows m c t y0 ⟨t.val * 512 + y0.val, by omega⟩ rfl i) ?_) y1)
    (Eq.symm ((congrArg _ (?_ : _ = ix2 ⟨t.val * 512 + y0.val, by omega⟩ y1)).trans (ref1_at _ _ _ _ _ _))))
  · blk_ext [iblk, V, idx t]
  · blk_ext [idx t]

end Cert.Kernel27Ideal.AttentionOut
-- ==== Proof.Values.AttentionOut.lean ====
/- The values of the pair Kernel27, Reference27: every result of the one is the result of the other. -/
module

public import proofs.«01_k».proof.Defs
public import proofs.«01_k».proof.Proof.Gen.Kernel27Ideal.Value
public import proofs.«01_k».proof.Proof.Gen.Reference27Ideal.Run
public import proofs.«01_k».proof.Proof.AttentionOut
public import Idealize.ShloMosaic.Lib.Claim

@[expose] public section

noncomputable section

namespace Cert.Proof

open Idealize.ShloMosaic Idealize.SL.Sem

set_option maxHeartbeats 4000000 in
set_option maxRecDepth 16384 in
theorem values27 : Cert.algebraic_Kernel27Ideal_Reference27Ideal (hKernel27Ideal := Cert.Kernel27Ideal.Gen.facts) (hReference27Ideal := Cert.Reference27Ideal.Gen.facts) := by
  pair_intro
  · run_from Cert.Kernel27Ideal.Gen.run_main m g
  · run_from Cert.Reference27Ideal.Value.run m' g'
    · exact (Cert.Kernel27Ideal.AttentionOut.final4 m c).symm
    · exact (Cert.Kernel27Ideal.AttentionOut.final5 m c).symm

end Cert.Proof

end
-- ==== Proof.QkvProj.lean ====
module

public import proofs.«01_k».proof.Proof.Gen.Kernel28Ideal.Frame
public import proofs.«01_k».proof.Proof.Gen.Reference28Ideal.Run
public import Idealize.ShloMosaic.Lib.Pipeline.ValueKit
public import Idealize.ShloMosaic.Lib.Claim

@[expose] public section

set_option maxRecDepth 16384

/-! The projection to queries, keys and values, each behind a front of zero rows. -/

noncomputable section

open Idealize.ShloMosaic Idealize.ShloMosaic.TcCoe Idealize.SL.Sem
open Idealize.ShloMosaic.Pipeline (Dat)

namespace Cert.Reference28Ideal.QkvProj
open Cert.Reference28Ideal Cert.Reference28Ideal.Gen

def ref0 (a0 : FVec Ideal S8192x1024 .bf16) (a1 : FVec Ideal S1x1024x3072 .bf16) : FVec Ideal S3x10240x1024 .bf16 :=
  truncf .bf16 (pad S3x10240x1024 ![0, 2048, 0] ![0, 0, 0] ![0, 0, 0] ((concatenate S3x8192x1024 0 [⟨S1x8192x1024, ((broadcastInDim S1x8192x1024 ![1, 2] bcast_S8192x1024_S1x8192x1024_1_2 (mulf (extractStridedSlice S8192x1024 ![0, 0] (Host.dotGeneral dot_S8192x1024_S1024x3072_S8192x3072_1_0_0_1_n_n none (extf .f32 a0 bitsLt_bf16_f32) (extf .f32 (shapeCast _ a1 shapeCasts_S1x1024x3072_S1024x3072) bitsLt_bf16_f32)) slices_S8192x3072_S8192x1024_0_0) (broadcastInDim S8192x1024 ![] bcast_S_S8192x1024 (constant S_ .f32 0x3E38AA3B#32)))) : (⟨S1x8192x1024, .f32⟩ : BufTy).Contents (Elt Ideal))⟩, ⟨S1x8192x1024, ((broadcastInDim S1x8192x1024 ![1, 2] bcast_S8192x1024_S1x8192x1024_1_2 (extractStridedSlice S8192x1024 ![0, 1024] (Host.dotGeneral dot_S8192x1024_S1024x3072_S8192x3072_1_0_0_1_n_n none (extf .f32 a0 bitsLt_bf16_f32) (extf .f32 (shapeCast _ a1 shapeCasts_S1x1024x3072_S1024x3072) bitsLt_bf16_f32)) slices_S8192x3072_S8192x1024_0_1024)) : (⟨S1x8192x1024, .f32⟩ : BufTy).Contents (Elt Ideal))⟩, ⟨S1x8192x1024, ((broadcastInDim S1x8192x1024 ![1, 2] bcast_S8192x1024_S1x8192x1024_1_2 (extractStridedSlice S8192x1024 ![0, 2048] (Host.dotGeneral dot_S8192x1024_S1024x3072_S8192x3072_1_0_0_1_n_n none (extf .f32 a0 bitsLt_bf16_f32) (extf .f32 (shapeCast _ a1 shapeCasts_S1x1024x3072_S1024x3072) bitsLt_bf16_f32)) slices_S8192x3072_S8192x1024_0_2048)) : (⟨S1x8192x1024, .f32⟩ : BufTy).Contents (Elt Ideal))⟩] concatenates_S1x8192x1024_S1x8192x1024_S1x8192x1024_S3x8192x1024_d0 : (⟨S3x8192x1024, .f32⟩ : BufTy).Contents (Elt Ideal))) (sitofp .f32 (constantI S_ 32 0#32)) pads_S3x8192x1024_S3x10240x1024_000_204800_000 h_S_) bitsLt_bf16_f32

/-- A column of queries, keys or values: a row of the normalised activations against a column of the weight. -/
def proj (a0 : FVec Ideal S8192x1024 .bf16) (a1 : FVec Ideal S1x1024x3072 .bf16) (r : Fin 8192) (i : Fin 3072) : EReal :=
  ∑ k : Fin 1024, a0 (ix2 r k) * a1 (ix3 0 k i)

set_option maxHeartbeats 2000000 in
theorem front_at (a0 : FVec Ideal S8192x1024 .bf16) (a1 : FVec Ideal S1x1024x3072 .bf16) (p : Fin 3) (r : Fin 10240) (i : Fin 1024) (h : r.val < 2048) :
    ref0 a0 a1 (ix3 p r i) = 0 := by
  unfold ref0
  rw [truncf_apply, pad_apply, dif_neg (fun q => absurd (q 1).1 (by show ¬ 2048 ≤ r.val; omega))]
  pointwise
  show (((0#32).toInt : ℝ) : EReal) = 0
  simp

theorem query_at (a0 : FVec Ideal S8192x1024 .bf16) (a1 : FVec Ideal S1x1024x3072 .bf16) (r : Fin 10240) (i : Fin 1024) (h : 2048 ≤ r.val) :
    ref0 a0 a1 (ix3 0 r i) = proj a0 a1 ⟨r.val - 2048, by omega⟩ ⟨i.val, by omega⟩ * Ideal.ofBits .f32 0x3E38AA3B#32 := by
  pointwise [ref0, proj]
  exact dif_pos ⟨h, by omega⟩

theorem key_at (a0 : FVec Ideal S8192x1024 .bf16) (a1 : FVec Ideal S1x1024x3072 .bf16) (r : Fin 10240) (i : Fin 1024) (h : 2048 ≤ r.val) :
    ref0 a0 a1 (ix3 1 r i) = proj a0 a1 ⟨r.val - 2048, by omega⟩ ⟨1024 + i.val, by omega⟩ := by
  pointwise [ref0, proj]
  exact dif_pos ⟨h, by omega⟩

theorem value_at (a0 : FVec Ideal S8192x1024 .bf16) (a1 : FVec Ideal S1x1024x3072 .bf16) (r : Fin 10240) (i : Fin 1024) (h : 2048 ≤ r.val) :
    ref0 a0 a1 (ix3 2 r i) = proj a0 a1 ⟨r.val - 2048, by omega⟩ ⟨2048 + i.val, by omega⟩ := by
  pointwise [ref0, proj]
  exact dif_pos ⟨h, by omega⟩

/-- A row behind the front, in each of the three. -/
theorem body_at (a0 : FVec Ideal S8192x1024 .bf16) (a1 : FVec Ideal S1x1024x3072 .bf16) (p : Fin 3) (r : Fin 10240) (i : Fin 1024) (h : 2048 ≤ r.val) :
    ref0 a0 a1 (ix3 p r i) = proj a0 a1 ⟨r.val - 2048, by omega⟩ ⟨p.val * 1024 + i.val, by omega⟩
      * (if p.val = 0 then Ideal.ofBits .f32 0x3E38AA3B#32 else 1) := by
  fin_cases p
  · refine (query_at a0 a1 r i h).trans (congrArg (· * _) (congrArg _ (Fin.ext ?_)))
    show i.val = 0 * 1024 + i.val
    omega
  · refine (key_at a0 a1 r i h).trans ((congrArg _ (Fin.ext ?_)).trans (mul_one _).symm)
    show 1024 + i.val = 1 * 1024 + i.val
    omega
  · refine (value_at a0 a1 r i h).trans ((congrArg _ (Fin.ext ?_)).trans (mul_one _).symm)
    show 2048 + i.val = 2 * 1024 + i.val
    omega

end Cert.Reference28Ideal.QkvProj

namespace Cert.Kernel28Ideal.QkvProj
open Cert.Kernel28Ideal Cert.Kernel28Ideal.Gen
open Cert.Reference28Ideal.QkvProj (ref0 front_at body_at)

theorem zero_at (z : Fin 1) (r : Fin 512) (j : Fin 1024) : k0_pay1 (F := Ideal) (ix3 z r j) = 0 := by
  pointwise [k0_pay1]

theorem proj_at (q : grid0.Coords) (x0 : Vec Ideal S512x1024 .bf16) (x1 : Vec Ideal S1x1024x1024 .bf16) (z : Fin 1) (r : Fin 512) (j : Fin 1024) :
    k0_pay2 (F := Ideal) q x0 x1 (ix3 z r j) = (∑ k : Fin 1024, x0 (ix2 r k) * x1 (ix3 0 k j))
      * (if (q 0).val = 0 then Ideal.ofBits .f32 0x3E38AA3B#32 else 1) := by
  have hq : (q 0).val < 3 := (q 0).isLt
  pointwise [k0_pay2]
  refine congrArg _ ?_
  generalize (q 0).val = n at *
  interval_cases n <;> rfl

variable (m : (ℓ : Loc nD τ sig) → Buf (Elt Ideal) ℓ) (c : Dev nD)

theorem idx : ∀ t : Fin cfg0.N, win0_0.index t = ![t.val % 20 - 4, 0] ∧ win0_1.index t = ![0, 0, t.val / 20]
    ∧ win0_2.index t = ![t.val / 20, t.val % 20, 0] ∧ (grid0.coords t 0).val = t.val / 20 :=
  (by decide +kernel : ∀ t : Fin grid0.N, _)

/-- The three arrays, each behind its front. -/
theorem final2 : (dats m 0 c).arrAt 2 (cfgs 0).N = ref0 (m ((c : Thread nD τ).loc main_arg0)) (m ((c : Thread nD τ).loc main_arg1)) := by
  refine (dats m 0 c).arrAt_eq_of_covers 2 _ (by decide +kernel) fun t hf y => ?_
  have hN : t.val < 60 := t.isLt
  blk_simp
  rw [after0_2]
  by_cases h : t.val % 20 ≤ 3
  · rw [outsAt0_A m c t h (by omega)]
    frame_out
    idx_vars y
    refine (zero_at y0 y1 y2).trans (Eq.symm ((congrArg _ (?_ : _ = ix3 ⟨t.val / 20, by omega⟩ ⟨t.val % 20 * 512 + y1.val, by omega⟩ y2)).trans
      (front_at _ _ _ _ _ (show t.val % 20 * 512 + y1.val < 2048 by omega))))
    blk_ext [idx t]
  · rw [outsAt0_B m c t h (by omega)]
    frame_out
    idx_vars y
    refine (proj_at _ _ _ y0 y1 y2).trans (Eq.trans ?_ (Eq.symm ((congrArg _ (?_ : _ = ix3 ⟨t.val / 20, by omega⟩ ⟨t.val % 20 * 512 + y1.val, by omega⟩ y2)).trans
      (body_at _ _ _ _ _ (show 2048 ≤ t.val % 20 * 512 + y1.val by omega)))))
    · refine congrArg₂ (· * ·) (Finset.sum_congr rfl fun k _ => congrArg₂ (· * ·) ?_ ?_) (by rw [(idx t).2.2.2])
      all_goals blk_ext [iblk, V, idx t]
    · blk_ext [idx t]

end Cert.Kernel28Ideal.QkvProj
-- ==== Proof.Values.QkvProj.lean ====
/- The values of the pair Kernel28, Reference28: every result of the one is the result of the other. -/
module

public import proofs.«01_k».proof.Defs
public import proofs.«01_k».proof.Proof.Gen.Kernel28Ideal.Value
public import proofs.«01_k».proof.Proof.Gen.Reference28Ideal.Run
public import proofs.«01_k».proof.Proof.QkvProj
public import Idealize.ShloMosaic.Lib.Claim

@[expose] public section

noncomputable section

namespace Cert.Proof

open Idealize.ShloMosaic Idealize.SL.Sem

set_option maxHeartbeats 4000000 in
set_option maxRecDepth 16384 in
theorem values28 : Cert.algebraic_Kernel28Ideal_Reference28Ideal (hKernel28Ideal := Cert.Kernel28Ideal.Gen.facts) (hReference28Ideal := Cert.Reference28Ideal.Gen.facts) := by
  pair_intro
  · run_from Cert.Kernel28Ideal.Gen.run_main m g
  · run_from Cert.Reference28Ideal.Value.run m' g'
    · exact (Cert.Kernel28Ideal.QkvProj.final2 m c).symm

end Cert.Proof

end
-- ==== Proof.Gating.lean ====
module

public import Idealize.ShloMosaic.Lib.Pipeline.ValueKit

@[expose] public section

set_option maxRecDepth 16384

/-! The mathematics of the spatial gating unit: gelu in the kernel's form and in the reference's, the RMS norm of a
row of 2048, and the mask of the spatial product. -/

noncomputable section

open Idealize.ShloMosaic Idealize.ShloMosaic.TcCoe Idealize.SL.Sem
open Idealize.ShloMosaic.Pipeline (Dat)

namespace Cert.Gating

/-- gelu as the kernel writes it: `h + h * tanh (x * (C + A * x²))` with `h = x / 2`. -/
def gk (A x : EReal) : EReal :=
  Ideal.ofBits .f32 0x3F000000#32 * x + Ideal.ofBits .f32 0x3F000000#32 * x *
    Ideal.tanh (x * (Ideal.ofBits .f32 0x3F4C422A#32 + A * (x * x)))

/-- gelu as the reference has it: `x * (1/2 * (1 + tanh (C * (x + K * x³))))`. -/
def gr (x : EReal) : EReal :=
  x * (Ideal.ofBits .f32 0x3F000000#32 * (1 + Ideal.tanh (Ideal.ofBits .f32 0x3F4C422A#32 *
    (x + Ideal.ofBits .f32 0x3D372713#32 * (x * x * x)))))

theorem ofBits_half : Ideal.ofBits .f32 0x3F000000#32 = ((1 / 2 : ℝ) : EReal) := by
  simp [Ideal.ofBits, Ideal.ieee, -EReal.coe_mul]; norm_num
theorem ofBits_c : Ideal.ofBits .f32 0x3F4C422A#32 = ((6693141 / 8388608 : ℝ) : EReal) := by
  simp [Ideal.ofBits, Ideal.ieee, -EReal.coe_mul]; norm_num
theorem ofBits_k : Ideal.ofBits .f32 0x3D372713#32 = ((12003091 / 268435456 : ℝ) : EReal) := by
  simp [Ideal.ofBits, Ideal.ieee, -EReal.coe_mul]; norm_num

/-- The product of the two constants of gelu. -/
def A : EReal := ((80338380498831 / 2251799813685248 : ℝ) : EReal)

/-- The two forms of gelu agree but at minus infinity. -/
theorem gelu_eq (x : EReal) (hx : x ≠ ⊥) : gk A x = gr x := by
  unfold gk gr A
  rw [ofBits_half, ofBits_c, ofBits_k]
  induction x with
  | bot => exact absurd rfl hx
  | top =>
    have e : ∀ r : ℝ, 0 < r → ((r : ℝ) : EReal) * ⊤ = ⊤ := fun r h => EReal.coe_mul_top_of_pos h
    rw [EReal.top_mul_top, e _ (by norm_num), e _ (by norm_num), EReal.coe_add_top, EReal.top_mul_top,
      e _ (by norm_num), EReal.top_add_top, e _ (by norm_num), Ideal.tanh_top, mul_one,
      EReal.top_add_top]
    rw [← EReal.coe_one, ← EReal.coe_add, ← EReal.coe_mul, EReal.top_mul_coe_of_pos (by norm_num)]
  | coe r =>
    simp only [← EReal.coe_mul, ← EReal.coe_add, ← EReal.coe_one, Ideal.tanh_coe]
    rw [show r * (6693141 / 8388608 + 80338380498831 / 2251799813685248 * (r * r))
      = 6693141 / 8388608 * (r + 12003091 / 268435456 * (r * r * r)) by ring]
    congr 1
    ring

/-- One over the root mean square of a row. -/
def inv (x : Fin 2048 → EReal) : EReal :=
  Ideal.rsqrt (Ideal.div (∑ j, x j * x j) (Ideal.ofBits .f32 0x45000000#32) + Ideal.ofBits .f32 0x358637BD#32)

/-- The mask bit of the spatial product: position `q`'s chunk of 64 is no later than `p`'s. -/
def bit (p q : Fin 128) : BitVec 1 :=
  IntOp.cmpi CmpIPredicate.sle (IntOp.shrui ArithUnit.vector (BitVec.ofNat 32 q) 6#32)
    (IntOp.shrui ArithUnit.vector (BitVec.ofNat 32 p) 6#32)

/-- The floored quotient by 64 as the reference computes it, from a truncated one. -/
def chunk (x : BitVec 32) : BitVec 32 :=
  Scalar.select
    (IntOp.andi
      (IntOp.cmpi CmpIPredicate.ne (if x = 0 then 0 else if x.msb = true then -1 else 1 : BitVec 32)
        (if (64#32 : BitVec 32) = 0 then 0 else if (64#32 : BitVec 32).msb = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem chunk_eq : ∀ q : Fin 128, chunk (BitVec.ofNat 32 q) = IntOp.shrui ArithUnit.vector (BitVec.ofNat 32 q) 6#32 := by
  decide +kernel

/-- The mask as the reference has it. -/
theorem bit_eq (p q : Fin 128) :
    IntOp.cmpi CmpIPredicate.sle (chunk (BitVec.ofNat 32 q)) (chunk (BitVec.ofNat 32 p)) = bit p q := by
  rw [chunk_eq, chunk_eq]; rfl

/-- Choosing by the mask is multiplying by it. -/
theorem select_eq (b : BitVec 1) (w v : EReal) :
    Scalar.select b (w * v) 0 = v * (w * FloatOps.uitofp (F := Ideal) .f32 b) := by
  rcases (by decide +revert : b = 0#1 ∨ b = 1#1) with h | h <;> subst h
  · show (0 : EReal) = v * (w * (((0#1).toNat : ℝ) : EReal)); simp
  · show w * v = v * (w * (((1#1).toNat : ℝ) : EReal)); simp [mul_comm]

end Cert.Gating
-- ==== Proof.SpatialGate.lean ====
module

public import proofs.«01_k».proof.Proof.Gen.Kernel29Ideal.Frame
public import proofs.«01_k».proof.Proof.Gen.Reference29Ideal.Run
public import Idealize.ShloMosaic.Lib.Pipeline.ValueKit
public import Idealize.ShloMosaic.Lib.Claim
public import proofs.«01_k».proof.Proof.Gating
public import proofs.«01_k».proof.Proof.Gen.Pre_bounded_below
public import Idealize.ShloMosaic.Lib.ReduceAll

@[expose] public section

set_option maxRecDepth 16384

/-! The forward spatial gating unit of layer 2: gelu, the RMS norm of the gate half, the masked spatial product within
blocks of 128 positions, and the gate. -/

noncomputable section

open Idealize.ShloMosaic Idealize.ShloMosaic.TcCoe Idealize.SL.Sem
open Idealize.ShloMosaic.Pipeline (Dat)
open Cert

namespace Cert.Reference29Ideal.SpatialGate
open Cert.Reference29Ideal Cert.Reference29Ideal.Gen

def ref0 (a0 : FVec Ideal S8192x4096 .bf16) (a1 : FVec Ideal S1x2048 .f32) (a2 : FVec Ideal S8x128x128 .f32) (a3 : FVec Ideal S8x128x1 .f32) : FVec Ideal S8192x2048 .bf16 :=
  truncf .bf16 (mulf (extractStridedSlice S8192x2048 ![0, 0] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_0) (shapeCast _ (addf (transpose S64x128x8x256 [1, 3, 0, 2] (Host.dotGeneral dot_S64x128x8x256_S8x128x128_S8x64x256x128_1_2_03_1_2_0 none (shapeCast _ (mulf (mulf (extractStridedSlice S8192x2048 ![0, 2048] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_2048) (broadcastInDim S8192x2048 ![0, 1] bcast_S8192x1_S8192x2048_0_1 (Host.rsqrt (addf (Host.divf (broadcastInDim S8192x1 ![0] bcast_S8192_S8192x1_0 (Host.reduceAdd (mulf (extractStridedSlice S8192x2048 ![0, 2048] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_2048) (extractStridedSlice S8192x2048 ![0, 2048] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_2048)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 (shapeCast _ a1 shapeCasts_S1x2048_S2048)))) shapeCasts_S8192x2048_S64x128x8x256) (mulf a2 (broadcastInDim S8x128x128 ![0, 1, 2] bcast_S1x128x128_S8x128x128_0_1_2 (broadcastInDim S1x128x128 ![1, 2] bcast_S128x128_S1x128x128_1_2 (uitofp .f32 (cmpi .sle (broadcastInDim S128x128 ![0, 1] bcast_S1x128_S128x128_0_1 (select (andi (cmpi .ne (signi (broadcastInDim S1x128 ![1] bcast_S128_S1x128_1 (iotaInDim S128 32 0))) (broadcastInDim S1x128 ![] bcast_S_S1x128 (signi (id (constantI S_ 32 64#32))))) (cmpi .ne (Host.remsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 0#32)))) (subi (Host.divsi (broadcastInDim S1x128 ![1] bcast_S128_S1x128_1 (iotaInDim S128 32 0)) (broadcastInDim S1x128 ![] bcast_S_S1x128 (id (constantI S_ 32 64#32)))) (broadcastInDim S1x128 ![] bcast_S_S1x128 (constantI S_ 32 1#32))) (Host.divsi (broadcastInDim S1x128 ![1] bcast_S128_S1x128_1 (iotaInDim S128 32 0)) (broadcastInDim S1x128 ![] bcast_S_S1x128 (id (constantI S_ 32 64#32)))))) (broadcastInDim S128x128 ![0, 1] bcast_S128x1_S128x128_0_1 (select (andi (cmpi .ne (signi (broadcastInDim S128x1 ![0] bcast_S128_S128x1_0 (iotaInDim S128 32 0))) (broadcastInDim S128x1 ![] bcast_S_S128x1 (signi (id (constantI S_ 32 64#32))))) (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32)))) (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32))) (Host.divsi (broadcastInDim S128x1 ![0] bcast_S128_S128x1_0 (iotaInDim S128 32 0)) (broadcastInDim S128x1 ![] bcast_S_S128x1 (id (constantI S_ 32 64#32)))))))))))) transposes_S8x64x256x128_S64x128x8x256_1_3_0_2) (broadcastInDim S64x128x8x256 ![0, 1, 2, 3] bcast_S1x128x8x1_S64x128x8x256_0_1_2_3 (broadcastInDim S1x128x8x1 ![1, 2] bcast_S128x8_S1x128x8x1_1_2 (transpose S128x8 [1, 0] (shapeCast _ a3 shapeCasts_S8x128x1_S8x128) transposes_S8x128_S128x8_1_0)))) shapeCasts_S64x128x8x256_S8192x2048)) bitsLt_bf16_f32

/-- One element of the reference's result. -/
def cell (a0 : FVec Ideal S8192x4096 .bf16) (a1 : FVec Ideal S1x2048 .f32) (a2 : FVec Ideal S8x128x128 .f32)
    (a3 : FVec Ideal S8x128x1 .f32) (r : Fin 8192) (i : Fin 2048) : EReal :=
  Gating.gr (a0 (ix2 r (⟨i, by omega⟩ : Fin 4096)))
    * (∑ q : Fin 128,
        Gating.gr (a0 (ix2 (⟨r / 128 * 128 + q, by omega⟩ : Fin 8192) (⟨2048 + i, by omega⟩ : Fin 4096)))
        * Gating.inv (fun j => Gating.gr (a0 (ix2 (⟨r / 128 * 128 + q, by omega⟩ : Fin 8192) (⟨2048 + j, by omega⟩ : Fin 4096))))
        * a1 (ix2 (0 : Fin 1) i)
        * (a2 (ix3 (⟨i / 256, by omega⟩ : Fin 8) (⟨r % 128, by omega⟩ : Fin 128) q)
          * FloatOps.uitofp (F := Ideal) .f32 (IntOp.cmpi CmpIPredicate.sle (Gating.chunk (BitVec.ofNat 32 q))
            (Gating.chunk (BitVec.ofNat 32 (r.val % 128)))))
      + a3 (ix3 (⟨i / 256, by omega⟩ : Fin 8) (⟨r % 128, by omega⟩ : Fin 128) (0 : Fin 1)))

set_option maxHeartbeats 4000000 in
theorem ref0_at (a0 : FVec Ideal S8192x4096 .bf16) (a1 : FVec Ideal S1x2048 .f32) (a2 : FVec Ideal S8x128x128 .f32)
    (a3 : FVec Ideal S8x128x1 .f32) (r : Fin 8192) (i : Fin 2048) :
    ref0 a0 a1 a2 a3 (ix2 r i) = cell a0 a1 a2 a3 r i := by
  pointwise [ref0]
  rfl

end Cert.Reference29Ideal.SpatialGate

namespace Cert.Kernel29Ideal.SpatialGate
open Cert.Kernel29Ideal Cert.Kernel29Ideal.Gen
open Cert.Reference29Ideal.SpatialGate (ref0 ref0_at)

theorem named : (Named.named κ "gelu_a" 0x3D122279#32 : Ideal .f32) = Gating.A :=
  IdealRules.named_const.ideal_named_scalar _ _ _ _ rfl

/-- The kernel's gelu. -/
def gk (x : EReal) : EReal := Gating.gk (Named.named κ "gelu_a" 0x3D122279#32 : Ideal .f32) x

/-- One over the root mean square of a row's gelu. -/
def rk (x : Fin 2048 → EReal) : EReal := Gating.inv fun j => gk (x j)

/-- The rows of block `s`. -/
def rows (s : Fin 4) : Fin 128 → Fin 512 := fun r => ⟨128 * s + r, by omega⟩

/-- The columns of group `g`. -/
def cols (g : Fin 8) : Fin 256 → Fin 2048 := fun e => ⟨256 * g + e, by omega⟩

/-- One element of the kernel's result, at position `p` and column `e` of a block of rows `row` and a group `g` of
    columns `col`. -/
def cell (x0 : Vec Ideal S512x4096 .bf16) (x1 : Vec Ideal S1x2048 .f32) (x2 : Vec Ideal S8x128x128 .f32)
    (x3 : Vec Ideal S8x128x1 .f32) (row : Fin 128 → Fin 512) (col : Fin 256 → Fin 2048)
    (p : Fin 128) (g : Fin 8) (e : Fin 256) : EReal :=
  gk (x0 (ix2 (row p) (⟨col e, by omega⟩ : Fin 4096)))
    * (∑ q : Fin 128, Scalar.select (Gating.bit p q) (x2 (ix3 g p q)
        * (gk (x0 (ix2 (row q) (⟨2048 + col e, by omega⟩ : Fin 4096)))
          * rk (fun j => x0 (ix2 (row q) (⟨2048 + j, by omega⟩ : Fin 4096)))
          * x1 (ix2 (0 : Fin 1) (col e)))) 0
      + x3 (ix3 g p (0 : Fin 1)))

/-- The block index of a stored piece: block `s`, position `x 0`, group `g`, column `x 1`. -/
theorem cell_of (x0 : Vec Ideal S512x4096 .bf16) (x1 : Vec Ideal S1x2048 .f32) (x2 : Vec Ideal S8x128x128 .f32)
    (x3 : Vec Ideal S8x128x1 .f32) (y : S512x2048.Idx) (r : Fin 128) (e : Fin 256) (s : Fin 4) (g : Fin 8)
    (row : Fin 128 → Fin 512) (col : Fin 256 → Fin 2048) (hr : row = rows s) (hc : col = cols g)
    (h0 : (y 0 : ℕ) = row r) (h1 : (y 1 : ℕ) = col e) :
    cell x0 x1 x2 x3 (rows ⟨(y 0 : ℕ) / 128, by have := (y 0).isLt; dsimp at this; omega⟩)
      (cols ⟨(y 1 : ℕ) / 256, by have := (y 1).isLt; dsimp at this; omega⟩)
      ⟨(y 0 : ℕ) % 128, by omega⟩ ⟨(y 1 : ℕ) / 256, by have := (y 1).isLt; dsimp at this; omega⟩ ⟨(y 1 : ℕ) % 256, by omega⟩
      = cell x0 x1 x2 x3 row col r g e := by
  subst hr hc
  dsimp only [rows, cols] at h0 h1
  have a : (⟨(y 0 : ℕ) / 128, by have := (y 0).isLt; dsimp at this; omega⟩ : Fin 4) = s := Fin.ext (by dsimp; omega)
  have b : (⟨(y 1 : ℕ) / 256, by have := (y 1).isLt; dsimp at this; omega⟩ : Fin 8) = g := Fin.ext (by dsimp; omega)
  have a' : (⟨(y 0 : ℕ) % 128, by omega⟩ : Fin 128) = r := Fin.ext (by dsimp; omega)
  have b' : (⟨(y 1 : ℕ) % 256, by omega⟩ : Fin 256) = e := Fin.ext (by dsimp; omega)
  rw [a, b, a', b']

set_option maxHeartbeats 16000000 in
/-- What the kernel leaves at one index of a block. -/
theorem point (x0 : Vec Ideal S512x4096 .bf16) (x1 : Vec Ideal S1x2048 .f32) (x2 : Vec Ideal S8x128x128 .f32)
    (x3 : Vec Ideal S8x128x1 .f32) (y : S512x2048.Idx) :
    out0_4 x0 x1 x2 x3 y = cell x0 x1 x2 x3 (rows ⟨(y 0 : ℕ) / 128, by have := (y 0).isLt; dsimp at this; omega⟩)
      (cols ⟨(y 1 : ℕ) / 256, by have := (y 1).isLt; dsimp at this; omega⟩)
      ⟨(y 0 : ℕ) % 128, by omega⟩ ⟨(y 1 : ℕ) / 256, by have := (y 1).isLt; dsimp at this; omega⟩ ⟨(y 1 : ℕ) % 256, by omega⟩ := by
  unfold_out out0_4
  canon_tiles x h
  case piece0 =>
    obtain ⟨r, e, rfl⟩ : ∃ (r : Fin 128) (e : Fin 256), x = ix2 r e := ⟨x 0, x 1, by funext a; fin_cases a <;> rfl⟩
    refine Eq.trans ?_ (cell_of x0 x1 x2 x3 y r e 3 7 (fun q => ⟨384 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece1 =>
    obtain ⟨r, e, rfl⟩ : ∃ (r : Fin 128) (e : Fin 256), x = ix2 r e := ⟨x 0, x 1, by funext a; fin_cases a <;> rfl⟩
    refine Eq.trans ?_ (cell_of x0 x1 x2 x3 y r e 3 6 (fun q => ⟨384 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece2 =>
    obtain ⟨r, e, rfl⟩ : ∃ (r : Fin 128) (e : Fin 256), x = ix2 r e := ⟨x 0, x 1, by funext a; fin_cases a <;> rfl⟩
    refine Eq.trans ?_ (cell_of x0 x1 x2 x3 y r e 3 5 (fun q => ⟨384 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece3 =>
    obtain ⟨r, e, rfl⟩ : ∃ (r : Fin 128) (e : Fin 256), x = ix2 r e := ⟨x 0, x 1, by funext a; fin_cases a <;> rfl⟩
    refine Eq.trans ?_ (cell_of x0 x1 x2 x3 y r e 3 4 (fun q => ⟨384 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece4 =>
    obtain ⟨r, e, rfl⟩ : ∃ (r : Fin 128) (e : Fin 256), x = ix2 r e := ⟨x 0, x 1, by funext a; fin_cases a <;> rfl⟩
    refine Eq.trans ?_ (cell_of x0 x1 x2 x3 y r e 3 3 (fun q => ⟨384 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece5 =>
    obtain ⟨r, e, rfl⟩ : ∃ (r : Fin 128) (e : Fin 256), x = ix2 r e := ⟨x 0, x 1, by funext a; fin_cases a <;> rfl⟩
    refine Eq.trans ?_ (cell_of x0 x1 x2 x3 y r e 3 2 (fun q => ⟨384 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece6 =>
    obtain ⟨r, e, rfl⟩ : ∃ (r : Fin 128) (e : Fin 256), x = ix2 r e := ⟨x 0, x 1, by funext a; fin_cases a <;> rfl⟩
    refine Eq.trans ?_ (cell_of x0 x1 x2 x3 y r e 3 1 (fun q => ⟨384 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece7 =>
    obtain ⟨r, e, rfl⟩ : ∃ (r : Fin 128) (e : Fin 256), x = ix2 r e := ⟨x 0, x 1, by funext a; fin_cases a <;> rfl⟩
    refine Eq.trans ?_ (cell_of x0 x1 x2 x3 y r e 3 0 (fun q => ⟨384 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece8 =>
    obtain ⟨r, e, rfl⟩ : ∃ (r : Fin 128) (e : Fin 256), x = ix2 r e := ⟨x 0, x 1, by funext a; fin_cases a <;> rfl⟩
    refine Eq.trans ?_ (cell_of x0 x1 x2 x3 y r e 2 7 (fun q => ⟨256 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece9 =>
    obtain ⟨r, e, rfl⟩ : ∃ (r : Fin 128) (e : Fin 256), x = ix2 r e := ⟨x 0, x 1, by funext a; fin_cases a <;> rfl⟩
    refine Eq.trans ?_ (cell_of x0 x1 x2 x3 y r e 2 6 (fun q => ⟨256 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece10 =>
    obtain ⟨r, e, rfl⟩ : ∃ (r : Fin 128) (e : Fin 256), x = ix2 r e := ⟨x 0, x 1, by funext a; fin_cases a <;> rfl⟩
    refine Eq.trans ?_ (cell_of x0 x1 x2 x3 y r e 2 5 (fun q => ⟨256 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece11 =>
    obtain ⟨r, e, rfl⟩ : ∃ (r : Fin 128) (e : Fin 256), x = ix2 r e := ⟨x 0, x 1, by funext a; fin_cases a <;> rfl⟩
    refine Eq.trans ?_ (cell_of x0 x1 x2 x3 y r e 2 4 (fun q => ⟨256 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece12 =>
    obtain ⟨r, e, rfl⟩ : ∃ (r : Fin 128) (e : Fin 256), x = ix2 r e := ⟨x 0, x 1, by funext a; fin_cases a <;> rfl⟩
    refine Eq.trans ?_ (cell_of x0 x1 x2 x3 y r e 2 3 (fun q => ⟨256 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece13 =>
    obtain ⟨r, e, rfl⟩ : ∃ (r : Fin 128) (e : Fin 256), x = ix2 r e := ⟨x 0, x 1, by funext a; fin_cases a <;> rfl⟩
    refine Eq.trans ?_ (cell_of x0 x1 x2 x3 y r e 2 2 (fun q => ⟨256 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece14 =>
    obtain ⟨r, e, rfl⟩ : ∃ (r : Fin 128) (e : Fin 256), x = ix2 r e := ⟨x 0, x 1, by funext a; fin_cases a <;> rfl⟩
    refine Eq.trans ?_ (cell_of x0 x1 x2 x3 y r e 2 1 (fun q => ⟨256 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece15 =>
    obtain ⟨r, e, rfl⟩ : ∃ (r : Fin 128) (e : Fin 256), x = ix2 r e := ⟨x 0, x 1, by funext a; fin_cases a <;> rfl⟩
    refine Eq.trans ?_ (cell_of x0 x1 x2 x3 y r e 2 0 (fun q => ⟨256 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece16 =>
    obtain ⟨r, e, rfl⟩ : ∃ (r : Fin 128) (e : Fin 256), x = ix2 r e := ⟨x 0, x 1, by funext a; fin_cases a <;> rfl⟩
    refine Eq.trans ?_ (cell_of x0 x1 x2 x3 y r e 1 7 (fun q => ⟨128 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece17 =>
    obtain ⟨r, e, rfl⟩ : ∃ (r : Fin 128) (e : Fin 256), x = ix2 r e := ⟨x 0, x 1, by funext a; fin_cases a <;> rfl⟩
    refine Eq.trans ?_ (cell_of x0 x1 x2 x3 y r e 1 6 (fun q => ⟨128 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece18 =>
    obtain ⟨r, e, rfl⟩ : ∃ (r : Fin 128) (e : Fin 256), x = ix2 r e := ⟨x 0, x 1, by funext a; fin_cases a <;> rfl⟩
    refine Eq.trans ?_ (cell_of x0 x1 x2 x3 y r e 1 5 (fun q => ⟨128 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece19 =>
    obtain ⟨r, e, rfl⟩ : ∃ (r : Fin 128) (e : Fin 256), x = ix2 r e := ⟨x 0, x 1, by funext a; fin_cases a <;> rfl⟩
    refine Eq.trans ?_ (cell_of x0 x1 x2 x3 y r e 1 4 (fun q => ⟨128 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece20 =>
    obtain ⟨r, e, rfl⟩ : ∃ (r : Fin 128) (e : Fin 256), x = ix2 r e := ⟨x 0, x 1, by funext a; fin_cases a <;> rfl⟩
    refine Eq.trans ?_ (cell_of x0 x1 x2 x3 y r e 1 3 (fun q => ⟨128 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece21 =>
    obtain ⟨r, e, rfl⟩ : ∃ (r : Fin 128) (e : Fin 256), x = ix2 r e := ⟨x 0, x 1, by funext a; fin_cases a <;> rfl⟩
    refine Eq.trans ?_ (cell_of x0 x1 x2 x3 y r e 1 2 (fun q => ⟨128 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece22 =>
    obtain ⟨r, e, rfl⟩ : ∃ (r : Fin 128) (e : Fin 256), x = ix2 r e := ⟨x 0, x 1, by funext a; fin_cases a <;> rfl⟩
    refine Eq.trans ?_ (cell_of x0 x1 x2 x3 y r e 1 1 (fun q => ⟨128 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece23 =>
    obtain ⟨r, e, rfl⟩ : ∃ (r : Fin 128) (e : Fin 256), x = ix2 r e := ⟨x 0, x 1, by funext a; fin_cases a <;> rfl⟩
    refine Eq.trans ?_ (cell_of x0 x1 x2 x3 y r e 1 0 (fun q => ⟨128 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece24 =>
    obtain ⟨r, e, rfl⟩ : ∃ (r : Fin 128) (e : Fin 256), x = ix2 r e := ⟨x 0, x 1, by funext a; fin_cases a <;> rfl⟩
    refine Eq.trans ?_ (cell_of x0 x1 x2 x3 y r e 0 7 (fun q => ⟨q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece25 =>
    obtain ⟨r, e, rfl⟩ : ∃ (r : Fin 128) (e : Fin 256), x = ix2 r e := ⟨x 0, x 1, by funext a; fin_cases a <;> rfl⟩
    refine Eq.trans ?_ (cell_of x0 x1 x2 x3 y r e 0 6 (fun q => ⟨q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece26 =>
    obtain ⟨r, e, rfl⟩ : ∃ (r : Fin 128) (e : Fin 256), x = ix2 r e := ⟨x 0, x 1, by funext a; fin_cases a <;> rfl⟩
    refine Eq.trans ?_ (cell_of x0 x1 x2 x3 y r e 0 5 (fun q => ⟨q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece27 =>
    obtain ⟨r, e, rfl⟩ : ∃ (r : Fin 128) (e : Fin 256), x = ix2 r e := ⟨x 0, x 1, by funext a; fin_cases a <;> rfl⟩
    refine Eq.trans ?_ (cell_of x0 x1 x2 x3 y r e 0 4 (fun q => ⟨q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece28 =>
    obtain ⟨r, e, rfl⟩ : ∃ (r : Fin 128) (e : Fin 256), x = ix2 r e := ⟨x 0, x 1, by funext a; fin_cases a <;> rfl⟩
    refine Eq.trans ?_ (cell_of x0 x1 x2 x3 y r e 0 3 (fun q => ⟨q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece29 =>
    obtain ⟨r, e, rfl⟩ : ∃ (r : Fin 128) (e : Fin 256), x = ix2 r e := ⟨x 0, x 1, by funext a; fin_cases a <;> rfl⟩
    refine Eq.trans ?_ (cell_of x0 x1 x2 x3 y r e 0 2 (fun q => ⟨q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece30 =>
    obtain ⟨r, e, rfl⟩ : ∃ (r : Fin 128) (e : Fin 256), x = ix2 r e := ⟨x 0, x 1, by funext a; fin_cases a <;> rfl⟩
    refine Eq.trans ?_ (cell_of x0 x1 x2 x3 y r e 0 1 (fun q => ⟨q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece31 =>
    obtain ⟨r, e, rfl⟩ : ∃ (r : Fin 128) (e : Fin 256), x = ix2 r e := ⟨x 0, x 1, by funext a; fin_cases a <;> rfl⟩
    refine Eq.trans ?_ (cell_of x0 x1 x2 x3 y r e 0 0 (fun q => ⟨q, by omega⟩) (fun q => ⟨q, by omega⟩)
      (by funext q; exact Fin.ext (by simp [rows])) (by funext q; exact Fin.ext (by simp [cols])) h0 h1).symm
    clear h0 h1 x0_lt x1_lt
    open_payloads; pointwise; rfl

/-- What the precondition says of one element. -/
theorem below (a0 : FVec Ideal S8192x4096 .bf16) (a1 : FVec Ideal S1x2048 .f32) (a2 : FVec Ideal S8x128x128 .f32)
    (a3 : FVec Ideal S8x128x1 .f32) (h : Cert.Pre_bounded_below.fn (F := Ideal) a0 a1 a2 a3 = fun _ => 1#1)
    (i : S8192x4096.Idx) : a0 i ≠ ⊥ := by
  intro e
  have := Host.reduce_andi_all _ _ _ _ ix0 (congrFun h ix0) i
  pointwise at this
  rw [e] at this
  simp at this

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] :=
  (by decide +kernel : ∀ t : Fin grid0.N, _)

/-- A block's element is the reference's, where no argument is minus infinity. -/
theorem cells (hb : ∀ i : S8192x4096.Idx, @Ne EReal (m ((c : Thread nD τ).loc main_arg0) i) ⊥) (t : Fin cfg0.N)
    (s : Fin 4) (p : Fin 128) (g : Fin 8) (e : Fin 256) (r : Fin 8192) (i : Fin 2048)
    (hr : r.val = t.val * 512 + (128 * s.val + p.val)) (hi : i.val = 256 * g.val + e.val) :
    cell (iblk m c 0 t) (iblk m c 1 t) (iblk m c 2 t) (iblk m c 3 t) (rows s) (cols g) p g e
      = Reference29Ideal.SpatialGate.cell (m ((c : Thread nD τ).loc main_arg0)) (m ((c : Thread nD τ).loc main_arg1))
        (m ((c : Thread nD τ).loc main_arg2)) (m ((c : Thread nD τ).loc main_arg3)) r i := by
  have hN : t.val < 16 := t.isLt
  have hg : i.val / 256 = g.val := by omega
  have hp : r.val % 128 = p.val := by omega
  have x0 : ∀ (q : Fin 128) (j : Fin 4096) (Q : Fin 8192) (J : Fin 4096) (hQ : Q.val = t.val * 512 + (128 * s.val + q.val)) (hJ : J.val = j.val),
      (iblk m c 0 t : Vec Ideal S512x4096 .bf16) (ix2 (rows s q) j) = m ((c : Thread nD τ).loc main_arg0) (ix2 Q J) := by
    intro q j Q J hQ hJ
    unfold rows
    blk_ext [iblk, V, idx t]
  have gel : ∀ (q : Fin 128) (j : Fin 4096) (Q : Fin 8192) (J : Fin 4096) (hQ : Q.val = t.val * 512 + (128 * s.val + q.val)) (hJ : J.val = j.val),
      gk ((iblk m c 0 t : Vec Ideal S512x4096 .bf16) (ix2 (rows s q) j)) = Gating.gr (m ((c : Thread nD τ).loc main_arg0) (ix2 Q J)) := by
    intro q j Q J hQ hJ
    rw [x0 q j Q J hQ hJ, gk, named, Gating.gelu_eq _ (hb _)]
  unfold cell Reference29Ideal.SpatialGate.cell
  refine congrArg₂ (· * ·) (gel p _ r _ hr hi) (congrArg₂ (· + ·) (Finset.sum_congr rfl fun q _ => ?_) ?_)
  · rw [Gating.select_eq]
    refine congrArg₂ (· * ·) (congrArg₂ (· * ·) (congrArg₂ (· * ·) (gel q _ _ _ (by dsimp; omega) (by dsimp [cols]; omega)) ?_) ?_) (congrArg₂ (· * ·) ?_ ?_)
    · unfold rk
      congr 1
      funext j
      exact gel q _ _ _ (by dsimp; omega) rfl
    · blk_ext [iblk, V, idx t, cols]
    · blk_ext [iblk, V, idx t]
    · rw [hp]; exact congrArg _ (Gating.bit_eq p q).symm
  · blk_ext [iblk, V, idx t]

/-- The gated rows, where no element of the argument is minus infinity. -/
theorem final4 (hb : ∀ i : S8192x4096.Idx, @Ne EReal (m ((c : Thread nD τ).loc main_arg0) i) ⊥) : (dats m 0 c).arrAt 4 (cfgs 0).N
    = ref0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hN : t.val < 16 := t.isLt
  blk_simp
  rw [after0_4, point]
  idx_vars y
  refine (cells m c hb t _ _ _ _ ⟨t.val * 512 + y0.val, by omega⟩ y1 (by dsimp; omega) (by dsimp; omega)).trans
    (Eq.symm ((congrArg _ (?_ : _ = ix2 ⟨t.val * 512 + y0.val, by omega⟩ y1)).trans (ref0_at _ _ _ _ _ _)))
  blk_ext [idx t]

end Cert.Kernel29Ideal.SpatialGate
-- ==== Proof.Values.SpatialGate.lean ====
/- The values of the pair Kernel29, Reference29: every result of the one is the result of the other. -/
module

public import proofs.«01_k».proof.Defs
public import proofs.«01_k».proof.Proof.Gen.Kernel29Ideal.Value
public import proofs.«01_k».proof.Proof.Gen.Reference29Ideal.Run
public import proofs.«01_k».proof.Proof.SpatialGate
public import Idealize.ShloMosaic.Lib.Claim

@[expose] public section

noncomputable section

namespace Cert.Proof

open Idealize.ShloMosaic Idealize.SL.Sem

set_option maxHeartbeats 4000000 in
set_option maxRecDepth 16384 in
theorem values29 : Cert.algebraic_Kernel29Ideal_Reference29Ideal_pre_bounded_below (hKernel29Ideal := Cert.Kernel29Ideal.Gen.facts) (hReference29Ideal := Cert.Reference29Ideal.Gen.facts) (hPre_bounded_below := Cert.Pre_bounded_below.Gen.facts) := by
  pair_intro
  · run_from Cert.Kernel29Ideal.Gen.run_main m g
  · run_from Cert.Reference29Ideal.Value.run m' g'
    · unfold Cert.Reference29Ideal.Value.res_main_v52
      simp only [hagree c]
      exact (Cert.Kernel29Ideal.SpatialGate.final4 m c (Cert.Kernel29Ideal.SpatialGate.below _ _ _ _ (hpre c))).symm

end Cert.Proof

end
-- ==== Proof.GatingGrad.lean ====
module

public import proofs.«01_k».proof.Proof.Gating
public import proofs.«01_k».proof.Proof.RmsGrad

@[expose] public section

set_option maxRecDepth 16384

/-! The mathematics of the gradient of the spatial gating unit: the derivative of gelu in the kernel's form and in the
reference's, and that what the two compute with stays finite where the arguments are. -/

noncomputable section

open Idealize.ShloMosaic

namespace Cert.GatingGrad

/-- A finite number. -/
def Fin' (z : EReal) : Prop := ∃ r : ℝ, z = (r : EReal)

theorem Fin'.add {x y : EReal} : Fin' x → Fin' y → Fin' (x + y) := by
  rintro ⟨a, rfl⟩ ⟨b, rfl⟩; exact ⟨a + b, by rw [EReal.coe_add]⟩
theorem Fin'.sub {x y : EReal} : Fin' x → Fin' y → Fin' (x - y) := by
  rintro ⟨a, rfl⟩ ⟨b, rfl⟩; exact ⟨a - b, by rw [EReal.coe_sub]⟩
theorem Fin'.mul {x y : EReal} : Fin' x → Fin' y → Fin' (x * y) := by
  rintro ⟨a, rfl⟩ ⟨b, rfl⟩; exact ⟨a * b, by rw [EReal.coe_mul]⟩
theorem Fin'.sum {ι : Type*} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih

theorem ofBits_n : Ideal.ofBits .f32 0x45000000#32 = ((2048 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

theorem Fin'.div {x : EReal} (h : Fin' x) : Fin' (Ideal.div x (Ideal.ofBits .f32 0x45000000#32)) := by
  rw [ofBits_n, Ideal.div_coe (by norm_num)]
  exact h.mul ⟨_, rfl⟩

theorem Fin'.inv (X : Fin 2048 → EReal) : Fin' (Gating.inv X) := by
  obtain ⟨e, he, hE⟩ := RmsGrad.ofBits_eps
  obtain ⟨ρ, _, h, _⟩ := RmsGrad.root X (k := 2048) (by norm_num) he
  refine ⟨ρ, ?_⟩
  unfold Gating.inv
  rw [ofBits_n, hE, h]

theorem Fin'.gr {x : EReal} : Fin' x → Fin' (Gating.gr x) := by
  rintro ⟨a, rfl⟩
  unfold Gating.gr
  rw [Gating.ofBits_half, Gating.ofBits_c, Gating.ofBits_k]
  simp only [← EReal.coe_mul, ← EReal.coe_add, ← EReal.coe_one, Ideal.tanh_coe]
  exact ⟨_, rfl⟩

theorem Fin'.bit (b : BitVec 1) : Fin' (FloatOps.uitofp (F := Ideal) .f32 b) := ⟨_, rfl⟩

theorem Fin'.ne_bot {x : EReal} : Fin' x → x ≠ ⊥ := by rintro ⟨a, rfl⟩; exact EReal.coe_ne_bot a

/-- The hyperbolic tangent inside gelu, in the reference's form. -/
def tr (x : EReal) : EReal :=
  Ideal.tanh (Ideal.ofBits .f32 0x3F4C422A#32 * (x + Ideal.ofBits .f32 0x3D372713#32 * (x * x * x)))

/-- The reference's gradient of gelu at `x` of the cotangent `d`: the chain rule, term by term. -/
def gd (x d : EReal) : EReal :=
  d * (Ideal.ofBits .f32 0x3F000000#32 * (1 + tr x))
  + Ideal.ofBits .f32 0x3F4C422A#32 * (Ideal.ofBits .f32 0x3F000000#32 * (x * d) * ((1 + tr x) * (1 - tr x)))
  + Ideal.ofBits .f32 0x3D372713#32 * (Ideal.ofBits .f32 0x3F4C422A#32 * (Ideal.ofBits .f32 0x3F000000#32 * (x * d)
      * ((1 + tr x) * (1 - tr x)))) * (Ideal.ofBits .f32 0x40400000#32 * (x * x))

/-- The hyperbolic tangent inside gelu, in the kernel's form. -/
def tk (A x : EReal) : EReal := Ideal.tanh (x * (Ideal.ofBits .f32 0x3F4C422A#32 + A * (x * x)))

/-- The kernel's derivative of gelu. -/
def gp (A B x : EReal) : EReal :=
  Ideal.ofBits .f32 0x3F000000#32 + Ideal.ofBits .f32 0x3F000000#32 * tk A x
  + Ideal.ofBits .f32 0x3F000000#32 * x * (1 - tk A x * tk A x) * (Ideal.ofBits .f32 0x3F4C422A#32 + B * (x * x))

/-- Three times the product of the two constants of gelu. -/
def B : EReal := ((241015141496493 / 2251799813685248 : ℝ) : EReal)

/-- The two forms of gelu's gradient agree at finite numbers. -/
theorem gd_eq {x d : EReal} : Fin' x → Fin' d → d * gp Gating.A B x = gd x d := by
  rintro ⟨r, rfl⟩ ⟨s, rfl⟩
  unfold gp gd tk tr Gating.A B
  rw [Gating.ofBits_half, Gating.ofBits_c, Gating.ofBits_k, ofBits_three]
  simp only [← EReal.coe_mul, ← EReal.coe_add, ← EReal.coe_one, Ideal.tanh_coe, ← EReal.coe_sub]
  rw [show r * (6693141 / 8388608 + 80338380498831 / 2251799813685248 * (r * r))
    = 6693141 / 8388608 * (r + 12003091 / 268435456 * (r * r * r)) by ring]
  congr 1
  ring

/-- The reference's gradient through the RMS norm of a row, the cotangent's own entry given apart. -/
def dxs (X D : Fin 2048 → EReal) (d : EReal) (l : Fin 2048) : EReal :=
  d * Gating.inv X
  + X l * (∑ _x : Fin 1, Ideal.div ((∑ x, X x * D x) * (Ideal.ofBits .f32 0xBF000000#32
      * Ideal.div (Gating.inv X) (Ideal.div (∑ x, X x * X x) (Ideal.ofBits .f32 0x45000000#32) + Ideal.ofBits .f32 0x358637BD#32)))
        (Ideal.ofBits .f32 0x45000000#32))
  + (∑ _x : Fin 1, Ideal.div ((∑ x, X x * D x) * (Ideal.ofBits .f32 0xBF000000#32
      * Ideal.div (Gating.inv X) (Ideal.div (∑ x, X x * X x) (Ideal.ofBits .f32 0x45000000#32) + Ideal.ofBits .f32 0x358637BD#32)))
        (Ideal.ofBits .f32 0x45000000#32)) * X l

/-- The reference's gradient through the RMS norm of a row. -/
def dx (X D : Fin 2048 → EReal) (l : Fin 2048) : EReal := dxs X D (D l) l

/-- The kernel's gradient through the RMS norm of a row. -/
def dk (X D : Fin 2048 → EReal) (l : Fin 2048) : EReal :=
  Gating.inv X * (D l - X l * Gating.inv X * Ideal.div (∑ x, D x * (X x * Gating.inv X)) (Ideal.ofBits .f32 0x45000000#32))

theorem dk_eq (X D : Fin 2048 → EReal) (l : Fin 2048) : dk X D l = dx X D l := by
  obtain ⟨e, he, hE⟩ := RmsGrad.ofBits_eps
  have := RmsGrad.row X D 0 l (k := 2048) (by norm_num) he ofBits_n hE RmsGrad.ofBits_minus_half
  rw [zero_add, zero_add] at this
  exact this

theorem Fin'.dk {X D : Fin 2048 → EReal} (hX : ∀ l, Fin' (X l)) (hD : ∀ l, Fin' (D l)) (l : Fin 2048) : Fin' (dk X D l) :=
  (Fin'.inv X).mul ((hD l).sub (((hX l).mul (Fin'.inv X)).mul (Fin'.div (Fin'.sum _ _ fun x => (hD x).mul ((hX x).mul (Fin'.inv X))))))

/-- Eight pieces of 256 columns side by side, read at a column. -/
def sel8 (i : Fin 2048) (f0 f1 f2 f3 f4 f5 f6 f7 : Fin 256 → EReal) : EReal :=
  if h : i.val < 256 then f0 ⟨i, h⟩ else
  if h : i.val - 256 < 256 then f1 ⟨i.val - 256, h⟩ else
  if h : i.val - 256 - 256 < 256 then f2 ⟨i.val - 256 - 256, h⟩ else
  if h : i.val - 256 - 256 - 256 < 256 then f3 ⟨i.val - 256 - 256 - 256, h⟩ else
  if h : i.val - 256 - 256 - 256 - 256 < 256 then f4 ⟨i.val - 256 - 256 - 256 - 256, h⟩ else
  if h : i.val - 256 - 256 - 256 - 256 - 256 < 256 then f5 ⟨i.val - 256 - 256 - 256 - 256 - 256, h⟩ else
  if h : i.val - 256 - 256 - 256 - 256 - 256 - 256 < 256 then f6 ⟨i.val - 256 - 256 - 256 - 256 - 256 - 256, h⟩ else
  f7 ⟨i.val - 256 - 256 - 256 - 256 - 256 - 256 - 256, by omega⟩

theorem sel8_eq (F : Fin 2048 → EReal) (i : Fin 2048) (f0 f1 f2 f3 f4 f5 f6 f7 : Fin 256 → EReal)
    (h0 : ∀ e (j : Fin 2048), j.val = e.val → f0 e = F j) (h1 : ∀ e (j : Fin 2048), j.val = 256 + e.val → f1 e = F j)
    (h2 : ∀ e (j : Fin 2048), j.val = 512 + e.val → f2 e = F j) (h3 : ∀ e (j : Fin 2048), j.val = 768 + e.val → f3 e = F j)
    (h4 : ∀ e (j : Fin 2048), j.val = 1024 + e.val → f4 e = F j) (h5 : ∀ e (j : Fin 2048), j.val = 1280 + e.val → f5 e = F j)
    (h6 : ∀ e (j : Fin 2048), j.val = 1536 + e.val → f6 e = F j) (h7 : ∀ e (j : Fin 2048), j.val = 1792 + e.val → f7 e = F j) :
    sel8 i f0 f1 f2 f3 f4 f5 f6 f7 = F i := by
  unfold sel8
  split_ifs
  · exact h0 _ _ rfl
  · exact h1 _ _ (by dsimp; omega)
  · exact h2 _ _ (by dsimp; omega)
  · exact h3 _ _ (by dsimp; omega)
  · exact h4 _ _ (by dsimp; omega)
  · exact h5 _ _ (by dsimp; omega)
  · exact h6 _ _ (by dsimp; omega)
  · exact h7 _ _ (by dsimp; omega)

end Cert.GatingGrad
-- ==== Proof.SguGradInput.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.GatingGrad

@[expose] public section

set_option maxRecDepth 16384

/-! The gradient at the input of the gating unit: what the kernel leaves in a block. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

theorem named : (Named.named κ "gelu_a" 0x3D122279#32 : Ideal .f32) = Gating.A :=
  IdealRules.named_const.ideal_named_scalar _ _ _ _ rfl

theorem named3 : (Named.named κ "gelu_3a" 1037775798#32 : Ideal .f32) = GatingGrad.B :=
  IdealRules.named_const.ideal_named_scalar _ _ _ _ rfl

/-- The kernel's gelu. -/
def gk (x : EReal) : EReal := Gating.gk (Named.named κ "gelu_a" 0x3D122279#32 : Ideal .f32) x

/-- The kernel's derivative of gelu. -/
def gp (x : EReal) : EReal :=
  GatingGrad.gp (Named.named κ "gelu_a" 0x3D122279#32 : Ideal .f32) (Named.named κ "gelu_3a" 1037775798#32 : Ideal .f32) x

/-- The rows of block `s`. -/
def rows (s : Fin 4) : Fin 128 → Fin 512 := fun r => ⟨128 * s + r, by omega⟩

/-- The columns of group `g`. -/
def cols (g : Fin 8) : Fin 256 → Fin 2048 := fun e => ⟨256 * g + e, by omega⟩

/-- The gate half of a row, through gelu. -/
def gate (x0 : Vec Ideal S512x4096 .bf16) (r : Fin 512) (j : Fin 2048) : EReal := gk (x0 (ix2 r (⟨2048 + j, by omega⟩ : Fin 4096)))

/-- The gradient of one element of the kernel's left half. -/
def left (x0 : Vec Ideal S512x4096 .bf16) (x1 : Vec Ideal S512x2048 .bf16) (x2 : Vec Ideal S1x2048 .f32)
    (x3 : Vec Ideal S8x128x128 .f32) (x4 : Vec Ideal S8x128x1 .f32) (row : Fin 128 → Fin 512) (col : Fin 256 → Fin 2048)
    (p : Fin 128) (g : Fin 8) (e : Fin 256) : EReal :=
  x1 (ix2 (row p) (col e)) * (∑ q : Fin 128, Scalar.select (Gating.bit p q) (x3 (ix3 g p q)
      * (gate x0 (row q) (col e) * Gating.inv (gate x0 (row q)) * x2 (ix2 (0 : Fin 1) (col e)))) 0 + x4 (ix3 g p (0 : Fin 1)))
    * gp (x0 (ix2 (row p) (⟨col e, by omega⟩ : Fin 4096)))

/-- The gradient at the normalised gate half, in one group. -/
def dvg (x0 : Vec Ideal S512x4096 .bf16) (x1 : Vec Ideal S512x2048 .bf16) (x3 : Vec Ideal S8x128x128 .f32)
    (row : Fin 128 → Fin 512) (col : Fin 256 → Fin 2048) (g : Fin 8) (p : Fin 128) (e : Fin 256) : EReal :=
  ∑ q : Fin 128, Scalar.select (Gating.bit q p) (x3 (ix3 g q p)
    * (x1 (ix2 (row q) (col e)) * gk (x0 (ix2 (row q) (⟨col e, by omega⟩ : Fin 4096))))) 0

/-- The gradient at the normalised gate half, the eight groups side by side. -/
def dv (x0 : Vec Ideal S512x4096 .bf16) (x1 : Vec Ideal S512x2048 .bf16) (x3 : Vec Ideal S8x128x128 .f32)
    (row : Fin 128 → Fin 512) (p : Fin 128) (j : Fin 2048) : EReal :=
  GatingGrad.sel8 j (dvg x0 x1 x3 row (fun e => ⟨e, by omega⟩) 0 p) (dvg x0 x1 x3 row (fun e => ⟨256 + e, by omega⟩) 1 p)
    (dvg x0 x1 x3 row (fun e => ⟨512 + e, by omega⟩) 2 p) (dvg x0 x1 x3 row (fun e => ⟨768 + e, by omega⟩) 3 p)
    (dvg x0 x1 x3 row (fun e => ⟨1024 + e, by omega⟩) 4 p) (dvg x0 x1 x3 row (fun e => ⟨1280 + e, by omega⟩) 5 p)
    (dvg x0 x1 x3 row (fun e => ⟨1536 + e, by omega⟩) 6 p) (dvg x0 x1 x3 row (fun e => ⟨1792 + e, by omega⟩) 7 p)

/-- The gradient of one element of the kernel's right half. -/
def right (x0 : Vec Ideal S512x4096 .bf16) (x1 : Vec Ideal S512x2048 .bf16) (x2 : Vec Ideal S1x2048 .f32)
    (x3 : Vec Ideal S8x128x128 .f32) (row : Fin 128 → Fin 512) (p : Fin 128) (j : Fin 2048) : EReal :=
  GatingGrad.dk (gate x0 (row p)) (fun x => dv x0 x1 x3 row p x * x2 (ix2 (0 : Fin 1) x)) j
    * gp (x0 (ix2 (row p) (⟨2048 + j, by omega⟩ : Fin 4096)))

/-- One element of a block of the gradient at the input. -/
def cell (x0 : Vec Ideal S512x4096 .bf16) (x1 : Vec Ideal S512x2048 .bf16) (x2 : Vec Ideal S1x2048 .f32)
    (x3 : Vec Ideal S8x128x128 .f32) (x4 : Vec Ideal S8x128x1 .f32) (r : Fin 512) (j : Fin 4096) : EReal :=
  if h : j.val < 2048 then left x0 x1 x2 x3 x4 (rows ⟨r.val / 128, by omega⟩) (cols ⟨j.val / 256, by omega⟩)
    ⟨r.val % 128, by omega⟩ ⟨j.val / 256, by omega⟩ ⟨j.val % 256, by omega⟩
  else right x0 x1 x2 x3 (rows ⟨r.val / 128, by omega⟩) ⟨r.val % 128, by omega⟩ ⟨j.val - 2048, by omega⟩

theorem cell_left (x0 : Vec Ideal S512x4096 .bf16) (x1 : Vec Ideal S512x2048 .bf16) (x2 : Vec Ideal S1x2048 .f32)
    (x3 : Vec Ideal S8x128x128 .f32) (x4 : Vec Ideal S8x128x1 .f32) (y : S512x4096.Idx) (r : Fin 128) (e : Fin 256) (s : Fin 4) (g : Fin 8)
    (row : Fin 128 → Fin 512) (col : Fin 256 → Fin 2048) (hr : row = rows s) (hc : col = cols g)
    (h0 : (y 0 : ℕ) = row r) (h1 : (y 1 : ℕ) = col e) : cell x0 x1 x2 x3 x4 (y 0) (y 1) = left x0 x1 x2 x3 x4 row col r g e := by
  subst hr hc
  dsimp only [rows, cols] at h0 h1
  have a : (⟨(y 0 : ℕ) / 128, by have := (y 0).isLt; dsimp at this; omega⟩ : Fin 4) = s := Fin.ext (by dsimp; omega)
  have b : (⟨(y 1 : ℕ) / 256 % 8, by omega⟩ : Fin 8) = g := Fin.ext (by dsimp; omega)
  have a' : (⟨(y 0 : ℕ) % 128, by omega⟩ : Fin 128) = r := Fin.ext (by dsimp; omega)
  have b' : (⟨(y 1 : ℕ) % 256, by omega⟩ : Fin 256) = e := Fin.ext (by dsimp; omega)
  have hy : (y 1 : ℕ) < 2048 := by omega
  have c : (⟨(y 1 : ℕ) / 256, by omega⟩ : Fin 8) = g := Fin.ext (by dsimp; omega)
  refine (dif_pos hy).trans ?_
  rw [a, c, a', b']

theorem cell_right (x0 : Vec Ideal S512x4096 .bf16) (x1 : Vec Ideal S512x2048 .bf16) (x2 : Vec Ideal S1x2048 .f32)
    (x3 : Vec Ideal S8x128x128 .f32) (x4 : Vec Ideal S8x128x1 .f32) (y : S512x4096.Idx) (r : Fin 128) (e : Fin 2048) (s : Fin 4)
    (row : Fin 128 → Fin 512) (hr : row = rows s) (h0 : (y 0 : ℕ) = row r) (h1 : (y 1 : ℕ) = 2048 + e) :
    cell x0 x1 x2 x3 x4 (y 0) (y 1) = right x0 x1 x2 x3 row r e := by
  subst hr
  dsimp only [rows] at h0
  have a : (⟨(y 0 : ℕ) / 128, by have := (y 0).isLt; dsimp at this; omega⟩ : Fin 4) = s := Fin.ext (by dsimp; omega)
  have a' : (⟨(y 0 : ℕ) % 128, by omega⟩ : Fin 128) = r := Fin.ext (by dsimp; omega)
  have hy : ¬ (y 1 : ℕ) < 2048 := by omega
  have b : (⟨(y 1 : ℕ) - 2048, by have := (y 1).isLt; dsimp at this; omega⟩ : Fin 2048) = e := Fin.ext (by dsimp; omega)
  refine (dif_neg hy).trans ?_
  rw [a, a', b]

/-- Eight groups joined along the columns, at an index. -/
theorem cat8 (M0 M1 M2 M3 M4 M5 M6 M7 : FVec Ideal S128x256 .f32) (h) (r : Fin 128) (e : Fin 2048) :
    concatenate S128x2048 1 [⟨S128x256, M0⟩, ⟨S128x256, M1⟩, ⟨S128x256, M2⟩, ⟨S128x256, M3⟩, ⟨S128x256, M4⟩, ⟨S128x256, M5⟩,
      ⟨S128x256, M6⟩, ⟨S128x256, M7⟩] h (ix2 r e)
      = GatingGrad.sel8 e (fun x => M0 (ix2 r x)) (fun x => M1 (ix2 r x)) (fun x => M2 (ix2 r x)) (fun x => M3 (ix2 r x))
        (fun x => M4 (ix2 r x)) (fun x => M5 (ix2 r x)) (fun x => M6 (ix2 r x)) (fun x => M7 (ix2 r x)) := by
  pointwise
  rfl

variable (m : (ℓ : Loc nD τ sig) → Buf (Elt Ideal) ℓ) (c : Dev nD)

set_option maxHeartbeats 16000000 in
/-- What the first step leaves at one index of a block of the gradient at the input. -/
theorem point5 (t : Fin cfg0.N) (x0 : Vec Ideal S512x4096 .bf16) (x1 : Vec Ideal S512x2048 .bf16) (x2 : Vec Ideal S1x2048 .f32)
    (x3 : Vec Ideal S8x128x128 .f32) (x4 : Vec Ideal S8x128x1 .f32) (y : S512x4096.Idx) :
    out0_A_5 c (grid0.coords t0_0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t0_0).mpr (by decide)) (fun h => absurd ((hcond0_1 t0_0).mp h) (by decide)) x0 x1 x2 x3 x4 y
      = cell x0 x1 x2 x3 x4 (y 0) (y 1) := by
  frame_out
  canon_tiles x h using (View.cover_of_tiledBy _ ![128, 256] (by sl_kernel_rfl) _)
  case piece0 =>
    obtain ⟨r, e, rfl⟩ : ∃ (r : Fin 128) (e : Fin 2048), x = ix2 r e := ⟨x 0, x 1, by funext a; fin_cases a <;> rfl⟩
    refine Eq.trans ?_ (cell_right x0 x1 x2 x3 x4 y r e 3 (fun q => ⟨384 + q, by omega⟩) (by funext q; exact Fin.ext (by simp [rows])) h0 h1).symm
    clear h0 h1 x0_lt x1_lt
    open_payloads; pointwise [cat8]; try simp only [Memref.IsWhole.read_unread]
    rfl
  case piece1 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 7 (fun q => ⟨384 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece2 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 6 (fun q => ⟨384 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece3 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 5 (fun q => ⟨384 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece4 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 4 (fun q => ⟨384 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece5 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 3 (fun q => ⟨384 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece6 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 2 (fun q => ⟨384 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece7 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 1 (fun q => ⟨384 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece8 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 3 0 (fun q => ⟨384 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece9 =>
    obtain ⟨r, e, rfl⟩ : ∃ (r : Fin 128) (e : Fin 2048), x = ix2 r e := ⟨x 0, x 1, by funext a; fin_cases a <;> rfl⟩
    refine Eq.trans ?_ (cell_right x0 x1 x2 x3 x4 y r e 2 (fun q => ⟨256 + q, by omega⟩) (by funext q; exact Fin.ext (by simp [rows])) h0 h1).symm
    clear h0 h1 x0_lt x1_lt
    open_payloads; pointwise [cat8]; try simp only [Memref.IsWhole.read_unread]
    rfl
  case piece10 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 7 (fun q => ⟨256 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece11 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 6 (fun q => ⟨256 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece12 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 5 (fun q => ⟨256 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece13 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 4 (fun q => ⟨256 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece14 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 3 (fun q => ⟨256 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece15 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 2 (fun q => ⟨256 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece16 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 1 (fun q => ⟨256 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece17 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 2 0 (fun q => ⟨256 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece18 =>
    obtain ⟨r, e, rfl⟩ : ∃ (r : Fin 128) (e : Fin 2048), x = ix2 r e := ⟨x 0, x 1, by funext a; fin_cases a <;> rfl⟩
    refine Eq.trans ?_ (cell_right x0 x1 x2 x3 x4 y r e 1 (fun q => ⟨128 + q, by omega⟩) (by funext q; exact Fin.ext (by simp [rows])) h0 h1).symm
    clear h0 h1 x0_lt x1_lt
    open_payloads; pointwise [cat8]; try simp only [Memref.IsWhole.read_unread]
    rfl
  case piece19 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 7 (fun q => ⟨128 + q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece20 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 6 (fun q => ⟨128 + q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece21 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 5 (fun q => ⟨128 + q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece22 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 4 (fun q => ⟨128 + q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece23 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 3 (fun q => ⟨128 + q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece24 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 2 (fun q => ⟨128 + q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece25 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 1 (fun q => ⟨128 + q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece26 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 1 0 (fun q => ⟨128 + q, by omega⟩) (fun q => ⟨q, by omega⟩)
      (by funext q; exact Fin.ext (by simp [rows])) (by funext q; exact Fin.ext (by simp [cols])) h0 h1).symm
    clear h0 h1 x0_lt x1_lt
    open_payloads; pointwise; rfl
  case piece27 =>
    obtain ⟨r, e, rfl⟩ : ∃ (r : Fin 128) (e : Fin 2048), x = ix2 r e := ⟨x 0, x 1, by funext a; fin_cases a <;> rfl⟩
    refine Eq.trans ?_ (cell_right x0 x1 x2 x3 x4 y r e 0 (fun q => ⟨q, by omega⟩) (by funext q; exact Fin.ext (by simp [rows])) h0 h1).symm
    clear h0 h1 x0_lt x1_lt
    open_payloads; pointwise [cat8]; try simp only [Memref.IsWhole.read_unread]
    rfl
  case piece28 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 7 (fun q => ⟨q, by omega⟩) (fun q => ⟨1792 + q, by omega⟩)
      (by funext q; exact Fin.ext (by simp [rows])) (by funext q; exact Fin.ext (by simp [cols])) h0 h1).symm
    clear h0 h1 x0_lt x1_lt
    open_payloads; pointwise; rfl
  case piece29 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 6 (fun q => ⟨q, by omega⟩) (fun q => ⟨1536 + q, by omega⟩)
      (by funext q; exact Fin.ext (by simp [rows])) (by funext q; exact Fin.ext (by simp [cols])) h0 h1).symm
    clear h0 h1 x0_lt x1_lt
    open_payloads; pointwise; rfl
  case piece30 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 5 (fun q => ⟨q, by omega⟩) (fun q => ⟨1280 + q, by omega⟩)
      (by funext q; exact Fin.ext (by simp [rows])) (by funext q; exact Fin.ext (by simp [cols])) h0 h1).symm
    clear h0 h1 x0_lt x1_lt
    open_payloads; pointwise; rfl
  case piece31 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 4 (fun q => ⟨q, by omega⟩) (fun q => ⟨1024 + q, by omega⟩)
      (by funext q; exact Fin.ext (by simp [rows])) (by funext q; exact Fin.ext (by simp [cols])) h0 h1).symm
    clear h0 h1 x0_lt x1_lt
    open_payloads; pointwise; rfl
  case piece32 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 3 (fun q => ⟨q, by omega⟩) (fun q => ⟨768 + q, by omega⟩)
      (by funext q; exact Fin.ext (by simp [rows])) (by funext q; exact Fin.ext (by simp [cols])) h0 h1).symm
    clear h0 h1 x0_lt x1_lt
    open_payloads; pointwise; rfl
  case piece33 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 2 (fun q => ⟨q, by omega⟩) (fun q => ⟨512 + q, by omega⟩)
      (by funext q; exact Fin.ext (by simp [rows])) (by funext q; exact Fin.ext (by simp [cols])) h0 h1).symm
    clear h0 h1 x0_lt x1_lt
    open_payloads; pointwise; rfl
  case piece34 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 1 (fun q => ⟨q, by omega⟩) (fun q => ⟨256 + q, by omega⟩)
      (by funext q; exact Fin.ext (by simp [rows])) (by funext q; exact Fin.ext (by simp [cols])) h0 h1).symm
    clear h0 h1 x0_lt x1_lt
    open_payloads; pointwise; rfl
  case piece35 =>
    obtain ⟨r, e, rfl⟩ : ∃ (r : Fin 128) (e : Fin 256), x = ix2 r e := ⟨x 0, x 1, by funext a; fin_cases a <;> rfl⟩
    refine Eq.trans ?_ (cell_left x0 x1 x2 x3 x4 y r e 0 0 (fun q => ⟨q, by omega⟩) (fun q => ⟨q, by omega⟩)
      (by funext q; exact Fin.ext (by simp [rows])) (by funext q; exact Fin.ext (by simp [cols])) h0 h1).symm
    clear h0 h1 x0_lt x1_lt
    open_payloads; pointwise; rfl

theorem eq5A (t : Fin cfg0.N) (h0 : t.val % 16 = 0) : (outsAt0 m c t.val t.isLt).1 =
    out0_A_5 c (grid0.coords t0_0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t0_0).mpr (by decide)) (fun h => absurd ((hcond0_1 t0_0).mp h) (by decide)) (iblk m c 0 t) (iblk m c 1 t) (iblk m c 2 t) (iblk m c 3 t) (iblk m c 4 t) := by
  rw [outsAt0_A m c t h0 (by omega)]
  funext y
  frame_out

theorem eq5B (t : Fin cfg0.N) (h0 : ¬ t.val % 16 = 0) (h1 : ¬ t.val % 16 = 15) : (outsAt0 m c t.val t.isLt).1 =
    out0_A_5 c (grid0.coords t0_0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t0_0).mpr (by decide)) (fun h => absurd ((hcond0_1 t0_0).mp h) (by decide)) (iblk m c 0 t) (iblk m c 1 t) (iblk m c 2 t) (iblk m c 3 t) (iblk m c 4 t) := by
  rw [outsAt0_B m c t h0 h1]
  funext y
  frame_out

theorem eq5C (t : Fin cfg0.N) (h1 : t.val % 16 = 15) : (outsAt0 m c t.val t.isLt).1 =
    out0_A_5 c (grid0.coords t0_0) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t0_0).mpr (by decide)) (fun h => absurd ((hcond0_1 t0_0).mp h) (by decide)) (iblk m c 0 t) (iblk m c 1 t) (iblk m c 2 t) (iblk m c 3 t) (iblk m c 4 t) := by
  rw [outsAt0_C m c t (by omega) h1]
  funext y
  frame_out

/-- What every step leaves at one index of a block of the gradient at the input. -/
theorem out5 (t : Fin cfg0.N) (y : S512x4096.Idx) : @Eq EReal ((outsAt0 m c t.val t.isLt).1 y)
    (cell (iblk m c 0 t) (iblk m c 1 t) (iblk m c 2 t) (iblk m c 3 t) (iblk m c 4 t) (y 0) (y 1)) := by
  by_cases h0 : t.val % 16 = 0
  · rw [eq5A m c t h0]; exact point5 c t _ _ _ _ _ y
  · by_cases h1 : t.val % 16 = 15
    · rw [eq5C m c t h1]; exact point5 c t _ _ _ _ _ y
    · rw [eq5B m c t h0 h1]; exact point5 c t _ _ _ _ _ y

end Cert.Kernel30Ideal.SguGrad
-- ==== Proof.SguGradStep.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradInput

@[expose] public section

set_option maxRecDepth 16384

/-! What one step adds to the gradients at the weights and the biases of the gating unit. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

/-- The normalised gate half. -/
def hat (x0 : Vec Ideal S512x4096 .bf16) (r : Fin 512) (j : Fin 2048) : EReal := gate x0 r j * Gating.inv (gate x0 r)

/-- The gradient at the spatial product. -/
def du (x0 : Vec Ideal S512x4096 .bf16) (x1 : Vec Ideal S512x2048 .bf16) (r : Fin 512) (j : Fin 2048) : EReal :=
  x1 (ix2 r j) * gk (x0 (ix2 r (⟨j, by omega⟩ : Fin 4096)))

/-- What one block of 128 rows adds to the gradient at the spatial weights. -/
def addW (x0 : Vec Ideal S512x4096 .bf16) (x1 : Vec Ideal S512x2048 .bf16) (x2 : Vec Ideal S1x2048 .f32)
    (row : Fin 128 → Fin 512) (col : Fin 256 → Fin 2048) (p q : Fin 128) : EReal :=
  Scalar.select (Gating.bit p q) (∑ e : Fin 256, du x0 x1 (row p) (col e) * (hat x0 (row q) (col e) * x2 (ix2 (0 : Fin 1) (col e)))) 0

/-- What one block of 128 rows adds to the gradient at the spatial biases. -/
def addB (x0 : Vec Ideal S512x4096 .bf16) (x1 : Vec Ideal S512x2048 .bf16) (row : Fin 128 → Fin 512) (col : Fin 256 → Fin 2048)
    (p : Fin 128) : EReal := ∑ e : Fin 256, du x0 x1 (row p) (col e)

/-- What a step adds to the gradient at the spatial weights, over what was there. -/
def accW (x0 : Vec Ideal S512x4096 .bf16) (x1 : Vec Ideal S512x2048 .bf16) (x2 : Vec Ideal S1x2048 .f32)
    (z : EReal) (g : Fin 8) (p q : Fin 128) : EReal :=
  z + addW x0 x1 x2 (rows 0) (cols g) p q + addW x0 x1 x2 (rows 1) (cols g) p q + addW x0 x1 x2 (rows 2) (cols g) p q
    + addW x0 x1 x2 (rows 3) (cols g) p q

/-- What a step adds to the gradient at the spatial biases, over what was there. -/
def accB (x0 : Vec Ideal S512x4096 .bf16) (x1 : Vec Ideal S512x2048 .bf16) (z : EReal) (g : Fin 8) (p : Fin 128) : EReal :=
  z + addB x0 x1 (rows 0) (cols g) p + addB x0 x1 (rows 1) (cols g) p + addB x0 x1 (rows 2) (cols g) p
    + addB x0 x1 (rows 3) (cols g) p

theorem rows_0 : rows 0 = fun q => ⟨q, by omega⟩ := by funext q; exact Fin.ext (by simp [rows])
theorem rows_1 : rows 1 = fun q => ⟨128 + q, by omega⟩ := by funext q; exact Fin.ext (by simp [rows])
theorem rows_2 : rows 2 = fun q => ⟨256 + q, by omega⟩ := by funext q; exact Fin.ext (by simp [rows])
theorem rows_3 : rows 3 = fun q => ⟨384 + q, by omega⟩ := by funext q; exact Fin.ext (by simp [rows])
theorem cols_0 : cols 0 = fun q => ⟨q, by omega⟩ := by funext q; exact Fin.ext (by simp [cols])
theorem cols_1 : cols 1 = fun q => ⟨256 + q, by omega⟩ := by funext q; exact Fin.ext (by simp [cols])
theorem cols_2 : cols 2 = fun q => ⟨512 + q, by omega⟩ := by funext q; exact Fin.ext (by simp [cols])
theorem cols_3 : cols 3 = fun q => ⟨768 + q, by omega⟩ := by funext q; exact Fin.ext (by simp [cols])
theorem cols_4 : cols 4 = fun q => ⟨1024 + q, by omega⟩ := by funext q; exact Fin.ext (by simp [cols])
theorem cols_5 : cols 5 = fun q => ⟨1280 + q, by omega⟩ := by funext q; exact Fin.ext (by simp [cols])
theorem cols_6 : cols 6 = fun q => ⟨1536 + q, by omega⟩ := by funext q; exact Fin.ext (by simp [cols])
theorem cols_7 : cols 7 = fun q => ⟨1792 + q, by omega⟩ := by funext q; exact Fin.ext (by simp [cols])

end Cert.Kernel30Ideal.SguGrad
-- ==== Proof.SguGradGain.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradStep
public import Idealize.ShloMosaic.Lib.Pipeline.ReadBack

@[expose] public section

set_option maxRecDepth 16384

/-! The gradient at the gain: a step adds its four blocks of rows, eight partial sums kept apart. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

/-- What one block adds to the gradient at the gain, kept in eight rows. -/
def addS (x0 : Vec Ideal S512x4096 .bf16) (x1 : Vec Ideal S512x2048 .bf16) (x3 : Vec Ideal S8x128x128 .f32)
    (row : Fin 128 → Fin 512) (s : Fin 8) (i : Fin 2048) : EReal :=
  ∑ x : Fin 16, dv x0 x1 x3 row ⟨x * 8 + s, by omega⟩ i * hat x0 (row ⟨x * 8 + s, by omega⟩) i

/-- What one step makes of the gradient at the gain. -/
def accS (x0 : Vec Ideal S512x4096 .bf16) (x1 : Vec Ideal S512x2048 .bf16) (x3 : Vec Ideal S8x128x128 .f32)
    (z : EReal) (s : Fin 8) (i : Fin 2048) : EReal :=
  z + addS x0 x1 x3 (rows 0) s i + addS x0 x1 x3 (rows 1) s i + addS x0 x1 x3 (rows 2) s i + addS x0 x1 x3 (rows 3) s i

variable (m : (ℓ : Loc nD τ sig) → Buf (Elt Ideal) ℓ) (c : Dev nD)

set_option maxHeartbeats 8000000 in
theorem gainA0 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (s : Fin 8) (i : Fin 2048) :
    @Eq EReal (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix2 s i))
      (accS x0 x1 x3 0 s i) := by
  frame_out
  unfold accS
  rw [rows_0, rows_1, rows_2, rows_3]
  open_payloads
  pointwise [cat8]
  try simp only [Memref.IsWhole.read_unread]

  rfl

set_option maxHeartbeats 8000000 in
theorem gainB0 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (s : Fin 8) (i : Fin 2048) :
    @Eq EReal (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix2 s i))
      (accS x0 x1 x3 (xs (ix2 s i)) s i) := by
  frame_out
  unfold accS
  rw [rows_0, rows_1, rows_2, rows_3]
  open_payloads
  pointwise [cat8]
  try simp only [Memref.IsWhole.read_unread]
  simp only [read_unread_whole]
  rfl

set_option maxHeartbeats 8000000 in
theorem gainC0 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (s : Fin 8) (i : Fin 2048) :
    @Eq EReal (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix2 s i))
      (accS x0 x1 x3 (xs (ix2 s i)) s i) := by
  frame_out
  unfold accS
  rw [rows_0, rows_1, rows_2, rows_3]
  open_payloads
  pointwise [cat8]
  try simp only [Memref.IsWhole.read_unread]
  simp only [read_unread_whole]
  rfl

set_option maxHeartbeats 8000000 in
theorem gainOut0 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (i : Fin 2048) :
    @Eq EReal (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix2 (0 : Fin 1) i))
      (∑ s : Fin 8, accS x0 x1 x3 (xs (ix2 s i)) s i) := by
  frame_out
  unfold accS
  rw [rows_0, rows_1, rows_2, rows_3]
  open_payloads
  pointwise [cat8]
  try simp only [Memref.IsWhole.read_unread]
  simp only [read_unread_whole]
  rfl

end Cert.Kernel30Ideal.SguGrad
-- ==== Proof.SguGradRef.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.GatingGrad

@[expose] public section

set_option maxRecDepth 16384

/-! The reference of the gradient of the gating unit, read at an index. -/

noncomputable section

open Idealize.ShloMosaic Idealize.ShloMosaic.TcCoe Idealize.SL.Sem
open Idealize.ShloMosaic.Pipeline (Dat)

namespace Cert.Reference30Ideal.SguGrad
open Cert.Reference30Ideal Cert.Reference30Ideal.Gen Cert.Reference30Ideal.Value

/-- Row `q` of the block of 128 rows that `r` lies in. -/
def blk (r : Fin 8192) (q : Fin 128) : Fin 8192 := ⟨r.val / 128 * 128 + q.val, by omega⟩

/-- The gate half of a row, through gelu. -/
def gate (a0 : FVec Ideal S8192x4096 .bf16) (r : Fin 8192) (j : Fin 2048) : EReal :=
  Gating.gr (a0 (ix2 r (⟨2048 + j.val, by omega⟩ : Fin 4096)))

/-- The mask as a number: position `q`'s chunk is no later than `p`'s. -/
def mask (p q : ℕ) : EReal :=
  FloatOps.uitofp (F := Ideal) .f32 (IntOp.cmpi CmpIPredicate.sle (Gating.chunk (BitVec.ofNat 32 q)) (Gating.chunk (BitVec.ofNat 32 p)))

/-- The normalised gate half, before the gain. -/
def hat (a0 : FVec Ideal S8192x4096 .bf16) (r : Fin 8192) (i : Fin 2048) : EReal := gate a0 r i * Gating.inv (gate a0 r)

/-- The spatial product, with its bias. -/
def vm (a0 : FVec Ideal S8192x4096 .bf16) (a2 : FVec Ideal S1x2048 .f32) (a3 : FVec Ideal S8x128x128 .f32)
    (a4 : FVec Ideal S8x128x1 .f32) (r : Fin 8192) (i : Fin 2048) : EReal :=
  (∑ q : Fin 128, hat a0 (blk r q) i * a2 (ix2 (0 : Fin 1) i)
      * (a3 (ix3 (⟨i.val / 256, by omega⟩ : Fin 8) (⟨r.val % 128, by omega⟩ : Fin 128) q) * mask (r.val % 128) q))
    + a4 (ix3 (⟨i.val / 256, by omega⟩ : Fin 8) (⟨r.val % 128, by omega⟩ : Fin 128) (0 : Fin 1))

/-- The gradient at the spatial product. -/
def du (a0 : FVec Ideal S8192x4096 .bf16) (a1 : FVec Ideal S8192x2048 .bf16) (r : Fin 8192) (i : Fin 2048) : EReal :=
  Gating.gr (a0 (ix2 r (⟨i.val, by omega⟩ : Fin 4096))) * a1 (ix2 r i)

/-- The gradient at the normalised gate half. -/
def dv (a0 : FVec Ideal S8192x4096 .bf16) (a1 : FVec Ideal S8192x2048 .bf16) (a3 : FVec Ideal S8x128x128 .f32) (r : Fin 8192)
    (i : Fin 2048) : EReal :=
  ∑ p : Fin 128, du a0 a1 (blk r p) i
    * (a3 (ix3 (⟨i.val / 256, by omega⟩ : Fin 8) p (⟨r.val % 128, by omega⟩ : Fin 128)) * mask p (r.val % 128))

def left (a0 : FVec Ideal S8192x4096 .bf16) (a1 : FVec Ideal S8192x2048 .bf16) (a2 : FVec Ideal S1x2048 .f32)
    (a3 : FVec Ideal S8x128x128 .f32) (a4 : FVec Ideal S8x128x1 .f32) (r : Fin 8192) (i : Fin 2048) : EReal :=
  GatingGrad.gd (a0 (ix2 r (⟨i.val, by omega⟩ : Fin 4096))) (a1 (ix2 r i) * vm a0 a2 a3 a4 r i)

def right (a0 : FVec Ideal S8192x4096 .bf16) (a1 : FVec Ideal S8192x2048 .bf16) (a2 : FVec Ideal S1x2048 .f32)
    (a3 : FVec Ideal S8x128x128 .f32) (r : Fin 8192) (i : Fin 2048) : EReal :=
  GatingGrad.gd (a0 (ix2 r (⟨2048 + i.val, by omega⟩ : Fin 4096)))
    (GatingGrad.dx (gate a0 r) (fun j => dv a0 a1 a3 r j * a2 (ix2 (0 : Fin 1) j)) i)

variable (m : (ℓ : Loc nD τ sig) → Buf (Elt Ideal) ℓ) (c : Dev nD)

/-- The gradient at the input of the gelu, both halves, with the two halves still one conditional. -/
def both (a0 : FVec Ideal S8192x4096 .bf16) (a1 : FVec Ideal S8192x2048 .bf16) (a2 : FVec Ideal S1x2048 .f32)
    (a3 : FVec Ideal S8x128x128 .f32) (a4 : FVec Ideal S8x128x1 .f32) (r : Fin 8192) (i : Fin 4096) : EReal :=
  GatingGrad.gd (a0 (ix2 r i)) (if h : i.val < 2048 then
      a1 (ix2 r (⟨i.val, h⟩ : Fin 2048)) * ((∑ q : Fin 128, hat a0 (blk r q) (⟨i.val / 256 * 256 + i.val % 256, by omega⟩ : Fin 2048)
        * a2 (ix2 (0 : Fin 1) (⟨i.val / 256 * 256 + i.val % 256, by omega⟩ : Fin 2048))
        * (a3 (ix3 (⟨i.val / 256, by omega⟩ : Fin 8) (⟨r.val % 128, by omega⟩ : Fin 128) q) * mask (r.val % 128) q))
      + a4 (ix3 (⟨i.val / 256, by omega⟩ : Fin 8) (⟨r.val % 128, by omega⟩ : Fin 128) (0 : Fin 1)))
    else GatingGrad.dxs (gate a0 r) (fun j => dv a0 a1 a3 r j * a2 (ix2 (0 : Fin 1) j))
      ((∑ p : Fin 128, du a0 a1 (blk r p) (⟨(i.val - 2048) / 256 * 256 + (i.val - 2048) % 256, by omega⟩ : Fin 2048)
        * (a3 (ix3 (⟨(i.val - 2048) / 256, by omega⟩ : Fin 8) p (⟨r.val % 128, by omega⟩ : Fin 128)) * mask p (r.val % 128)))
        * a2 (ix2 (0 : Fin 1) (⟨i.val - 2048, by omega⟩ : Fin 2048))) (⟨i.val - 2048, by omega⟩ : Fin 2048))

set_option maxHeartbeats 4000000 in
theorem both_at (r : Fin 8192) (i : Fin 4096) : @Eq EReal (res_main_v111 (F := Ideal) m c (ix2 r i))
    (both (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) r i) := by
  unfold res_main_v111
  pointwise
  rfl

theorem both_left (a0 : FVec Ideal S8192x4096 .bf16) (a1 : FVec Ideal S8192x2048 .bf16) (a2 : FVec Ideal S1x2048 .f32)
    (a3 : FVec Ideal S8x128x128 .f32) (a4 : FVec Ideal S8x128x1 .f32) (r : Fin 8192) (i : Fin 2048) :
    both a0 a1 a2 a3 a4 r (⟨i.val, by omega⟩ : Fin 4096) = left a0 a1 a2 a3 a4 r i := by
  simp only [both, left, vm, dif_pos i.isLt, Nat.div_add_mod']

theorem both_right (a0 : FVec Ideal S8192x4096 .bf16) (a1 : FVec Ideal S8192x2048 .bf16) (a2 : FVec Ideal S1x2048 .f32)
    (a3 : FVec Ideal S8x128x128 .f32) (a4 : FVec Ideal S8x128x1 .f32) (r : Fin 8192) (i : Fin 2048) :
    both a0 a1 a2 a3 a4 r (⟨2048 + i.val, by omega⟩ : Fin 4096) = right a0 a1 a2 a3 r i := by
  simp only [both, right, GatingGrad.dx, dv, dif_neg (show ¬ 2048 + i.val < 2048 by omega), Nat.add_sub_cancel_left, Nat.div_add_mod']

set_option maxHeartbeats 4000000 in
theorem spatial_at (g : Fin 8) (p q : Fin 128) : @Eq EReal (res_main_v76 (F := Ideal) m c (ix3 g p q))
    ((∑ n : Fin 64, ∑ e : Fin 256,
      du (m ((c.tc : Thread nD τ).loc main_arg0)) (m ((c.tc : Thread nD τ).loc main_arg1)) (⟨n.val * 128 + p.val, by omega⟩ : Fin 8192)
        (⟨g.val * 256 + e.val, by omega⟩ : Fin 2048)
      * (hat (m ((c.tc : Thread nD τ).loc main_arg0)) (⟨n.val * 128 + q.val, by omega⟩ : Fin 8192)
          (⟨g.val * 256 + e.val, by omega⟩ : Fin 2048)
        * m ((c.tc : Thread nD τ).loc main_arg2) (ix2 (0 : Fin 1) (⟨g.val * 256 + e.val, by omega⟩ : Fin 2048)))) * mask p q) := by
  unfold res_main_v76
  pointwise
  rfl

/-- The host's sum over the first and the last of four axes, at an index of the other two. -/
theorem sum_first_last {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (i : Fin n1) (j : Fin n2) :
    Ideal.hostReduceAdd h v init (ix2 i j) = init + ∑ n : Fin n0, ∑ e : Fin n3, v (ix4 n i j e) := by
  refine congrArg (init + ·) ((Finset.sum_filter_eq_sum_of_fiber _ (fun k : Fin n0 × Fin n3 => ix4 k.1 i j k.2)
    (fun _ _ e => Prod.ext (congrFun e 0) (congrFun e 3)) (fun x => ?_) v).trans ?_)
  · constructor
    · intro e
      refine ⟨(x 0, x 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b; apply Fin.ext
      match b with
      | ⟨0, _⟩ => rfl
      | ⟨1, _⟩ => rfl
  · simp only [Fintype.sum_prod_type]

set_option maxHeartbeats 4000000 in
theorem bias_at (a0 : FVec Ideal S8192x4096 .bf16) (a1 : FVec Ideal S8192x2048 .bf16) (g : Fin 8) (p : Fin 128) : @Eq EReal ((broadcastInDim S8x128x1 ![0, 1] bcast_S8x128_S8x128x1_0_1 (transpose S8x128 [1, 0] (Host.reduceAdd (shapeCast _ (Host.reduceAdd (shapeCast _ (mulf (extractStridedSlice S8192x2048 ![0, 0] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_0) (extf .f32 a1 bitsLt_bf16_f32)) shapeCasts_S8192x2048_S64x128x8x256) (constant S_ .f32 0x00000000#32) reducesTo_S64x128x8x256_S128x8_d0_3 h_S_) shapeCasts_S128x8_S1x128x8x1) (constant S_ .f32 0x00000000#32) reducesTo_S1x128x8x1_S128x8_d0_3 h_S_) transposes_S128x8_S8x128_1_0)) (ix3 g p (0 : Fin 1)))
    (∑ _x : Fin 1, ∑ _x : Fin 1, ∑ n : Fin 64, ∑ e : Fin 256,
      du a0 a1 (⟨n.val * 128 + p.val, by omega⟩ : Fin 8192) (⟨g.val * 256 + e.val, by omega⟩ : Fin 2048)) := by
  pointwise [sum_first_last]
  rfl

set_option maxHeartbeats 4000000 in
theorem gain_at (i : Fin 2048) : @Eq EReal (res_main_v113 (F := Ideal) m c (ix2 (0 : Fin 1) i))
    (∑ _x : Fin 1, ∑ r : Fin 8192, hat (m ((c.tc : Thread nD τ).loc main_arg0)) r i
      * dv (m ((c.tc : Thread nD τ).loc main_arg0)) (m ((c.tc : Thread nD τ).loc main_arg1)) (m ((c.tc : Thread nD τ).loc main_arg3)) r i) := by
  unfold res_main_v113
  pointwise
  rfl

/-- The gradient at the input. -/
def dpre (a0 : FVec Ideal S8192x4096 .bf16) (a1 : FVec Ideal S8192x2048 .bf16) (a2 : FVec Ideal S1x2048 .f32)
    (a3 : FVec Ideal S8x128x128 .f32) (a4 : FVec Ideal S8x128x1 .f32) : FVec Ideal S8192x4096 .bf16 :=
  fun y => both a0 a1 a2 a3 a4 (y 0) (y 1)

/-- One element of the gradient at the spatial weights. -/
def dws (a0 : FVec Ideal S8192x4096 .bf16) (a1 : FVec Ideal S8192x2048 .bf16) (a2 : FVec Ideal S1x2048 .f32) (g : Fin 8)
    (p q : Fin 128) : EReal :=
  (∑ n : Fin 64, ∑ e : Fin 256, du a0 a1 (⟨n.val * 128 + p.val, by omega⟩ : Fin 8192) (⟨g.val * 256 + e.val, by omega⟩ : Fin 2048)
      * (hat a0 (⟨n.val * 128 + q.val, by omega⟩ : Fin 8192) (⟨g.val * 256 + e.val, by omega⟩ : Fin 2048)
        * a2 (ix2 (0 : Fin 1) (⟨g.val * 256 + e.val, by omega⟩ : Fin 2048)))) * mask p q

/-- One element of the gradient at the spatial biases. -/
def dbs (a0 : FVec Ideal S8192x4096 .bf16) (a1 : FVec Ideal S8192x2048 .bf16) (g : Fin 8) (p : Fin 128) : EReal :=
  ∑ n : Fin 64, ∑ e : Fin 256, du a0 a1 (⟨n.val * 128 + p.val, by omega⟩ : Fin 8192) (⟨g.val * 256 + e.val, by omega⟩ : Fin 2048)

/-- One element of the gradient at the gain. -/
def dgain (a0 : FVec Ideal S8192x4096 .bf16) (a1 : FVec Ideal S8192x2048 .bf16) (a3 : FVec Ideal S8x128x128 .f32)
    (i : Fin 2048) : EReal :=
  ∑ r : Fin 8192, hat a0 r i * dv a0 a1 a3 r i

theorem dpre_eq : res_main_v111 (F := Ideal) m c
    = dpre (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  funext y
  obtain ⟨r, i, rfl⟩ : ∃ (r : Fin 8192) (i : Fin 4096), y = ix2 r i := ⟨y 0, y 1, by funext a; fin_cases a <;> rfl⟩
  exact both_at m c r i

theorem dws_eq : res_main_v76 (F := Ideal) m c
    = fun y => dws (m ((c.tc : Thread nD τ).loc main_arg0)) (m ((c.tc : Thread nD τ).loc main_arg1)) (m ((c.tc : Thread nD τ).loc main_arg2))
      (y 0) (y 1) (y 2) := by
  funext y
  obtain ⟨g, p, q, rfl⟩ : ∃ (g : Fin 8) (p q : Fin 128), y = ix3 g p q := ⟨y 0, y 1, y 2, by funext a; fin_cases a <;> rfl⟩
  exact spatial_at m c g p q

theorem dgain_eq : res_main_v113 (F := Ideal) m c
    = fun y => dgain (m ((c.tc : Thread nD τ).loc main_arg0)) (m ((c.tc : Thread nD τ).loc main_arg1)) (m ((c.tc : Thread nD τ).loc main_arg3))
      (y 1) := by
  funext y
  obtain ⟨i, rfl⟩ : ∃ i : Fin 2048, y = ix2 (0 : Fin 1) i := ⟨y 1, by funext a; fin_cases a; exact Fin.ext (by have := (y 0).isLt; dsimp at this ⊢; omega); rfl⟩
  exact (gain_at m c i).trans (Fin.sum_univ_one _)

theorem dbs_eq (a0 : FVec Ideal S8192x4096 .bf16) (a1 : FVec Ideal S8192x2048 .bf16) : ((broadcastInDim S8x128x1 ![0, 1] bcast_S8x128_S8x128x1_0_1 (transpose S8x128 [1, 0] (Host.reduceAdd (shapeCast _ (Host.reduceAdd (shapeCast _ (mulf (extractStridedSlice S8192x2048 ![0, 0] (mulf (extf .f32 a0 bitsLt_bf16_f32) (mulf (broadcastInDim S8192x4096 ![] bcast_S_S8192x4096 (constant S_ .f32 0x3F000000#32)) (addf (broadcastInDim S8192x4096 ![] bcast_S_S8192x4096 (constant S_ .f32 0x3F800000#32)) (Host.tanh (mulf (broadcastInDim S8192x4096 ![] bcast_S_S8192x4096 (constant S_ .f32 0x3F4C422A#32)) (addf (extf .f32 a0 bitsLt_bf16_f32) (mulf (broadcastInDim S8192x4096 ![] bcast_S_S8192x4096 (constant S_ .f32 0x3D372713#32)) (mulf (mulf (extf .f32 a0 bitsLt_bf16_f32) (extf .f32 a0 bitsLt_bf16_f32)) (extf .f32 a0 bitsLt_bf16_f32))))))))) slices_S8192x4096_S8192x2048_0_0) (extf .f32 a1 bitsLt_bf16_f32)) shapeCasts_S8192x2048_S64x128x8x256) (constant S_ .f32 0x00000000#32) reducesTo_S64x128x8x256_S128x8_d0_3 h_S_) shapeCasts_S128x8_S1x128x8x1) (constant S_ .f32 0x00000000#32) reducesTo_S1x128x8x1_S128x8_d0_3 h_S_) transposes_S128x8_S8x128_1_0)) : FVec Ideal S8x128x1 .f32)
    = fun y => dbs a0 a1 (y 0) (y 1) := by
  funext y
  obtain ⟨g, p, rfl⟩ : ∃ (g : Fin 8) (p : Fin 128), y = ix3 g p (0 : Fin 1) :=
    ⟨y 0, y 1, by funext a; fin_cases a; rfl; rfl; exact Fin.ext (by have := (y 2).isLt; dsimp at this ⊢; omega)⟩
  exact (bias_at a0 a1 g p).trans ((Fin.sum_univ_one _).trans (Fin.sum_univ_one _))

end Cert.Reference30Ideal.SguGrad
-- ==== Proof.SguGradMatch.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradGain
public import proofs.«01_k».proof.Proof.SguGradRef

@[expose] public section

set_option maxRecDepth 16384

/-! What a step of the gradient of the gating unit computes is what the reference computes, at finite arguments. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen
open Cert.GatingGrad (Fin')

theorem gk_eq {x : EReal} (h : Fin' x) : gk x = Gating.gr x := by rw [gk, named, Gating.gelu_eq _ h.ne_bot]

theorem gp_eq (x : EReal) : gp x = GatingGrad.gp Gating.A GatingGrad.B x := by rw [gp, named, named3]

/-- Choosing a sum by the mask is multiplying it by the mask. -/
theorem select_mul (b : BitVec 1) (v : EReal) : Scalar.select b v 0 = v * FloatOps.uitofp (F := Ideal) .f32 b := by
  rcases (by decide +revert : b = 0#1 ∨ b = 1#1) with h | h <;> subst h
  · show (0 : EReal) = v * (((0#1).toNat : ℝ) : EReal); simp
  · show v = v * (((1#1).toNat : ℝ) : EReal); simp

/-- Multiplying by the mask goes through a sum. -/
theorem sum_mask {ι : Type*} [Fintype ι] (b : BitVec 1) (f : ι → EReal) :
    ∑ n, f n * FloatOps.uitofp (F := Ideal) .f32 b = (∑ n, f n) * FloatOps.uitofp (F := Ideal) .f32 b := by
  rcases (by decide +revert : b = 0#1 ∨ b = 1#1) with h | h <;> subst h
  · show ∑ n, f n * (((0#1).toNat : ℝ) : EReal) = (∑ n, f n) * (((0#1).toNat : ℝ) : EReal); simp
  · show ∑ n, f n * (((1#1).toNat : ℝ) : EReal) = (∑ n, f n) * (((1#1).toNat : ℝ) : EReal); simp

theorem mask_eq (p q : Fin 128) : Reference30Ideal.SguGrad.mask p q = FloatOps.uitofp (F := Ideal) .f32 (Gating.bit p q) := by
  unfold Reference30Ideal.SguGrad.mask
  rw [Gating.bit_eq]

/-- What one block of 128 rows adds to the gradient at the spatial weights, before the mask. -/
def termW (a0 : FVec Ideal S8192x4096 .bf16) (a1 : FVec Ideal S8192x2048 .bf16) (a2 : FVec Ideal S1x2048 .f32)
    (g : Fin 8) (p q : Fin 128) (n : Fin 64) : EReal :=
  ∑ e : Fin 256, Reference30Ideal.SguGrad.du a0 a1 (⟨n.val * 128 + p.val, by omega⟩ : Fin 8192) (⟨g.val * 256 + e.val, by omega⟩ : Fin 2048)
      * (Reference30Ideal.SguGrad.hat a0 (⟨n.val * 128 + q.val, by omega⟩ : Fin 8192) (⟨g.val * 256 + e.val, by omega⟩ : Fin 2048)
        * a2 (ix2 (0 : Fin 1) (⟨g.val * 256 + e.val, by omega⟩ : Fin 2048)))

/-- What one block of 128 rows adds to the gradient at the spatial biases. -/
def termB (a0 : FVec Ideal S8192x4096 .bf16) (a1 : FVec Ideal S8192x2048 .bf16) (g : Fin 8) (p : Fin 128) (n : Fin 64) : EReal :=
  ∑ e : Fin 256, Reference30Ideal.SguGrad.du a0 a1 (⟨n.val * 128 + p.val, by omega⟩ : Fin 8192) (⟨g.val * 256 + e.val, by omega⟩ : Fin 2048)

/-- What one row adds to the gradient at the gain. -/
def termS (a0 : FVec Ideal S8192x4096 .bf16) (a1 : FVec Ideal S8192x2048 .bf16) (a3 : FVec Ideal S8x128x128 .f32)
    (i : Fin 2048) (r : Fin 8192) : EReal := Reference30Ideal.SguGrad.hat a0 r i * Reference30Ideal.SguGrad.dv a0 a1 a3 r i

section Block

variable {x0 : Vec Ideal S512x4096 .bf16} {x1 : Vec Ideal S512x2048 .bf16}
  {a0 : FVec Ideal S8192x4096 .bf16} {a1 : FVec Ideal S8192x2048 .bf16} {a2 : FVec Ideal S1x2048 .f32}
  {a3 : FVec Ideal S8x128x128 .f32} {a4 : FVec Ideal S8x128x1 .f32} {t : ℕ} (ht : t < 16)
  (h0 : ∀ (q : Fin 512) (j : Fin 4096) (Q : Fin 8192), Q.val = t * 512 + q.val → x0 (ix2 q j) = a0 (ix2 Q j))
  (h1 : ∀ (q : Fin 512) (j : Fin 2048) (Q : Fin 8192), Q.val = t * 512 + q.val → x1 (ix2 q j) = a1 (ix2 Q j))
  (f0 : ∀ y, Fin' (a0 y)) (f1 : ∀ y, Fin' (a1 y)) (f2 : ∀ y, Fin' (a2 y)) (f3 : ∀ y, Fin' (a3 y)) (f4 : ∀ y, Fin' (a4 y))

include h0 f0 in
theorem gate_eq (q : Fin 512) (j : Fin 2048) (Q : Fin 8192) (hQ : Q.val = t * 512 + q.val) :
    gate x0 q j = Reference30Ideal.SguGrad.gate a0 Q j :=
  (congrArg gk (h0 q _ Q hQ)).trans (gk_eq (f0 _))

include h0 f0 in
theorem gates_eq (q : Fin 512) (Q : Fin 8192) (hQ : Q.val = t * 512 + q.val) : gate x0 q = Reference30Ideal.SguGrad.gate a0 Q :=
  funext fun j => gate_eq h0 f0 q j Q hQ

include h0 f0 in
theorem hat_eq (q : Fin 512) (j : Fin 2048) (Q : Fin 8192) (hQ : Q.val = t * 512 + q.val) :
    hat x0 q j = Reference30Ideal.SguGrad.hat a0 Q j :=
  congrArg₂ (· * ·) (gate_eq h0 f0 q j Q hQ) (congrArg Gating.inv (gates_eq h0 f0 q Q hQ))

include h0 h1 f0 in
theorem du_eq (q : Fin 512) (j : Fin 2048) (Q : Fin 8192) (hQ : Q.val = t * 512 + q.val) :
    du x0 x1 q j = Reference30Ideal.SguGrad.du a0 a1 Q j :=
  (mul_comm _ _).trans (congrArg₂ (· * ·) ((congrArg gk (h0 q _ Q hQ)).trans (gk_eq (f0 _))) (h1 q j Q hQ))

include ht h0 h1 f0 in
theorem dvg_eq (s : Fin 4) (p : Fin 128) (g : Fin 8) (col : Fin 256 → Fin 2048) (e : Fin 256) (R : Fin 8192) (j : Fin 2048)
    (hR : R.val = t * 512 + (128 * s.val + p.val)) (hj : j.val = 256 * g.val + e.val) (hc : col e = j) :
    dvg x0 x1 a3 (rows s) col g p e = Reference30Ideal.SguGrad.dv a0 a1 a3 R j := by
  subst hc
  have hp : R.val % 128 = p.val := by omega
  have hP : (⟨R.val % 128, by omega⟩ : Fin 128) = p := Fin.ext hp
  have hg : (⟨(col e).val / 256, by omega⟩ : Fin 8) = g := Fin.ext (by dsimp; omega)
  refine Finset.sum_congr rfl fun q _ => ?_
  refine (Gating.select_eq _ _ _).trans ?_
  refine congrArg₂ (· * ·) (du_eq h0 h1 f0 (rows s q) (col e) (Reference30Ideal.SguGrad.blk R q)
    (by dsimp [rows, Reference30Ideal.SguGrad.blk]; omega)) (congrArg₂ (· * ·) ?_ ?_)
  · rw [hP, hg]
  · rw [hp]; exact (mask_eq q p).symm

include ht h0 h1 f0 in
theorem dv_eq (s : Fin 4) (p : Fin 128) (R : Fin 8192) (j : Fin 2048) (hR : R.val = t * 512 + (128 * s.val + p.val)) :
    dv x0 x1 a3 (rows s) p j = Reference30Ideal.SguGrad.dv a0 a1 a3 R j :=
  GatingGrad.sel8_eq (Reference30Ideal.SguGrad.dv a0 a1 a3 R) j _ _ _ _ _ _ _ _
    (fun e j h => dvg_eq ht h0 h1 f0 s p 0 _ e R j hR (by simpa using h) (Fin.ext (by simpa using h.symm)))
    (fun e j h => dvg_eq ht h0 h1 f0 s p 1 _ e R j hR (by simpa using h) (Fin.ext (by simpa using h.symm)))
    (fun e j h => dvg_eq ht h0 h1 f0 s p 2 _ e R j hR (by simpa using h) (Fin.ext (by simpa using h.symm)))
    (fun e j h => dvg_eq ht h0 h1 f0 s p 3 _ e R j hR (by simpa using h) (Fin.ext (by simpa using h.symm)))
    (fun e j h => dvg_eq ht h0 h1 f0 s p 4 _ e R j hR (by simpa using h) (Fin.ext (by simpa using h.symm)))
    (fun e j h => dvg_eq ht h0 h1 f0 s p 5 _ e R j hR (by simpa using h) (Fin.ext (by simpa using h.symm)))
    (fun e j h => dvg_eq ht h0 h1 f0 s p 6 _ e R j hR (by simpa using h) (Fin.ext (by simpa using h.symm)))
    (fun e j h => dvg_eq ht h0 h1 f0 s p 7 _ e R j hR (by simpa using h) (Fin.ext (by simpa using h.symm)))

include f0 in
theorem fin_gate (R : Fin 8192) (j : Fin 2048) : Fin' (Reference30Ideal.SguGrad.gate a0 R j) := (f0 _).gr

include f0 f2 f3 f4 in
theorem fin_vm (R : Fin 8192) (j : Fin 2048) : Fin' (Reference30Ideal.SguGrad.vm a0 a2 a3 a4 R j) :=
  (Fin'.sum _ _ fun q => (((fin_gate f0 _ j).mul (Fin'.inv _)).mul (f2 _)).mul ((f3 _).mul (Fin'.bit _))).add (f4 _)

include f0 f1 f3 in
theorem fin_dv (R : Fin 8192) (j : Fin 2048) : Fin' (Reference30Ideal.SguGrad.dv a0 a1 a3 R j) :=
  Fin'.sum _ _ fun p => ((f0 _).gr.mul (f1 _)).mul ((f3 _).mul (Fin'.bit _))

include ht h0 h1 f0 f1 f2 f3 f4 in
theorem left_eq (s : Fin 4) (p : Fin 128) (g : Fin 8) (e : Fin 256) (R : Fin 8192) (j : Fin 2048)
    (hR : R.val = t * 512 + (128 * s.val + p.val)) (hj : cols g e = j) :
    left x0 x1 a2 a3 a4 (rows s) (cols g) p g e = Reference30Ideal.SguGrad.left a0 a1 a2 a3 a4 R j := by
  subst hj
  have hp : R.val % 128 = p.val := by omega
  have hP : (⟨R.val % 128, by omega⟩ : Fin 128) = p := Fin.ext hp
  have hg : (⟨(cols g e).val / 256, by omega⟩ : Fin 8) = g := Fin.ext (by dsimp [cols]; omega)
  have hv : (∑ q : Fin 128, Scalar.select (Gating.bit p q) (a3 (ix3 g p q)
      * (gate x0 (rows s q) (cols g e) * Gating.inv (gate x0 (rows s q)) * a2 (ix2 (0 : Fin 1) (cols g e)))) 0 + a4 (ix3 g p (0 : Fin 1)) : EReal)
      = Reference30Ideal.SguGrad.vm a0 a2 a3 a4 R (cols g e) := by
    unfold Reference30Ideal.SguGrad.vm
    rw [hP, hg]
    refine congrArg (· + _) (Finset.sum_congr rfl fun q _ => ?_)
    refine (Gating.select_eq _ _ _).trans (congrArg₂ (· * ·) (congrArg (· * _) ?_) (congrArg₂ (· * ·) rfl ?_))
    · exact hat_eq h0 f0 (rows s q) (cols g e) (Reference30Ideal.SguGrad.blk R q) (by dsimp [rows, Reference30Ideal.SguGrad.blk]; omega)
    · rw [hp]; exact (mask_eq p q).symm
  refine Eq.trans (congrArg₂ (· * ·) (congrArg₂ (· * ·) (h1 (rows s p) (cols g e) R (by dsimp [rows]; omega)) hv)
    ((gp_eq _).trans (congrArg _ (h0 (rows s p) _ R (by dsimp [rows]; omega))))) ?_
  exact GatingGrad.gd_eq (f0 _) ((f1 _).mul (fin_vm f0 f2 f3 f4 R _))

include ht h0 h1 f0 f1 f2 f3 in
theorem right_eq (s : Fin 4) (p : Fin 128) (R : Fin 8192) (j : Fin 2048) (hR : R.val = t * 512 + (128 * s.val + p.val)) :
    right x0 x1 a2 a3 (rows s) p j = Reference30Ideal.SguGrad.right a0 a1 a2 a3 R j := by
  have hd : (fun x => dv x0 x1 a3 (rows s) p x * a2 (ix2 (0 : Fin 1) x) : Fin 2048 → EReal)
      = fun x => Reference30Ideal.SguGrad.dv a0 a1 a3 R x * a2 (ix2 (0 : Fin 1) x) :=
    funext fun x => congrArg (· * _) (dv_eq ht h0 h1 f0 s p R x hR)
  unfold right Reference30Ideal.SguGrad.right
  rw [hd, gates_eq h0 f0 (rows s p) R (by dsimp [rows]; omega)]
  refine Eq.trans (congrArg₂ (· * ·) rfl ((gp_eq _).trans (congrArg _ (h0 (rows s p) _ R (by dsimp [rows]; omega))))) ?_
  refine (GatingGrad.gd_eq (f0 _) (Fin'.dk (fun l => fin_gate f0 R l) (fun l => (fin_dv f0 f1 f3 R l).mul (f2 _)) j)).trans ?_
  rw [GatingGrad.dk_eq]

include ht h0 h1 f0 f1 f2 f3 f4 in
/-- A block of the gradient at the input is the reference's. -/
theorem cell_eq (r : Fin 512) (j : Fin 4096) (R : Fin 8192) (hR : R.val = t * 512 + r.val) :
    cell x0 x1 a2 a3 a4 r j = Reference30Ideal.SguGrad.both a0 a1 a2 a3 a4 R j := by
  unfold cell
  split_ifs with h
  · refine (left_eq ht h0 h1 f0 f1 f2 f3 f4 _ _ _ _ R ⟨j.val, h⟩ (by dsimp; omega) (Fin.ext (by dsimp [cols]; omega))).trans ?_
    exact (Reference30Ideal.SguGrad.both_left a0 a1 a2 a3 a4 R ⟨j.val, h⟩).symm
  · refine (right_eq ht h0 h1 f0 f1 f2 f3 _ _ R ⟨j.val - 2048, by omega⟩ (by dsimp; omega)).trans ?_
    refine (Reference30Ideal.SguGrad.both_right a0 a1 a2 a3 a4 R ⟨j.val - 2048, by omega⟩).symm.trans ?_
    exact congrArg _ (Fin.ext (by dsimp; omega))

include ht h0 h1 f0 in
theorem addW_eq (s : Fin 4) (g : Fin 8) (p q : Fin 128) : addW x0 x1 a2 (rows s) (cols g) p q
    = termW a0 a1 a2 g p q ⟨t * 4 + s.val, by omega⟩ * FloatOps.uitofp (F := Ideal) .f32 (Gating.bit p q) := by
  refine (select_mul _ _).trans (congrArg (· * _) (Finset.sum_congr rfl fun e _ => ?_))
  have hc : cols g e = (⟨g.val * 256 + e.val, by omega⟩ : Fin 2048) := Fin.ext (by dsimp [cols]; omega)
  rw [hc]
  exact congrArg₂ (· * ·) (du_eq h0 h1 f0 (rows s p) _ _ (by dsimp [rows]; omega))
    (congrArg (· * _) (hat_eq h0 f0 (rows s q) _ _ (by dsimp [rows]; omega)))

include ht h0 h1 f0 in
theorem addB_eq (s : Fin 4) (g : Fin 8) (p : Fin 128) : addB x0 x1 (rows s) (cols g) p
    = termB a0 a1 g p ⟨t * 4 + s.val, by omega⟩ := by
  refine Finset.sum_congr rfl fun e _ => ?_
  have hc : cols g e = (⟨g.val * 256 + e.val, by omega⟩ : Fin 2048) := Fin.ext (by dsimp [cols]; omega)
  rw [hc]
  exact du_eq h0 h1 f0 (rows s p) _ _ (by dsimp [rows]; omega)

include ht h0 h1 f0 in
theorem addS_eq (s : Fin 8) (i : Fin 2048) : ∑ b : Fin 4, addS x0 x1 a3 (rows b) s i
    = ∑ x : Fin 64, termS a0 a1 a3 i ⟨t * 512 + (x.val * 8 + s.val), by omega⟩ := by
  rw [Fin.sum_univ_tiles 4 16 (by norm_num) (fun x : Fin 64 => termS a0 a1 a3 i ⟨t * 512 + (x.val * 8 + s.val), by omega⟩)]
  refine Finset.sum_congr rfl fun b _ => Finset.sum_congr rfl fun x _ => ?_
  refine (mul_comm _ _).trans (congrArg₂ (· * ·) (hat_eq h0 f0 _ _ _ ?_) (dv_eq ht h0 h1 f0 b _ _ i ?_))
  all_goals (dsimp [rows]; omega)

end Block

theorem accW_eq (x0 : Vec Ideal S512x4096 .bf16) (x1 : Vec Ideal S512x2048 .bf16) (x2 : Vec Ideal S1x2048 .f32)
    (z : EReal) (g : Fin 8) (p q : Fin 128) : accW x0 x1 x2 z g p q = z + ∑ s : Fin 4, addW x0 x1 x2 (rows s) (cols g) p q := by
  rw [Fin.sum_univ_four, accW, ← add_assoc, ← add_assoc, ← add_assoc]

theorem accB_eq (x0 : Vec Ideal S512x4096 .bf16) (x1 : Vec Ideal S512x2048 .bf16)
    (z : EReal) (g : Fin 8) (p : Fin 128) : accB x0 x1 z g p = z + ∑ s : Fin 4, addB x0 x1 (rows s) (cols g) p := by
  rw [Fin.sum_univ_four, accB, ← add_assoc, ← add_assoc, ← add_assoc]

theorem accS_eq (x0 : Vec Ideal S512x4096 .bf16) (x1 : Vec Ideal S512x2048 .bf16) (x3 : Vec Ideal S8x128x128 .f32)
    (z : EReal) (s : Fin 8) (i : Fin 2048) : accS x0 x1 x3 z s i = z + ∑ b : Fin 4, addS x0 x1 x3 (rows b) s i := by
  rw [Fin.sum_univ_four, accS, ← add_assoc, ← add_assoc, ← add_assoc]

end Cert.Kernel30Ideal.SguGrad
-- ==== Proof.SguGradWeights.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradStep
public import Idealize.ShloMosaic.Lib.Pipeline.ReadBack

@[expose] public section

set_option maxRecDepth 16384

/-! The gradient at the spatial weights: a step adds its four blocks of rows. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

/-- A group's own store is what is read there. -/
theorem hitW (k : ℕ) (g : Fin 8) (p q : Fin 128) (i : ∀ a, (![k, 0, 0] : Fin 3 → ℕ) a + (![1, 128, 128] : Fin 3 → ℕ) a ≤ S8x128x128.size a)
    (w : (Rect.unit (s := S8x128x128) ![k, 0, 0] ![1, 128, 128] i).shape.Idx → Elt Ideal .f32) (L : List (View.Piece (Elt Ideal) S8x128x128 .f32))
    (h : (k == g.val) = true) :
    View.canon (⟨Rect.unit (s := S8x128x128) ![k, 0, 0] ![1, 128, 128] i, w⟩ :: L) (ix3 g p q) = w (ix3 (0 : Fin 1) p q) := by
  obtain rfl : k = g.val := by simpa using h
  refine Eq.trans (congrArg _ ?_) (View.canon_cons_emb _ w L (ix3 (0 : Fin 1) p q))
  funext a
  apply Fin.ext
  rw [ValueKit.rect_emb_unit_val]
  fin_cases a <;> simp

/-- Another group's store is not. -/
theorem skipW (k : ℕ) (g : Fin 8) (p q : Fin 128) (i : ∀ a, (![k, 0, 0] : Fin 3 → ℕ) a + (![1, 128, 128] : Fin 3 → ℕ) a ≤ S8x128x128.size a)
    (w : (Rect.unit (s := S8x128x128) ![k, 0, 0] ![1, 128, 128] i).shape.Idx → Elt Ideal .f32) (L : List (View.Piece (Elt Ideal) S8x128x128 .f32))
    (h : (k == g.val) = false) :
    View.canon (⟨Rect.unit (s := S8x128x128) ![k, 0, 0] ![1, 128, 128] i, w⟩ :: L) (ix3 g p q) = View.canon L (ix3 g p q) := by
  refine View.canon_cons_of_not_mem _ L fun hm => ?_
  obtain ⟨x, hx⟩ := LoadRect.exists_idx_of_mem _ hm
  have h0 := congrArg Fin.val (congrFun hx 0)
  have hx0 : (x 0 : ℕ) < 1 := (x 0).isLt
  simp [LoadRect.idx, Rect.unit] at h0 h
  omega

variable (m : (ℓ : Loc nD τ sig) → Buf (Elt Ideal) ℓ) (c : Dev nD)

set_option maxHeartbeats 4000000 in
theorem stepWA0 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (0 : Fin 8) p q))
      (accW x0 x1 x2 0 0 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_0]
  open_payloads
  pointwise
  rfl

set_option maxHeartbeats 4000000 in
theorem stepWA1 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (1 : Fin 8) p q))
      (accW x0 x1 x2 0 1 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_1]
  open_payloads
  pointwise
  rfl

set_option maxHeartbeats 4000000 in
theorem stepWA2 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (2 : Fin 8) p q))
      (accW x0 x1 x2 0 2 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_2]
  open_payloads
  pointwise
  rfl

set_option maxHeartbeats 4000000 in
theorem stepWA3 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (3 : Fin 8) p q))
      (accW x0 x1 x2 0 3 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_3]
  open_payloads
  pointwise
  rfl

set_option maxHeartbeats 4000000 in
theorem stepWA4 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (4 : Fin 8) p q))
      (accW x0 x1 x2 0 4 p q) := by
  frame_out
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_4]
  open_payloads
  pointwise
  rfl

set_option maxHeartbeats 4000000 in
theorem stepWA5 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (5 : Fin 8) p q))
      (accW x0 x1 x2 0 5 p q) := by
  frame_out
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_5]
  open_payloads
  pointwise
  rfl

set_option maxHeartbeats 4000000 in
theorem stepWA6 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (6 : Fin 8) p q))
      (accW x0 x1 x2 0 6 p q) := by
  frame_out
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_6]
  open_payloads
  pointwise
  rfl

set_option maxHeartbeats 4000000 in
theorem stepWA7 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (7 : Fin 8) p q))
      (accW x0 x1 x2 0 7 p q) := by
  frame_out
  refine (hitW _ _ _ _ _ _ _ rfl).trans ?_
  simp (disch := decide) only [↓View.readCov_skip, View.readCov_cons_toLoadRect, ↓View.readCov_fill]
  unfold accW
  rw [rows_0, rows_1, rows_2, rows_3, cols_7]
  open_payloads
  pointwise
  rfl

set_option maxHeartbeats 4000000 in
theorem stepWB0 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (0 : Fin 8) p q))
      (accW x0 x1 x2 (x6 (ix3 (0 : Fin 8) p q)) 0 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_0]
  open_payloads
  pointwise
  rfl

set_option maxHeartbeats 4000000 in
theorem stepWB1 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (1 : Fin 8) p q))
      (accW x0 x1 x2 (x6 (ix3 (1 : Fin 8) p q)) 1 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_1]
  open_payloads
  pointwise
  rfl

set_option maxHeartbeats 4000000 in
theorem stepWB2 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (2 : Fin 8) p q))
      (accW x0 x1 x2 (x6 (ix3 (2 : Fin 8) p q)) 2 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_2]
  open_payloads
  pointwise
  rfl

set_option maxHeartbeats 4000000 in
theorem stepWB3 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (3 : Fin 8) p q))
      (accW x0 x1 x2 (x6 (ix3 (3 : Fin 8) p q)) 3 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_3]
  open_payloads
  pointwise
  rfl

set_option maxHeartbeats 4000000 in
theorem stepWB4 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (4 : Fin 8) p q))
      (accW x0 x1 x2 (x6 (ix3 (4 : Fin 8) p q)) 4 p q) := by
  frame_out
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_4]
  open_payloads
  pointwise
  rfl

set_option maxHeartbeats 4000000 in
theorem stepWB5 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (5 : Fin 8) p q))
      (accW x0 x1 x2 (x6 (ix3 (5 : Fin 8) p q)) 5 p q) := by
  frame_out
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_5]
  open_payloads
  pointwise
  rfl

set_option maxHeartbeats 4000000 in
theorem stepWB6 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (6 : Fin 8) p q))
      (accW x0 x1 x2 (x6 (ix3 (6 : Fin 8) p q)) 6 p q) := by
  frame_out
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_6]
  open_payloads
  pointwise
  rfl

set_option maxHeartbeats 4000000 in
theorem stepWB7 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (7 : Fin 8) p q))
      (accW x0 x1 x2 (x6 (ix3 (7 : Fin 8) p q)) 7 p q) := by
  frame_out
  refine (hitW _ _ _ _ _ _ _ rfl).trans ?_
  simp (disch := decide) only [↓View.readCov_skip, View.readCov_cons_toLoadRect, ↓View.readCov_fill]
  unfold accW
  rw [rows_0, rows_1, rows_2, rows_3, cols_7]
  open_payloads
  pointwise
  rfl

set_option maxHeartbeats 4000000 in
theorem stepWC0 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (0 : Fin 8) p q))
      (accW x0 x1 x2 (x6 (ix3 (0 : Fin 8) p q)) 0 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_0]
  open_payloads
  pointwise
  rfl

set_option maxHeartbeats 4000000 in
theorem stepWC1 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (1 : Fin 8) p q))
      (accW x0 x1 x2 (x6 (ix3 (1 : Fin 8) p q)) 1 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_1]
  open_payloads
  pointwise
  rfl

set_option maxHeartbeats 4000000 in
theorem stepWC2 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (2 : Fin 8) p q))
      (accW x0 x1 x2 (x6 (ix3 (2 : Fin 8) p q)) 2 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_2]
  open_payloads
  pointwise
  rfl

set_option maxHeartbeats 4000000 in
theorem stepWC3 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (3 : Fin 8) p q))
      (accW x0 x1 x2 (x6 (ix3 (3 : Fin 8) p q)) 3 p q) := by
  frame_out
  refine (skipW _ _ _ _ _ _ _ rfl).trans ?_
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_3]
  open_payloads
  pointwise
  rfl

set_option maxHeartbeats 4000000 in
theorem stepWC4 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (4 : Fin 8) p q))
      (accW x0 x1 x2 (x6 (ix3 (4 : Fin 8) p q)) 4 p q) := by
  frame_out
  refine (skipW _ _ _ _ _ _ _ rfl).trans ?_
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_4]
  open_payloads
  pointwise
  rfl

set_option maxHeartbeats 4000000 in
theorem stepWC5 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (5 : Fin 8) p q))
      (accW x0 x1 x2 (x6 (ix3 (5 : Fin 8) p q)) 5 p q) := by
  frame_out
  refine (skipW _ _ _ _ _ _ _ rfl).trans ?_
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_5]
  open_payloads
  pointwise
  rfl

set_option maxHeartbeats 4000000 in
theorem stepWC6 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (6 : Fin 8) p q))
      (accW x0 x1 x2 (x6 (ix3 (6 : Fin 8) p q)) 6 p q) := by
  frame_out
  refine (skipW _ _ _ _ _ _ _ rfl).trans ?_
  refine (hitW _ _ _ _ _ _ _ rfl).trans ?_
  simp (disch := decide) only [↓View.readCov_skip, View.readCov_cons_toLoadRect, ↓View.readCov_fill]
  unfold accW
  rw [rows_0, rows_1, rows_2, rows_3, cols_6]
  open_payloads
  pointwise
  rfl

set_option maxHeartbeats 4000000 in
theorem stepWC7 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (7 : Fin 8) p q))
      (accW x0 x1 x2 (x6 (ix3 (7 : Fin 8) p q)) 7 p q) := by
  frame_out
  refine (hitW _ _ _ _ _ _ _ rfl).trans ?_
  simp (disch := decide) only [↓View.readCov_skip, View.readCov_cons_toLoadRect, ↓View.readCov_fill]
  unfold accW
  rw [rows_0, rows_1, rows_2, rows_3, cols_7]
  open_payloads
  pointwise
  rfl

end Cert.Kernel30Ideal.SguGrad
-- ==== Proof.SguGradBias.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradStep
public import Idealize.ShloMosaic.Lib.Pipeline.ReadBack

@[expose] public section

set_option maxRecDepth 16384

/-! The gradient at the spatial biases: a step adds its four blocks of rows. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

/-- A group's own store is what is read there. -/
theorem hitB (k : ℕ) (g : Fin 8) (p : Fin 128) (i : ∀ a, (![k, 0, 0] : Fin 3 → ℕ) a + (![1, 128, 1] : Fin 3 → ℕ) a ≤ S8x128x1.size a)
    (w : (Rect.unit (s := S8x128x1) ![k, 0, 0] ![1, 128, 1] i).shape.Idx → Elt Ideal .f32) (L : List (View.Piece (Elt Ideal) S8x128x1 .f32))
    (h : (k == g.val) = true) :
    View.canon (⟨Rect.unit (s := S8x128x1) ![k, 0, 0] ![1, 128, 1] i, w⟩ :: L) (ix3 g p (0 : Fin 1)) = w (ix3 (0 : Fin 1) p (0 : Fin 1)) := by
  obtain rfl : k = g.val := by simpa using h
  refine Eq.trans (congrArg _ ?_) (View.canon_cons_emb _ w L (ix3 (0 : Fin 1) p (0 : Fin 1)))
  funext a
  apply Fin.ext
  rw [ValueKit.rect_emb_unit_val]
  fin_cases a <;> simp

/-- Another group's store is not. -/
theorem skipB (k : ℕ) (g : Fin 8) (p : Fin 128) (i : ∀ a, (![k, 0, 0] : Fin 3 → ℕ) a + (![1, 128, 1] : Fin 3 → ℕ) a ≤ S8x128x1.size a)
    (w : (Rect.unit (s := S8x128x1) ![k, 0, 0] ![1, 128, 1] i).shape.Idx → Elt Ideal .f32) (L : List (View.Piece (Elt Ideal) S8x128x1 .f32))
    (h : (k == g.val) = false) :
    View.canon (⟨Rect.unit (s := S8x128x1) ![k, 0, 0] ![1, 128, 1] i, w⟩ :: L) (ix3 g p (0 : Fin 1)) = View.canon L (ix3 g p (0 : Fin 1)) := by
  refine View.canon_cons_of_not_mem _ L fun hm => ?_
  obtain ⟨x, hx⟩ := LoadRect.exists_idx_of_mem _ hm
  have h0 := congrArg Fin.val (congrFun hx 0)
  have hx0 : (x 0 : ℕ) < 1 := (x 0).isLt
  simp [LoadRect.idx, Rect.unit] at h0 h
  omega

variable (m : (ℓ : Loc nD τ sig) → Buf (Elt Ideal) ℓ) (c : Dev nD)

set_option maxHeartbeats 4000000 in
theorem stepBA0 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (0 : Fin 8) p (0 : Fin 1)))
      (accB x0 x1 0 0 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_0]
  open_payloads
  pointwise
  rfl

set_option maxHeartbeats 4000000 in
theorem stepBA1 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (1 : Fin 8) p (0 : Fin 1)))
      (accB x0 x1 0 1 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_1]
  open_payloads
  pointwise
  rfl

set_option maxHeartbeats 4000000 in
theorem stepBA2 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (2 : Fin 8) p (0 : Fin 1)))
      (accB x0 x1 0 2 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_2]
  open_payloads
  pointwise
  rfl

set_option maxHeartbeats 4000000 in
theorem stepBA3 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (3 : Fin 8) p (0 : Fin 1)))
      (accB x0 x1 0 3 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_3]
  open_payloads
  pointwise
  rfl

set_option maxHeartbeats 4000000 in
theorem stepBA4 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (4 : Fin 8) p (0 : Fin 1)))
      (accB x0 x1 0 4 p) := by
  frame_out
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_4]
  open_payloads
  pointwise
  rfl

set_option maxHeartbeats 4000000 in
theorem stepBA5 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (5 : Fin 8) p (0 : Fin 1)))
      (accB x0 x1 0 5 p) := by
  frame_out
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_5]
  open_payloads
  pointwise
  rfl

set_option maxHeartbeats 4000000 in
theorem stepBA6 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (6 : Fin 8) p (0 : Fin 1)))
      (accB x0 x1 0 6 p) := by
  frame_out
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_6]
  open_payloads
  pointwise
  rfl

set_option maxHeartbeats 4000000 in
theorem stepBA7 (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 (7 : Fin 8) p (0 : Fin 1)))
      (accB x0 x1 0 7 p) := by
  frame_out
  refine (hitB _ _ _ _ _ _ rfl).trans ?_
  simp (disch := decide) only [↓View.readCov_skip, View.readCov_cons_toLoadRect, ↓View.readCov_fill]
  unfold accB
  rw [rows_0, rows_1, rows_2, rows_3, cols_7]
  open_payloads
  pointwise
  rfl

set_option maxHeartbeats 4000000 in
theorem stepBB0 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (0 : Fin 8) p (0 : Fin 1)))
      (accB x0 x1 (x7 (ix3 (0 : Fin 8) p (0 : Fin 1))) 0 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_0]
  open_payloads
  pointwise
  rfl

set_option maxHeartbeats 4000000 in
theorem stepBB1 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (1 : Fin 8) p (0 : Fin 1)))
      (accB x0 x1 (x7 (ix3 (1 : Fin 8) p (0 : Fin 1))) 1 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_1]
  open_payloads
  pointwise
  rfl

set_option maxHeartbeats 4000000 in
theorem stepBB2 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (2 : Fin 8) p (0 : Fin 1)))
      (accB x0 x1 (x7 (ix3 (2 : Fin 8) p (0 : Fin 1))) 2 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_2]
  open_payloads
  pointwise
  rfl

set_option maxHeartbeats 4000000 in
theorem stepBB3 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (3 : Fin 8) p (0 : Fin 1)))
      (accB x0 x1 (x7 (ix3 (3 : Fin 8) p (0 : Fin 1))) 3 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_3]
  open_payloads
  pointwise
  rfl

set_option maxHeartbeats 4000000 in
theorem stepBB4 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (4 : Fin 8) p (0 : Fin 1)))
      (accB x0 x1 (x7 (ix3 (4 : Fin 8) p (0 : Fin 1))) 4 p) := by
  frame_out
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_4]
  open_payloads
  pointwise
  rfl

set_option maxHeartbeats 4000000 in
theorem stepBB5 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (5 : Fin 8) p (0 : Fin 1)))
      (accB x0 x1 (x7 (ix3 (5 : Fin 8) p (0 : Fin 1))) 5 p) := by
  frame_out
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_5]
  open_payloads
  pointwise
  rfl

set_option maxHeartbeats 4000000 in
theorem stepBB6 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (6 : Fin 8) p (0 : Fin 1)))
      (accB x0 x1 (x7 (ix3 (6 : Fin 8) p (0 : Fin 1))) 6 p) := by
  frame_out
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_6]
  open_payloads
  pointwise
  rfl

set_option maxHeartbeats 4000000 in
theorem stepBB7 (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 (7 : Fin 8) p (0 : Fin 1)))
      (accB x0 x1 (x7 (ix3 (7 : Fin 8) p (0 : Fin 1))) 7 p) := by
  frame_out
  refine (hitB _ _ _ _ _ _ rfl).trans ?_
  simp (disch := decide) only [↓View.readCov_skip, View.readCov_cons_toLoadRect, ↓View.readCov_fill]
  unfold accB
  rw [rows_0, rows_1, rows_2, rows_3, cols_7]
  open_payloads
  pointwise
  rfl

set_option maxHeartbeats 4000000 in
theorem stepBC0 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (0 : Fin 8) p (0 : Fin 1)))
      (accB x0 x1 (x7 (ix3 (0 : Fin 8) p (0 : Fin 1))) 0 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_0]
  open_payloads
  pointwise
  rfl

set_option maxHeartbeats 4000000 in
theorem stepBC1 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (1 : Fin 8) p (0 : Fin 1)))
      (accB x0 x1 (x7 (ix3 (1 : Fin 8) p (0 : Fin 1))) 1 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_1]
  open_payloads
  pointwise
  rfl

set_option maxHeartbeats 4000000 in
theorem stepBC2 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (2 : Fin 8) p (0 : Fin 1)))
      (accB x0 x1 (x7 (ix3 (2 : Fin 8) p (0 : Fin 1))) 2 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_2]
  open_payloads
  pointwise
  rfl

set_option maxHeartbeats 4000000 in
theorem stepBC3 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (3 : Fin 8) p (0 : Fin 1)))
      (accB x0 x1 (x7 (ix3 (3 : Fin 8) p (0 : Fin 1))) 3 p) := by
  frame_out
  refine (skipB _ _ _ _ _ _ rfl).trans ?_
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_3]
  open_payloads
  pointwise
  rfl

set_option maxHeartbeats 4000000 in
theorem stepBC4 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (4 : Fin 8) p (0 : Fin 1)))
      (accB x0 x1 (x7 (ix3 (4 : Fin 8) p (0 : Fin 1))) 4 p) := by
  frame_out
  refine (skipB _ _ _ _ _ _ rfl).trans ?_
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_4]
  open_payloads
  pointwise
  rfl

set_option maxHeartbeats 4000000 in
theorem stepBC5 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (5 : Fin 8) p (0 : Fin 1)))
      (accB x0 x1 (x7 (ix3 (5 : Fin 8) p (0 : Fin 1))) 5 p) := by
  frame_out
  refine (skipB _ _ _ _ _ _ rfl).trans ?_
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_5]
  open_payloads
  pointwise
  rfl

set_option maxHeartbeats 4000000 in
theorem stepBC6 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (6 : Fin 8) p (0 : Fin 1)))
      (accB x0 x1 (x7 (ix3 (6 : Fin 8) p (0 : Fin 1))) 6 p) := by
  frame_out
  refine (skipB _ _ _ _ _ _ rfl).trans ?_
  refine (hitB _ _ _ _ _ _ rfl).trans ?_
  simp (disch := decide) only [↓View.readCov_skip, View.readCov_cons_toLoadRect, ↓View.readCov_fill]
  unfold accB
  rw [rows_0, rows_1, rows_2, rows_3, cols_6]
  open_payloads
  pointwise
  rfl

set_option maxHeartbeats 4000000 in
theorem stepBC7 (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 (7 : Fin 8) p (0 : Fin 1)))
      (accB x0 x1 (x7 (ix3 (7 : Fin 8) p (0 : Fin 1))) 7 p) := by
  frame_out
  refine (hitB _ _ _ _ _ _ rfl).trans ?_
  simp (disch := decide) only [↓View.readCov_skip, View.readCov_cons_toLoadRect, ↓View.readCov_fill]
  unfold accB
  rw [rows_0, rows_1, rows_2, rows_3, cols_7]
  open_payloads
  pointwise
  rfl

end Cert.Kernel30Ideal.SguGrad
-- ==== Proof.SguGradOuts.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradWeights
public import proofs.«01_k».proof.Proof.SguGradBias
public import proofs.«01_k».proof.Proof.SguGradGain

@[expose] public section

set_option maxRecDepth 16384

/-! What every step leaves of the gradients at the weights, the biases and the gain. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen

variable (m : (ℓ : Loc nD τ sig) → Buf (Elt Ideal) ℓ) (c : Dev nD)

theorem stepWA_all (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (g : Fin 8) (p q : Fin 128) :
    @Eq EReal (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 g p q))
      (accW x0 x1 x2 0 g p q) := by
  rcases (by decide +revert : g = 0 ∨ g = 1 ∨ g = 2 ∨ g = 3 ∨ g = 4 ∨ g = 5 ∨ g = 6 ∨ g = 7) with rfl | rfl | rfl | rfl | rfl | rfl | rfl | rfl
  · exact stepWA0 c t h0 h1 x0 x1 x2 x3 x4 p q
  · exact stepWA1 c t h0 h1 x0 x1 x2 x3 x4 p q
  · exact stepWA2 c t h0 h1 x0 x1 x2 x3 x4 p q
  · exact stepWA3 c t h0 h1 x0 x1 x2 x3 x4 p q
  · exact stepWA4 c t h0 h1 x0 x1 x2 x3 x4 p q
  · exact stepWA5 c t h0 h1 x0 x1 x2 x3 x4 p q
  · exact stepWA6 c t h0 h1 x0 x1 x2 x3 x4 p q
  · exact stepWA7 c t h0 h1 x0 x1 x2 x3 x4 p q

theorem eqWA (t : Fin cfg0.N) (h0 : t.val % 16 = 0) (h1 : ¬ t.val % 16 = 15) : (outsAt0 m c t.val t.isLt).2.1 =
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) :=
  by rw [outsAt0_A m c t h0 h1]

/-- A step of kind A, at an index. -/
theorem stepWA (t : Fin cfg0.N) (h0 : t.val % 16 = 0) (h1 : ¬ t.val % 16 = 15) (g : Fin 8) (p q : Fin 128) : @Eq EReal ((outsAt0 m c t.val t.isLt).2.1 (ix3 g p q))
    (accW (iblk m c 0 t) (iblk m c 1 t) (iblk m c 2 t) 0 g p q) := by
  rw [eqWA m c t h0 h1]
  exact stepWA_all c t h0 h1 _ _ _ _ _ g p q

theorem stepWB_all (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (g : Fin 8) (p q : Fin 128) :
    @Eq EReal (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 g p q))
      (accW x0 x1 x2 (x6 (ix3 g p q)) g p q) := by
  rcases (by decide +revert : g = 0 ∨ g = 1 ∨ g = 2 ∨ g = 3 ∨ g = 4 ∨ g = 5 ∨ g = 6 ∨ g = 7) with rfl | rfl | rfl | rfl | rfl | rfl | rfl | rfl
  · exact stepWB0 c t h0 h1 x0 x1 x2 x3 x4 x6 x7 xs p q
  · exact stepWB1 c t h0 h1 x0 x1 x2 x3 x4 x6 x7 xs p q
  · exact stepWB2 c t h0 h1 x0 x1 x2 x3 x4 x6 x7 xs p q
  · exact stepWB3 c t h0 h1 x0 x1 x2 x3 x4 x6 x7 xs p q
  · exact stepWB4 c t h0 h1 x0 x1 x2 x3 x4 x6 x7 xs p q
  · exact stepWB5 c t h0 h1 x0 x1 x2 x3 x4 x6 x7 xs p q
  · exact stepWB6 c t h0 h1 x0 x1 x2 x3 x4 x6 x7 xs p q
  · exact stepWB7 c t h0 h1 x0 x1 x2 x3 x4 x6 x7 xs p q

theorem eqWB (t : Fin cfg0.N) (h0 : ¬ t.val % 16 = 0) (h1 : ¬ t.val % 16 = 15) : (outsAt0 m c t.val t.isLt).2.1 =
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_B m c t h0 h1]

/-- A step of kind B, at an index. -/
theorem stepWB (t : Fin cfg0.N) (h0 : ¬ t.val % 16 = 0) (h1 : ¬ t.val % 16 = 15) (g : Fin 8) (p q : Fin 128) : @Eq EReal ((outsAt0 m c t.val t.isLt).2.1 (ix3 g p q))
    (accW (iblk m c 0 t) (iblk m c 1 t) (iblk m c 2 t) ((outsAt0 m c (t.val - 1) (Nat.lt_of_le_of_lt (Nat.sub_le _ _) t.isLt)).2.1 (ix3 g p q)) g p q) := by
  rw [eqWB m c t h0 h1]
  exact stepWB_all c t h0 h1 _ _ _ _ _ _ _ _ g p q

theorem stepWC_all (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (g : Fin 8) (p q : Fin 128) :
    @Eq EReal (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 g p q))
      (accW x0 x1 x2 (x6 (ix3 g p q)) g p q) := by
  rcases (by decide +revert : g = 0 ∨ g = 1 ∨ g = 2 ∨ g = 3 ∨ g = 4 ∨ g = 5 ∨ g = 6 ∨ g = 7) with rfl | rfl | rfl | rfl | rfl | rfl | rfl | rfl
  · exact stepWC0 c t h0 h1 x0 x1 x2 x3 x4 x6 x7 xs p q
  · exact stepWC1 c t h0 h1 x0 x1 x2 x3 x4 x6 x7 xs p q
  · exact stepWC2 c t h0 h1 x0 x1 x2 x3 x4 x6 x7 xs p q
  · exact stepWC3 c t h0 h1 x0 x1 x2 x3 x4 x6 x7 xs p q
  · exact stepWC4 c t h0 h1 x0 x1 x2 x3 x4 x6 x7 xs p q
  · exact stepWC5 c t h0 h1 x0 x1 x2 x3 x4 x6 x7 xs p q
  · exact stepWC6 c t h0 h1 x0 x1 x2 x3 x4 x6 x7 xs p q
  · exact stepWC7 c t h0 h1 x0 x1 x2 x3 x4 x6 x7 xs p q

theorem eqWC (t : Fin cfg0.N) (h0 : ¬ t.val % 16 = 0) (h1 : t.val % 16 = 15) : (outsAt0 m c t.val t.isLt).2.1 =
    out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_C m c t h0 h1]

/-- A step of kind C, at an index. -/
theorem stepWC (t : Fin cfg0.N) (h0 : ¬ t.val % 16 = 0) (h1 : t.val % 16 = 15) (g : Fin 8) (p q : Fin 128) : @Eq EReal ((outsAt0 m c t.val t.isLt).2.1 (ix3 g p q))
    (accW (iblk m c 0 t) (iblk m c 1 t) (iblk m c 2 t) ((outsAt0 m c (t.val - 1) (Nat.lt_of_le_of_lt (Nat.sub_le _ _) t.isLt)).2.1 (ix3 g p q)) g p q) := by
  rw [eqWC m c t h0 h1]
  exact stepWC_all c t h0 h1 _ _ _ _ _ _ _ _ g p q

theorem stepBA_all (t : Fin cfg0.N) (h0 : t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (g : Fin 8) (p : Fin 128) :
    @Eq EReal (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      ((hcond0_0 t).mpr h0) (fun h => h1 ((hcond0_1 t).mp h)) x0 x1 x2 x3 x4 (ix3 g p (0 : Fin 1)))
      (accB x0 x1 0 g p) := by
  rcases (by decide +revert : g = 0 ∨ g = 1 ∨ g = 2 ∨ g = 3 ∨ g = 4 ∨ g = 5 ∨ g = 6 ∨ g = 7) with rfl | rfl | rfl | rfl | rfl | rfl | rfl | rfl
  · exact stepBA0 c t h0 h1 x0 x1 x2 x3 x4 p
  · exact stepBA1 c t h0 h1 x0 x1 x2 x3 x4 p
  · exact stepBA2 c t h0 h1 x0 x1 x2 x3 x4 p
  · exact stepBA3 c t h0 h1 x0 x1 x2 x3 x4 p
  · exact stepBA4 c t h0 h1 x0 x1 x2 x3 x4 p
  · exact stepBA5 c t h0 h1 x0 x1 x2 x3 x4 p
  · exact stepBA6 c t h0 h1 x0 x1 x2 x3 x4 p
  · exact stepBA7 c t h0 h1 x0 x1 x2 x3 x4 p

theorem eqBA (t : Fin cfg0.N) (h0 : t.val % 16 = 0) (h1 : ¬ t.val % 16 = 15) : (outsAt0 m c t.val t.isLt).2.2.1 =
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) :=
  by rw [outsAt0_A m c t h0 h1]

/-- A step of kind A, at an index. -/
theorem stepBA (t : Fin cfg0.N) (h0 : t.val % 16 = 0) (h1 : ¬ t.val % 16 = 15) (g : Fin 8) (p : Fin 128) : @Eq EReal ((outsAt0 m c t.val t.isLt).2.2.1 (ix3 g p (0 : Fin 1)))
    (accB (iblk m c 0 t) (iblk m c 1 t) 0 g p) := by
  rw [eqBA m c t h0 h1]
  exact stepBA_all c t h0 h1 _ _ _ _ _ g p

theorem stepBB_all (t : Fin cfg0.N) (h0 : ¬ t.val % 16 = 0) (h1 : ¬ t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (g : Fin 8) (p : Fin 128) :
    @Eq EReal (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) (fun h => h1 ((hcond0_1 t).mp h)) x0 x1 x2 x3 x4 x6 x7 xs (ix3 g p (0 : Fin 1)))
      (accB x0 x1 (x7 (ix3 g p (0 : Fin 1))) g p) := by
  rcases (by decide +revert : g = 0 ∨ g = 1 ∨ g = 2 ∨ g = 3 ∨ g = 4 ∨ g = 5 ∨ g = 6 ∨ g = 7) with rfl | rfl | rfl | rfl | rfl | rfl | rfl | rfl
  · exact stepBB0 c t h0 h1 x0 x1 x2 x3 x4 x6 x7 xs p
  · exact stepBB1 c t h0 h1 x0 x1 x2 x3 x4 x6 x7 xs p
  · exact stepBB2 c t h0 h1 x0 x1 x2 x3 x4 x6 x7 xs p
  · exact stepBB3 c t h0 h1 x0 x1 x2 x3 x4 x6 x7 xs p
  · exact stepBB4 c t h0 h1 x0 x1 x2 x3 x4 x6 x7 xs p
  · exact stepBB5 c t h0 h1 x0 x1 x2 x3 x4 x6 x7 xs p
  · exact stepBB6 c t h0 h1 x0 x1 x2 x3 x4 x6 x7 xs p
  · exact stepBB7 c t h0 h1 x0 x1 x2 x3 x4 x6 x7 xs p

theorem eqBB (t : Fin cfg0.N) (h0 : ¬ t.val % 16 = 0) (h1 : ¬ t.val % 16 = 15) : (outsAt0 m c t.val t.isLt).2.2.1 =
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_B m c t h0 h1]

/-- A step of kind B, at an index. -/
theorem stepBB (t : Fin cfg0.N) (h0 : ¬ t.val % 16 = 0) (h1 : ¬ t.val % 16 = 15) (g : Fin 8) (p : Fin 128) : @Eq EReal ((outsAt0 m c t.val t.isLt).2.2.1 (ix3 g p (0 : Fin 1)))
    (accB (iblk m c 0 t) (iblk m c 1 t) ((outsAt0 m c (t.val - 1) (Nat.lt_of_le_of_lt (Nat.sub_le _ _) t.isLt)).2.2.1 (ix3 g p (0 : Fin 1))) g p) := by
  rw [eqBB m c t h0 h1]
  exact stepBB_all c t h0 h1 _ _ _ _ _ _ _ _ g p

theorem stepBC_all (t : Fin cfg0.N) (h0 : ¬ t.val % 16 = 0) (h1 : t.val % 16 = 15) (x0 : Vec Ideal S512x4096 .bf16) (x1 : Vec Ideal S512x2048 .bf16)
    (x2 : Vec Ideal S1x2048 .f32) (x3 : Vec Ideal S8x128x128 .f32) (x4 : Vec Ideal S8x128x1 .f32) (x6 : Vec Ideal S8x128x128 .f32)
    (x7 : Vec Ideal S8x128x1 .f32) (xs : Vec Ideal S8x2048 .f32) (g : Fin 8) (p : Fin 128) :
    @Eq EReal (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
      (fun h => h0 ((hcond0_0 t).mp h)) ((hcond0_1 t).mpr h1) x0 x1 x2 x3 x4 x6 x7 xs (ix3 g p (0 : Fin 1)))
      (accB x0 x1 (x7 (ix3 g p (0 : Fin 1))) g p) := by
  rcases (by decide +revert : g = 0 ∨ g = 1 ∨ g = 2 ∨ g = 3 ∨ g = 4 ∨ g = 5 ∨ g = 6 ∨ g = 7) with rfl | rfl | rfl | rfl | rfl | rfl | rfl | rfl
  · exact stepBC0 c t h0 h1 x0 x1 x2 x3 x4 x6 x7 xs p
  · exact stepBC1 c t h0 h1 x0 x1 x2 x3 x4 x6 x7 xs p
  · exact stepBC2 c t h0 h1 x0 x1 x2 x3 x4 x6 x7 xs p
  · exact stepBC3 c t h0 h1 x0 x1 x2 x3 x4 x6 x7 xs p
  · exact stepBC4 c t h0 h1 x0 x1 x2 x3 x4 x6 x7 xs p
  · exact stepBC5 c t h0 h1 x0 x1 x2 x3 x4 x6 x7 xs p
  · exact stepBC6 c t h0 h1 x0 x1 x2 x3 x4 x6 x7 xs p
  · exact stepBC7 c t h0 h1 x0 x1 x2 x3 x4 x6 x7 xs p

theorem eqBC (t : Fin cfg0.N) (h0 : ¬ t.val % 16 = 0) (h1 : t.val % 16 = 15) : (outsAt0 m c t.val t.isLt).2.2.1 =
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_C m c t h0 h1]

/-- A step of kind C, at an index. -/
theorem stepBC (t : Fin cfg0.N) (h0 : ¬ t.val % 16 = 0) (h1 : t.val % 16 = 15) (g : Fin 8) (p : Fin 128) : @Eq EReal ((outsAt0 m c t.val t.isLt).2.2.1 (ix3 g p (0 : Fin 1)))
    (accB (iblk m c 0 t) (iblk m c 1 t) ((outsAt0 m c (t.val - 1) (Nat.lt_of_le_of_lt (Nat.sub_le _ _) t.isLt)).2.2.1 (ix3 g p (0 : Fin 1))) g p) := by
  rw [eqBC m c t h0 h1]
  exact stepBC_all c t h0 h1 _ _ _ _ _ _ _ _ g p

theorem eqSA (t : Fin cfg0.N) (h0 : t.val % 16 = 0) (h1 : ¬ t.val % 16 = 15) : (outsAt0 m c t.val t.isLt).2.2.2.2 =
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) :=
  by rw [outsAt0_A m c t h0 h1]

/-- A step of kind A, at an index. -/
theorem stepSA (t : Fin cfg0.N) (h0 : t.val % 16 = 0) (h1 : ¬ t.val % 16 = 15) (s : Fin 8) (i : Fin 2048) : @Eq EReal ((outsAt0 m c t.val t.isLt).2.2.2.2 (ix2 s i))
    (accS (iblk m c 0 t) (iblk m c 1 t) (iblk m c 3 t) 0 s i) := by
  rw [eqSA m c t h0 h1]
  exact gainA0 c t h0 h1 _ _ _ _ _ s i

theorem eqSB (t : Fin cfg0.N) (h0 : ¬ t.val % 16 = 0) (h1 : ¬ t.val % 16 = 15) : (outsAt0 m c t.val t.isLt).2.2.2.2 =
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_B m c t h0 h1]

/-- A step of kind B, at an index. -/
theorem stepSB (t : Fin cfg0.N) (h0 : ¬ t.val % 16 = 0) (h1 : ¬ t.val % 16 = 15) (s : Fin 8) (i : Fin 2048) : @Eq EReal ((outsAt0 m c t.val t.isLt).2.2.2.2 (ix2 s i))
    (accS (iblk m c 0 t) (iblk m c 1 t) (iblk m c 3 t) ((outsAt0 m c (t.val - 1) (Nat.lt_of_le_of_lt (Nat.sub_le _ _) t.isLt)).2.2.2.2 (ix2 s i)) s i) := by
  rw [eqSB m c t h0 h1]
  exact gainB0 c t h0 h1 _ _ _ _ _ _ _ _ s i

theorem eqSC (t : Fin cfg0.N) (h0 : ¬ t.val % 16 = 0) (h1 : t.val % 16 = 15) : (outsAt0 m c t.val t.isLt).2.2.2.2 =
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_C m c t h0 h1]

/-- A step of kind C, at an index. -/
theorem stepSC (t : Fin cfg0.N) (h0 : ¬ t.val % 16 = 0) (h1 : t.val % 16 = 15) (s : Fin 8) (i : Fin 2048) : @Eq EReal ((outsAt0 m c t.val t.isLt).2.2.2.2 (ix2 s i))
    (accS (iblk m c 0 t) (iblk m c 1 t) (iblk m c 3 t) ((outsAt0 m c (t.val - 1) (Nat.lt_of_le_of_lt (Nat.sub_le _ _) t.isLt)).2.2.2.2 (ix2 s i)) s i) := by
  rw [eqSC m c t h0 h1]
  exact gainC0 c t h0 h1 _ _ _ _ _ _ _ _ s i

theorem eqOC (t : Fin cfg0.N) (h0 : ¬ t.val % 16 = 0) (h1 : t.val % 16 = 15) : (outsAt0 m c t.val t.isLt).2.2.2.1 =
    out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.2 :=
  by rw [outsAt0_C m c t h0 h1]

/-- What the last step leaves of the gradient at the gain. -/
theorem outO (t : Fin cfg0.N) (h0 : ¬ t.val % 16 = 0) (h1 : t.val % 16 = 15) (i : Fin 2048) : @Eq EReal ((outsAt0 m c t.val t.isLt).2.2.2.1 (ix2 (0 : Fin 1) i))
    (∑ s : Fin 8, accS (iblk m c 0 t) (iblk m c 1 t) (iblk m c 3 t)
      ((outsAt0 m c (t.val - 1) (Nat.lt_of_le_of_lt (Nat.sub_le _ _) t.isLt)).2.2.2.2 (ix2 s i)) s i) := by
  rw [eqOC m c t h0 h1]
  exact gainOut0 c t h0 h1 _ _ _ _ _ _ _ _ i

end Cert.Kernel30Ideal.SguGrad
-- ==== Proof.SguGrad.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.SguGradMatch
public import proofs.«01_k».proof.Proof.SguGradOuts

@[expose] public section

set_option maxRecDepth 16384

/-! The gradient of the gating unit over the whole grid, at finite arguments. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen
open Cert.GatingGrad (Fin')

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0, 0] ∧ win0_4.index t = ![0, 0, 0] ∧ win0_5.index t = ![t.val, 0] :=
  (by decide +kernel : ∀ t : Fin grid0.N, _)

theorem whole2 (t : Fin cfg0.N) : iblk m c 2 t = m ((c : Thread nD τ).loc main_arg2) := by blk_ext! [iblk, V, idx t]
theorem whole3 (t : Fin cfg0.N) : iblk m c 3 t = m ((c : Thread nD τ).loc main_arg3) := by blk_ext! [iblk, V, idx t]
theorem whole4 (t : Fin cfg0.N) : iblk m c 4 t = m ((c : Thread nD τ).loc main_arg4) := by blk_ext! [iblk, V, idx t]

theorem in0 (t : Fin cfg0.N) (q : Fin 512) (j : Fin 4096) (Q : Fin 8192) (hQ : Q.val = t.val * 512 + q.val) :
    (iblk m c 0 t : Vec Ideal S512x4096 .bf16) (ix2 q j) = m ((c : Thread nD τ).loc main_arg0) (ix2 Q j) := by
  blk_ext [iblk, V, idx t]

theorem in1 (t : Fin cfg0.N) (q : Fin 512) (j : Fin 2048) (Q : Fin 8192) (hQ : Q.val = t.val * 512 + q.val) :
    (iblk m c 1 t : Vec Ideal S512x2048 .bf16) (ix2 q j) = m ((c : Thread nD τ).loc main_arg1) (ix2 Q j) := by
  blk_ext [iblk, V, idx t]

/-- The gradient at the spatial weights, after the last step. -/
theorem kept6 (y : S8x128x128.Idx) : (show FVec Ideal S8x128x128 .f32 from (outsAt0 m c t0_15.val t0_15.isLt).2.1) y
    = ∑ t : Fin cfg0.N, ∑ s : Fin 4, addW (iblk m c 0 t) (iblk m c 1 t) (iblk m c 2 t) (rows s) (cols (y 0)) (y 1) (y 2) := by
  refine (Pipeline.eq_sum_fin_of_reset_step_apply_last (M := EReal) (fun n h => (outsAt0 m c n h).2.1) 16 (fun _ => 0)
    (fun t y => ∑ s : Fin 4, addW (iblk m c 0 t) (iblk m c 1 t) (iblk m c 2 t) (rows s) (cols (y 0)) (y 1) (y 2))
    (fun t h y => ?_) (fun t h y => ?_) (le_of_eq N_0) t0_15 rfl y).trans (zero_add _)
  · obtain ⟨g, p, q, rfl⟩ : ∃ (g : Fin 8) (p q : Fin 128), y = ix3 g p q := ⟨y 0, y 1, y 2, by funext a; fin_cases a <;> rfl⟩
    exact (stepWA m c t h (by omega) g p q).trans (accW_eq _ _ _ _ _ _ _)
  · obtain ⟨g, p, q, rfl⟩ : ∃ (g : Fin 8) (p q : Fin 128), y = ix3 g p q := ⟨y 0, y 1, y 2, by funext a; fin_cases a <;> rfl⟩
    by_cases h2 : t.val % 16 = 15
    · exact (stepWC m c t h h2 g p q).trans (accW_eq _ _ _ _ _ _ _)
    · exact (stepWB m c t h h2 g p q).trans (accW_eq _ _ _ _ _ _ _)

/-- The gradient at the spatial biases, after the last step. -/
theorem kept7 (y : S8x128x1.Idx) : (show FVec Ideal S8x128x1 .f32 from (outsAt0 m c t0_15.val t0_15.isLt).2.2.1) y
    = ∑ t : Fin cfg0.N, ∑ s : Fin 4, addB (iblk m c 0 t) (iblk m c 1 t) (rows s) (cols (y 0)) (y 1) := by
  refine (Pipeline.eq_sum_fin_of_reset_step_apply_last (M := EReal) (fun n h => (outsAt0 m c n h).2.2.1) 16 (fun _ => 0)
    (fun t y => ∑ s : Fin 4, addB (iblk m c 0 t) (iblk m c 1 t) (rows s) (cols (y 0)) (y 1))
    (fun t h y => ?_) (fun t h y => ?_) (le_of_eq N_0) t0_15 rfl y).trans (zero_add _)
  · obtain ⟨g, p, rfl⟩ : ∃ (g : Fin 8) (p : Fin 128), y = ix3 g p (0 : Fin 1) :=
      ⟨y 0, y 1, by funext a; fin_cases a; · rfl
                    · rfl
                    · exact Subsingleton.elim (α := Fin 1) _ _⟩
    exact (stepBA m c t h (by omega) g p).trans (accB_eq _ _ _ _ _)
  · obtain ⟨g, p, rfl⟩ : ∃ (g : Fin 8) (p : Fin 128), y = ix3 g p (0 : Fin 1) :=
      ⟨y 0, y 1, by funext a; fin_cases a; · rfl
                    · rfl
                    · exact Subsingleton.elim (α := Fin 1) _ _⟩
    by_cases h2 : t.val % 16 = 15
    · exact (stepBC m c t h h2 g p).trans (accB_eq _ _ _ _ _)
    · exact (stepBB m c t h h2 g p).trans (accB_eq _ _ _ _ _)

/-- The eight rows kept for the gradient at the gain, after the last step. -/
theorem kept (y : S8x2048.Idx) : (show FVec Ideal S8x2048 .f32 from (outsAt0 m c t0_15.val t0_15.isLt).2.2.2.2) y
    = ∑ t : Fin cfg0.N, ∑ b : Fin 4, addS (iblk m c 0 t) (iblk m c 1 t) (iblk m c 3 t) (rows b) (y 0) (y 1) := by
  refine (Pipeline.eq_sum_fin_of_reset_step_apply_last (M := EReal) (fun n h => (outsAt0 m c n h).2.2.2.2) 16 (fun _ => 0)
    (fun t y => ∑ b : Fin 4, addS (iblk m c 0 t) (iblk m c 1 t) (iblk m c 3 t) (rows b) (y 0) (y 1))
    (fun t h y => ?_) (fun t h y => ?_) (le_of_eq N_0) t0_15 rfl y).trans (zero_add _)
  · obtain ⟨s, i, rfl⟩ : ∃ (s : Fin 8) (i : Fin 2048), y = ix2 s i := ⟨y 0, y 1, by funext a; fin_cases a <;> rfl⟩
    exact (stepSA m c t h (by omega) s i).trans (accS_eq _ _ _ _ _ _)
  · obtain ⟨s, i, rfl⟩ : ∃ (s : Fin 8) (i : Fin 2048), y = ix2 s i := ⟨y 0, y 1, by funext a; fin_cases a <;> rfl⟩
    by_cases h2 : t.val % 16 = 15
    · exact (stepSC m c t h h2 s i).trans (accS_eq _ _ _ _ _ _)
    · exact (stepSB m c t h h2 s i).trans (accS_eq _ _ _ _ _ _)

/-- The last step leaves the sum of the eight rows. -/
theorem last8 (i : Fin 2048) : (show FVec Ideal S1x2048 .f32 from (outsAt0 m c t0_15.val t0_15.isLt).2.2.2.1) (ix2 (0 : Fin 1) i)
    = ∑ s : Fin 8, (show FVec Ideal S8x2048 .f32 from (outsAt0 m c t0_15.val t0_15.isLt).2.2.2.2) (ix2 s i) :=
  (outO m c t0_15 (by decide) (by decide) i).trans
    (Finset.sum_congr rfl fun s _ => (stepSC m c t0_15 (by decide) (by decide) s i).symm)

section Finite

variable (f0 : ∀ y : S8192x4096.Idx, Fin' (m ((c : Thread nD τ).loc main_arg0) y))
  (f1 : ∀ y : S8192x2048.Idx, Fin' (m ((c : Thread nD τ).loc main_arg1) y))
  (f2 : ∀ y : S1x2048.Idx, Fin' (m ((c : Thread nD τ).loc main_arg2) y))
  (f3 : ∀ y : S8x128x128.Idx, Fin' (m ((c : Thread nD τ).loc main_arg3) y))
  (f4 : ∀ y : S8x128x1.Idx, Fin' (m ((c : Thread nD τ).loc main_arg4) y))

include f0 f1 f2 f3 f4 in
theorem final5 : (dats m 0 c).arrAt 5 (cfgs 0).N
    = Reference30Ideal.SguGrad.dpre (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have hN : t.val < 16 := t.isLt
  blk_simp
  rw [after0_5]
  refine (out5 m c t y).trans ?_
  rw [whole2, whole3, whole4]
  idx_vars y
  refine (cell_eq hN (in0 m c t) (in1 m c t) f0 f1 f2 f3 f4 y0 y1 ⟨t.val * 512 + y0.val, by omega⟩ rfl).trans ?_
  refine Eq.trans (b := Reference30Ideal.SguGrad.dpre (m ((c : Thread nD τ).loc main_arg0)) (m ((c : Thread nD τ).loc main_arg1))
    (m ((c : Thread nD τ).loc main_arg2)) (m ((c : Thread nD τ).loc main_arg3)) (m ((c : Thread nD τ).loc main_arg4))
    (ix2 ⟨t.val * 512 + y0.val, by omega⟩ y1)) rfl (Eq.symm (congrArg _ (?_ : _ = ix2 ⟨t.val * 512 + y0.val, by omega⟩ y1)))
  blk_ext [idx t]

include f0 in
theorem final6 : (dats m 0 c).arrAt 6 (cfgs 0).N = fun y => Reference30Ideal.SguGrad.dws (m ((c : Thread nD τ).loc main_arg0))
    (m ((c : Thread nD τ).loc main_arg1)) (m ((c : Thread nD τ).loc main_arg2)) (y 0) (y 1) (y 2) := by
  refine (dats m 0 c).arrAt_eq_of_after_last 6 t0_15 (by decide +kernel) _ fun y => ?_
  blk_simp
  rw [after0_6]
  refine (kept6 m c y).trans ?_
  idx_vars y
  refine (Finset.sum_congr rfl fun t _ => Finset.sum_congr rfl fun s _ => ?_ :
    _ = ∑ t : Fin 16, ∑ s : Fin 4, termW (m ((c : Thread nD τ).loc main_arg0)) (m ((c : Thread nD τ).loc main_arg1))
      (m ((c : Thread nD τ).loc main_arg2)) y0 y1 y2 ⟨t.val * 4 + s.val, by omega⟩ * FloatOps.uitofp (F := Ideal) .f32 (Gating.bit y1 y2)).trans ?_
  · have hN : t.val < 16 := t.isLt
    refine (congrArg (fun z => addW (iblk m c 0 t) (iblk m c 1 t) z (rows s) (cols y0) y1 y2) (whole2 m c t)).trans ?_
    exact addW_eq hN (in0 m c t) (in1 m c t) f0 s y0 y1 y2
  · refine (Fin.sum_univ_tiles 16 4 (by norm_num) (fun n : Fin 64 => termW (m ((c : Thread nD τ).loc main_arg0))
      (m ((c : Thread nD τ).loc main_arg1)) (m ((c : Thread nD τ).loc main_arg2)) y0 y1 y2 n
        * FloatOps.uitofp (F := Ideal) .f32 (Gating.bit y1 y2))).symm.trans ?_
    exact (sum_mask _ _).trans (congrArg (_ * ·) (mask_eq y1 y2).symm)

include f0 in
theorem final7 : (dats m 0 c).arrAt 7 (cfgs 0).N = fun y => Reference30Ideal.SguGrad.dbs (m ((c : Thread nD τ).loc main_arg0))
    (m ((c : Thread nD τ).loc main_arg1)) (y 0) (y 1) := by
  refine (dats m 0 c).arrAt_eq_of_after_last 7 t0_15 (by decide +kernel) _ fun y => ?_
  blk_simp
  rw [after0_7]
  refine (kept7 m c y).trans ?_
  idx_vars y
  refine (Finset.sum_congr rfl fun t _ => Finset.sum_congr rfl fun s _ => ?_ :
    _ = ∑ t : Fin 16, ∑ s : Fin 4, termB (m ((c : Thread nD τ).loc main_arg0)) (m ((c : Thread nD τ).loc main_arg1))
      y0 y1 ⟨t.val * 4 + s.val, by omega⟩).trans ?_
  · have hN : t.val < 16 := t.isLt
    exact addB_eq hN (in0 m c t) (in1 m c t) f0 s y0 y1
  · exact (Fin.sum_univ_tiles 16 4 (by norm_num) (fun n : Fin 64 => termB (m ((c : Thread nD τ).loc main_arg0))
      (m ((c : Thread nD τ).loc main_arg1)) y0 y1 n)).symm

include f0 in
theorem final8 : (dats m 0 c).arrAt 8 (cfgs 0).N = fun y => Reference30Ideal.SguGrad.dgain (m ((c : Thread nD τ).loc main_arg0))
    (m ((c : Thread nD τ).loc main_arg1)) (m ((c : Thread nD τ).loc main_arg3)) (y 1) := by
  refine (dats m 0 c).arrAt_eq_of_after_last 8 t0_15 (by decide +kernel) _ fun y => ?_
  blk_simp
  rw [after0_8]
  idx_vars y
  obtain rfl : y0 = 0 := Subsingleton.elim _ _
  refine (last8 m c y1).trans ?_
  refine Eq.trans (Finset.sum_congr rfl fun s _ => ?_)
    (RmsGrad.regroup (T := 16) (termS (m ((c : Thread nD τ).loc main_arg0)) (m ((c : Thread nD τ).loc main_arg1))
      (m ((c : Thread nD τ).loc main_arg3)) y1))
  refine (kept m c _).trans (Finset.sum_congr rfl fun t _ => ?_)
  have hN : t.val < 16 := t.isLt
  rw [whole3]
  exact addS_eq hN (in0 m c t) (in1 m c t) f0 s y1

end Finite

end Cert.Kernel30Ideal.SguGrad
-- ==== Proof.SguGradFinite.lean ====
module

public import proofs.«01_k».proof.Proof.Gen.Kernel30Ideal.Frame
public import proofs.«01_k».proof.Proof.Gen.Reference30Ideal.Run
public import Idealize.ShloMosaic.Lib.Pipeline.ValueKit
public import Idealize.ShloMosaic.Lib.Claim
public import proofs.«01_k».proof.Proof.Gen.Pre_finite
public import proofs.«01_k».proof.Proof.GatingGrad
public import Idealize.ShloMosaic.Lib.ReduceAll

@[expose] public section

set_option maxRecDepth 16384

/-! The precondition of the gradient of the gating unit, element by element. -/

noncomputable section

open Idealize.ShloMosaic Idealize.ShloMosaic.TcCoe Idealize.SL.Sem
open Idealize.ShloMosaic.Pipeline (Dat)

namespace Cert.Kernel30Ideal.SguGrad
open Cert.Kernel30Ideal Cert.Kernel30Ideal.Gen
open Cert.GatingGrad (Fin')

theorem and_one {a b : IVec Cert.Pre_finite.S_ 1} (h : andi a b = fun _ => 1#1) : a = (fun _ => 1#1) ∧ b = fun _ => 1#1 := by
  have e : ∀ x y : BitVec 1, IntOp.andi x y = 1#1 → x = 1#1 ∧ y = 1#1 := by decide
  exact ⟨funext fun i => (e _ _ (congrFun h i)).1, funext fun i => (e _ _ (congrFun h i)).2⟩

/-- A number whose absolute value is less than infinity is finite. -/
theorem fin_of {x : EReal} (h : BitVec.ofBool (decide ((FloatOps.absf (F := Ideal) (φ := .f32) x : EReal) < Ideal.ofBits .f32 2139095040#32)) = 1#1) :
    Fin' x := by
  have hi : Ideal.ofBits .f32 2139095040#32 = (⊤ : EReal) := by simp [Ideal.ofBits, Ideal.ieee]
  rw [hi] at h
  induction x using EReal.rec with
  | bot => exact absurd h (by show ¬ BitVec.ofBool (decide (((max ⊥ (-⊥) : EReal)) < ⊤)) = 1#1; simp)
  | top => exact absurd h (by show ¬ BitVec.ofBool (decide (((max ⊤ (-⊤) : EReal)) < ⊤)) = 1#1; simp)
  | coe r => exact ⟨r, rfl⟩

/-- What the precondition says: every element of every argument is finite. -/
theorem finite (a0 : FVec Ideal S8192x4096 .bf16) (a1 : FVec Ideal S8192x2048 .bf16) (a2 : FVec Ideal S1x2048 .f32)
    (a3 : FVec Ideal S8x128x128 .f32) (a4 : FVec Ideal S8x128x1 .f32)
    (h : Cert.Pre_finite.fn (F := Ideal) a0 a1 a2 a3 a4 = fun _ => 1#1) :
    (∀ y, Fin' (a0 y)) ∧ (∀ y, Fin' (a1 y)) ∧ (∀ y, Fin' (a2 y)) ∧ (∀ y, Fin' (a3 y)) ∧ ∀ y, Fin' (a4 y) := by
  obtain ⟨h, h4⟩ := and_one h
  obtain ⟨h, h3⟩ := and_one h
  obtain ⟨h, h2⟩ := and_one h
  obtain ⟨h0, h1⟩ := and_one h
  refine ⟨fun i => ?_, fun i => ?_, fun i => ?_, fun i => ?_, fun i => ?_⟩
  · have := Host.reduce_andi_all _ _ _ _ ix0 (congrFun h0 ix0) i
    pointwise at this
    exact fin_of this
  · have := Host.reduce_andi_all _ _ _ _ ix0 (congrFun h1 ix0) i
    pointwise at this
    exact fin_of this
  · have := Host.reduce_andi_all _ _ _ _ ix0 (congrFun h2 ix0) i
    pointwise at this
    exact fin_of this
  · have := Host.reduce_andi_all _ _ _ _ ix0 (congrFun h3 ix0) i
    pointwise at this
    exact fin_of this
  · have := Host.reduce_andi_all _ _ _ _ ix0 (congrFun h4 ix0) i
    pointwise at this
    exact fin_of this

end Cert.Kernel30Ideal.SguGrad
-- ==== Proof.Values.SguGrad.lean ====
/- The values of the pair Kernel30, Reference30: every result of the one is the result of the other. -/
module

public import proofs.«01_k».proof.Defs
public import proofs.«01_k».proof.Proof.Gen.Kernel30Ideal.Value
public import proofs.«01_k».proof.Proof.Gen.Reference30Ideal.Run
public import proofs.«01_k».proof.Proof.SguGrad
public import proofs.«01_k».proof.Proof.SguGradFinite
public import Idealize.ShloMosaic.Lib.Claim

@[expose] public section

noncomputable section

namespace Cert.Proof

open Idealize.ShloMosaic Idealize.SL.Sem

set_option maxHeartbeats 4000000 in
set_option maxRecDepth 16384 in
theorem values30 : Cert.algebraic_Kernel30Ideal_Reference30Ideal_pre_finite (hKernel30Ideal := Cert.Kernel30Ideal.Gen.facts) (hReference30Ideal := Cert.Reference30Ideal.Gen.facts) (hPre_finite := Cert.Pre_finite.Gen.facts) := by
  pair_intro
  · run_from Cert.Kernel30Ideal.Gen.run_main m g
  · run_from Cert.Reference30Ideal.Value.run m' g'
    · obtain ⟨f0, f1, f2, f3, f4⟩ := Cert.Kernel30Ideal.SguGrad.finite _ _ _ _ _ (hpre c)
      rw [Cert.Reference30Ideal.SguGrad.dpre_eq]
      simp only [hagree c]
      exact (Cert.Kernel30Ideal.SguGrad.final5 m c f0 f1 f2 f3 f4).symm
    · obtain ⟨f0, f1, f2, f3, f4⟩ := Cert.Kernel30Ideal.SguGrad.finite _ _ _ _ _ (hpre c)
      rw [Cert.Reference30Ideal.SguGrad.dws_eq]
      simp only [hagree c]
      exact (Cert.Kernel30Ideal.SguGrad.final6 m c f0).symm
    · obtain ⟨f0, f1, f2, f3, f4⟩ := Cert.Kernel30Ideal.SguGrad.finite _ _ _ _ _ (hpre c)
      rw [Cert.Reference30Ideal.SguGrad.dbs_eq]
      exact (Cert.Kernel30Ideal.SguGrad.final7 m c f0).symm
    · obtain ⟨f0, f1, f2, f3, f4⟩ := Cert.Kernel30Ideal.SguGrad.finite _ _ _ _ _ (hpre c)
      rw [Cert.Reference30Ideal.SguGrad.dgain_eq]
      simp only [hagree c]
      exact (Cert.Kernel30Ideal.SguGrad.final8 m c f0).symm

end Cert.Proof

end
-- ==== Proof.FinalLoss.lean ====
module

public import proofs.«01_k».proof.Proof.RmsGrad
public import proofs.«01_k».proof.Proof.Gen.Kernel31Ideal.Frame
public import proofs.«01_k».proof.Proof.Gen.Reference31Ideal.Run
public import Idealize.ShloMosaic.Lib.Pipeline.ValueKit
public import Idealize.ShloMosaic.Lib.Claim

@[expose] public section

set_option maxRecDepth 16384

/-! The last norm and the loss: the loss itself, the gradient of the residual stream and the gradient of the gain. -/

noncomputable section

open Idealize.ShloMosaic Idealize.ShloMosaic.TcCoe Idealize.SL.Sem
open Idealize.ShloMosaic.Pipeline (Dat)

namespace Cert.FinalLoss

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_thousandth : Ideal.ofBits .f32 0x3A800000#32 = ((1 / 1024 : ℝ) : EReal) := by
  simp [Ideal.ofBits, Ideal.ieee, -EReal.coe_mul]; norm_num

theorem ofBits_half_thousandth : Ideal.ofBits .f32 0x3A000000#32 = ((1 / 2048 : ℝ) : EReal) := by
  simp [Ideal.ofBits, Ideal.ieee, -EReal.coe_mul]; norm_num

/-- The gradient of half a mean square, in two forms. -/
theorem err_eq (e : EReal) : Ideal.div (Ideal.ofBits .f32 0x3F000000#32)
    (Ideal.ofBits .f32 0x44800000#32) * (Ideal.ofBits .f32 0x40000000#32 * e) = e * Ideal.ofBits .f32 0x3A800000#32 := by
  rw [ofBits_half, ofBits_two, ofBits_thousandth, RmsGrad.ofBits_thousand, Ideal.div_coe (by norm_num),
    ← EReal.coe_mul, ← mul_assoc, ← EReal.coe_mul, mul_comm]
  norm_num

/-- Half the sum of the means is the whole sum over twice the width. -/
theorem mean_eq {n : ℕ} (f : Fin n → EReal) : Ideal.ofBits .f32 0x3F000000#32 * ∑ r, Ideal.div (f r) (Ideal.ofBits .f32 0x44800000#32)
    = (∑ r, f r) * Ideal.ofBits .f32 0x3A000000#32 := by
  rw [ofBits_half, ofBits_half_thousandth, RmsGrad.ofBits_thousand]
  simp only [Ideal.div_coe (show (1024 : ℝ) ≠ 0 by norm_num)]
  rw [Finset.sum_congr rfl fun r _ => mul_comm (f r) _, RmsGrad.mul_sum _ _ (by norm_num), ← mul_assoc, ← EReal.coe_mul, mul_comm]
  norm_num

/-- A sum over the rows, taken point by point and eight rows apart. -/
theorem regroup {T : ℕ} (f : Fin (T * 256) → EReal) :
    ∑ s : Fin 8, ∑ t : Fin T, ∑ x : Fin 32, f ⟨t.val * 256 + (x.val * 8 + s.val), by omega⟩ = ∑ r, f r := by
  rw [Fin.sum_univ_tiles T 256 rfl f, Finset.sum_comm]
  refine Finset.sum_congr rfl fun t _ => ?_
  rw [Finset.sum_comm, Fin.sum_univ_tiles 32 8 (by norm_num) (fun k : Fin 256 => f ⟨t.val * 256 + k.val, by omega⟩)]

/-- The distance of a normalised row from its target. -/
def err {R : ℕ} (a0 : FVec Ideal ⟨2, ![R, 1024]⟩ .f32) (a1 : FVec Ideal ⟨2, ![1, 1024]⟩ .f32) (a2 : FVec Ideal ⟨2, ![R, 1024]⟩ .f32)
    (r : Fin R) (l : Fin 1024) : EReal :=
  a0 (ix2 r l) * Ideal.rsqrt (Ideal.div (∑ x, a0 (ix2 r x) * a0 (ix2 r x)) (Ideal.ofBits .f32 0x44800000#32)
    + Ideal.ofBits .f32 0x358637BD#32) * a1 (ix2 0 l) - a2 (ix2 r l)

/-- One row's part of the gradient of the gain. -/
def part {R : ℕ} (a0 : FVec Ideal ⟨2, ![R, 1024]⟩ .f32) (a1 : FVec Ideal ⟨2, ![1, 1024]⟩ .f32) (a2 : FVec Ideal ⟨2, ![R, 1024]⟩ .f32)
    (l : Fin 1024) (r : Fin R) : EReal :=
  err a0 a1 a2 r l * Ideal.ofBits .f32 0x3A800000#32
    * (a0 (ix2 r l) * Ideal.rsqrt (Ideal.div (∑ x, a0 (ix2 r x) * a0 (ix2 r x)) (Ideal.ofBits .f32 0x44800000#32)
      + Ideal.ofBits .f32 0x358637BD#32))

/-- One element's part of the loss. -/
def lossPart {R : ℕ} (a0 : FVec Ideal ⟨2, ![R, 1024]⟩ .f32) (a1 : FVec Ideal ⟨2, ![1, 1024]⟩ .f32) (a2 : FVec Ideal ⟨2, ![R, 1024]⟩ .f32)
    (l : Fin 1024) (r : Fin R) : EReal :=
  err a0 a1 a2 r l * err a0 a1 a2 r l

end Cert.FinalLoss

namespace Cert.Reference31Ideal.FinalLoss
open Cert.Reference31Ideal Cert.Reference31Ideal.Gen

def ref0 (a0 : FVec Ideal S8192x1024 .f32) (a1 : FVec Ideal S1x1024 .f32) (a2 : FVec Ideal S8192x1024 .f32) : FVec Ideal S1x128 .f32 :=
  broadcastInDim S1x128 ![] bcast_S_S1x128 (mulf (constant S_ .f32 0x3F000000#32) (Host.reduceAdd (Host.divf (Host.reduceAdd (mulf (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2)) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_))

def ref1 (a0 : FVec Ideal S8192x1024 .f32) (a1 : FVec Ideal S1x1024 .f32) (a2 : FVec Ideal S8192x1024 .f32) : FVec Ideal S8192x1024 .f32 :=
  addf (addf (mulf (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf a0 (broadcastInDim S8192x1024 ![0] bcast_S8192_S8192x1024_0 (Host.reduceAdd (Host.divf (mulf (shapeCast _ (Host.reduceAdd (mulf a0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a0)

def ref2 (a0 : FVec Ideal S8192x1024 .f32) (a1 : FVec Ideal S1x1024 .f32) (a2 : FVec Ideal S8192x1024 .f32) : FVec Ideal S8192x1024 .bf16 :=
  truncf .bf16 (addf (addf (mulf (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024)))) (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf a0 (broadcastInDim S8192x1024 ![0] bcast_S8192_S8192x1024_0 (Host.reduceAdd (Host.divf (mulf (shapeCast _ (Host.reduceAdd (mulf a0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)))) (mulf (broadcastInDim S8192x1024 ![0] bcast_S8192_S8192x1024_0 (Host.reduceAdd (Host.divf (mulf (shapeCast _ (Host.reduceAdd (mulf a0 (mulf (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2))) (broadcastInDim S8192x1024 ![0, 1] bcast_S1x1024_S8192x1024_0_1 (broadcastInDim S1x1024 ![1] bcast_S1024_S1x1024_1 (shapeCast _ a1 shapeCasts_S1x1024_S1024))))) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))) (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1 ![] bcast_S_S8192x1 (constant S_ .f32 0x44800000#32))) (constant S_ .f32 0x00000000#32) reducesTo_S8192x1_S8192_d1 h_S_)) a0)) bitsLt_bf16_f32

def ref3 (a0 : FVec Ideal S8192x1024 .f32) (a1 : FVec Ideal S1x1024 .f32) (a2 : FVec Ideal S8192x1024 .f32) : FVec Ideal S1x1024 .f32 :=
  broadcastInDim S1x1024 ![1] bcast_S1024_S1x1024_1 (Host.reduceAdd (shapeCast _ (Host.reduceAdd (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) (subf (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) a2)))) (constant S_ .f32 0x00000000#32) reducesTo_S8192x1024_S1024_d0 h_S_) shapeCasts_S1024_S1x1024) (constant S_ .f32 0x00000000#32) reducesTo_S1x1024_S1024_d0 h_S_)

theorem ref0_at (a0 : FVec Ideal S8192x1024 .f32) (a1 : FVec Ideal S1x1024 .f32) (a2 : FVec Ideal S8192x1024 .f32) (i : Fin 1) (j : Fin 128) :
    ref0 a0 a1 a2 (ix2 i j) = (∑ l, ∑ r, Cert.FinalLoss.lossPart a0 a1 a2 l r)
      * Ideal.ofBits .f32 0x3A000000#32 := by
  rw [Finset.sum_comm, ← Cert.FinalLoss.mean_eq]
  pointwise [ref0, Cert.FinalLoss.lossPart, Cert.FinalLoss.err]

theorem ref3_at (a0 : FVec Ideal S8192x1024 .f32) (a1 : FVec Ideal S1x1024 .f32) (a2 : FVec Ideal S8192x1024 .f32) (l : Fin 1024) : ref3 a0 a1 a2 (ix2 0 l) = ∑ r, Cert.FinalLoss.part a0 a1 a2 l r := by
  pointwise [ref3]
  refine (Fin.sum_univ_one _).trans (Finset.sum_congr rfl fun r _ => ?_)
  rw [Cert.FinalLoss.err_eq]
  exact mul_comm _ _

end Cert.Reference31Ideal.FinalLoss

namespace Cert.Kernel31Ideal.FinalLoss
open Cert.Kernel31Ideal Cert.Kernel31Ideal.Gen Cert.FinalLoss
open Cert.Reference31Ideal.FinalLoss (ref0 ref1 ref2 ref3 ref0_at ref3_at)

/-- What a point stores of the gradient of the rows, in the reference's form. -/
theorem pay1_at (x0 x2 : Vec Ideal S256x1024 .f32) (x1 : Vec Ideal S1x1024 .f32) (r : Fin 256) (l : Fin 1024) (r' : Fin 8192)
    (a0 a2 : FVec Ideal S8192x1024 .f32)
    (h0 : ∀ k, x0 (ix2 r k) = a0 (ix2 r' k)) (h2 : ∀ k, x2 (ix2 r k) = a2 (ix2 r' k)) :
    k0_pay1 (F := Ideal) (k0_pay5 x0) (k0_pay15 x0 x1 x2) (k0_pay16 x0 x1 x2) (ix2 r l) = ref1 a0 x1 a2 (ix2 r' l) := by
  obtain ⟨e, he, hE⟩ := RmsGrad.ofBits_eps
  pointwise [k0_pay1, k0_pay5, k0_pay6, k0_pay7, k0_pay8, k0_pay15, k0_pay16, ref1]
  simp only [h0, h2, err_eq]
  have h := RmsGrad.row (fun k => a0 (ix2 r' k)) (fun i => err a0 x1 a2 r' i * Ideal.ofBits .f32 0x3A800000#32 * x1 (ix2 0 i)) 0 l
    (by norm_num) he RmsGrad.ofBits_thousand hE RmsGrad.ofBits_minus_half
  simp only [zero_add] at h
  exact h

variable (m : (ℓ : Loc nD τ sig) → Buf (Elt Ideal) ℓ)

/-- The last point. -/
abbrev t0_31 : Fin cfg0.N := ⟨31, by decide +kernel⟩

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

theorem after4 (c : Dev nD) (t : Fin cfg0.N) : (dats m 0 c).after 4 t
    = k0_pay1 (F := Ideal) (k0_pay5 (iblk m c 0 t)) (k0_pay15 (iblk m c 0 t) (iblk m c 1 t) (iblk m c 2 t))
      (k0_pay16 (iblk m c 0 t) (iblk m c 1 t) (iblk m c 2 t)) := by
  have hN : t.val < 32 := t.isLt
  rw [after0_4]
  by_cases h2 : t.val % 32 = 31
  · rw [outsAt0_C m c t (by omega) (by omega) h2]; funext y; frame_out
  · by_cases h0 : t.val % 32 = 0
    · rw [outsAt0_A m c t h0 (by omega) h2]; funext y; frame_out
    · rw [outsAt0_B m c t h0 (by omega) h2]; funext y; frame_out

theorem after5 (c : Dev nD) (t : Fin cfg0.N) : (dats m 0 c).after 5 t = (dats m 0 c).after 4 t := by
  have hN : t.val < 32 := t.isLt
  rw [after4, after0_5]
  by_cases h2 : t.val % 32 = 31
  · rw [outsAt0_C m c t (by omega) (by omega) h2]; funext y; frame_out; rfl
  · by_cases h0 : t.val % 32 = 0
    · rw [outsAt0_A m c t h0 (by omega) h2]; funext y; frame_out; rfl
    · rw [outsAt0_B m c t h0 (by omega) h2]; funext y; frame_out; rfl

theorem whole1 (c : Dev nD) (t : Fin cfg0.N) : iblk m c 1 t = m ((c : Thread nD τ).loc main_arg1) := by blk_ext! [iblk, V, idx t]

theorem rows (c : Dev nD) (t : Fin cfg0.N) (y0 : Fin 256) (y1 : Fin 1024) (r : Fin 8192) (hr : r.val = t.val * 256 + y0.val) :
    (show FVec Ideal S256x1024 .f32 from (dats m 0 c).after 4 t) (ix2 y0 y1) = ref1 (m ((c : Thread nD τ).loc main_arg0)) (m ((c : Thread nD τ).loc main_arg1)) (m ((c : Thread nD τ).loc main_arg2)) (ix2 r y1) := by
  have hN : t.val < 32 := t.isLt
  rw [after4, whole1]
  refine pay1_at _ _ _ _ _ _ _ _ (fun k => ?_) (fun k => ?_)
  all_goals blk_ext [iblk, V, idx t]

theorem final4 (c : Dev nD) : (dats m 0 c).arrAt 4 (cfgs 0).N = ref1 (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN : t.val < 32 := t.isLt
  blk_simp
  idx_vars y
  refine (rows m c t y0 y1 ⟨t.val * 256 + y0.val, by omega⟩ rfl).trans ?_
  congr 1
  blk_ext [idx t]

theorem final5 (c : Dev nD) : (dats m 0 c).arrAt 5 (cfgs 0).N = ref2 (m ((c : Thread nD τ).loc main_arg0)) (m ((c : Thread nD τ).loc main_arg1)) (m ((c : Thread nD τ).loc main_arg2)) := by
  refine (dats m 0 c).arrAt_eq_of_covers 5 _ (by decide +kernel) fun t hf y => ?_
  have hN : t.val < 32 := t.isLt
  blk_simp
  idx_vars y
  rw [after5]
  refine (rows m c t y0 y1 ⟨t.val * 256 + y0.val, by omega⟩ rfl).trans ?_
  show _ = ref1 _ _ _ _
  congr 1
  blk_ext [idx t]

/-- What a point adds into the eight rows that it keeps of the gain's gradient. -/
theorem pay9_at (x0 x2 : Vec Ideal S256x1024 .f32) (x1 : Vec Ideal S1x1024 .f32) (s : Fin 8) (l : Fin 1024)
    (a0 a2 : FVec Ideal S8192x1024 .f32) (t : Fin 32)
    (h0 : ∀ (i : Fin 256) k, x0 (ix2 i k) = a0 (ix2 ⟨t.val * 256 + i.val, by omega⟩ k))
    (h2 : ∀ (i : Fin 256) k, x2 (ix2 i k) = a2 (ix2 ⟨t.val * 256 + i.val, by omega⟩ k)) :
    k0_pay9 (F := Ideal) x0 x1 x2 (ix2 s l)
      = ∑ x : Fin 32, part a0 x1 a2 l ⟨t.val * 256 + (x.val * 8 + s.val), by omega⟩ := by
  pointwise [k0_pay9, k0_pay8, k0_pay7, k0_pay6, k0_pay5, part, err]
  simp only [h0, h2]

/-- What a point adds into the eight rows that it keeps of the loss. -/
theorem pay10_at (x0 x2 : Vec Ideal S256x1024 .f32) (x1 : Vec Ideal S1x1024 .f32) (s : Fin 8) (l : Fin 1024)
    (a0 a2 : FVec Ideal S8192x1024 .f32) (t : Fin 32)
    (h0 : ∀ (i : Fin 256) k, x0 (ix2 i k) = a0 (ix2 ⟨t.val * 256 + i.val, by omega⟩ k))
    (h2 : ∀ (i : Fin 256) k, x2 (ix2 i k) = a2 (ix2 ⟨t.val * 256 + i.val, by omega⟩ k)) :
    k0_pay10 (F := Ideal) x0 x1 x2 (ix2 s l)
      = ∑ x : Fin 32, lossPart a0 x1 a2 l ⟨t.val * 256 + (x.val * 8 + s.val), by omega⟩ := by
  pointwise [k0_pay10, k0_pay7, k0_pay6, k0_pay5, lossPart, err]
  simp only [h0, h2]

theorem pay11_at (x0 x2 : Vec Ideal S256x1024 .f32) (x1 : Vec Ideal S1x1024 .f32) (j : S8x1024.Idx) :
    k0_pay11 (F := Ideal) x0 x1 x2 j = k0_pay9 (F := Ideal) x0 x1 x2 j := by
  pointwise [k0_pay11]

theorem pay12_at (x0 x2 : Vec Ideal S256x1024 .f32) (x1 : Vec Ideal S1x1024 .f32) (j : S8x1024.Idx) :
    k0_pay12 (F := Ideal) x0 x1 x2 j = k0_pay10 (F := Ideal) x0 x1 x2 j := by
  pointwise [k0_pay12]

theorem pay13_at (x0 x2 : Vec Ideal S256x1024 .f32) (x1 : Vec Ideal S1x1024 .f32) (x3 : Vec Ideal S8x1024 .f32) (j : S8x1024.Idx) :
    k0_pay13 (F := Ideal) x0 x1 x2 x3 j = x3 j + k0_pay9 (F := Ideal) x0 x1 x2 j := by
  pointwise [k0_pay13]

theorem pay14_at (x0 x2 : Vec Ideal S256x1024 .f32) (x1 : Vec Ideal S1x1024 .f32) (x3 : Vec Ideal S8x1024 .f32) (j : S8x1024.Idx) :
    k0_pay14 (F := Ideal) x0 x1 x2 x3 j = x3 j + k0_pay10 (F := Ideal) x0 x1 x2 j := by
  pointwise [k0_pay14]

/-- The rows kept of the gain's gradient, after the last point. -/
theorem kept (c : Dev nD) (j : S8x1024.Idx) : (show FVec Ideal S8x1024 .f32 from (outsAt0 m c t0_31.val t0_31.isLt).2.2.2.2.1) j
    = ∑ t : Fin cfg0.N, k0_pay9 (F := Ideal) (iblk m c 0 t) (iblk m c 1 t) (iblk m c 2 t) j := by
  refine (Pipeline.eq_sum_fin_of_reset_step_apply_last (fun n h => (outsAt0 m c n h).2.2.2.2.1) 32 (fun _ => 0)
    (fun t j => k0_pay9 (F := Ideal) (iblk m c 0 t) (iblk m c 1 t) (iblk m c 2 t) j)
    (fun t h j => by
      have hN : t.val < 32 := t.isLt
      rw [outsAt0_A m c t h (by omega) (by omega)]; frame_out; rw [pay11_at, zero_add])
    (fun t h j => by
      have hN : t.val < 32 := t.isLt
      by_cases h2 : t.val % 32 = 31
      · rw [outsAt0_C m c t h (by omega) h2]; frame_out; rw [pay13_at]; exact congrArg (· + _) (congrFun (Memref.IsWhole.read_unread _ _) _)
      · rw [outsAt0_B m c t h (by omega) h2]; frame_out; rw [pay13_at]; exact congrArg (· + _) (congrFun (Memref.IsWhole.read_unread _ _) _))
    (le_of_eq N_0) t0_31 rfl j).trans (zero_add _)

/-- The rows kept of the loss, after the last point. -/
theorem keptLoss (c : Dev nD) (j : S8x1024.Idx) : (show FVec Ideal S8x1024 .f32 from (outsAt0 m c t0_31.val t0_31.isLt).2.2.2.2.2) j
    = ∑ t : Fin cfg0.N, k0_pay10 (F := Ideal) (iblk m c 0 t) (iblk m c 1 t) (iblk m c 2 t) j := by
  refine (Pipeline.eq_sum_fin_of_reset_step_apply_last (fun n h => (outsAt0 m c n h).2.2.2.2.2) 32 (fun _ => 0)
    (fun t j => k0_pay10 (F := Ideal) (iblk m c 0 t) (iblk m c 1 t) (iblk m c 2 t) j)
    (fun t h j => by
      have hN : t.val < 32 := t.isLt
      rw [outsAt0_A m c t h (by omega) (by omega)]; frame_out; rw [pay12_at, zero_add])
    (fun t h j => by
      have hN : t.val < 32 := t.isLt
      by_cases h2 : t.val % 32 = 31
      · rw [outsAt0_C m c t h (by omega) h2]; frame_out; rw [pay14_at]; exact congrArg (· + _) (congrFun (Memref.IsWhole.read_unread _ _) _)
      · rw [outsAt0_B m c t h (by omega) h2]; frame_out; rw [pay14_at]; exact congrArg (· + _) (congrFun (Memref.IsWhole.read_unread _ _) _))
    (le_of_eq N_0) t0_31 rfl j).trans (zero_add _)

theorem after6 (c : Dev nD) : (dats m 0 c).after 6 t0_31 = k0_pay3 (F := Ideal) (outsAt0 m c t0_31.val t0_31.isLt).2.2.2.2.1 := by
  rw [after0_6, outsAt0_C m c t0_31 (by decide) (by decide) (by decide)]; funext y; frame_out

theorem after3 (c : Dev nD) : (dats m 0 c).after 3 t0_31 = k0_pay4 (F := Ideal) (outsAt0 m c t0_31.val t0_31.isLt).2.2.2.2.2 := by
  rw [after0_3, outsAt0_C m c t0_31 (by decide) (by decide) (by decide)]; funext y; frame_out

theorem pay3_at (x : Vec Ideal S8x1024 .f32) (i : Fin 1) (l : Fin 1024) :
    k0_pay3 (F := Ideal) x (ix2 i l) = ∑ s : Fin 8, x (ix2 s l) := by
  pointwise [k0_pay3]

theorem pay4_at (x : Vec Ideal S8x1024 .f32) (i : Fin 1) (j : Fin 128) (f : Fin 1024 → EReal)
    (h : ∀ l, ∑ s : Fin 8, x (ix2 s l) = f l) :
    k0_pay4 (F := Ideal) x (ix2 i j) = (∑ l, f l) * Ideal.ofBits .f32 0x3A000000#32 := by
  simp only [← h]
  pointwise [k0_pay4]

theorem final6 (c : Dev nD) : (dats m 0 c).arrAt 6 (cfgs 0).N = ref3 (m ((c : Thread nD τ).loc main_arg0)) (m ((c : Thread nD τ).loc main_arg1)) (m ((c : Thread nD τ).loc main_arg2)) := by
  refine (dats m 0 c).arrAt_eq_of_after_last 6 t0_31 (by decide +kernel) _ fun y => ?_
  blk_simp
  rw [after6]
  idx_vars y
  obtain rfl : y0 = 0 := Subsingleton.elim _ _
  refine (pay3_at _ _ _).trans (Eq.trans ?_ (ref3_at _ _ _ _).symm)
  refine Eq.trans (Finset.sum_congr rfl fun s _ => ?_) (regroup (T := 32) (part (m ((c : Thread nD τ).loc main_arg0)) (m ((c : Thread nD τ).loc main_arg1)) (m ((c : Thread nD τ).loc main_arg2)) y1))
  refine (kept m c _).trans (Finset.sum_congr rfl fun t _ => ?_)
  rw [whole1]
  refine pay9_at _ _ _ s y1 _ _ t (fun i k => ?_) (fun i k => ?_)
  all_goals blk_ext [iblk, V, idx t]

theorem keptLoss_at (c : Dev nD) (l : Fin 1024) :
    ∑ s : Fin 8, (show FVec Ideal S8x1024 .f32 from (outsAt0 m c t0_31.val t0_31.isLt).2.2.2.2.2) (ix2 s l)
      = ∑ r, lossPart (m ((c : Thread nD τ).loc main_arg0)) (m ((c : Thread nD τ).loc main_arg1)) (m ((c : Thread nD τ).loc main_arg2)) l r := by
  refine Eq.trans (Finset.sum_congr rfl fun s _ => ?_) (regroup (T := 32) (lossPart (m ((c : Thread nD τ).loc main_arg0)) (m ((c : Thread nD τ).loc main_arg1)) (m ((c : Thread nD τ).loc main_arg2)) l))
  refine (keptLoss m c _).trans (Finset.sum_congr rfl fun t _ => ?_)
  rw [whole1]
  refine pay10_at _ _ _ s l _ _ t (fun i k => ?_) (fun i k => ?_)
  all_goals blk_ext [iblk, V, idx t]

theorem after3_at (c : Dev nD) (i : Fin 1) (j : Fin 128) :
    (show FVec Ideal S1x128 .f32 from (dats m 0 c).after 3 t0_31) (ix2 i j) = ref0 (m ((c : Thread nD τ).loc main_arg0)) (m ((c : Thread nD τ).loc main_arg1)) (m ((c : Thread nD τ).loc main_arg2)) (ix2 i j) := by
  rw [after3, ref0_at]
  exact pay4_at _ _ _ _ (keptLoss_at m c)

theorem final3 (c : Dev nD) : (dats m 0 c).arrAt 3 (cfgs 0).N = ref0 (m ((c : Thread nD τ).loc main_arg0)) (m ((c : Thread nD τ).loc main_arg1)) (m ((c : Thread nD τ).loc main_arg2)) := by
  refine (dats m 0 c).arrAt_eq_of_after_last 3 t0_31 (by decide +kernel) _ fun y => ?_
  blk_simp
  idx_vars y
  exact after3_at m c _ _

end Cert.Kernel31Ideal.FinalLoss
-- ==== Proof.Values.FinalLoss.lean ====
/- The values of the pair Kernel31, Reference31: every result of the one is the result of the other. -/
module

public import proofs.«01_k».proof.Defs
public import proofs.«01_k».proof.Proof.Gen.Kernel31Ideal.Value
public import proofs.«01_k».proof.Proof.Gen.Reference31Ideal.Run
public import proofs.«01_k».proof.Proof.FinalLoss
public import Idealize.ShloMosaic.Lib.Claim

@[expose] public section

noncomputable section

namespace Cert.Proof

open Idealize.ShloMosaic Idealize.SL.Sem

set_option maxHeartbeats 4000000 in
set_option maxRecDepth 16384 in
theorem values31 : Cert.algebraic_Kernel31Ideal_Reference31Ideal (hKernel31Ideal := Cert.Kernel31Ideal.Gen.facts) (hReference31Ideal := Cert.Reference31Ideal.Gen.facts) := by
  pair_intro
  · run_from Cert.Kernel31Ideal.Gen.run_main m g
  · run_from Cert.Reference31Ideal.Value.run m' g'
    · exact (Cert.Kernel31Ideal.FinalLoss.final3 m c).symm
    · show Cert.Reference31Ideal.FinalLoss.ref1 (m' (c.tc.loc Cert.Reference31Ideal.main_arg0)) (m' (c.tc.loc Cert.Reference31Ideal.main_arg1)) (m' (c.tc.loc Cert.Reference31Ideal.main_arg2)) = _
      simp only [hagree c]
      exact (Cert.Kernel31Ideal.FinalLoss.final4 m c).symm
    · show Cert.Reference31Ideal.FinalLoss.ref2 (m' (c.tc.loc Cert.Reference31Ideal.main_arg0)) (m' (c.tc.loc Cert.Reference31Ideal.main_arg1)) (m' (c.tc.loc Cert.Reference31Ideal.main_arg2)) = _
      simp only [hagree c]
      exact (Cert.Kernel31Ideal.FinalLoss.final5 m c).symm
    · exact (Cert.Kernel31Ideal.FinalLoss.final6 m c).symm

end Cert.Proof

end
-- ==== Proof.InProj.lean ====
module

public import proofs.«01_k».proof.Proof.Gen.Kernel32Ideal.Frame
public import proofs.«01_k».proof.Proof.Gen.Reference32Ideal.Run
public import Idealize.ShloMosaic.Lib.Pipeline.ValueKit
public import Idealize.ShloMosaic.Lib.Claim

@[expose] public section

set_option maxRecDepth 16384

/-! The gMLP block's input projection: the normalised activations against its weight. -/

noncomputable section

open Idealize.ShloMosaic Idealize.ShloMosaic.TcCoe Idealize.SL.Sem
open Idealize.ShloMosaic.Pipeline (Dat)

namespace Cert.Reference32Ideal.InProj
open Cert.Reference32Ideal Cert.Reference32Ideal.Gen

def ref0 (a0 : FVec Ideal S8192x1024 .bf16) (a1 : FVec Ideal S1x1024x4096 .bf16) : FVec Ideal S8192x4096 .bf16 :=
  truncf .bf16 (Host.dotGeneral dot_S8192x1024_S1024x4096_S8192x4096_1_0_0_1_n_n none (extf .f32 a0 bitsLt_bf16_f32) (extf .f32 (shapeCast _ a1 shapeCasts_S1x1024x4096_S1024x4096) bitsLt_bf16_f32)) bitsLt_bf16_f32

theorem ref0_at (a0 : FVec Ideal S8192x1024 .bf16) (a1 : FVec Ideal S1x1024x4096 .bf16) (r : Fin 8192) (i : Fin 4096) :
    ref0 a0 a1 (ix2 r i) = ∑ k : Fin 1024, a0 (ix2 r k) * a1 (ix3 0 k i) := by
  pointwise [ref0]

end Cert.Reference32Ideal.InProj

namespace Cert.Kernel32Ideal.InProj
open Cert.Kernel32Ideal Cert.Kernel32Ideal.Gen
open Cert.Reference32Ideal.InProj (ref0 ref0_at)

/-- A block's product. -/
theorem block_at (x0 : Vec Ideal S1024x1024 .bf16) (x1 : Vec Ideal S1x1024x1024 .bf16) (r i : Fin 1024) :
    k0_pay1 (F := Ideal) x0 x1 (ix2 r i) = ∑ k : Fin 1024, x0 (ix2 r k) * x1 (ix3 0 k i) := by
  pointwise [k0_pay1]

variable (m : (ℓ : Loc nD τ sig) → Buf (Elt Ideal) ℓ)

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- The array the call returns is the projection. -/
theorem final2 (c : Dev nD) : (dats m 0 c).arrAt 2 (cfgs 0).N = ref0 (m ((c : Thread nD τ).loc main_arg0)) (m ((c : Thread nD τ).loc main_arg1)) := by
  refine (dats m 0 c).arrAt_eq_of_covers 2 _ (by decide +kernel) fun t hf y => ?_
  have hN : t.val < 32 := t.isLt
  blk_simp
  rw [after0_2]
  unfold out0_2
  frame_out
  idx_vars y
  refine (block_at _ _ y0 y1).trans ?_
  refine Eq.trans ?_ (Eq.symm ((congrArg _ (?_ : _ = ix2 ⟨t.val / 4 * 1024 + y0.val, by omega⟩ ⟨t.val % 4 * 1024 + y1.val, by omega⟩)).trans (ref0_at _ _ _ _)))
  · refine Finset.sum_congr rfl fun k _ => congrArg₂ (· * ·) ?_ ?_
    all_goals blk_ext [iblk, V, idx t]
  · blk_ext [idx t]

end Cert.Kernel32Ideal.InProj
-- ==== Proof.Values.InProj.lean ====
/- The values of the pair Kernel32, Reference32: every result of the one is the result of the other. -/
module

public import proofs.«01_k».proof.Defs
public import proofs.«01_k».proof.Proof.Gen.Kernel32Ideal.Value
public import proofs.«01_k».proof.Proof.Gen.Reference32Ideal.Run
public import proofs.«01_k».proof.Proof.InProj
public import Idealize.ShloMosaic.Lib.Claim

@[expose] public section

noncomputable section

namespace Cert.Proof

open Idealize.ShloMosaic Idealize.SL.Sem

set_option maxHeartbeats 4000000 in
set_option maxRecDepth 16384 in
theorem values32 : Cert.algebraic_Kernel32Ideal_Reference32Ideal (hKernel32Ideal := Cert.Kernel32Ideal.Gen.facts) (hReference32Ideal := Cert.Reference32Ideal.Gen.facts) := by
  pair_intro
  · run_from Cert.Kernel32Ideal.Gen.run_main m g
  · run_from Cert.Reference32Ideal.Value.run m' g'
    · exact (Cert.Kernel32Ideal.InProj.final2 m c).symm

end Cert.Proof

end
-- ==== Proof.FirstNorm.lean ====
module

public import proofs.«01_k».proof.Proof.Gen.Kernel33Ideal.Frame
public import proofs.«01_k».proof.Proof.Gen.Reference33Ideal.Run
public import proofs.«01_k».proof.Proof.Forward
public import Idealize.ShloMosaic.Lib.Pipeline.ValueKit
public import Idealize.ShloMosaic.Lib.Claim

@[expose] public section

set_option maxRecDepth 16384

/-! The RMS norm before the first layer. -/

noncomputable section

open Idealize.ShloMosaic Idealize.ShloMosaic.TcCoe Idealize.SL.Sem
open Idealize.ShloMosaic.Pipeline (Dat)

namespace Cert.Reference33Ideal.FirstNorm
open Cert.Reference33Ideal Cert.Reference33Ideal.Gen

def ref0 (a0 : FVec Ideal S8192x1024 .f32) (a1 : FVec Ideal S1x1024 .f32) : FVec Ideal S8192x1024 .bf16 :=
  truncf .bf16 (mulf (mulf a0 (broadcastInDim S8192x1024 ![0, 1] bcast_S8192x1_S8192x1024_0_1 (Host.rsqrt (addf (Host.divf (broadcastInDim S8192x1 ![0] bcast_S8192_S8192x1_0 (Host.reduceAdd (mulf a0 a0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ a1 shapeCasts_S1x1024_S1024)))) bitsLt_bf16_f32

theorem ref0_at (a0 : FVec Ideal S8192x1024 .f32) (a1 : FVec Ideal S1x1024 .f32) (r : Fin 8192) (i : Fin 1024) :
    ref0 a0 a1 (ix2 r i) = Forward.normed (fun l => a0 (ix2 r l)) (a1 (ix2 0 i)) i := by
  pointwise [ref0, Forward.normed]

end Cert.Reference33Ideal.FirstNorm

namespace Cert.Kernel33Ideal.FirstNorm
open Cert.Kernel33Ideal Cert.Kernel33Ideal.Gen
open Cert.Reference33Ideal.FirstNorm (ref0 ref0_at)

theorem norm_at (v : Vec Ideal S512x1024 .f32) (g : Vec Ideal S1x1024 .f32) (y : Fin 512) (i : Fin 1024) :
    k0_pay1 (F := Ideal) v g (ix2 y i) = Forward.normed (fun l => v (ix2 y l)) (g (ix2 0 i)) i := by
  pointwise [k0_pay1, Forward.normed]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The array the call returns is the norm of the rows. -/
theorem final2 (c : Dev nD) : (dats m 0 c).arrAt 2 (cfgs 0).N = ref0 (m ((c : Thread nD τ).loc main_arg0)) (m ((c : Thread nD τ).loc main_arg1)) := by
  refine (dats m 0 c).arrAt_eq_of_covers 2 _ (by decide +kernel) fun t hf y => ?_
  have hN : t.val < 16 := t.isLt
  blk_simp
  rw [after0_2]
  unfold out0_2
  frame_out
  idx_vars y
  refine (norm_at _ _ y0 y1).trans (Eq.trans (congrFun (congrArg₂ Forward.normed (funext fun l => ?_) ?_) y1)
    (Eq.symm ((congrArg _ (?_ : _ = ix2 ⟨t.val * 512 + y0.val, by omega⟩ y1)).trans (ref0_at _ _ _ _))))
  · blk_ext [iblk, V, idx t]
  · blk_ext [iblk, V, idx t]
  · blk_ext [idx t]

end Cert.Kernel33Ideal.FirstNorm
-- ==== Proof.Values.FirstNorm.lean ====
/- The values of the pair Kernel33, Reference33: every result of the one is the result of the other. -/
module

public import proofs.«01_k».proof.Defs
public import proofs.«01_k».proof.Proof.Gen.Kernel33Ideal.Value
public import proofs.«01_k».proof.Proof.Gen.Reference33Ideal.Run
public import proofs.«01_k».proof.Proof.FirstNorm
public import Idealize.ShloMosaic.Lib.Claim

@[expose] public section

noncomputable section

namespace Cert.Proof

open Idealize.ShloMosaic Idealize.SL.Sem

set_option maxHeartbeats 4000000 in
set_option maxRecDepth 16384 in
theorem values33 : Cert.algebraic_Kernel33Ideal_Reference33Ideal (hKernel33Ideal := Cert.Kernel33Ideal.Gen.facts) (hReference33Ideal := Cert.Reference33Ideal.Gen.facts) := by
  pair_intro
  · run_from Cert.Kernel33Ideal.Gen.run_main m g
  · run_from Cert.Reference33Ideal.Value.run m' g'
    · exact (Cert.Kernel33Ideal.FirstNorm.final2 m c).symm

end Cert.Proof

end
-- ==== Proof.CastIn.lean ====
module

public import proofs.«01_k».proof.Proof.Gen.Kernel34Ideal.Frame
public import proofs.«01_k».proof.Proof.Gen.Reference34Ideal.Run
public import Idealize.ShloMosaic.Lib.Pipeline.ValueKit
public import Idealize.ShloMosaic.Lib.Claim

@[expose] public section

set_option maxRecDepth 16384

/-! The gMLP blocks' input projections on one device, cast to bf16 before the exchange of the weights. -/

noncomputable section

open Idealize.ShloMosaic Idealize.ShloMosaic.TcCoe Idealize.SL.Sem
open Idealize.ShloMosaic.Pipeline (Dat)

namespace Cert.Reference34Ideal.CastIn
open Cert.Reference34Ideal Cert.Reference34Ideal.Gen

def ref0 (a0 : FVec Ideal S2x1024x1024 .f32) : FVec Ideal S2x1024x1024 .bf16 :=
  truncf .bf16 a0 bitsLt_bf16_f32

theorem ref0_at (a0 : FVec Ideal S2x1024x1024 .f32) (j : S2x1024x1024.Idx) : ref0 a0 j = a0 j := by
  pointwise [ref0]

end Cert.Reference34Ideal.CastIn

namespace Cert.Kernel34Ideal.CastIn
open Cert.Kernel34Ideal Cert.Kernel34Ideal.Gen
open Cert.Reference34Ideal.CastIn (ref0 ref0_at)

theorem cast_at (x : Vec Ideal S1x1024x1024 .f32) (z : Fin 1) (r : Fin 1024) (i : Fin 1024) :
    k0_pay1 (F := Ideal) x (ix3 z r i) = x (ix3 0 r i) := by
  pointwise [k0_pay1]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the call returns is the weight, layer by layer. -/
theorem final1 (c : Dev nD) : (dats m 0 c).arrAt 1 (cfgs 0).N = ref0 (m ((c : Thread nD τ).loc main_arg0)) := by
  refine (dats m 0 c).arrAt_eq_of_covers 1 _ (by decide +kernel) fun t hf y => ?_
  have hN : t.val < 2 := t.isLt
  blk_simp
  rw [after0_1]
  unfold out0_1
  frame_out
  idx_vars y
  refine (cast_at _ y0 y1 y2).trans (Eq.trans ?_ (ref0_at _ _).symm)
  blk_ext [iblk, V, idx t]

end Cert.Kernel34Ideal.CastIn
-- ==== Proof.Values.CastIn.lean ====
/- The values of the pair Kernel34, Reference34: every result of the one is the result of the other. -/
module

public import proofs.«01_k».proof.Defs
public import proofs.«01_k».proof.Proof.Gen.Kernel34Ideal.Value
public import proofs.«01_k».proof.Proof.Gen.Reference34Ideal.Run
public import proofs.«01_k».proof.Proof.CastIn
public import Idealize.ShloMosaic.Lib.Claim

@[expose] public section

noncomputable section

namespace Cert.Proof

open Idealize.ShloMosaic Idealize.SL.Sem

set_option maxHeartbeats 4000000 in
set_option maxRecDepth 16384 in
theorem values34 : Cert.algebraic_Kernel34Ideal_Reference34Ideal (hKernel34Ideal := Cert.Kernel34Ideal.Gen.facts) (hReference34Ideal := Cert.Reference34Ideal.Gen.facts) := by
  pair_intro
  · run_from Cert.Kernel34Ideal.Gen.run_main m g
  · run_from Cert.Reference34Ideal.Value.run m' g'
    · exact (Cert.Kernel34Ideal.CastIn.final1 m c).symm

end Cert.Proof

end
-- ==== Proof.CastQkv.lean ====
module

public import proofs.«01_k».proof.Proof.Gen.Kernel35Ideal.Frame
public import proofs.«01_k».proof.Proof.Gen.Reference35Ideal.Run
public import Idealize.ShloMosaic.Lib.Pipeline.ValueKit
public import Idealize.ShloMosaic.Lib.Claim

@[expose] public section

set_option maxRecDepth 16384

/-! The attention's joint projections on one device, cast to bf16 before the exchange of the weights. -/

noncomputable section

open Idealize.ShloMosaic Idealize.ShloMosaic.TcCoe Idealize.SL.Sem
open Idealize.ShloMosaic.Pipeline (Dat)

namespace Cert.Reference35Ideal.CastQkv
open Cert.Reference35Ideal Cert.Reference35Ideal.Gen

def ref0 (a0 : FVec Ideal S2x1024x768 .f32) : FVec Ideal S2x1024x768 .bf16 :=
  truncf .bf16 a0 bitsLt_bf16_f32

theorem ref0_at (a0 : FVec Ideal S2x1024x768 .f32) (j : S2x1024x768.Idx) : ref0 a0 j = a0 j := by
  pointwise [ref0]

end Cert.Reference35Ideal.CastQkv

namespace Cert.Kernel35Ideal.CastQkv
open Cert.Kernel35Ideal Cert.Kernel35Ideal.Gen
open Cert.Reference35Ideal.CastQkv (ref0 ref0_at)

theorem cast_at (x : Vec Ideal S1x1024x768 .f32) (z : Fin 1) (r : Fin 1024) (i : Fin 768) :
    k0_pay1 (F := Ideal) x (ix3 z r i) = x (ix3 0 r i) := by
  pointwise [k0_pay1]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the call returns is the weight, layer by layer. -/
theorem final1 (c : Dev nD) : (dats m 0 c).arrAt 1 (cfgs 0).N = ref0 (m ((c : Thread nD τ).loc main_arg0)) := by
  refine (dats m 0 c).arrAt_eq_of_covers 1 _ (by decide +kernel) fun t hf y => ?_
  have hN : t.val < 2 := t.isLt
  blk_simp
  rw [after0_1]
  unfold out0_1
  frame_out
  idx_vars y
  refine (cast_at _ y0 y1 y2).trans (Eq.trans ?_ (ref0_at _ _).symm)
  blk_ext [iblk, V, idx t]

end Cert.Kernel35Ideal.CastQkv
-- ==== Proof.Values.CastQkv.lean ====
/- The values of the pair Kernel35, Reference35: every result of the one is the result of the other. -/
module

public import proofs.«01_k».proof.Defs
public import proofs.«01_k».proof.Proof.Gen.Kernel35Ideal.Value
public import proofs.«01_k».proof.Proof.Gen.Reference35Ideal.Run
public import proofs.«01_k».proof.Proof.CastQkv
public import Idealize.ShloMosaic.Lib.Claim

@[expose] public section

noncomputable section

namespace Cert.Proof

open Idealize.ShloMosaic Idealize.SL.Sem

set_option maxHeartbeats 4000000 in
set_option maxRecDepth 16384 in
theorem values35 : Cert.algebraic_Kernel35Ideal_Reference35Ideal (hKernel35Ideal := Cert.Kernel35Ideal.Gen.facts) (hReference35Ideal := Cert.Reference35Ideal.Gen.facts) := by
  pair_intro
  · run_from Cert.Kernel35Ideal.Gen.run_main m g
  · run_from Cert.Reference35Ideal.Value.run m' g'
    · exact (Cert.Kernel35Ideal.CastQkv.final1 m c).symm

end Cert.Proof

end
-- ==== Proof.CastAout.lean ====
module

public import proofs.«01_k».proof.Proof.Gen.Kernel36Ideal.Frame
public import proofs.«01_k».proof.Proof.Gen.Reference36Ideal.Run
public import Idealize.ShloMosaic.Lib.Pipeline.ValueKit
public import Idealize.ShloMosaic.Lib.Claim

@[expose] public section

set_option maxRecDepth 16384

/-! The gMLP blocks' output projections on one device, cast to bf16 before the exchange of the weights. -/

noncomputable section

open Idealize.ShloMosaic Idealize.ShloMosaic.TcCoe Idealize.SL.Sem
open Idealize.ShloMosaic.Pipeline (Dat)

namespace Cert.Reference36Ideal.CastAout
open Cert.Reference36Ideal Cert.Reference36Ideal.Gen

def ref0 (a0 : FVec Ideal S2x512x1024 .f32) : FVec Ideal S2x512x1024 .bf16 :=
  truncf .bf16 a0 bitsLt_bf16_f32

theorem ref0_at (a0 : FVec Ideal S2x512x1024 .f32) (j : S2x512x1024.Idx) : ref0 a0 j = a0 j := by
  pointwise [ref0]

end Cert.Reference36Ideal.CastAout

namespace Cert.Kernel36Ideal.CastAout
open Cert.Kernel36Ideal Cert.Kernel36Ideal.Gen
open Cert.Reference36Ideal.CastAout (ref0 ref0_at)

theorem cast_at (x : Vec Ideal S1x512x1024 .f32) (z : Fin 1) (r : Fin 512) (i : Fin 1024) :
    k0_pay1 (F := Ideal) x (ix3 z r i) = x (ix3 0 r i) := by
  pointwise [k0_pay1]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the call returns is the weight, layer by layer. -/
theorem final1 (c : Dev nD) : (dats m 0 c).arrAt 1 (cfgs 0).N = ref0 (m ((c : Thread nD τ).loc main_arg0)) := by
  refine (dats m 0 c).arrAt_eq_of_covers 1 _ (by decide +kernel) fun t hf y => ?_
  have hN : t.val < 2 := t.isLt
  blk_simp
  rw [after0_1]
  unfold out0_1
  frame_out
  idx_vars y
  refine (cast_at _ y0 y1 y2).trans (Eq.trans ?_ (ref0_at _ _).symm)
  blk_ext [iblk, V, idx t]

end Cert.Kernel36Ideal.CastAout
-- ==== Proof.Values.CastAout.lean ====
/- The values of the pair Kernel36, Reference36: every result of the one is the result of the other. -/
module

public import proofs.«01_k».proof.Defs
public import proofs.«01_k».proof.Proof.Gen.Kernel36Ideal.Value
public import proofs.«01_k».proof.Proof.Gen.Reference36Ideal.Run
public import proofs.«01_k».proof.Proof.CastAout
public import Idealize.ShloMosaic.Lib.Claim

@[expose] public section

noncomputable section

namespace Cert.Proof

open Idealize.ShloMosaic Idealize.SL.Sem

set_option maxHeartbeats 4000000 in
set_option maxRecDepth 16384 in
theorem values36 : Cert.algebraic_Kernel36Ideal_Reference36Ideal (hKernel36Ideal := Cert.Kernel36Ideal.Gen.facts) (hReference36Ideal := Cert.Reference36Ideal.Gen.facts) := by
  pair_intro
  · run_from Cert.Kernel36Ideal.Gen.run_main m g
  · run_from Cert.Reference36Ideal.Value.run m' g'
    · exact (Cert.Kernel36Ideal.CastAout.final1 m c).symm

end Cert.Proof

end
-- ==== Proof.CastBout.lean ====
module

public import proofs.«01_k».proof.Proof.Gen.Kernel37Ideal.Frame
public import proofs.«01_k».proof.Proof.Gen.Reference37Ideal.Run
public import Idealize.ShloMosaic.Lib.Pipeline.ValueKit
public import Idealize.ShloMosaic.Lib.Claim

@[expose] public section

set_option maxRecDepth 16384

/-! The attention's output projections on one device, cast to bf16 before the exchange of the weights. -/

noncomputable section

open Idealize.ShloMosaic Idealize.ShloMosaic.TcCoe Idealize.SL.Sem
open Idealize.ShloMosaic.Pipeline (Dat)

namespace Cert.Reference37Ideal.CastBout
open Cert.Reference37Ideal Cert.Reference37Ideal.Gen

def ref0 (a0 : FVec Ideal S2x256x1024 .f32) : FVec Ideal S2x256x1024 .bf16 :=
  truncf .bf16 a0 bitsLt_bf16_f32

theorem ref0_at (a0 : FVec Ideal S2x256x1024 .f32) (j : S2x256x1024.Idx) : ref0 a0 j = a0 j := by
  pointwise [ref0]

end Cert.Reference37Ideal.CastBout

namespace Cert.Kernel37Ideal.CastBout
open Cert.Kernel37Ideal Cert.Kernel37Ideal.Gen
open Cert.Reference37Ideal.CastBout (ref0 ref0_at)

theorem cast_at (x : Vec Ideal S1x256x1024 .f32) (z : Fin 1) (r : Fin 256) (i : Fin 1024) :
    k0_pay1 (F := Ideal) x (ix3 z r i) = x (ix3 0 r i) := by
  pointwise [k0_pay1]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the call returns is the weight, layer by layer. -/
theorem final1 (c : Dev nD) : (dats m 0 c).arrAt 1 (cfgs 0).N = ref0 (m ((c : Thread nD τ).loc main_arg0)) := by
  refine (dats m 0 c).arrAt_eq_of_covers 1 _ (by decide +kernel) fun t hf y => ?_
  have hN : t.val < 2 := t.isLt
  blk_simp
  rw [after0_1]
  unfold out0_1
  frame_out
  idx_vars y
  refine (cast_at _ y0 y1 y2).trans (Eq.trans ?_ (ref0_at _ _).symm)
  blk_ext [iblk, V, idx t]

end Cert.Kernel37Ideal.CastBout
-- ==== Proof.Values.CastBout.lean ====
/- The values of the pair Kernel37, Reference37: every result of the one is the result of the other. -/
module

public import proofs.«01_k».proof.Defs
public import proofs.«01_k».proof.Proof.Gen.Kernel37Ideal.Value
public import proofs.«01_k».proof.Proof.Gen.Reference37Ideal.Run
public import proofs.«01_k».proof.Proof.CastBout
public import Idealize.ShloMosaic.Lib.Claim

@[expose] public section

noncomputable section

namespace Cert.Proof

open Idealize.ShloMosaic Idealize.SL.Sem

set_option maxHeartbeats 4000000 in
set_option maxRecDepth 16384 in
theorem values37 : Cert.algebraic_Kernel37Ideal_Reference37Ideal (hKernel37Ideal := Cert.Kernel37Ideal.Gen.facts) (hReference37Ideal := Cert.Reference37Ideal.Gen.facts) := by
  pair_intro
  · run_from Cert.Kernel37Ideal.Gen.run_main m g
  · run_from Cert.Reference37Ideal.Value.run m' g'
    · exact (Cert.Kernel37Ideal.CastBout.final1 m c).symm

end Cert.Proof

end
-- ==== Proof.CastFfn.lean ====
module

public import proofs.«01_k».proof.Proof.Gen.Kernel38Ideal.Frame
public import proofs.«01_k».proof.Proof.Gen.Reference38Ideal.Run
public import Idealize.ShloMosaic.Lib.Pipeline.ValueKit
public import Idealize.ShloMosaic.Lib.Claim

@[expose] public section

set_option maxRecDepth 16384

/-! The feed-forward layers' weights on one device, cast to bf16 before the exchange of the weights. -/

noncomputable section

open Idealize.ShloMosaic Idealize.ShloMosaic.TcCoe Idealize.SL.Sem
open Idealize.ShloMosaic.Pipeline (Dat)

namespace Cert.Reference38Ideal.CastFfn
open Cert.Reference38Ideal Cert.Reference38Ideal.Gen

def ref0 (a0 : FVec Ideal S4x704x1024 .f32) : FVec Ideal S4x704x1024 .bf16 :=
  truncf .bf16 a0 bitsLt_bf16_f32

theorem ref0_at (a0 : FVec Ideal S4x704x1024 .f32) (j : S4x704x1024.Idx) : ref0 a0 j = a0 j := by
  pointwise [ref0]

end Cert.Reference38Ideal.CastFfn

namespace Cert.Kernel38Ideal.CastFfn
open Cert.Kernel38Ideal Cert.Kernel38Ideal.Gen
open Cert.Reference38Ideal.CastFfn (ref0 ref0_at)

theorem cast_at (x : Vec Ideal S1x704x1024 .f32) (z : Fin 1) (r : Fin 704) (i : Fin 1024) :
    k0_pay1 (F := Ideal) x (ix3 z r i) = x (ix3 0 r i) := by
  pointwise [k0_pay1]

variable (m : (ℓ : Loc nD τ sig) → Buf (Elt Ideal) ℓ)

theorem idx : ∀ t : Fin cfg0.N, win0_0.index t = ![t.val, 0, 0] ∧ win0_1.index t = ![t.val, 0, 0] :=
  (by decide +kernel : ∀ t : Fin grid0.N, _)

/-- The array the call returns is the weight, layer by layer. -/
theorem final1 (c : Dev nD) : (dats m 0 c).arrAt 1 (cfgs 0).N = ref0 (m ((c : Thread nD τ).loc main_arg0)) := by
  refine (dats m 0 c).arrAt_eq_of_covers 1 _ (by decide +kernel) fun t hf y => ?_
  have hN : t.val < 4 := t.isLt
  blk_simp
  rw [after0_1]
  unfold out0_1
  frame_out
  idx_vars y
  refine (cast_at _ y0 y1 y2).trans (Eq.trans ?_ (ref0_at _ _).symm)
  blk_ext [iblk, V, idx t]

end Cert.Kernel38Ideal.CastFfn
-- ==== Proof.Values.CastFfn.lean ====
/- The values of the pair Kernel38, Reference38: every result of the one is the result of the other. -/
module

public import proofs.«01_k».proof.Defs
public import proofs.«01_k».proof.Proof.Gen.Kernel38Ideal.Value
public import proofs.«01_k».proof.Proof.Gen.Reference38Ideal.Run
public import proofs.«01_k».proof.Proof.CastFfn
public import Idealize.ShloMosaic.Lib.Claim

@[expose] public section

noncomputable section

namespace Cert.Proof

open Idealize.ShloMosaic Idealize.SL.Sem

set_option maxHeartbeats 4000000 in
set_option maxRecDepth 16384 in
theorem values38 : Cert.algebraic_Kernel38Ideal_Reference38Ideal (hKernel38Ideal := Cert.Kernel38Ideal.Gen.facts) (hReference38Ideal := Cert.Reference38Ideal.Gen.facts) := by
  pair_intro
  · run_from Cert.Kernel38Ideal.Gen.run_main m g
  · run_from Cert.Reference38Ideal.Value.run m' g'
    · exact (Cert.Kernel38Ideal.CastFfn.final1 m c).symm

end Cert.Proof

end
-- ==== Proof.BiasBuild.lean ====
module

public import proofs.«01_k».proof.Proof.Gen.Kernel39Ideal.Frame
public import proofs.«01_k».proof.Proof.Gen.Reference39Ideal.Run
public import Idealize.ShloMosaic.Lib.Pipeline.ValueKit
public import Idealize.ShloMosaic.Lib.KernelVsHost
public import Idealize.ShloMosaic.Lib.Claim
public import Idealize.ShloMosaic.Lib.ReduceAll
public import proofs.«01_k».proof.Proof.Gen.Pre_finite_bias

@[expose] public section

set_option maxRecDepth 16384

/-! The attention's relative position bias over a block of queries and its band of keys. -/

noncomputable section

open Idealize.ShloMosaic Idealize.ShloMosaic.TcCoe Idealize.SL.Sem
open Idealize.ShloMosaic.Pipeline (Dat)

namespace Cert.Reference39Ideal.BiasBuild
open Cert.Reference39Ideal Cert.Reference39Ideal.Gen

/-- The clipped distance of a key to a query, from the smallest one on. -/
def relIdx : IVec S128x640 32 :=
  subi (minsi (broadcastInDim S128x640 ![] bcast_S_S128x640 (id (constantI S_ 32 128#32))) (maxsi (broadcastInDim S128x640 ![] bcast_S_S128x640 (id (constantI S_ 32 4294967233#32))) (subi (broadcastInDim S128x640 ![0, 1] bcast_S128x1_S128x640_0_1 (broadcastInDim S128x1 ![0] bcast_S128_S128x1_0 (iotaInDim S128 32 0))) (broadcastInDim S128x640 ![0, 1] bcast_S1x640_S128x640_0_1 (subi (broadcastInDim S1x640 ![1] bcast_S640_S1x640_1 (iotaInDim S640 32 0)) (broadcastInDim S1x640 ![] bcast_S_S1x640 (constantI S_ 32 512#32))))))) (broadcastInDim S128x640 ![] bcast_S_S128x640 (constantI S_ 32 4294967233#32))

/-- A key's chunk less a query's, and eight. -/
def relChunk : IVec S128x640 32 :=
  addi (subi (broadcastInDim S128x640 ![0, 1] bcast_S128x1_S128x640_0_1 (Host.shrsi (broadcastInDim S128x1 ![0] bcast_S128_S128x1_0 (iotaInDim S128 32 0)) (broadcastInDim S128x1 ![] bcast_S_S128x1 (constantI S_ 32 6#32)))) (broadcastInDim S128x640 ![0, 1] bcast_S1x640_S128x640_0_1 (Host.shrsi (broadcastInDim S1x640 ![1] bcast_S640_S1x640_1 (iotaInDim S640 32 0)) (broadcastInDim S1x640 ![] bcast_S_S1x640 (constantI S_ 32 6#32))))) (broadcastInDim S128x640 ![] bcast_S_S128x640 (constantI S_ 32 8#32))

/-- Whether a key is in a query's band. -/
def relOk : IVec S128x640 1 :=
  andi (cmpi .sge relChunk (broadcastInDim S128x640 ![] bcast_S_S128x640 (constantI S_ 32 0#32))) (cmpi .sle relChunk (broadcastInDim S128x640 ![] bcast_S_S128x640 (constantI S_ 32 8#32)))

def starts : IVec S128x640x1 32 :=
  broadcastInDim S128x640x1 ![0, 1] bcast_S128x640_S128x640x1_0_1 (select (cmpi .slt relIdx (broadcastInDim S128x640 ![] bcast_S_S128x640 (constantI S_ 32 0#32))) (addi relIdx (broadcastInDim S128x640 ![] bcast_S_S128x640 (constantI S_ 32 192#32))) relIdx)

def ref0 (a0 : FVec Ideal S16x192 .f32) : FVec Ideal S128x16x640 .f32 :=
  select (broadcastInDim S128x16x640 ![0, 1, 2] bcast_S128x1x640_S128x16x640_0_1_2 (broadcastInDim S128x1x640 ![0, 2] bcast_S128x640_S128x1x640_0_2 relOk)) (mulf (transpose S128x16x640 [1, 0, 2] (Host.gather gather_S16x192_S128x640x1_S16x128x640_0_1_n_n_1_2_161 a0 starts) transposes_S16x128x640_S128x16x640_1_0_2) (broadcastInDim S128x16x640 ![] bcast_S_S128x16x640 (constant S_ .f32 0x3FB8AA3B#32))) (broadcastInDim S128x16x640 ![] bcast_S_S128x16x640 (id (constant S_ .f32 0xF149F2CA#32)))

/-- The entry of a head's row that a query and a key read. -/
def entry (i : Fin 128) (j : Fin 640) : Fin 192 := ⟨min 191 (575 + i.val - j.val), by omega⟩

theorem relIdx_at (i : Fin 128) (j : Fin 640) : relIdx (ix2 i j) = BitVec.ofNat 32 (entry i j).val := by
  pointwise [relIdx]
  have e : IntOp.subi (BitVec.ofNat 32 i.val) (IntOp.subi (BitVec.ofNat 32 j.val) 512#32) = BitVec.ofNat 32 (640 + i.val - j.val) - 128#32 := by
    show BitVec.ofNat 32 i.val - (BitVec.ofNat 32 j.val - 512#32) = _
    apply BitVec.eq_of_toNat_eq
    simp only [BitVec.toNat_sub, BitVec.toNat_ofNat]
    omega
  rw [e]
  exact (by decide +kernel : ∀ n : Fin 768, IntOp.subi (IntOp.minsi (128#32) (IntOp.maxsi (4294967233#32) (BitVec.ofNat 32 n.val - 128#32))) 4294967233#32
    = BitVec.ofNat 32 (min 191 (n.val - 65))) ⟨640 + i.val - j.val, by omega⟩ |>.trans (congrArg (BitVec.ofNat 32) (by show min 191 (640 + i.val - j.val - 65) = min 191 (575 + i.val - j.val); omega))

/-- A word's shift by six is the number over sixty-four. -/
theorem shift (n : Fin 640) : IntOp.shrsi ArithUnit.host (BitVec.ofNat 32 n.val) 6#32 = BitVec.ofNat 32 (n.val / 64) := by
  revert n
  decide +kernel

/-- The band, of a query's chunk and a key's. -/
def band (a b : BitVec 32) : BitVec 1 :=
  IntOp.andi (IntOp.cmpi CmpIPredicate.sge (IntOp.addi (IntOp.subi a b) 8#32) 0#32) (IntOp.cmpi CmpIPredicate.sle (IntOp.addi (IntOp.subi a b) 8#32) 8#32)

theorem relOk_at (i : Fin 128) (j : Fin 640) : relOk (ix2 i j) = band (BitVec.ofNat 32 (i.val / 64)) (BitVec.ofNat 32 (j.val / 64)) := by
  pointwise [relOk, relChunk]
  have hi := shift ⟨i.val, by omega⟩
  have hj := shift j
  dsimp only at hi
  rw [hi, hj]
  rfl

theorem starts_at (i : Fin 128) (j : Fin 640) : starts (ix3 i j 0) = BitVec.ofNat 32 (entry i j).val := by
  pointwise [starts]
  rw [relIdx_at]
  exact (by decide +kernel : ∀ e : Fin 192, Scalar.select (IntOp.cmpi CmpIPredicate.slt (BitVec.ofNat 32 e.val) 0#32) (IntOp.addi (BitVec.ofNat 32 e.val) 192#32) (BitVec.ofNat 32 e.val) = BitVec.ofNat 32 e.val) (entry i j)

/-- The gather reads a head's row at the start index, as a signed number between the row's ends. -/
theorem gather_at (x : FVec Ideal S16x192 .f32) (idx : IVec S128x640x1 32) (h : Fin 16) (i : Fin 128) (j : Fin 640) :
    Host.gather gather_S16x192_S128x640x1_S16x128x640_0_1_n_n_1_2_161 x idx (ix3 h i j)
      = x (ix2 h ⟨min (idx (ix3 i j 0)).toInt.toNat 191, by omega⟩) := by
  unfold Host.gather
  congr 1
  funext a
  refine Fin.ext ?_
  show GatherDims.start gather_S16x192_S128x640x1_S16x128x640_0_1_n_n_1_2_161 (ix3 h i j) idx a
      + GatherDims.batchCoord gather_S16x192_S128x640x1_S16x128x640_0_1_n_n_1_2_161 (ix3 h i j) a
      + GatherDims.offCoord gather_S16x192_S128x640x1_S16x128x640_0_1_n_n_1_2_161 (ix3 h i j) a = _
  rw [GatherDims.batchCoord_eq_zero _ _ _ List.not_mem_nil]
  match a with
  | ⟨0, _⟩ =>
    unfold GatherDims.start
    rw [dif_neg (by decide : ¬ (⟨0, by decide⟩ : Fin S16x192.rank) ∈ gather_S16x192_S128x640x1_S16x128x640_0_1_n_n_1_2_161.startIndexMap)]
    simp only [Nat.zero_add]
    rfl
  | ⟨1, _⟩ =>
    rw [GatherDims.offCoord_eq_zero _ _ _ (fun h => ((GatherDims.mem_sKept _ _).mp h).1 (List.mem_singleton.mpr rfl))]
    unfold GatherDims.start
    rw [dif_pos (by decide : (⟨1, by decide⟩ : Fin S16x192.rank) ∈ gather_S16x192_S128x640x1_S16x128x640_0_1_n_n_1_2_161.startIndexMap)]
    simp only [Nat.add_zero]
    have hsi : GatherDims.siIdx gather_S16x192_S128x640x1_S16x128x640_0_1_n_n_1_2_161 (ix3 h i j) ⟨0, by decide⟩ = ix3 i j 0 := by
      funext b; refine Fin.ext ?_
      match b with
      | ⟨0, _⟩ => rfl
      | ⟨1, _⟩ => rfl
      | ⟨2, _⟩ => rfl
    exact congrArg (fun k => min (idx k).toInt.toNat 191) hsi

theorem clamp : ∀ e : Fin 192, min (BitVec.ofNat 32 e.val).toInt.toNat 191 = e.val := by decide +kernel

theorem ref0_at (a0 : FVec Ideal S16x192 .f32) (i : Fin 128) (h : Fin 16) (j : Fin 640) :
    ref0 a0 (ix3 i h j) = Scalar.select (relOk (ix2 i j)) (a0 (ix2 h (entry i j)) * Ideal.ofBits FTy.f32 1069066811#32) (Ideal.ofBits FTy.f32 4048155338#32) := by
  pointwise [ref0]
  have e : Host.gather gather_S16x192_S128x640x1_S16x128x640_0_1_n_n_1_2_161 a0 starts (ix3 h i j) = a0 (ix2 h (entry i j)) := by
    refine (gather_at a0 starts h i j).trans (congrArg (fun k => a0 (ix2 h k)) (Fin.ext ?_))
    show min (starts (ix3 i j 0)).toInt.toNat 191 = (entry i j).val
    rw [starts_at]
    exact clamp (entry i j)
  rw [e]
  rfl

end Cert.Reference39Ideal.BiasBuild

namespace Cert.Kernel39Ideal.BiasBuild
open Cert.Kernel39Ideal Cert.Kernel39Ideal.Gen
open Cert.Reference39Ideal.BiasBuild (ref0 ref0_at entry relOk relOk_at band)

/-- A trip's number. -/
def trip (t : Fin k0_t1_loop.trips) : Fin 128 := ⟨t.val, t.isLt.trans_le k0_t1_abs.2.1⟩

/-- The lane that the rotation brings to a key's place. -/
def rotated (w : BitVec 32) (j : Fin 640) : Fin 768 := ⟨(j.val + 768 - w.toNat % 768) % 768, Nat.mod_lt _ (by decide)⟩

/-- The column of ones and zeros: a lane reads one entry of a head's row. -/
theorem onehot (n : Fin 768) (k : Fin 192) :
    (FloatOps.sitofp (F := Ideal) FTy.f32 (BitVec.setWidth 32 (IntOp.cmpi CmpIPredicate.eq
      (IntOp.subi (IntOp.minsi (128#32) (IntOp.maxsi (4294967233#32) (IntOp.subi (639#32) (BitVec.ofNat 32 n.val)))) 4294967233#32)
      (BitVec.ofNat 32 k.val))) : EReal) = if k = (⟨min 191 (702 - n.val), by omega⟩ : Fin 192) then 1 else 0 := by
  rw [(by decide +kernel : ∀ n : Fin 768, IntOp.subi (IntOp.minsi (128#32) (IntOp.maxsi (4294967233#32) (IntOp.subi (639#32) (BitVec.ofNat 32 n.val)))) 4294967233#32
      = BitVec.ofNat 32 (min 191 (702 - n.val))) n]
  have e : ∀ a k : Fin 192, BitVec.setWidth 32 (IntOp.cmpi CmpIPredicate.eq (BitVec.ofNat 32 a.val) (BitVec.ofNat 32 k.val)) = if k = a then 1#32 else 0#32 := by
    decide +kernel
  rw [e ⟨min 191 (702 - n.val), by omega⟩ k]
  split
  · show (((1#32 : BitVec 32).toInt : ℝ) : EReal) = 1
    norm_num
  · show (((0#32 : BitVec 32).toInt : ℝ) : EReal) = 0
    norm_num

/-- A finite row against the column, in its three parts: the second and the third are zero. -/
theorem row_sum (x : Fin 192 → EReal) (hx : ∀ k, ∃ r : ℝ, x k = (r : EReal)) (o : Fin 192 → EReal) (a : Fin 192)
    (ho : ∀ k, o k = if k = a then 1 else 0) :
    (∑ k, x k * o k) + (∑ k, (x k - x k) * o k) + (∑ k, (x k - x k - (x k - x k)) * o k) = x a := by
  have hz : ∀ k, x k - x k = 0 := fun k => by
    obtain ⟨r, h⟩ := hx k
    rw [h, ← EReal.coe_sub, sub_self, EReal.coe_zero]
  simp only [hz, sub_zero, zero_mul, Finset.sum_const_zero, add_zero, ho, mul_ite, mul_one, mul_zero, Finset.sum_ite_eq', Finset.mem_univ, if_true]

/-- How far a trip rotates the row. -/
def amount (t : Nat) : BitVec 32 :=
  Scalar.select
    (Scalar.andi
      (Scalar.xori
        (Scalar.cmpi CmpIPredicate.slt (Scalar.remsi (Scalar.addi (Scf.iv 0#32 1#32 t) 641#32) (Scalar.select (Scalar.cmpi CmpIPredicate.eq 768#32 0#32) 1#32 768#32)) 0#32)
        (Scalar.cmpi CmpIPredicate.slt (Scalar.select (Scalar.cmpi CmpIPredicate.eq 768#32 0#32) 1#32 768#32) 0#32))
      (Scalar.cmpi CmpIPredicate.ne (Scalar.remsi (Scalar.addi (Scf.iv 0#32 1#32 t) 641#32) (Scalar.select (Scalar.cmpi CmpIPredicate.eq 768#32 0#32) 1#32 768#32)) 0#32))
    (Scalar.addi (Scalar.remsi (Scalar.addi (Scf.iv 0#32 1#32 t) 641#32) (Scalar.select (Scalar.cmpi CmpIPredicate.eq 768#32 0#32) 1#32 768#32))
      (Scalar.select (Scalar.cmpi CmpIPredicate.eq 768#32 0#32) 1#32 768#32))
    (Scalar.remsi (Scalar.addi (Scf.iv 0#32 1#32 t) 641#32) (Scalar.select (Scalar.cmpi CmpIPredicate.eq 768#32 0#32) 1#32 768#32))

theorem amount_at : ∀ t : Fin 128, (amount t.val).toNat % 768 = (t.val + 641) % 768 := by decide +kernel

theorem shift_trip (t : Fin k0_t1_loop.trips) : Scalar.shrui (Scf.iv 0#32 1#32 t.val) 6#32 = BitVec.ofNat 32 ((trip t).val / 64) :=
  (by decide +kernel : ∀ t : Fin 128, Scalar.shrui (Scf.iv 0#32 1#32 t.val) 6#32 = BitVec.ofNat 32 (t.val / 64)) (trip t)

theorem shift_key : ∀ j : Fin 640, IntOp.shrui ArithUnit.vector (BitVec.ofNat 32 j.val) 6#32 = BitVec.ofNat 32 (j.val / 64) := by decide +kernel

theorem select_eq {c c' : BitVec 1} {a a' b : EReal} (hc : c = c') (ha : a = a') : Scalar.select c a b = Scalar.select c' a' b := by
  rw [hc, ha]

theorem mul_eq {a a' k : EReal} (ha : a = a') : a * k = a' * k := by
  rw [ha]

theorem pay_at (x : Vec Ideal S16x192 .f32) (hx : ∀ y, ∃ r : ℝ, x y = (r : EReal)) (t : Fin k0_t1_loop.trips) (z : Fin 1) (h : Fin 16) (j : Fin 640) :
    k0_pay1 (F := Ideal) x t (ix3 z h j) = ref0 x (ix3 (trip t) h j) := by
  rw [ref0_at]
  pointwise [k0_pay1]
  refine select_eq ?_ (mul_eq ?_)
  · rw [relOk_at, shift_trip, shift_key]
    rfl
  · refine (row_sum (fun k => x (ix2 h k)) (fun k => hx _) _ _ (fun k => onehot (rotated (amount t.val) j) k)).trans ?_
    refine congrArg (fun e => x (ix2 h e)) (Fin.ext ?_)
    show min 191 (702 - (j.val + 768 - (amount (trip t).val).toNat % 768) % 768) = min 191 (575 + (trip t).val - j.val)
    rw [amount_at]
    omega

/-- A trip stores its row of the result. -/
theorem piece_at (c : Dev nD) (arg0 : Memref sig .tc .vmem S16x192 .f32) (harg0 : arg0.IsWhole) (arg1 : Memref sig .tc .vmem S128x16x640 .f32) (harg1 : arg1.IsWhole)
    (x : Vec Ideal S16x192 .f32) (hx : ∀ y, ∃ r : ℝ, x y = (r : EReal)) (k : Fin k0_t1_loop.trips) :
    ∀ p ∈ tripL_k0_t1 (F := Ideal) Variants.none c none arg0 harg0 arg1 harg1 x k, ∀ y : p.1.shape.Idx, p.2 y = ref0 x (p.1.emb y) := by
  unfold tripL_k0_t1 trip_k0_t1
  intro p hp y
  obtain rfl : p = (⟨Rect.unit (s := S128x16x640) (k0_off1 k) S1x16x640.size (k0_off1_inb k), k0_pay1 x k⟩ : View.Piece (Elt Ideal) S128x16x640 .f32) := List.mem_singleton.mp hp
  obtain ⟨z, h, j, rfl⟩ : ∃ (z : Fin 1) (h : Fin 16) (j : Fin 640), y = ix3 z h j := ⟨y 0, y 1, y 2, eq_ix3 y⟩
  refine (pay_at x hx k z h j).trans (congrArg (ref0 x) (funext fun a => Fin.ext ?_))
  have hz : z.val = 0 := by omega
  have ho : (k0_off1 k 0) = k.val := (by decide +kernel : ∀ k : Fin k0_t1_loop.trips, k0_off1 k 0 = k.val) k
  refine Eq.trans ?_ (Idealize.ShloMosaic.ValueKit.rect_emb_unit_val (s := S128x16x640) (k0_off1 k) S1x16x640.size (k0_off1_inb k) (ix3 z h j) a).symm
  fin_cases a
  · show k.val = k0_off1 k 0 + z.val
    omega
  · show h.val = 0 + h.val
    omega
  · show j.val = 0 + j.val
    omega

theorem pieces_at (c : Dev nD) (arg0 : Memref sig .tc .vmem S16x192 .f32) (harg0 : arg0.IsWhole) (arg1 : Memref sig .tc .vmem S128x16x640 .f32) (harg1 : arg1.IsWhole)
    (x : Vec Ideal S16x192 .f32) (hx : ∀ y, ∃ r : ℝ, x y = (r : EReal)) (n : ℕ) :
    ∀ p ∈ pb_k0_t1 (F := Ideal) Variants.none c none arg0 harg0 arg1 harg1 x n, ∀ y : p.1.shape.Idx, p.2 y = ref0 x (p.1.emb y) := by
  induction n with
  | zero => exact fun p hp => absurd hp List.not_mem_nil
  | succ n ih =>
    intro p hp
    rw [pb_k0_t1.eq_2] at hp
    unfold pb_k0_t1Step at hp
    split at hp
    · rcases List.mem_append.mp hp with hp | hp
      · exact piece_at c arg0 harg0 arg1 harg1 x hx _ p hp
      · exact ih p hp
    · exact ih p hp

theorem out_at (c : Dev nD) (arg0 : Memref sig .tc .vmem S16x192 .f32) (harg0 : arg0.IsWhole) (arg1 : Memref sig .tc .vmem S128x16x640 .f32) (harg1 : arg1.IsWhole)
    (x : Vec Ideal S16x192 .f32) (hx : ∀ y, ∃ r : ℝ, x y = (r : EReal)) :
    out0_A_1 c arg0 harg0 arg1 harg1 x = ref0 x := by
  unfold out0_A_1
  refine funext fun y => View.read_writes_apply_of_pieces _ _ _ _ ?_ y (cover0_A_1 c arg0 harg0 arg1 harg1 x y)
  unfold kernelRun0_A
  have e : View.readAt (Elt Ideal) arg0.view (Rect.unit (s := S16x192) ![0, 0] S16x192.size inb_S16x192_S16x192_0_0).toLoadRect (harg0.unread x) = x := by
    frame_out
  intro p hp
  refine pieces_at c arg0 harg0 arg1 harg1 x hx (Scf.trips k0_t1_loop.lb k0_t1_loop.ub k0_t1_loop.st) p ?_
  have hp' : p ∈ pb_k0_t1 (F := Ideal) Variants.none c none arg0 harg0 arg1 harg1 _ (Scf.trips k0_t1_loop.lb k0_t1_loop.ub k0_t1_loop.st) := hp
  rw [e] at hp'
  exact hp'

/-- What the precondition says: every element is finite. -/
theorem finite (x : FVec Ideal S16x192 .f32) (h : Cert.Pre_finite_bias.fn (F := Ideal) x = fun _ => 1#1) : ∀ y, ∃ r : ℝ, x y = (r : EReal) := by
  intro y
  have hy := Host.reduce_andi_all _ _ _ _ ix0 (congrFun h ix0) y
  pointwise at hy
  have hi : Ideal.ofBits .f32 2139095040#32 = (⊤ : EReal) := by simp [Ideal.ofBits, Ideal.ieee]
  revert hy
  generalize x y = v
  intro hy
  replace hy : BitVec.ofBool (decide ((FloatOps.absf (F := Ideal) (φ := .f32) v : EReal) < Ideal.ofBits .f32 2139095040#32)) = 1#1 := hy
  rw [hi] at hy
  induction v using EReal.rec with
  | bot => exact absurd hy (by show ¬ BitVec.ofBool (decide (((max ⊥ (-⊥) : EReal)) < ⊤)) = 1#1; simp)
  | top => exact absurd hy (by show ¬ BitVec.ofBool (decide (((max ⊤ (-⊤) : EReal)) < ⊤)) = 1#1; simp)
  | coe r => exact ⟨r, rfl⟩

variable (m : (ℓ : Loc nD τ sig) → Buf (Elt Ideal) ℓ)

theorem idx : ∀ t : Fin cfg0.N, win0_0.index t = ![0, 0] ∧ win0_1.index t = ![0, 0, 0] :=
  (by decide +kernel : ∀ t : Fin grid0.N, _)

/-- The array the call returns is the bias. -/
theorem final1 (c : Dev nD) (hx : ∀ y, ∃ r : ℝ, m ((c : Thread nD τ).loc main_arg0) y = (r : EReal)) :
    (dats m 0 c).arrAt 1 (cfgs 0).N = ref0 (m ((c : Thread nD τ).loc main_arg0)) := by
  refine (dats m 0 c).arrAt_eq_of_covers 1 _ (by decide +kernel) fun t hf y => ?_
  blk_simp
  rw [after0_1]
  unfold outsAt0
  have hb : iblk m c 0 t = m ((c : Thread nD τ).loc main_arg0) := by
    funext y
    idx_vars y
    blk_ext [iblk, V, idx t]
  rw [hb, out_at _ _ _ _ _ _ hx]
  idx_vars y
  refine congrArg _ ?_
  blk_ext [idx t]

end Cert.Kernel39Ideal.BiasBuild
-- ==== Proof.Values.BiasBuild.lean ====
/- The values of the pair Kernel39, Reference39: every result of the one is the result of the other. -/
module

public import proofs.«01_k».proof.Defs
public import proofs.«01_k».proof.Proof.Gen.Kernel39Ideal.Value
public import proofs.«01_k».proof.Proof.Gen.Reference39Ideal.Run
public import proofs.«01_k».proof.Proof.BiasBuild
public import Idealize.ShloMosaic.Lib.Claim

@[expose] public section

noncomputable section

namespace Cert.Proof

open Idealize.ShloMosaic Idealize.SL.Sem

set_option maxHeartbeats 4000000 in
set_option maxRecDepth 16384 in
theorem values39 : Cert.algebraic_Kernel39Ideal_Reference39Ideal_pre_finite_bias (hKernel39Ideal := Cert.Kernel39Ideal.Gen.facts) (hReference39Ideal := Cert.Reference39Ideal.Gen.facts) (hPre_finite_bias := Cert.Pre_finite_bias.Gen.facts) := by
  pair_intro
  · run_from Cert.Kernel39Ideal.Gen.run_main m g
  · run_from Cert.Reference39Ideal.Value.run m' g'
    · exact (Cert.Kernel39Ideal.BiasBuild.final1 m c (Cert.Kernel39Ideal.BiasBuild.finite _ (hpre c))).symm

end Cert.Proof

end
-- ==== Proof.lean ====
/- The proof of every claim: the frames from the generated runs, the values from the modules that follow each program. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Values.DgradIn
public import proofs.«01_k».proof.Proof.Gen.Kernel2.Frame
public import proofs.«01_k».proof.Proof.Gen.Kernel2Ideal.Value
public import proofs.«01_k».proof.Proof.Gen.Reference2Ideal.Run
public import proofs.«01_k».proof.Proof.Values.DgradQkv
public import proofs.«01_k».proof.Proof.Gen.Kernel3.Frame
public import proofs.«01_k».proof.Proof.Gen.Kernel3Ideal.Value
public import proofs.«01_k».proof.Proof.Gen.Reference3Ideal.Run
public import proofs.«01_k».proof.Proof.Values.DgradFfn
public import proofs.«01_k».proof.Proof.Gen.Kernel4.Frame
public import proofs.«01_k».proof.Proof.Gen.Kernel4Ideal.Value
public import proofs.«01_k».proof.Proof.Gen.Reference4Ideal.Run
public import proofs.«01_k».proof.Proof.Values.WgradDown
public import proofs.«01_k».proof.Proof.Gen.Kernel5.Frame
public import proofs.«01_k».proof.Proof.Gen.Kernel5Ideal.Value
public import proofs.«01_k».proof.Proof.Gen.Reference5Ideal.Run
public import proofs.«01_k».proof.Proof.Values.WgradUp
public import proofs.«01_k».proof.Proof.Gen.Kernel6.Frame
public import proofs.«01_k».proof.Proof.Gen.Kernel6Ideal.Value
public import proofs.«01_k».proof.Proof.Gen.Reference6Ideal.Run
public import proofs.«01_k».proof.Proof.Values.WgradIn
public import proofs.«01_k».proof.Proof.Gen.Kernel7.Frame
public import proofs.«01_k».proof.Proof.Gen.Kernel7Ideal.Value
public import proofs.«01_k».proof.Proof.Gen.Reference7Ideal.Run
public import proofs.«01_k».proof.Proof.Values.WgradQkv
public import proofs.«01_k».proof.Proof.Gen.Kernel8.Frame
public import proofs.«01_k».proof.Proof.Gen.Kernel8Ideal.Value
public import proofs.«01_k».proof.Proof.Gen.Reference8Ideal.Run
public import proofs.«01_k».proof.Proof.Values.WgradAout
public import proofs.«01_k».proof.Proof.Gen.Kernel9.Frame
public import proofs.«01_k».proof.Proof.Gen.Kernel9Ideal.Value
public import proofs.«01_k».proof.Proof.Gen.Reference9Ideal.Run
public import proofs.«01_k».proof.Proof.Values.WgradBout
public import proofs.«01_k».proof.Proof.Gen.Kernel10.Frame
public import proofs.«01_k».proof.Proof.Gen.Kernel10Ideal.Value
public import proofs.«01_k».proof.Proof.Gen.Reference10Ideal.Run
public import proofs.«01_k».proof.Proof.Values.DgradAout
public import proofs.«01_k».proof.Proof.Gen.Kernel11.Frame
public import proofs.«01_k».proof.Proof.Gen.Kernel11Ideal.Value
public import proofs.«01_k».proof.Proof.Gen.Reference11Ideal.Run
public import proofs.«01_k».proof.Proof.Values.DgradBout
public import proofs.«01_k».proof.Proof.Gen.Kernel12.Frame
public import proofs.«01_k».proof.Proof.Gen.Kernel12Ideal.Value
public import proofs.«01_k».proof.Proof.Gen.Reference12Ideal.Run
public import proofs.«01_k».proof.Proof.Values.AdamNorm
public import proofs.«01_k».proof.Proof.Gen.Kernel13.Frame
public import proofs.«01_k».proof.Proof.Gen.Kernel13Ideal.Value
public import proofs.«01_k».proof.Proof.Gen.Reference13Ideal.Run
public import proofs.«01_k».proof.Proof.Values.AdamFinal
public import proofs.«01_k».proof.Proof.Gen.Kernel14.Frame
public import proofs.«01_k».proof.Proof.Gen.Kernel14Ideal.Value
public import proofs.«01_k».proof.Proof.Gen.Reference14Ideal.Run
public import proofs.«01_k».proof.Proof.Values.AdamIn
public import proofs.«01_k».proof.Proof.Gen.Kernel15.Frame
public import proofs.«01_k».proof.Proof.Gen.Kernel15Ideal.Value
public import proofs.«01_k».proof.Proof.Gen.Reference15Ideal.Run
public import proofs.«01_k».proof.Proof.Values.AdamQkv
public import proofs.«01_k».proof.Proof.Gen.Kernel16.Frame
public import proofs.«01_k».proof.Proof.Gen.Kernel16Ideal.Value
public import proofs.«01_k».proof.Proof.Gen.Reference16Ideal.Run
public import proofs.«01_k».proof.Proof.Values.AdamAout
public import proofs.«01_k».proof.Proof.Gen.Kernel17.Frame
public import proofs.«01_k».proof.Proof.Gen.Kernel17Ideal.Value
public import proofs.«01_k».proof.Proof.Gen.Reference17Ideal.Run
public import proofs.«01_k».proof.Proof.Values.AdamBout
public import proofs.«01_k».proof.Proof.Gen.Kernel18.Frame
public import proofs.«01_k».proof.Proof.Gen.Kernel18Ideal.Value
public import proofs.«01_k».proof.Proof.Gen.Reference18Ideal.Run
public import proofs.«01_k».proof.Proof.Values.AdamFfn
public import proofs.«01_k».proof.Proof.Gen.Kernel19.Frame
public import proofs.«01_k».proof.Proof.Gen.Kernel19Ideal.Value
public import proofs.«01_k».proof.Proof.Gen.Reference19Ideal.Run
public import proofs.«01_k».proof.Proof.Values.AdamGain
public import proofs.«01_k».proof.Proof.Gen.Kernel20.Frame
public import proofs.«01_k».proof.Proof.Gen.Kernel20Ideal.Value
public import proofs.«01_k».proof.Proof.Gen.Reference20Ideal.Run
public import proofs.«01_k».proof.Proof.Values.AdamSpatial
public import proofs.«01_k».proof.Proof.Gen.Kernel21.Frame
public import proofs.«01_k».proof.Proof.Gen.Kernel21Ideal.Value
public import proofs.«01_k».proof.Proof.Gen.Reference21Ideal.Run
public import proofs.«01_k».proof.Proof.Values.AdamSpatialBias
public import proofs.«01_k».proof.Proof.Gen.Kernel22.Frame
public import proofs.«01_k».proof.Proof.Gen.Kernel22Ideal.Value
public import proofs.«01_k».proof.Proof.Gen.Reference22Ideal.Run
public import proofs.«01_k».proof.Proof.Values.AdamRel
public import proofs.«01_k».proof.Proof.Gen.Kernel23.Frame
public import proofs.«01_k».proof.Proof.Gen.Kernel23Ideal.Value
public import proofs.«01_k».proof.Proof.Gen.Reference23Ideal.Run
public import proofs.«01_k».proof.Proof.Values.FfnUp
public import proofs.«01_k».proof.Proof.Gen.Kernel24.Frame
public import proofs.«01_k».proof.Proof.Gen.Kernel24Ideal.Value
public import proofs.«01_k».proof.Proof.Gen.Reference24Ideal.Run
public import proofs.«01_k».proof.Proof.Values.FfnDown
public import proofs.«01_k».proof.Proof.Gen.Kernel25.Frame
public import proofs.«01_k».proof.Proof.Gen.Kernel25Ideal.Value
public import proofs.«01_k».proof.Proof.Gen.Reference25Ideal.Run
public import proofs.«01_k».proof.Proof.Values.FfnDownLast
public import proofs.«01_k».proof.Proof.Gen.Kernel26.Frame
public import proofs.«01_k».proof.Proof.Gen.Kernel26Ideal.Value
public import proofs.«01_k».proof.Proof.Gen.Reference26Ideal.Run
public import proofs.«01_k».proof.Proof.Values.SpatialOut
public import proofs.«01_k».proof.Proof.Gen.Kernel27.Frame
public import proofs.«01_k».proof.Proof.Gen.Kernel27Ideal.Value
public import proofs.«01_k».proof.Proof.Gen.Reference27Ideal.Run
public import proofs.«01_k».proof.Proof.Values.AttentionOut
public import proofs.«01_k».proof.Proof.Gen.Kernel28.Frame
public import proofs.«01_k».proof.Proof.Gen.Kernel28Ideal.Value
public import proofs.«01_k».proof.Proof.Gen.Reference28Ideal.Run
public import proofs.«01_k».proof.Proof.Values.QkvProj
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Pre_bounded_below
public import proofs.«01_k».proof.Proof.Values.SpatialGate
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Pre_finite
public import proofs.«01_k».proof.Proof.Values.SguGrad
public import proofs.«01_k».proof.Proof.Gen.Kernel31.Frame
public import proofs.«01_k».proof.Proof.Gen.Kernel31Ideal.Value
public import proofs.«01_k».proof.Proof.Gen.Reference31Ideal.Run
public import proofs.«01_k».proof.Proof.Values.FinalLoss
public import proofs.«01_k».proof.Proof.Gen.Kernel32.Frame
public import proofs.«01_k».proof.Proof.Gen.Kernel32Ideal.Value
public import proofs.«01_k».proof.Proof.Gen.Reference32Ideal.Run
public import proofs.«01_k».proof.Proof.Values.InProj
public import proofs.«01_k».proof.Proof.Gen.Kernel33.Frame
public import proofs.«01_k».proof.Proof.Gen.Kernel33Ideal.Value
public import proofs.«01_k».proof.Proof.Gen.Reference33Ideal.Run
public import proofs.«01_k».proof.Proof.Values.FirstNorm
public import proofs.«01_k».proof.Proof.Gen.Kernel34.Frame
public import proofs.«01_k».proof.Proof.Gen.Kernel34Ideal.Value
public import proofs.«01_k».proof.Proof.Gen.Reference34Ideal.Run
public import proofs.«01_k».proof.Proof.Values.CastIn
public import proofs.«01_k».proof.Proof.Gen.Kernel35.Frame
public import proofs.«01_k».proof.Proof.Gen.Kernel35Ideal.Value
public import proofs.«01_k».proof.Proof.Gen.Reference35Ideal.Run
public import proofs.«01_k».proof.Proof.Values.CastQkv
public import proofs.«01_k».proof.Proof.Gen.Kernel36.Frame
public import proofs.«01_k».proof.Proof.Gen.Kernel36Ideal.Value
public import proofs.«01_k».proof.Proof.Gen.Reference36Ideal.Run
public import proofs.«01_k».proof.Proof.Values.CastAout
public import proofs.«01_k».proof.Proof.Gen.Kernel37.Frame
public import proofs.«01_k».proof.Proof.Gen.Kernel37Ideal.Value
public import proofs.«01_k».proof.Proof.Gen.Reference37Ideal.Run
public import proofs.«01_k».proof.Proof.Values.CastBout
public import proofs.«01_k».proof.Proof.Gen.Kernel38.Frame
public import proofs.«01_k».proof.Proof.Gen.Kernel38Ideal.Value
public import proofs.«01_k».proof.Proof.Gen.Reference38Ideal.Run
public import proofs.«01_k».proof.Proof.Values.CastFfn
public import proofs.«01_k».proof.Proof.Gen.Kernel39.Frame
public import proofs.«01_k».proof.Proof.Gen.Kernel39Ideal.Value
public import proofs.«01_k».proof.Proof.Gen.Reference39Ideal.Run
public import proofs.«01_k».proof.Proof.Gen.Pre_finite_bias
public import proofs.«01_k».proof.Proof.Values.BiasBuild
public import Idealize.ShloMosaic.Adequacy
public import Idealize.ShloMosaic.Init

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel14.Gen.facts,
  Cert.Kernel14Ideal.Gen.facts,
  Cert.Reference14Ideal.Gen.facts,
  Cert.Kernel15.Gen.facts,
  Cert.Kernel15Ideal.Gen.facts,
  Cert.Reference15Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel23.Gen.facts,
  Cert.Kernel23Ideal.Gen.facts,
  Cert.Reference23Ideal.Gen.facts,
  Cert.Kernel24.Gen.facts,
  Cert.Kernel24Ideal.Gen.facts,
  Cert.Reference24Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Kernel39.Gen.facts,
  Cert.Kernel39Ideal.Gen.facts,
  Cert.Reference39Ideal.Gen.facts,
  Cert.Pre_bounded_below.Gen.facts,
  Cert.Pre_finite.Gen.facts,
  Cert.Pre_finite_bias.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Kernel.Gen.frame m ρ
  · exact fun m ρ _ => Cert.KernelIdeal.Gen.frame m ρ
  · exact fun m g _ => (θ_run Cert.ReferenceIdeal.defs _ _).mono (fun r h => ⟨fun c => (h c).2.2.2, sem_eq_zero_of_no_sems (by decide) r.2⟩)
      (Cert.ReferenceIdeal.Value.run m g)
  · exact fun m ρ _ => Cert.Kernel2.Gen.frame m ρ
  · exact fun m ρ _ => Cert.Kernel2Ideal.Gen.frame m ρ
  · exact fun m g _ => (θ_run Cert.Reference2Ideal.defs _ _).mono (fun r h => ⟨fun c => (h c).2.2.2, sem_eq_zero_of_no_sems (by decide) r.2⟩)
      (Cert.Reference2Ideal.Value.run m g)
  · exact fun m ρ _ => Cert.Kernel3.Gen.frame m ρ
  · exact fun m ρ _ => Cert.Kernel3Ideal.Gen.frame m ρ
  · exact fun m g _ => (θ_run Cert.Reference3Ideal.defs _ _).mono (fun r h => ⟨fun c => (h c).2.2.2, sem_eq_zero_of_no_sems (by decide) r.2⟩)
      (Cert.Reference3Ideal.Value.run m g)
  · exact fun m ρ _ => Cert.Kernel4.Gen.frame m ρ
  · exact fun m ρ _ => Cert.Kernel4Ideal.Gen.frame m ρ
  · exact fun m g _ => (θ_run Cert.Reference4Ideal.defs _ _).mono (fun r h => ⟨fun c => (h c).2, sem_eq_zero_of_no_sems (by decide) r.2⟩)
      (Cert.Reference4Ideal.Value.run m g)
  · exact fun m ρ _ => Cert.Kernel5.Gen.frame m ρ
  · exact fun m ρ _ => Cert.Kernel5Ideal.Gen.frame m ρ
  · exact fun m g _ => (θ_run Cert.Reference5Ideal.defs _ _).mono (fun r h => ⟨fun c => (h c).2, sem_eq_zero_of_no_sems (by decide) r.2⟩)
      (Cert.Reference5Ideal.Value.run m g)
  · exact fun m ρ _ => Cert.Kernel6.Gen.frame m ρ
  · exact fun m ρ _ => Cert.Kernel6Ideal.Gen.frame m ρ
  · exact fun m g _ => (θ_run Cert.Reference6Ideal.defs _ _).mono (fun r h => ⟨fun c => (h c).2, sem_eq_zero_of_no_sems (by decide) r.2⟩)
      (Cert.Reference6Ideal.Value.run m g)
  · exact fun m ρ _ => Cert.Kernel7.Gen.frame m ρ
  · exact fun m ρ _ => Cert.Kernel7Ideal.Gen.frame m ρ
  · exact fun m g _ => (θ_run Cert.Reference7Ideal.defs _ _).mono (fun r h => ⟨fun c => (h c).2, sem_eq_zero_of_no_sems (by decide) r.2⟩)
      (Cert.Reference7Ideal.Value.run m g)
  · exact fun m ρ _ => Cert.Kernel8.Gen.frame m ρ
  · exact fun m ρ _ => Cert.Kernel8Ideal.Gen.frame m ρ
  · exact fun m g _ => (θ_run Cert.Reference8Ideal.defs _ _).mono (fun r h => ⟨fun c => (h c).2, sem_eq_zero_of_no_sems (by decide) r.2⟩)
      (Cert.Reference8Ideal.Value.run m g)
  · exact fun m ρ _ => Cert.Kernel9.Gen.frame m ρ
  · exact fun m ρ _ => Cert.Kernel9Ideal.Gen.frame m ρ
  · exact fun m g _ => (θ_run Cert.Reference9Ideal.defs _ _).mono (fun r h => ⟨fun c => (h c).2, sem_eq_zero_of_no_sems (by decide) r.2⟩)
      (Cert.Reference9Ideal.Value.run m g)
  · exact fun m ρ _ => Cert.Kernel10.Gen.frame m ρ
  · exact fun m ρ _ => Cert.Kernel10Ideal.Gen.frame m ρ
  · exact fun m g _ => (θ_run Cert.Reference10Ideal.defs _ _).mono (fun r h => ⟨fun c => (h c).2, sem_eq_zero_of_no_sems (by decide) r.2⟩)
      (Cert.Reference10Ideal.Value.run m g)
  · exact fun m ρ _ => Cert.Kernel11.Gen.frame m ρ
  · exact fun m ρ _ => Cert.Kernel11Ideal.Gen.frame m ρ
  · exact fun m g _ => (θ_run Cert.Reference11Ideal.defs _ _).mono (fun r h => ⟨fun c => (h c).2, sem_eq_zero_of_no_sems (by decide) r.2⟩)
      (Cert.Reference11Ideal.Value.run m g)
  · exact fun m ρ _ => Cert.Kernel12.Gen.frame m ρ
  · exact fun m ρ _ => Cert.Kernel12Ideal.Gen.frame m ρ
  · exact fun m g _ => (θ_run Cert.Reference12Ideal.defs _ _).mono (fun r h => ⟨fun c => (h c).2.2.2.2, sem_eq_zero_of_no_sems (by decide) r.2⟩)
      (Cert.Reference12Ideal.Value.run m g)
  · exact fun m ρ _ => Cert.Kernel13.Gen.frame m ρ
  · exact fun m ρ _ => Cert.Kernel13Ideal.Gen.frame m ρ
  · exact fun m g _ => (θ_run Cert.Reference13Ideal.defs _ _).mono (fun r h => ⟨fun c => (h c).2.2.2.2, sem_eq_zero_of_no_sems (by decide) r.2⟩)
      (Cert.Reference13Ideal.Value.run m g)
  · exact fun m ρ _ => Cert.Kernel14.Gen.frame m ρ
  · exact fun m ρ _ => Cert.Kernel14Ideal.Gen.frame m ρ
  · exact fun m g _ => (θ_run Cert.Reference14Ideal.defs _ _).mono (fun r h => ⟨fun c => (h c).2.2.2.2, sem_eq_zero_of_no_sems (by decide) r.2⟩)
      (Cert.Reference14Ideal.Value.run m g)
  · exact fun m ρ _ => Cert.Kernel15.Gen.frame m ρ
  · exact fun m ρ _ => Cert.Kernel15Ideal.Gen.frame m ρ
  · exact fun m g _ => (θ_run Cert.Reference15Ideal.defs _ _).mono (fun r h => ⟨fun c => (h c).2.2.2.2, sem_eq_zero_of_no_sems (by decide) r.2⟩)
      (Cert.Reference15Ideal.Value.run m g)
  · exact fun m ρ _ => Cert.Kernel16.Gen.frame m ρ
  · exact fun m ρ _ => Cert.Kernel16Ideal.Gen.frame m ρ
  · exact fun m g _ => (θ_run Cert.Reference16Ideal.defs _ _).mono (fun r h => ⟨fun c => (h c).2.2.2.2, sem_eq_zero_of_no_sems (by decide) r.2⟩)
      (Cert.Reference16Ideal.Value.run m g)
  · exact fun m ρ _ => Cert.Kernel17.Gen.frame m ρ
  · exact fun m ρ _ => Cert.Kernel17Ideal.Gen.frame m ρ
  · exact fun m g _ => (θ_run Cert.Reference17Ideal.defs _ _).mono (fun r h => ⟨fun c => (h c).2.2.2.2, sem_eq_zero_of_no_sems (by decide) r.2⟩)
      (Cert.Reference17Ideal.Value.run m g)
  · exact fun m ρ _ => Cert.Kernel18.Gen.frame m ρ
  · exact fun m ρ _ => Cert.Kernel18Ideal.Gen.frame m ρ
  · exact fun m g _ => (θ_run Cert.Reference18Ideal.defs _ _).mono (fun r h => ⟨fun c => (h c).2.2.2.2, sem_eq_zero_of_no_sems (by decide) r.2⟩)
      (Cert.Reference18Ideal.Value.run m g)
  · exact fun m ρ _ => Cert.Kernel19.Gen.frame m ρ
  · exact fun m ρ _ => Cert.Kernel19Ideal.Gen.frame m ρ
  · exact fun m g _ => (θ_run Cert.Reference19Ideal.defs _ _).mono (fun r h => ⟨fun c => (h c).2.2.2.2, sem_eq_zero_of_no_sems (by decide) r.2⟩)
      (Cert.Reference19Ideal.Value.run m g)
  · exact fun m ρ _ => Cert.Kernel20.Gen.frame m ρ
  · exact fun m ρ _ => Cert.Kernel20Ideal.Gen.frame m ρ
  · exact fun m g _ => (θ_run Cert.Reference20Ideal.defs _ _).mono (fun r h => ⟨fun c => (h c).2.2.2.2, sem_eq_zero_of_no_sems (by decide) r.2⟩)
      (Cert.Reference20Ideal.Value.run m g)
  · exact fun m ρ _ => Cert.Kernel21.Gen.frame m ρ
  · exact fun m ρ _ => Cert.Kernel21Ideal.Gen.frame m ρ
  · exact fun m g _ => (θ_run Cert.Reference21Ideal.defs _ _).mono (fun r h => ⟨fun c => (h c).2.2.2.2, sem_eq_zero_of_no_sems (by decide) r.2⟩)
      (Cert.Reference21Ideal.Value.run m g)
  · exact fun m ρ _ => Cert.Kernel22.Gen.frame m ρ
  · exact fun m ρ _ => Cert.Kernel22Ideal.Gen.frame m ρ
  · exact fun m g _ => (θ_run Cert.Reference22Ideal.defs _ _).mono (fun r h => ⟨fun c => (h c).2.2.2.2, sem_eq_zero_of_no_sems (by decide) r.2⟩)
      (Cert.Reference22Ideal.Value.run m g)
  · exact fun m ρ _ => Cert.Kernel23.Gen.frame m ρ
  · exact fun m ρ _ => Cert.Kernel23Ideal.Gen.frame m ρ
  · exact fun m g _ => (θ_run Cert.Reference23Ideal.defs _ _).mono (fun r h => ⟨fun c => (h c).2.2.2, sem_eq_zero_of_no_sems (by decide) r.2⟩)
      (Cert.Reference23Ideal.Value.run m g)
  · exact fun m ρ _ => Cert.Kernel24.Gen.frame m ρ
  · exact fun m ρ _ => Cert.Kernel24Ideal.Gen.frame m ρ
  · exact fun m g _ => (θ_run Cert.Reference24Ideal.defs _ _).mono (fun r h => ⟨fun c => (h c).2.2, sem_eq_zero_of_no_sems (by decide) r.2⟩)
      (Cert.Reference24Ideal.Value.run m g)
  · exact fun m ρ _ => Cert.Kernel25.Gen.frame m ρ
  · exact fun m ρ _ => Cert.Kernel25Ideal.Gen.frame m ρ
  · exact fun m g _ => (θ_run Cert.Reference25Ideal.defs _ _).mono (fun r h => ⟨fun c => (h c).2, sem_eq_zero_of_no_sems (by decide) r.2⟩)
      (Cert.Reference25Ideal.Value.run m g)
  · exact fun m ρ _ => Cert.Kernel26.Gen.frame m ρ
  · exact fun m ρ _ => Cert.Kernel26Ideal.Gen.frame m ρ
  · exact fun m g _ => (θ_run Cert.Reference26Ideal.defs _ _).mono (fun r h => ⟨fun c => (h c).2.2, sem_eq_zero_of_no_sems (by decide) r.2⟩)
      (Cert.Reference26Ideal.Value.run m g)
  · exact fun m ρ _ => Cert.Kernel27.Gen.frame m ρ
  · exact fun m ρ _ => Cert.Kernel27Ideal.Gen.frame m ρ
  · exact fun m g _ => (θ_run Cert.Reference27Ideal.defs _ _).mono (fun r h => ⟨fun c => (h c).2.2, sem_eq_zero_of_no_sems (by decide) r.2⟩)
      (Cert.Reference27Ideal.Value.run m g)
  · exact fun m ρ _ => Cert.Kernel28.Gen.frame m ρ
  · exact fun m ρ _ => Cert.Kernel28Ideal.Gen.frame m ρ
  · exact fun m g _ => (θ_run Cert.Reference28Ideal.defs _ _).mono (fun r h => ⟨fun c => (h c).2, sem_eq_zero_of_no_sems (by decide) r.2⟩)
      (Cert.Reference28Ideal.Value.run m g)
  · exact fun m ρ _ => Cert.Kernel29.Gen.frame m ρ
  · exact fun m ρ _ => Cert.Kernel29Ideal.Gen.frame m ρ
  · exact fun m ρ _ => Cert.Kernel29Ideal.Gen.frame m ρ
  · exact fun m g _ => (θ_run Cert.Reference29Ideal.defs _ _).mono (fun r h => ⟨fun c => (h c).2, sem_eq_zero_of_no_sems (by decide) r.2⟩)
      (Cert.Reference29Ideal.Value.run m g)
  · exact fun m g _ => (θ_run Cert.Reference29Ideal.defs _ _).mono (fun r h => ⟨fun c => (h c).2, sem_eq_zero_of_no_sems (by decide) r.2⟩)
      (Cert.Reference29Ideal.Value.run m g)
  · exact fun m ρ _ => Cert.Kernel30.Gen.frame m ρ
  · exact fun m ρ _ => Cert.Kernel30Ideal.Gen.frame m ρ
  · exact fun m ρ _ => Cert.Kernel30Ideal.Gen.frame m ρ
  · exact fun m g _ => (θ_run Cert.Reference30Ideal.defs _ _).mono (fun r h => ⟨fun c => (h c).2.2.2.2, sem_eq_zero_of_no_sems (by decide) r.2⟩)
      (Cert.Reference30Ideal.Value.run m g)
  · exact fun m g _ => (θ_run Cert.Reference30Ideal.defs _ _).mono (fun r h => ⟨fun c => (h c).2.2.2.2, sem_eq_zero_of_no_sems (by decide) r.2⟩)
      (Cert.Reference30Ideal.Value.run m g)
  · exact fun m ρ _ => Cert.Kernel31.Gen.frame m ρ
  · exact fun m ρ _ => Cert.Kernel31Ideal.Gen.frame m ρ
  · exact fun m g _ => (θ_run Cert.Reference31Ideal.defs _ _).mono (fun r h => ⟨fun c => (h c).2.2.2.2, sem_eq_zero_of_no_sems (by decide) r.2⟩)
      (Cert.Reference31Ideal.Value.run m g)
  · exact fun m ρ _ => Cert.Kernel32.Gen.frame m ρ
  · exact fun m ρ _ => Cert.Kernel32Ideal.Gen.frame m ρ
  · exact fun m g _ => (θ_run Cert.Reference32Ideal.defs _ _).mono (fun r h => ⟨fun c => (h c).2, sem_eq_zero_of_no_sems (by decide) r.2⟩)
      (Cert.Reference32Ideal.Value.run m g)
  · exact fun m ρ _ => Cert.Kernel33.Gen.frame m ρ
  · exact fun m ρ _ => Cert.Kernel33Ideal.Gen.frame m ρ
  · exact fun m g _ => (θ_run Cert.Reference33Ideal.defs _ _).mono (fun r h => ⟨fun c => (h c).2, sem_eq_zero_of_no_sems (by decide) r.2⟩)
      (Cert.Reference33Ideal.Value.run m g)
  · exact fun m ρ _ => Cert.Kernel34.Gen.frame m ρ
  · exact fun m ρ _ => Cert.Kernel34Ideal.Gen.frame m ρ
  · exact fun m g _ => (θ_run Cert.Reference34Ideal.defs _ _).mono (fun r h => ⟨fun c => (h c).2, sem_eq_zero_of_no_sems (by decide) r.2⟩)
      (Cert.Reference34Ideal.Value.run m g)
  · exact fun m ρ _ => Cert.Kernel35.Gen.frame m ρ
  · exact fun m ρ _ => Cert.Kernel35Ideal.Gen.frame m ρ
  · exact fun m g _ => (θ_run Cert.Reference35Ideal.defs _ _).mono (fun r h => ⟨fun c => (h c).2, sem_eq_zero_of_no_sems (by decide) r.2⟩)
      (Cert.Reference35Ideal.Value.run m g)
  · exact fun m ρ _ => Cert.Kernel36.Gen.frame m ρ
  · exact fun m ρ _ => Cert.Kernel36Ideal.Gen.frame m ρ
  · exact fun m g _ => (θ_run Cert.Reference36Ideal.defs _ _).mono (fun r h => ⟨fun c => (h c).2, sem_eq_zero_of_no_sems (by decide) r.2⟩)
      (Cert.Reference36Ideal.Value.run m g)
  · exact fun m ρ _ => Cert.Kernel37.Gen.frame m ρ
  · exact fun m ρ _ => Cert.Kernel37Ideal.Gen.frame m ρ
  · exact fun m g _ => (θ_run Cert.Reference37Ideal.defs _ _).mono (fun r h => ⟨fun c => (h c).2, sem_eq_zero_of_no_sems (by decide) r.2⟩)
      (Cert.Reference37Ideal.Value.run m g)
  · exact fun m ρ _ => Cert.Kernel38.Gen.frame m ρ
  · exact fun m ρ _ => Cert.Kernel38Ideal.Gen.frame m ρ
  · exact fun m g _ => (θ_run Cert.Reference38Ideal.defs _ _).mono (fun r h => ⟨fun c => (h c).2, sem_eq_zero_of_no_sems (by decide) r.2⟩)
      (Cert.Reference38Ideal.Value.run m g)
  · exact fun m ρ _ => Cert.Kernel39.Gen.frame m ρ
  · exact fun m ρ _ => Cert.Kernel39Ideal.Gen.frame m ρ
  · exact fun m ρ _ => Cert.Kernel39Ideal.Gen.frame m ρ
  · exact fun m g _ => (θ_run Cert.Reference39Ideal.defs _ _).mono (fun r h => ⟨fun c => (h c).2, sem_eq_zero_of_no_sems (by decide) r.2⟩)
      (Cert.Reference39Ideal.Value.run m g)
  · exact fun m g _ => (θ_run Cert.Reference39Ideal.defs _ _).mono (fun r h => ⟨fun c => (h c).2, sem_eq_zero_of_no_sems (by decide) r.2⟩)
      (Cert.Reference39Ideal.Value.run m g)
  · trivial
  · exact Cert.Proof.values1
  · trivial
  · exact Cert.Proof.values2
  · trivial
  · exact Cert.Proof.values3
  · trivial
  · exact Cert.Proof.values4
  · trivial
  · exact Cert.Proof.values5
  · trivial
  · exact Cert.Proof.values6
  · trivial
  · exact Cert.Proof.values7
  · trivial
  · exact Cert.Proof.values8
  · trivial
  · exact Cert.Proof.values9
  · trivial
  · exact Cert.Proof.values10
  · trivial
  · exact Cert.Proof.values11
  · trivial
  · exact Cert.Proof.values12
  · trivial
  · exact Cert.Proof.values13
  · trivial
  · exact Cert.Proof.values14
  · trivial
  · exact Cert.Proof.values15
  · trivial
  · exact Cert.Proof.values16
  · trivial
  · exact Cert.Proof.values17
  · trivial
  · exact Cert.Proof.values18
  · trivial
  · exact Cert.Proof.values19
  · trivial
  · exact Cert.Proof.values20
  · trivial
  · exact Cert.Proof.values21
  · trivial
  · exact Cert.Proof.values22
  · trivial
  · exact Cert.Proof.values23
  · trivial
  · exact Cert.Proof.values24
  · trivial
  · exact Cert.Proof.values25
  · trivial
  · exact Cert.Proof.values26
  · trivial
  · exact Cert.Proof.values27
  · trivial
  · exact Cert.Proof.values28
  · exact IdealRules.named_const.statement Cert.Kernel29Ideal.κ "gelu_a" .f32 0x3D122279#32 ((80338380498831 / 2251799813685248 : ℝ) : EReal) rfl
  · exact Cert.Proof.values29
  · exact ⟨IdealRules.named_const.statement Cert.Kernel30Ideal.κ "gelu_a" .f32 0x3D122279#32 ((80338380498831 / 2251799813685248 : ℝ) : EReal) rfl, IdealRules.named_const.statement Cert.Kernel30Ideal.κ "gelu_3a" .f32 0x3DDB33B6#32 ((241015141496493 / 2251799813685248 : ℝ) : EReal) rfl⟩
  · exact Cert.Proof.values30
  · trivial
  · exact Cert.Proof.values31
  · trivial
  · exact Cert.Proof.values32
  · trivial
  · exact Cert.Proof.values33
  · trivial
  · exact Cert.Proof.values34
  · trivial
  · exact Cert.Proof.values35
  · trivial
  · exact Cert.Proof.values36
  · trivial
  · exact Cert.Proof.values37
  · trivial
  · exact Cert.Proof.values38
  · trivial
  · exact Cert.Proof.values39⟩

end Cert.Proof

end
